-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)) (v6 : (c : Dev Cert.KernelIdeal.nD) → Buf (Elt Ideal) ((c.tc : Thread Cert.KernelIdeal.nD Cert.KernelIdeal.τ).loc Cert.KernelIdeal.main_v27_6)) (v7 : (c : Dev Cert.KernelIdeal.nD) → Buf (Elt Ideal) ((c.tc : Thread Cert.KernelIdeal.nD Cert.KernelIdeal.τ).loc Cert.KernelIdeal.main_v27_7)) (v8 : (c : Dev Cert.KernelIdeal.nD) → Buf (Elt Ideal) ((c.tc : Thread Cert.KernelIdeal.nD Cert.KernelIdeal.τ).loc Cert.KernelIdeal.main_v27_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_v27_6) = v6 c
          ∧ r.2.mem ((c.tc : Thread Cert.KernelIdeal.nD Cert.KernelIdeal.τ).loc Cert.KernelIdeal.main_v27_7) = v7 c
          ∧ r.2.mem ((c.tc : Thread Cert.KernelIdeal.nD Cert.KernelIdeal.τ).loc Cert.KernelIdeal.main_v27_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_v251) = v2 c
          ∧ r.2.mem ((c.tc : Thread Cert.ReferenceIdeal.nD Cert.ReferenceIdeal.τ).loc Cert.ReferenceIdeal.main_v252) = v3 c
          ∧ r.2.mem ((c.tc : Thread Cert.ReferenceIdeal.nD Cert.ReferenceIdeal.τ).loc Cert.ReferenceIdeal.main_v253) = v4 c
          ∧ r.2.mem ((c.tc : Thread Cert.ReferenceIdeal.nD Cert.ReferenceIdeal.τ).loc Cert.ReferenceIdeal.main_v179) = v5 c
          ∧ r.2.mem ((c.tc : Thread Cert.ReferenceIdeal.nD Cert.ReferenceIdeal.τ).loc Cert.ReferenceIdeal.main_v255) = v6 c
          ∧ r.2.mem ((c.tc : Thread Cert.ReferenceIdeal.nD Cert.ReferenceIdeal.τ).loc Cert.ReferenceIdeal.main_v256) = v7 c
          ∧ r.2.mem ((c.tc : Thread Cert.ReferenceIdeal.nD Cert.ReferenceIdeal.τ).loc Cert.ReferenceIdeal.main_v257) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_3)) (v4 : (c : Dev Cert.Kernel2Ideal.nD) → Buf (Elt Ideal) ((c.tc : Thread Cert.Kernel2Ideal.nD Cert.Kernel2Ideal.τ).loc Cert.Kernel2Ideal.main_v31_4)) (v5 : (c : Dev Cert.Kernel2Ideal.nD) → Buf (Elt Ideal) ((c.tc : Thread Cert.Kernel2Ideal.nD Cert.Kernel2Ideal.τ).loc Cert.Kernel2Ideal.main_v31_5)) (v6 : (c : Dev Cert.Kernel2Ideal.nD) → Buf (Elt Ideal) ((c.tc : Thread Cert.Kernel2Ideal.nD Cert.Kernel2Ideal.τ).loc Cert.Kernel2Ideal.main_v31_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_v31_4) = v4 c
          ∧ r.2.mem ((c.tc : Thread Cert.Kernel2Ideal.nD Cert.Kernel2Ideal.τ).loc Cert.Kernel2Ideal.main_v31_5) = v5 c
          ∧ r.2.mem ((c.tc : Thread Cert.Kernel2Ideal.nD Cert.Kernel2Ideal.τ).loc Cert.Kernel2Ideal.main_v31_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v54) = v4 c
          ∧ r.2.mem ((c.tc : Thread Cert.Reference2Ideal.nD Cert.Reference2Ideal.τ).loc Cert.Reference2Ideal.main_v55) = v5 c
          ∧ r.2.mem ((c.tc : Thread Cert.Reference2Ideal.nD Cert.Reference2Ideal.τ).loc Cert.Reference2Ideal.main_v57) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)) (v4 : (c : Dev Cert.Kernel3Ideal.nD) → Buf (Elt Ideal) ((c.tc : Thread Cert.Kernel3Ideal.nD Cert.Kernel3Ideal.τ).loc Cert.Kernel3Ideal.main_v18_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_v18_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_v42) = v3 c
          ∧ r.2.mem ((c.tc : Thread Cert.Reference3Ideal.nD Cert.Reference3Ideal.τ).loc Cert.Reference3Ideal.main_v43) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v20_0)) (v1 : (c : Dev Cert.Kernel10Ideal.nD) → Buf (Elt Ideal) ((c.tc : Thread Cert.Kernel10Ideal.nD Cert.Kernel10Ideal.τ).loc Cert.Kernel10Ideal.main_v20_1)) (v2 : (c : Dev Cert.Kernel10Ideal.nD) → Buf (Elt Ideal) ((c.tc : Thread Cert.Kernel10Ideal.nD Cert.Kernel10Ideal.τ).loc Cert.Kernel10Ideal.main_v20_2)) (v3 : (c : Dev Cert.Kernel10Ideal.nD) → Buf (Elt Ideal) ((c.tc : Thread Cert.Kernel10Ideal.nD Cert.Kernel10Ideal.τ).loc Cert.Kernel10Ideal.main_v20_3)) (v4 : (c : Dev Cert.Kernel10Ideal.nD) → Buf (Elt Ideal) ((c.tc : Thread Cert.Kernel10Ideal.nD Cert.Kernel10Ideal.τ).loc Cert.Kernel10Ideal.main_v20_4)) (v5 : (c : Dev Cert.Kernel10Ideal.nD) → Buf (Elt Ideal) ((c.tc : Thread Cert.Kernel10Ideal.nD Cert.Kernel10Ideal.τ).loc Cert.Kernel10Ideal.main_v20_5)) (v6 : (c : Dev Cert.Kernel10Ideal.nD) → Buf (Elt Ideal) ((c.tc : Thread Cert.Kernel10Ideal.nD Cert.Kernel10Ideal.τ).loc Cert.Kernel10Ideal.main_v20_6)) (v7 : (c : Dev Cert.Kernel10Ideal.nD) → Buf (Elt Ideal) ((c.tc : Thread Cert.Kernel10Ideal.nD Cert.Kernel10Ideal.τ).loc Cert.Kernel10Ideal.main_v20_7)) (v8 : (c : Dev Cert.Kernel10Ideal.nD) → Buf (Elt Ideal) ((c.tc : Thread Cert.Kernel10Ideal.nD Cert.Kernel10Ideal.τ).loc Cert.Kernel10Ideal.main_v20_8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v20_0) = v0 c
          ∧ r.2.mem ((c.tc : Thread Cert.Kernel10Ideal.nD Cert.Kernel10Ideal.τ).loc Cert.Kernel10Ideal.main_v20_1) = v1 c
          ∧ r.2.mem ((c.tc : Thread Cert.Kernel10Ideal.nD Cert.Kernel10Ideal.τ).loc Cert.Kernel10Ideal.main_v20_2) = v2 c
          ∧ r.2.mem ((c.tc : Thread Cert.Kernel10Ideal.nD Cert.Kernel10Ideal.τ).loc Cert.Kernel10Ideal.main_v20_3) = v3 c
          ∧ r.2.mem ((c.tc : Thread Cert.Kernel10Ideal.nD Cert.Kernel10Ideal.τ).loc Cert.Kernel10Ideal.main_v20_4) = v4 c
          ∧ r.2.mem ((c.tc : Thread Cert.Kernel10Ideal.nD Cert.Kernel10Ideal.τ).loc Cert.Kernel10Ideal.main_v20_5) = v5 c
          ∧ r.2.mem ((c.tc : Thread Cert.Kernel10Ideal.nD Cert.Kernel10Ideal.τ).loc Cert.Kernel10Ideal.main_v20_6) = v6 c
          ∧ r.2.mem ((c.tc : Thread Cert.Kernel10Ideal.nD Cert.Kernel10Ideal.τ).loc Cert.Kernel10Ideal.main_v20_7) = v7 c
          ∧ r.2.mem ((c.tc : Thread Cert.Kernel10Ideal.nD Cert.Kernel10Ideal.τ).loc Cert.Kernel10Ideal.main_v20_8) = v8 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v73) = v0 c
          ∧ r.2.mem ((c.tc : Thread Cert.Reference10Ideal.nD Cert.Reference10Ideal.τ).loc Cert.Reference10Ideal.main_v75) = v1 c
          ∧ r.2.mem ((c.tc : Thread Cert.Reference10Ideal.nD Cert.Reference10Ideal.τ).loc Cert.Reference10Ideal.main_v76) = v2 c
          ∧ r.2.mem ((c.tc : Thread Cert.Reference10Ideal.nD Cert.Reference10Ideal.τ).loc Cert.Reference10Ideal.main_v78) = v3 c
          ∧ r.2.mem ((c.tc : Thread Cert.Reference10Ideal.nD Cert.Reference10Ideal.τ).loc Cert.Reference10Ideal.main_v80) = v4 c
          ∧ r.2.mem ((c.tc : Thread Cert.Reference10Ideal.nD Cert.Reference10Ideal.τ).loc Cert.Reference10Ideal.main_v81) = v5 c
          ∧ r.2.mem ((c.tc : Thread Cert.Reference10Ideal.nD Cert.Reference10Ideal.τ).loc Cert.Reference10Ideal.main_v83) = v6 c
          ∧ r.2.mem ((c.tc : Thread Cert.Reference10Ideal.nD Cert.Reference10Ideal.τ).loc Cert.Reference10Ideal.main_v85) = v7 c
          ∧ r.2.mem ((c.tc : Thread Cert.Reference10Ideal.nD Cert.Reference10Ideal.τ).loc Cert.Reference10Ideal.main_v86) = v8 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v12_0)) (v1 : (c : Dev Cert.Kernel11Ideal.nD) → Buf (Elt Ideal) ((c.tc : Thread Cert.Kernel11Ideal.nD Cert.Kernel11Ideal.τ).loc Cert.Kernel11Ideal.main_v12_1)) (v2 : (c : Dev Cert.Kernel11Ideal.nD) → Buf (Elt Ideal) ((c.tc : Thread Cert.Kernel11Ideal.nD Cert.Kernel11Ideal.τ).loc Cert.Kernel11Ideal.main_v12_2)) (v3 : (c : Dev Cert.Kernel11Ideal.nD) → Buf (Elt Ideal) ((c.tc : Thread Cert.Kernel11Ideal.nD Cert.Kernel11Ideal.τ).loc Cert.Kernel11Ideal.main_v12_3)) (v4 : (c : Dev Cert.Kernel11Ideal.nD) → Buf (Elt Ideal) ((c.tc : Thread Cert.Kernel11Ideal.nD Cert.Kernel11Ideal.τ).loc Cert.Kernel11Ideal.main_v12_4)) (v5 : (c : Dev Cert.Kernel11Ideal.nD) → Buf (Elt Ideal) ((c.tc : Thread Cert.Kernel11Ideal.nD Cert.Kernel11Ideal.τ).loc Cert.Kernel11Ideal.main_v12_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_v12_2) = v2 c
          ∧ r.2.mem ((c.tc : Thread Cert.Kernel11Ideal.nD Cert.Kernel11Ideal.τ).loc Cert.Kernel11Ideal.main_v12_3) = v3 c
          ∧ r.2.mem ((c.tc : Thread Cert.Kernel11Ideal.nD Cert.Kernel11Ideal.τ).loc Cert.Kernel11Ideal.main_v12_4) = v4 c
          ∧ r.2.mem ((c.tc : Thread Cert.Kernel11Ideal.nD Cert.Kernel11Ideal.τ).loc Cert.Kernel11Ideal.main_v12_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v49) = v0 c
          ∧ r.2.mem ((c.tc : Thread Cert.Reference11Ideal.nD Cert.Reference11Ideal.τ).loc Cert.Reference11Ideal.main_v50) = v1 c
          ∧ r.2.mem ((c.tc : Thread Cert.Reference11Ideal.nD Cert.Reference11Ideal.τ).loc Cert.Reference11Ideal.main_v52) = v2 c
          ∧ r.2.mem ((c.tc : Thread Cert.Reference11Ideal.nD Cert.Reference11Ideal.τ).loc Cert.Reference11Ideal.main_v53) = v3 c
          ∧ r.2.mem ((c.tc : Thread Cert.Reference11Ideal.nD Cert.Reference11Ideal.τ).loc Cert.Reference11Ideal.main_v55) = v4 c
          ∧ r.2.mem ((c.tc : Thread Cert.Reference11Ideal.nD Cert.Reference11Ideal.τ).loc Cert.Reference11Ideal.main_v56) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v13_0)) (v1 : (c : Dev Cert.Kernel12Ideal.nD) → Buf (Elt Ideal) ((c.tc : Thread Cert.Kernel12Ideal.nD Cert.Kernel12Ideal.τ).loc Cert.Kernel12Ideal.main_v13_1)) (v2 : (c : Dev Cert.Kernel12Ideal.nD) → Buf (Elt Ideal) ((c.tc : Thread Cert.Kernel12Ideal.nD Cert.Kernel12Ideal.τ).loc Cert.Kernel12Ideal.main_v13_2)) (v3 : (c : Dev Cert.Kernel12Ideal.nD) → Buf (Elt Ideal) ((c.tc : Thread Cert.Kernel12Ideal.nD Cert.Kernel12Ideal.τ).loc Cert.Kernel12Ideal.main_v13_3)) (v4 : (c : Dev Cert.Kernel12Ideal.nD) → Buf (Elt Ideal) ((c.tc : Thread Cert.Kernel12Ideal.nD Cert.Kernel12Ideal.τ).loc Cert.Kernel12Ideal.main_v13_4)) (v5 : (c : Dev Cert.Kernel12Ideal.nD) → Buf (Elt Ideal) ((c.tc : Thread Cert.Kernel12Ideal.nD Cert.Kernel12Ideal.τ).loc Cert.Kernel12Ideal.main_v13_5)) (v6 : (c : Dev Cert.Kernel12Ideal.nD) → Buf (Elt Ideal) ((c.tc : Thread Cert.Kernel12Ideal.nD Cert.Kernel12Ideal.τ).loc Cert.Kernel12Ideal.main_v13_6)) (v7 : (c : Dev Cert.Kernel12Ideal.nD) → Buf (Elt Ideal) ((c.tc : Thread Cert.Kernel12Ideal.nD Cert.Kernel12Ideal.τ).loc Cert.Kernel12Ideal.main_v13_7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13_0) = v0 c
          ∧ r.2.mem ((c.tc : Thread Cert.Kernel12Ideal.nD Cert.Kernel12Ideal.τ).loc Cert.Kernel12Ideal.main_v13_1) = v1 c
          ∧ r.2.mem ((c.tc : Thread Cert.Kernel12Ideal.nD Cert.Kernel12Ideal.τ).loc Cert.Kernel12Ideal.main_v13_2) = v2 c
          ∧ r.2.mem ((c.tc : Thread Cert.Kernel12Ideal.nD Cert.Kernel12Ideal.τ).loc Cert.Kernel12Ideal.main_v13_3) = v3 c
          ∧ r.2.mem ((c.tc : Thread Cert.Kernel12Ideal.nD Cert.Kernel12Ideal.τ).loc Cert.Kernel12Ideal.main_v13_4) = v4 c
          ∧ r.2.mem ((c.tc : Thread Cert.Kernel12Ideal.nD Cert.Kernel12Ideal.τ).loc Cert.Kernel12Ideal.main_v13_5) = v5 c
          ∧ r.2.mem ((c.tc : Thread Cert.Kernel12Ideal.nD Cert.Kernel12Ideal.τ).loc Cert.Kernel12Ideal.main_v13_6) = v6 c
          ∧ r.2.mem ((c.tc : Thread Cert.Kernel12Ideal.nD Cert.Kernel12Ideal.τ).loc Cert.Kernel12Ideal.main_v13_7) = v7 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v7) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_v64) = v3 c
          ∧ r.2.mem ((c.tc : Thread Cert.Reference12Ideal.nD Cert.Reference12Ideal.τ).loc Cert.Reference12Ideal.main_v18) = v4 c
          ∧ r.2.mem ((c.tc : Thread Cert.Reference12Ideal.nD Cert.Reference12Ideal.τ).loc Cert.Reference12Ideal.main_v45) = v5 c
          ∧ r.2.mem ((c.tc : Thread Cert.Reference12Ideal.nD Cert.Reference12Ideal.τ).loc Cert.Reference12Ideal.main_v24) = v6 c
          ∧ r.2.mem ((c.tc : Thread Cert.Reference12Ideal.nD Cert.Reference12Ideal.τ).loc Cert.Reference12Ideal.main_v51) = v7 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2x2048x1024 : Shape := ⟨3, ![2, 2048, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S3x512 : S_.BroadcastsInDim S3x512 (![] : Fin 0 → Fin S3x512.rank)
  reducesTo_S3x512_S_d0_1 : S3x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S2x2048x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S2x2048x1024 .f32 := Host.absf main_arg8
  let main_cst_14 : FVec F S_ .f32 := constant S_ .f32 0x7F800000#32
  let main_v40 : FVec F S2x2048x1024 .f32 := broadcastInDim S2x2048x1024 ![] bcast_S_S2x2048x1024 main_cst_14
  let main_v41 : IVec S2x2048x1024 1 := cmpf .olt main_v39 main_v40
  let main_c_15 : IVec S_ 1 := constantI S_ 1 1#1
  let main_v42 : IVec S_ 1 := (fun x v => Host.reduce IntOp.andi x v reducesTo_S2x2048x1024_S_d0_1_2 h_S_) main_v41 main_c_15
  let main_v43 : IVec S_ 1 := andi main_v38 main_v42
  main_v43

def fn_part1 {F : FTy → Type} [FloatOps F] (main_arg4 : FVec F S4x128x128 .f32) (main_arg5 : FVec F S4x128 .f32) (main_arg6 : FVec F S3x512 .f32) (main_arg7 : FVec F S1024x1024 .f32) (main_arg8 : FVec F S2x2048x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S3x512 .f32 := Host.absf main_arg6
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024 .f32) (main_arg2 : FVec F S1024x2560 .f32) (main_arg3 : FVec F S512 .f32) (main_arg4 : FVec F S4x128x128 .f32) (main_arg5 : FVec F S4x128 .f32) (main_arg6 : FVec F S3x512 .f32) (main_arg7 : FVec F S1024x1024 .f32) (main_arg8 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2560 .f32 := Host.absf main_arg2
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  let main_c_3 : IVec S_ 1 := constantI S_ 1 1#1
  let main_v12 : IVec S_ 1 := (fun x v => Host.reduce IntOp.andi x v reducesTo_S1024x2560_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Pre_finite2.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S2816x1024 .f32) (main_arg5 : FVec F S2x2048x1024 .f32) (main_arg6 : FVec F S1024x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Kernel.lean ====
abbrev S2x2048x1024 : Shape := ⟨3, ![2, 2048, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S2560x1024 : Shape := ⟨2, ![2560, 1024]⟩
abbrev S8x320x1024 : Shape := ⟨3, ![8, 320, 1024]⟩
abbrev S8x128x1024 : Shape := ⟨3, ![8, 128, 1024]⟩
abbrev S128x4 : Shape := ⟨2, ![128, 4]⟩
abbrev S128x128 : Shape := ⟨2, ![128, 128]⟩
abbrev S8x512 : Shape := ⟨2, ![8, 512]⟩
abbrev S1x512 : Shape := ⟨2, ![1, 512]⟩
abbrev S512x1024 : Shape := ⟨2, ![512, 1024]⟩
abbrev S512x2560 : Shape := ⟨2, ![512, 2560]⟩
abbrev S16x2560 : Shape := ⟨2, ![16, 2560]⟩
abbrev S16x512 : Shape := ⟨2, ![16, 512]⟩
abbrev S512x1 : Shape := ⟨2, ![512, 1]⟩
abbrev S512x512 : Shape := ⟨2, ![512, 512]⟩
abbrev S1x128 : Shape := ⟨2, ![1, 128]⟩
abbrev S512x128 : Shape := ⟨2, ![512, 128]⟩
abbrev S1x128x128 : Shape := ⟨3, ![1, 128, 128]⟩
abbrev S128x1 : Shape := ⟨2, ![128, 1]⟩
abbrev S128 : Shape := ⟨1, ![128]⟩
abbrev S528x512 : Shape := ⟨2, ![528, 512]⟩

abbrev nBuf : Space → Nat
  | .hbm => 52
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S3x512, .f32⟩
  | .hbm, ⟨7, _⟩ => ⟨S1024x1024, .f32⟩
  | .hbm, ⟨8, _⟩ => ⟨S2x2048x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2560, .f32⟩
  | .hbm, ⟨27, _⟩ => ⟨S4096x2560, .bf16⟩
  | .hbm, ⟨28, _⟩ => ⟨S2560x1024, .f32⟩
  | .hbm, ⟨29, _⟩ => ⟨S8x320x1024, .f32⟩
  | .hbm, ⟨30, _⟩ => ⟨S8x320x1024, .bf16⟩
  | .hbm, ⟨31, _⟩ => ⟨S8x128x1024, .f32⟩
  | .hbm, ⟨32, _⟩ => ⟨S8x128x1024, .bf16⟩
  | .hbm, ⟨33, _⟩ => ⟨S128x4, .f32⟩
  | .hbm, ⟨34, _⟩ => ⟨S_, .i32⟩
  | .hbm, ⟨35, _⟩ => ⟨S_, .f32⟩
  | .hbm, ⟨36, _⟩ => ⟨S128x128, .f32⟩
  | .hbm, ⟨37, _⟩ => ⟨S_, .i32⟩
  | .hbm, ⟨38, _⟩ => ⟨S_, .f32⟩
  | .hbm, ⟨39, _⟩ => ⟨S8x512, .f32⟩
  | .hbm, ⟨40, _⟩ => ⟨S4096x1024, .f32⟩
  | .hbm, ⟨41, _⟩ => ⟨S1x1024, .f32⟩
  | .hbm, ⟨42, _⟩ => ⟨S1x512, .f32⟩
  | .hbm, ⟨43, _⟩ => ⟨S4096x1024, .f32⟩
  | .hbm, ⟨44, _⟩ => ⟨S4096x2560, .bf16⟩
  | .hbm, ⟨45, _⟩ => ⟨S4096x1024, .bf16⟩
  | .hbm, ⟨46, _⟩ => ⟨S4096x1024, .bf16⟩
  | .hbm, ⟨47, _⟩ => ⟨S1x1024, .f32⟩
  | .hbm, ⟨48, _⟩ => ⟨S4x128x128, .f32⟩
  | .hbm, ⟨49, _⟩ => ⟨S128x128, .f32⟩
  | .hbm, ⟨50, _⟩ => ⟨S1x512, .f32⟩
  | .hbm, ⟨51, _⟩ => ⟨S8x512, .f32⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S16x2560, .bf16⟩
  | .local _ .vmem, ⟨5, _⟩ => ⟨S16x2560, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x320x1024, .bf16⟩
  | .local _ .vmem, ⟨10, _⟩ => ⟨S8x128x1024, .bf16⟩
  | .local _ .vmem, ⟨11, _⟩ => ⟨S1x512, .f32⟩
  | .local _ .vmem, ⟨12, _⟩ => ⟨S4x128x128, .f32⟩
  | .local _ .vmem, ⟨13, _⟩ => ⟨S128x128, .f32⟩
  | .local _ .vmem, ⟨14, _⟩ => ⟨S8x512, .f32⟩
  | .local _ .vmem, ⟨15, _⟩ => ⟨S512x1024, .f32⟩
  | .local _ .vmem, ⟨16, _⟩ => ⟨S512x1024, .f32⟩
  | .local _ .vmem, ⟨17, _⟩ => ⟨S512x2560, .bf16⟩
  | .local _ .vmem, ⟨18, _⟩ => ⟨S512x2560, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S4x128x128, .f32⟩
  | .local _ .vmem, ⟨25, _⟩ => ⟨S128x128, .f32⟩
  | .local _ .vmem, ⟨26, _⟩ => ⟨S1x512, .f32⟩
  | .local _ .vmem, ⟨27, _⟩ => ⟨S8x512, .f32⟩
  | .local _ .vmem, ⟨28, _⟩ => ⟨S16x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev main_v27_5 : Ref sig .tc := ⟨.hbm, 48, rfl⟩
abbrev main_v27_6 : Ref sig .tc := ⟨.hbm, 49, rfl⟩
abbrev main_v27_7 : Ref sig .tc := ⟨.hbm, 50, rfl⟩
abbrev main_v27_8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x320x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S2x2048x1024 : Shape := ⟨3, ![2, 2048, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S2x2048x512 : Shape := ⟨3, ![2, 2048, 512]⟩
abbrev S2x2x512 : Shape := ⟨3, ![2, 2, 512]⟩
abbrev S2x2050x512 : Shape := ⟨3, ![2, 2050, 512]⟩
abbrev S1x512 : Shape := ⟨2, ![1, 512]⟩
abbrev S1x1x512 : Shape := ⟨3, ![1, 1, 512]⟩
abbrev S8x512 : Shape := ⟨2, ![8, 512]⟩

abbrev nBuf : Space → Nat
  | .hbm => 339
  | .vmem => 0
  | .smem => 0
  | _ => 0

abbrev hbmTy0_0 (i : Nat) : BufTy := match i % 128 with
  | 0 => ⟨S2x2048x1024, .f32⟩
  | 1 => ⟨S1024, .f32⟩
  | 2 => ⟨S1024x2560, .f32⟩
  | 3 => ⟨S512, .f32⟩
  | 4 => ⟨S4x128x128, .f32⟩
  | 5 => ⟨S4x128, .f32⟩
  | 6 => ⟨S3x512, .f32⟩
  | 7 => ⟨S1024x1024, .f32⟩
  | 8 => ⟨S2x2048x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S4096x2560, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S_, .f32⟩
  | 41 => ⟨S4096x512, .f32⟩
  | 42 => ⟨S4096x512, .f32⟩
  | 43 => ⟨S4096x512, .f32⟩
  | 44 => ⟨S_, .f32⟩
  | 45 => ⟨S_, .f32⟩
  | 46 => ⟨S_, .f32⟩
  | 47 => ⟨S_, .f32⟩
  | 48 => ⟨S_, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S_, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S_, .f32⟩
  | 68 => ⟨S_, .f32⟩
  | 69 => ⟨S_, .f32⟩
  | 70 => ⟨S_, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S4096x4x128, .f32⟩
  | 81 => ⟨S4x128, .f32⟩
  | 82 => ⟨S_, .f32⟩
  | 83 => ⟨S4096x4, .f32⟩
  | 84 => ⟨S4096x4x1, .f32⟩
  | 85 => ⟨S_, .f32⟩
  | 86 => ⟨S4096x4x1, .f32⟩
  | 87 => ⟨S4096x4x1, .f32⟩
  | 88 => ⟨S4096x4x128, .f32⟩
  | 89 => ⟨S4096x4x128, .f32⟩
  | 90 => ⟨S4096x4x128, .f32⟩
  | 91 => ⟨S_, .f32⟩
  | 92 => ⟨S4096x4, .f32⟩
  | 93 => ⟨S4096x4x1, .f32⟩
  | 94 => ⟨S_, .f32⟩
  | 95 => ⟨S4096x4x1, .f32⟩
  | 96 => ⟨S4096x4x1, .f32⟩
  | 97 => ⟨S_, .f32⟩
  | 98 => ⟨S4096x4x1, .f32⟩
  | 99 => ⟨S4096x4x1, .f32⟩
  | 100 => ⟨S4096x4x1, .f32⟩
  | 101 => ⟨S4096x4x1, .f32⟩
  | 102 => ⟨S_, .f32⟩
  | 103 => ⟨S4096x4x1, .f32⟩
  | 104 => ⟨S4096x4x1, .f32⟩
  | 105 => ⟨S4096x4x128, .f32⟩
  | 106 => ⟨S4096x4x128, .f32⟩
  | 107 => ⟨S1x4x128, .f32⟩
  | 108 => ⟨S4096x4x128, .f32⟩
  | 109 => ⟨S4096x4x128, .f32⟩
  | 110 => ⟨S32x128x4x128, .f32⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S1x128x128, .i1⟩
  | 123 => ⟨S_, .f32⟩
  | 124 => ⟨S_, .f32⟩
  | 125 => ⟨S4x128x128, .i1⟩
  | 126 => ⟨S4x128x128, .f32⟩
  | 127 => ⟨S4x128x128, .f32⟩
  | _ => ⟨S2x2048x1024, .f32⟩

abbrev hbmTy0_1 (i : Nat) : BufTy := match i % 128 with
  | 0 => ⟨S_, .f32⟩
  | 1 => ⟨S4x128x128, .f32⟩
  | 2 => ⟨S4x32x128x128, .f32⟩
  | 3 => ⟨S32x128x4x128, .f32⟩
  | 4 => ⟨S128x4, .f32⟩
  | 5 => ⟨S1x128x4x1, .f32⟩
  | 6 => ⟨S32x128x4x128, .f32⟩
  | 7 => ⟨S32x128x4x128, .f32⟩
  | 8 => ⟨S4096x512, .f32⟩
  | 9 => ⟨S4096x512, .f32⟩
  | 10 => ⟨S4096x512, .f32⟩
  | 11 => ⟨S2x2048x512, .f32⟩
  | 12 => ⟨S2x2x512, .f32⟩
  | 13 => ⟨S_, .f32⟩
  | 14 => ⟨S2x2x512, .f32⟩
  | 15 => ⟨S2x2050x512, .f32⟩
  | 16 => ⟨S_, .f32⟩
  | 17 => ⟨S2x2x512, .f32⟩
  | 18 => ⟨S1x512, .f32⟩
  | 19 => ⟨S512, .f32⟩
  | 20 => ⟨S2x2048x512, .f32⟩
  | 21 => ⟨S1x1x512, .f32⟩
  | 22 => ⟨S2x2048x512, .f32⟩
  | 23 => ⟨S2x2048x512, .f32⟩
  | 24 => ⟨S1x512, .f32⟩
  | 25 => ⟨S512, .f32⟩
  | 26 => ⟨S2x2048x512, .f32⟩
  | 27 => ⟨S1x1x512, .f32⟩
  | 28 => ⟨S2x2048x512, .f32⟩
  | 29 => ⟨S2x2048x512, .f32⟩
  | 30 => ⟨S2x2048x512, .f32⟩
  | 31 => ⟨S1x512, .f32⟩
  | 32 => ⟨S512, .f32⟩
  | 33 => ⟨S2x2048x512, .f32⟩
  | 34 => ⟨S1x1x512, .f32⟩
  | 35 => ⟨S2x2048x512, .f32⟩
  | 36 => ⟨S2x2048x512, .f32⟩
  | 37 => ⟨S2x2048x512, .f32⟩
  | 38 => ⟨S4096x512, .f32⟩
  | 39 => ⟨S4096x512, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x512, .f32⟩
  | 46 => ⟨S4096x512, .f32⟩
  | 47 => ⟨S4096x512, .f32⟩
  | 48 => ⟨S4096x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S512, .f32⟩
  | 55 => ⟨S1x1x512, .f32⟩
  | 56 => ⟨S_, .f32⟩
  | 57 => ⟨S512, .f32⟩
  | 58 => ⟨S_, .f32⟩
  | 59 => ⟨S2x2050x512, .f32⟩
  | 60 => ⟨S1x512, .f32⟩
  | 61 => ⟨S_, .f32⟩
  | 62 => ⟨S3x512, .f32⟩
  | 63 => ⟨S2x2048x512, .f32⟩
  | 64 => ⟨S2x2048x512, .f32⟩
  | 65 => ⟨S2x2048x512, .f32⟩
  | 66 => ⟨S_, .f32⟩
  | 67 => ⟨S512, .f32⟩
  | 68 => ⟨S1x1x512, .f32⟩
  | 69 => ⟨S_, .f32⟩
  | 70 => ⟨S512, .f32⟩
  | 71 => ⟨S_, .f32⟩
  | 72 => ⟨S2x2050x512, .f32⟩
  | 73 => ⟨S2x2050x512, .f32⟩
  | 74 => ⟨S1x512, .f32⟩
  | 75 => ⟨S_, .f32⟩
  | 76 => ⟨S3x512, .f32⟩
  | 77 => ⟨S3x512, .f32⟩
  | 78 => ⟨S2x2048x512, .f32⟩
  | 79 => ⟨S2x2048x512, .f32⟩
  | 80 => ⟨S2x2048x512, .f32⟩
  | 81 => ⟨S_, .f32⟩
  | 82 => ⟨S512, .f32⟩
  | 83 => ⟨S1x1x512, .f32⟩
  | 84 => ⟨S_, .f32⟩
  | 85 => ⟨S512, .f32⟩
  | 86 => ⟨S_, .f32⟩
  | 87 => ⟨S2x2050x512, .f32⟩
  | 88 => ⟨S2x2050x512, .f32⟩
  | 89 => ⟨S1x512, .f32⟩
  | 90 => ⟨S_, .f32⟩
  | 91 => ⟨S3x512, .f32⟩
  | 92 => ⟨S3x512, .f32⟩
  | 93 => ⟨S2x2x512, .f32⟩
  | 94 => ⟨S2x2048x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S32x128x4x128, .f32⟩
  | 101 => ⟨S_, .f32⟩
  | 102 => ⟨S128x4, .f32⟩
  | 103 => ⟨S1x128x4x1, .f32⟩
  | 104 => ⟨S_, .f32⟩
  | 105 => ⟨S128x4, .f32⟩
  | 106 => ⟨S4x128, .f32⟩
  | 107 => ⟨S4x32x128x128, .f32⟩
  | 108 => ⟨S4x128x128, .f32⟩
  | 109 => ⟨S4x32x128x128, .f32⟩
  | 110 => ⟨S32x128x4x128, .f32⟩
  | 111 => ⟨S_, .f32⟩
  | 112 => ⟨S4x128x128, .f32⟩
  | 113 => ⟨S4x128x128, .f32⟩
  | 114 => ⟨S4096x4x128, .f32⟩
  | 115 => ⟨S4096x4x128, .f32⟩
  | 116 => ⟨S_, .f32⟩
  | 117 => ⟨S4x128, .f32⟩
  | 118 => ⟨S1x4x128, .f32⟩
  | 119 => ⟨S4096x4x128, .f32⟩
  | 120 => ⟨S4096x4x128, .f32⟩
  | 121 => ⟨S_, .f32⟩
  | 122 => ⟨S4x128, .f32⟩
  | 123 => ⟨S4096x4x128, .f32⟩
  | 124 => ⟨S_, .f32⟩
  | 125 => ⟨S4096x4, .f32⟩
  | 126 => ⟨S4096x4x1, .f32⟩
  | 127 => ⟨S4096x4x128, .f32⟩
  | _ => ⟨S2x2048x1024, .f32⟩

abbrev hbmTy0_2 (i : Nat) : BufTy := match i % 128 with
  | 0 => ⟨S4096x4x128, .f32⟩
  | 1 => ⟨S4096x4x1, .f32⟩
  | 2 => ⟨S_, .f32⟩
  | 3 => ⟨S4096x4x1, .f32⟩
  | 4 => ⟨S4096x4x1, .f32⟩
  | 5 => ⟨S_, .f32⟩
  | 6 => ⟨S4096x4, .f32⟩
  | 7 => ⟨S4096x4x128, .f32⟩
  | 8 => ⟨S4096x4x128, .f32⟩
  | 9 => ⟨S4096x4x128, .f32⟩
  | 10 => ⟨S4096x4x128, .f32⟩
  | 11 => ⟨S4096x4x128, .f32⟩
  | 12 => ⟨S4096x4x128, .f32⟩
  | 13 => ⟨S_, .f32⟩
  | 14 => ⟨S4096x4, .f32⟩
  | 15 => ⟨S4096x4x1, .f32⟩
  | 16 => ⟨S_, .f32⟩
  | 17 => ⟨S4096x4x1, .f32⟩
  | 18 => ⟨S4096x4x1, .f32⟩
  | 19 => ⟨S_, .f32⟩
  | 20 => ⟨S4096x4, .f32⟩
  | 21 => ⟨S4096x4x128, .f32⟩
  | 22 => ⟨S4096x4x128, .f32⟩
  | 23 => ⟨S512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S4096x2560, .f32⟩
  | 44 => ⟨S4096x1024, .f32⟩
  | 45 => ⟨S4096x1024, .f32⟩
  | 46 => ⟨S_, .f32⟩
  | 47 => ⟨S1024, .f32⟩
  | 48 => ⟨S1x1024, .f32⟩
  | 49 => ⟨S4096x1024, .f32⟩
  | 50 => ⟨S4096x1024, .f32⟩
  | 51 => ⟨S_, .f32⟩
  | 52 => ⟨S1024, .f32⟩
  | 53 => ⟨S4096x1024, .f32⟩
  | 54 => ⟨S_, .f32⟩
  | 55 => ⟨S4096, .f32⟩
  | 56 => ⟨S4096x1, .f32⟩
  | 57 => ⟨S4096x1024, .f32⟩
  | 58 => ⟨S4096x1024, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x2560, .bf16⟩
  | 72 => ⟨S4096x1024, .bf16⟩
  | 73 => ⟨S4096x1024, .bf16⟩
  | 74 => ⟨S1x1024, .f32⟩
  | 75 => ⟨S128x4, .f32⟩
  | 76 => ⟨S_, .i32⟩
  | 77 => ⟨S_, .f32⟩
  | 78 => ⟨S128x128, .f32⟩
  | 79 => ⟨S1x512, .f32⟩
  | 80 => ⟨S_, .i32⟩
  | 81 => ⟨S_, .f32⟩
  | 82 => ⟨S8x512, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c : Ref sig .tc := ⟨.hbm, 111, rfl⟩
abbrev main_v82 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_c_0 : Ref sig .tc := ⟨.hbm, 119, rfl⟩
abbrev main_call0_v5 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_call1_v0 : Ref sig .tc := ⟨.hbm, 124, rfl⟩
abbrev main_v85_1 : Ref sig .tc := ⟨.hbm, 125, rfl⟩
abbrev main_call1_v2 : Ref sig .tc := ⟨.hbm, 126, rfl⟩
abbrev main_v85_0 : Ref sig .tc := ⟨.hbm, 127, rfl⟩
abbrev main_call1_cst : Ref sig .tc := ⟨.hbm, 128, rfl⟩
abbrev main_v85_2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_22 : Ref sig .tc := ⟨.hbm, 181, rfl⟩
abbrev main_v135 : Ref sig .tc := ⟨.hbm, 182, rfl⟩
abbrev main_v136 : Ref sig .tc := ⟨.hbm, 183, rfl⟩
abbrev main_cst_23 : Ref sig .tc := ⟨.hbm, 184, rfl⟩
abbrev main_v137 : Ref sig .tc := ⟨.hbm, 185, rfl⟩
abbrev main_cst_24 : Ref sig .tc := ⟨.hbm, 186, rfl⟩
abbrev main_v138 : Ref sig .tc := ⟨.hbm, 187, rfl⟩
abbrev main_v139 : Ref sig .tc := ⟨.hbm, 188, rfl⟩
abbrev main_cst_25 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_26 : Ref sig .tc := ⟨.hbm, 194, rfl⟩
abbrev main_v144 : Ref sig .tc := ⟨.hbm, 195, rfl⟩
abbrev main_v145 : Ref sig .tc := ⟨.hbm, 196, rfl⟩
abbrev main_cst_27 : Ref sig .tc := ⟨.hbm, 197, rfl⟩
abbrev main_v146 : Ref sig .tc := ⟨.hbm, 198, rfl⟩
abbrev main_cst_28 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_29 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_30 : Ref sig .tc := ⟨.hbm, 209, rfl⟩
abbrev main_v155 : Ref sig .tc := ⟨.hbm, 210, rfl⟩
abbrev main_v156 : Ref sig .tc := ⟨.hbm, 211, rfl⟩
abbrev main_cst_31 : Ref sig .tc := ⟨.hbm, 212, rfl⟩
abbrev main_v157 : Ref sig .tc := ⟨.hbm, 213, rfl⟩
abbrev main_cst_32 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_33 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_34 : Ref sig .tc := ⟨.hbm, 229, rfl⟩
abbrev main_v171 : Ref sig .tc := ⟨.hbm, 230, rfl⟩
abbrev main_v172 : Ref sig .tc := ⟨.hbm, 231, rfl⟩
abbrev main_cst_35 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_call2_cst : Ref sig .tc := ⟨.hbm, 239, rfl⟩
abbrev main_call2_v0 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_36 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_cst_37 : Ref sig .tc := ⟨.hbm, 249, rfl⟩
abbrev main_v186 : Ref sig .tc := ⟨.hbm, 250, rfl⟩
abbrev main_v187 : Ref sig .tc := ⟨.hbm, 251, rfl⟩
abbrev main_cst_38 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_39 : Ref sig .tc := ⟨.hbm, 258, rfl⟩
abbrev main_v193 : Ref sig .tc := ⟨.hbm, 259, rfl⟩
abbrev main_v194 : Ref sig .tc := ⟨.hbm, 260, rfl⟩
abbrev main_cst_40 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_cst_41 : Ref sig .tc := ⟨.hbm, 269, rfl⟩
abbrev main_v202 : Ref sig .tc := ⟨.hbm, 270, rfl⟩
abbrev main_v203 : Ref sig .tc := ⟨.hbm, 271, rfl⟩
abbrev main_cst_42 : Ref sig .tc := ⟨.hbm, 272, rfl⟩
abbrev main_v204 : Ref sig .tc := ⟨.hbm, 273, rfl⟩
abbrev main_v205 : Ref sig .tc := ⟨.hbm, 274, rfl⟩
abbrev main_cst_43 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_cst_44 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_cst_45 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_cst_46 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_cst_47 : Ref sig .tc := ⟨.hbm, 307, rfl⟩
abbrev main_v234 : Ref sig .tc := ⟨.hbm, 308, rfl⟩
abbrev main_v235 : Ref sig .tc := ⟨.hbm, 309, rfl⟩
abbrev main_cst_48 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_cst_49 : Ref sig .tc := ⟨.hbm, 316, rfl⟩
abbrev main_v241 : Ref sig .tc := ⟨.hbm, 317, rfl⟩
abbrev main_v242 : Ref sig .tc := ⟨.hbm, 318, rfl⟩
abbrev main_cst_50 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_c_51 : Ref sig .tc := ⟨.hbm, 332, rfl⟩
abbrev main_call3_v0 : Ref sig .tc := ⟨.hbm, 333, rfl⟩
abbrev main_v255 : Ref sig .tc := ⟨.hbm, 334, rfl⟩
abbrev main_v256 : Ref sig .tc := ⟨.hbm, 335, rfl⟩
abbrev main_c_52 : Ref sig .tc := ⟨.hbm, 336, rfl⟩
abbrev main_call4_v0 : Ref sig .tc := ⟨.hbm, 337, rfl⟩
abbrev main_v257 : Ref sig .tc := ⟨.hbm, 338, rfl⟩

abbrev nD : Nat := 1
abbrev τ : Topo := Topo.v7x

variable {F : FTy → Type} [FloatOps F]
-- ==== Kernel2.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S8x352x1024 : Shape := ⟨3, ![8, 352, 1024]⟩
abbrev S8x704x1024 : Shape := ⟨3, ![8, 704, 1024]⟩
abbrev S8x128x1024 : Shape := ⟨3, ![8, 128, 1024]⟩
abbrev S8x384x1024 : Shape := ⟨3, ![8, 384, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 50
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .bf16⟩
  | .hbm, ⟨26, _⟩ => ⟨S4096x2816, .f32⟩
  | .hbm, ⟨27, _⟩ => ⟨S4096x2816, .bf16⟩
  | .hbm, ⟨28, _⟩ => ⟨S2816x1024, .f32⟩
  | .hbm, ⟨29, _⟩ => ⟨S8x352x1024, .f32⟩
  | .hbm, ⟨30, _⟩ => ⟨S2816x1024, .f32⟩
  | .hbm, ⟨31, _⟩ => ⟨S8x352x1024, .f32⟩
  | .hbm, ⟨32, _⟩ => ⟨S8x704x1024, .f32⟩
  | .hbm, ⟨33, _⟩ => ⟨S8x704x1024, .bf16⟩
  | .hbm, ⟨34, _⟩ => ⟨S8x352x1024, .f32⟩
  | .hbm, ⟨35, _⟩ => ⟨S8x352x1024, .bf16⟩
  | .hbm, ⟨36, _⟩ => ⟨S8x128x1024, .f32⟩
  | .hbm, ⟨37, _⟩ => ⟨S_, .i32⟩
  | .hbm, ⟨38, _⟩ => ⟨S_, .f32⟩
  | .hbm, ⟨39, _⟩ => ⟨S8x384x1024, .f32⟩
  | .hbm, ⟨40, _⟩ => ⟨S8x384x1024, .bf16⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x2816, .bf16⟩
  | .hbm, ⟨45, _⟩ => ⟨S4096x2816, .bf16⟩
  | .hbm, ⟨46, _⟩ => ⟨S4096x2816, .bf16⟩
  | .hbm, ⟨47, _⟩ => ⟨S4096x1024, .bf16⟩
  | .hbm, ⟨48, _⟩ => ⟨S1x1024, .f32⟩
  | .hbm, ⟨49, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S8x352x1024, .bf16⟩
  | .local _ .vmem, ⟨10, _⟩ => ⟨S8x352x1024, .bf16⟩
  | .local _ .vmem, ⟨11, _⟩ => ⟨S8x352x1024, .bf16⟩
  | .local _ .vmem, ⟨12, _⟩ => ⟨S8x128x1024, .bf16⟩
  | .local _ .vmem, ⟨13, _⟩ => ⟨S256x1024, .f32⟩
  | .local _ .vmem, ⟨14, _⟩ => ⟨S256x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S256x1024, .bf16⟩
  | .local _ .vmem, ⟨25, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev main_v31_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x2816, .bf16⟩
  | .hbm, ⟨83, _⟩ => ⟨S4096x2816, .bf16⟩
  | .hbm, ⟨84, _⟩ => ⟨S4096x2816, .bf16⟩
  | .hbm, ⟨85, _⟩ => ⟨S4096x1024, .bf16⟩
  | .hbm, ⟨86, _⟩ => ⟨S1x1024, .f32⟩
  | .hbm, ⟨87, _⟩ => ⟨S4096x1024, .f32⟩
  | .hbm, ⟨88, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== Kernel3.lean ====
abbrev S2x2048x1024 : Shape := ⟨3, ![2, 2048, 1024]⟩
abbrev S2x2048x256 : Shape := ⟨3, ![2, 2048, 256]⟩
abbrev S2x2048x768 : Shape := ⟨3, ![2, 2048, 768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x128x1024 : Shape := ⟨3, ![8, 128, 1024]⟩
abbrev S_ : Shape := ⟨0, ![]⟩
abbrev S8x384x1024 : Shape := ⟨3, ![8, 384, 1024]⟩
abbrev S8x352x1024 : Shape := ⟨3, ![8, 352, 1024]⟩
abbrev S8x704x1024 : Shape := ⟨3, ![8, 704, 1024]⟩
abbrev S4096x1024 : Shape := ⟨2, ![4096, 1024]⟩
abbrev S4096x256 : Shape := ⟨2, ![4096, 256]⟩
abbrev S4096x768 : Shape := ⟨2, ![4096, 768]⟩
abbrev S1x1024 : Shape := ⟨2, ![1, 1024]⟩
abbrev S4096x2816 : Shape := ⟨2, ![4096, 2816]⟩
abbrev S8x128 : Shape := ⟨2, ![8, 128]⟩
abbrev S512x1024 : Shape := ⟨2, ![512, 1024]⟩
abbrev S512x256 : Shape := ⟨2, ![512, 256]⟩
abbrev S512x768 : Shape := ⟨2, ![512, 768]⟩
abbrev S512x2816 : Shape := ⟨2, ![512, 2816]⟩
abbrev S2x128x1024 : Shape := ⟨3, ![2, 128, 1024]⟩
abbrev S256x1024 : Shape := ⟨2, ![256, 1024]⟩
abbrev S6x128x1024 : Shape := ⟨3, ![6, 128, 1024]⟩
abbrev S768x1024 : Shape := ⟨2, ![768, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 34
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x768, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x2048x1024, .f32⟩
  | .hbm, ⟨9, _⟩ => ⟨S8x128x1024, .f32⟩
  | .hbm, ⟨10, _⟩ => ⟨S_, .i32⟩
  | .hbm, ⟨11, _⟩ => ⟨S_, .f32⟩
  | .hbm, ⟨12, _⟩ => ⟨S8x384x1024, .f32⟩
  | .hbm, ⟨13, _⟩ => ⟨S8x384x1024, .bf16⟩
  | .hbm, ⟨14, _⟩ => ⟨S2816x1024, .f32⟩
  | .hbm, ⟨15, _⟩ => ⟨S8x352x1024, .f32⟩
  | .hbm, ⟨16, _⟩ => ⟨S2816x1024, .f32⟩
  | .hbm, ⟨17, _⟩ => ⟨S8x352x1024, .f32⟩
  | .hbm, ⟨18, _⟩ => ⟨S8x704x1024, .f32⟩
  | .hbm, ⟨19, _⟩ => ⟨S8x704x1024, .bf16⟩
  | .hbm, ⟨20, _⟩ => ⟨S8x352x1024, .f32⟩
  | .hbm, ⟨21, _⟩ => ⟨S8x352x1024, .bf16⟩
  | .hbm, ⟨22, _⟩ => ⟨S4096x1024, .f32⟩
  | .hbm, ⟨23, _⟩ => ⟨S4096x256, .f32⟩
  | .hbm, ⟨24, _⟩ => ⟨S4096x256, .bf16⟩
  | .hbm, ⟨25, _⟩ => ⟨S4096x768, .f32⟩
  | .hbm, ⟨26, _⟩ => ⟨S4096x768, .bf16⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2816, .bf16⟩
  | .hbm, ⟨32, _⟩ => ⟨S4096x2816, .bf16⟩
  | .hbm, ⟨33, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x768, .bf16⟩
  | .local _ .vmem, ⟨5, _⟩ => ⟨S512x768, .bf16⟩
  | .local _ .vmem, ⟨6, _⟩ => ⟨S8x128x1024, .bf16⟩
  | .local _ .vmem, ⟨7, _⟩ => ⟨S1x1024, .f32⟩
  | .local _ .vmem, ⟨8, _⟩ => ⟨S8x352x1024, .bf16⟩
  | .local _ .vmem, ⟨9, _⟩ => ⟨S8x352x1024, .bf16⟩
  | .local _ .vmem, ⟨10, _⟩ => ⟨S8x352x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S2x2048x1024 : Shape := ⟨3, ![2, 2048, 1024]⟩
abbrev S2x2048x256 : Shape := ⟨3, ![2, 2048, 256]⟩
abbrev S2x2048x768 : Shape := ⟨3, ![2, 2048, 768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2816 : Shape := ⟨2, ![4096, 2816]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x768, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S_, .f32⟩
  | .hbm, ⟨33, _⟩ => ⟨S2x2048x2816, .f32⟩
  | .hbm, ⟨34, _⟩ => ⟨S2x2048x2816, .f32⟩
  | .hbm, ⟨35, _⟩ => ⟨S_, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S2x2048x1024, .f32⟩
  | .hbm, ⟨64, _⟩ => ⟨S2x2048x1024, .f32⟩
  | .hbm, ⟨65, _⟩ => ⟨S4096x1024, .f32⟩
  | .hbm, ⟨66, _⟩ => ⟨S4096x1024, .f32⟩
  | .hbm, ⟨67, _⟩ => ⟨S4096x2816, .f32⟩
  | .hbm, ⟨68, _⟩ => ⟨S4096x2816, .bf16⟩
  | .hbm, ⟨69, _⟩ => ⟨S4096x2816, .f32⟩
  | .hbm, ⟨70, _⟩ => ⟨S4096x2816, .bf16⟩
  | .hbm, ⟨71, _⟩ => ⟨S8x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_cst_7 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== Kernel4.lean ====
abbrev S2x2048x1024 : Shape := ⟨3, ![2, 2048, 1024]⟩
abbrev S2x2048x2816 : Shape := ⟨3, ![2, 2048, 2816]⟩
abbrev S8x1056x1024 : Shape := ⟨3, ![8, 1056, 1024]⟩
abbrev S4096x1024 : Shape := ⟨2, ![4096, 1024]⟩
abbrev S4096x2816 : Shape := ⟨2, ![4096, 2816]⟩
abbrev S1024x1408 : Shape := ⟨2, ![1024, 1408]⟩
abbrev S1024x1024 : Shape := ⟨2, ![1024, 1024]⟩
abbrev S4x352x1024 : Shape := ⟨3, ![4, 352, 1024]⟩
abbrev S1408x1024 : Shape := ⟨2, ![1408, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S8x1056x1024, .f32⟩
  | .hbm, ⟨3, _⟩ => ⟨S4096x1024, .f32⟩
  | .hbm, ⟨4, _⟩ => ⟨S4096x1024, .bf16⟩
  | .hbm, ⟨5, _⟩ => ⟨S4096x2816, .f32⟩
  | .hbm, ⟨6, _⟩ => ⟨S4096x2816, .bf16⟩
  | .hbm, ⟨7, _⟩ => ⟨S8x1056x1024, .bf16⟩
  | .hbm, ⟨8, _⟩ => ⟨S8x1056x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2x2048x1024 : Shape := ⟨3, ![2, 2048, 1024]⟩
abbrev S2x2048x2816 : Shape := ⟨3, ![2, 2048, 2816]⟩
abbrev S8x1056x1024 : Shape := ⟨3, ![8, 1056, 1024]⟩
abbrev S2816x1024 : Shape := ⟨2, ![2816, 1024]⟩
abbrev S1024x2816 : Shape := ⟨2, ![1024, 2816]⟩
abbrev S8x352x1024 : Shape := ⟨3, ![8, 352, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S8x1056x1024, .f32⟩
  | .hbm, ⟨3, _⟩ => ⟨S2816x1024, .f32⟩
  | .hbm, ⟨4, _⟩ => ⟨S1024x2816, .f32⟩
  | .hbm, ⟨5, _⟩ => ⟨S2816x1024, .f32⟩
  | .hbm, ⟨6, _⟩ => ⟨S8x352x1024, .f32⟩
  | .hbm, ⟨7, _⟩ => ⟨S8x704x1024, .f32⟩
  | .hbm, ⟨8, _⟩ => ⟨S8x1056x1024, .f32⟩
  | .hbm, ⟨9, _⟩ => ⟨S8x1056x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x704x1024 : Shape := ⟨3, ![8, 704, 1024]⟩
abbrev S4096x1024 : Shape := ⟨2, ![4096, 1024]⟩
abbrev S1x1024 : Shape := ⟨2, ![1, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x352x1024, .f32⟩
  | .hbm, ⟨6, _⟩ => ⟨S2816x1024, .f32⟩
  | .hbm, ⟨7, _⟩ => ⟨S8x352x1024, .f32⟩
  | .hbm, ⟨8, _⟩ => ⟨S8x704x1024, .f32⟩
  | .hbm, ⟨9, _⟩ => ⟨S8x704x1024, .bf16⟩
  | .hbm, ⟨10, _⟩ => ⟨S4096x1024, .f32⟩
  | .hbm, ⟨11, _⟩ => ⟨S1x1024, .f32⟩
  | .hbm, ⟨12, _⟩ => ⟨S4096x2816, .bf16⟩
  | .hbm, ⟨13, _⟩ => ⟨S4096x2816, .bf16⟩
  | .hbm, ⟨14, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x2048x1024 : Shape := ⟨3, ![2, 2048, 1024]⟩
abbrev S1024 : Shape := ⟨1, ![1024]⟩
abbrev S1024x2816 : Shape := ⟨2, ![1024, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S_, .f32⟩
  | .hbm, ⟨25, _⟩ => ⟨S2x2048x2816, .f32⟩
  | .hbm, ⟨26, _⟩ => ⟨S2x2048x2816, .f32⟩
  | .hbm, ⟨27, _⟩ => ⟨S_, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S4096x2816, .f32⟩
  | .hbm, ⟨33, _⟩ => ⟨S4096x2816, .bf16⟩
  | .hbm, ⟨34, _⟩ => ⟨S4096x2816, .f32⟩
  | .hbm, ⟨35, _⟩ => ⟨S4096x2816, .bf16⟩
  | .hbm, ⟨36, _⟩ => ⟨S4096x2816, .f32⟩
  | .hbm, ⟨37, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S8x352x1024 : Shape := ⟨3, ![8, 352, 1024]⟩
abbrev S4096x1024 : Shape := ⟨2, ![4096, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2816x1024, .f32⟩
  | .hbm, ⟨3, _⟩ => ⟨S8x352x1024, .f32⟩
  | .hbm, ⟨4, _⟩ => ⟨S8x352x1024, .bf16⟩
  | .hbm, ⟨5, _⟩ => ⟨S4096x1024, .f32⟩
  | .hbm, ⟨6, _⟩ => ⟨S4096x2816, .f32⟩
  | .hbm, ⟨7, _⟩ => ⟨S4096x2816, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S8x352x1024, .bf16⟩
  | .local _ .vmem, ⟨5, _⟩ => ⟨S512x1024, .f32⟩
  | .local _ .vmem, ⟨6, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x2048x2816 : Shape := ⟨3, ![2, 2048, 2816]⟩
abbrev S8x1056x1024 : Shape := ⟨3, ![8, 1056, 1024]⟩
abbrev S4096x1024 : Shape := ⟨2, ![4096, 1024]⟩
abbrev S4096x2816 : Shape := ⟨2, ![4096, 2816]⟩
abbrev S1024x1408 : Shape := ⟨2, ![1024, 1408]⟩
abbrev S1024x1024 : Shape := ⟨2, ![1024, 1024]⟩
abbrev S4x352x1024 : Shape := ⟨3, ![4, 352, 1024]⟩
abbrev S1408x1024 : Shape := ⟨2, ![1408, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S8x1056x1024, .f32⟩
  | .hbm, ⟨3, _⟩ => ⟨S4096x1024, .f32⟩
  | .hbm, ⟨4, _⟩ => ⟨S4096x1024, .bf16⟩
  | .hbm, ⟨5, _⟩ => ⟨S4096x2816, .f32⟩
  | .hbm, ⟨6, _⟩ => ⟨S4096x2816, .bf16⟩
  | .hbm, ⟨7, _⟩ => ⟨S8x1056x1024, .bf16⟩
  | .hbm, ⟨8, _⟩ => ⟨S8x1056x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S2x2048x1024 : Shape := ⟨3, ![2, 2048, 1024]⟩
abbrev S2x2048x2816 : Shape := ⟨3, ![2, 2048, 2816]⟩
abbrev S8x1056x1024 : Shape := ⟨3, ![8, 1056, 1024]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S8x1056x1024, .f32⟩
  | .hbm, ⟨3, _⟩ => ⟨S2816x1024, .f32⟩
  | .hbm, ⟨4, _⟩ => ⟨S1024x2816, .f32⟩
  | .hbm, ⟨5, _⟩ => ⟨S2816x1024, .f32⟩
  | .hbm, ⟨6, _⟩ => ⟨S8x352x1024, .f32⟩
  | .hbm, ⟨7, _⟩ => ⟨S8x352x1024, .f32⟩
  | .hbm, ⟨8, _⟩ => ⟨S8x352x1024, .f32⟩
  | .hbm, ⟨9, _⟩ => ⟨S8x1056x1024, .f32⟩
  | .hbm, ⟨10, _⟩ => ⟨S8x1056x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2x2048x2816 : Shape := ⟨3, ![2, 2048, 2816]⟩
abbrev S2x2048x1024 : Shape := ⟨3, ![2, 2048, 1024]⟩
abbrev S8x1056x1024 : Shape := ⟨3, ![8, 1056, 1024]⟩
abbrev S4096x2816 : Shape := ⟨2, ![4096, 2816]⟩
abbrev S4096x1024 : Shape := ⟨2, ![4096, 1024]⟩
abbrev S1024x1408 : Shape := ⟨2, ![1024, 1408]⟩
abbrev S1024x1024 : Shape := ⟨2, ![1024, 1024]⟩
abbrev S4x352x1024 : Shape := ⟨3, ![4, 352, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S8x1056x1024, .f32⟩
  | .hbm, ⟨3, _⟩ => ⟨S4096x2816, .f32⟩
  | .hbm, ⟨4, _⟩ => ⟨S4096x2816, .bf16⟩
  | .hbm, ⟨5, _⟩ => ⟨S4096x1024, .f32⟩
  | .hbm, ⟨6, _⟩ => ⟨S8x1056x1024, .bf16⟩
  | .hbm, ⟨7, _⟩ => ⟨S8x1056x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S4x352x1024, .bf16⟩
  | .local _ .vmem, ⟨5, _⟩ => ⟨S4x352x1024, .bf16⟩
  | .local _ .vmem, ⟨6, _⟩ => ⟨S1408x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S2x2048x2816 : Shape := ⟨3, ![2, 2048, 2816]⟩
abbrev S2x2048x1024 : Shape := ⟨3, ![2, 2048, 1024]⟩
abbrev S8x1056x1024 : Shape := ⟨3, ![8, 1056, 1024]⟩
abbrev S1024x2816 : Shape := ⟨2, ![1024, 2816]⟩
abbrev S2816x1024 : Shape := ⟨2, ![2816, 1024]⟩
abbrev S8x352x1024 : Shape := ⟨3, ![8, 352, 1024]⟩
abbrev S8x704x1024 : Shape := ⟨3, ![8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S8x1056x1024, .f32⟩
  | .hbm, ⟨3, _⟩ => ⟨S1024x2816, .f32⟩
  | .hbm, ⟨4, _⟩ => ⟨S2816x1024, .f32⟩
  | .hbm, ⟨5, _⟩ => ⟨S8x352x1024, .f32⟩
  | .hbm, ⟨6, _⟩ => ⟨S8x704x1024, .f32⟩
  | .hbm, ⟨7, _⟩ => ⟨S8x1056x1024, .f32⟩
  | .hbm, ⟨8, _⟩ => ⟨S8x1056x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2x2048x1024 : Shape := ⟨3, ![2, 2048, 1024]⟩
abbrev S2x2048x2816 : Shape := ⟨3, ![2, 2048, 2816]⟩
abbrev S8x704x1024 : Shape := ⟨3, ![8, 704, 1024]⟩
abbrev S4096x1024 : Shape := ⟨2, ![4096, 1024]⟩
abbrev S4096x2816 : Shape := ⟨2, ![4096, 2816]⟩
abbrev S1024x1408 : Shape := ⟨2, ![1024, 1408]⟩
abbrev S1024x1024 : Shape := ⟨2, ![1024, 1024]⟩
abbrev S4x352x1024 : Shape := ⟨3, ![4, 352, 1024]⟩
abbrev S1408x1024 : Shape := ⟨2, ![1408, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S8x704x1024, .f32⟩
  | .hbm, ⟨3, _⟩ => ⟨S4096x1024, .f32⟩
  | .hbm, ⟨4, _⟩ => ⟨S4096x1024, .bf16⟩
  | .hbm, ⟨5, _⟩ => ⟨S4096x2816, .f32⟩
  | .hbm, ⟨6, _⟩ => ⟨S4096x2816, .bf16⟩
  | .hbm, ⟨7, _⟩ => ⟨S8x704x1024, .bf16⟩
  | .hbm, ⟨8, _⟩ => ⟨S8x704x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S2x2048x1024 : Shape := ⟨3, ![2, 2048, 1024]⟩
abbrev S2x2048x2816 : Shape := ⟨3, ![2, 2048, 2816]⟩
abbrev S8x704x1024 : Shape := ⟨3, ![8, 704, 1024]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S8x704x1024, .f32⟩
  | .hbm, ⟨3, _⟩ => ⟨S2816x1024, .f32⟩
  | .hbm, ⟨4, _⟩ => ⟨S1024x2816, .f32⟩
  | .hbm, ⟨5, _⟩ => ⟨S2816x1024, .f32⟩
  | .hbm, ⟨6, _⟩ => ⟨S8x352x1024, .f32⟩
  | .hbm, ⟨7, _⟩ => ⟨S8x352x1024, .f32⟩
  | .hbm, ⟨8, _⟩ => ⟨S8x704x1024, .f32⟩
  | .hbm, ⟨9, _⟩ => ⟨S8x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2x1024x352 : Shape := ⟨3, ![2, 1024, 352]⟩
abbrev S2x352x1024 : Shape := ⟨3, ![2, 352, 1024]⟩
abbrev S704x1024 : Shape := ⟨2, ![704, 1024]⟩
abbrev S176x1024 : Shape := ⟨2, ![176, 1024]⟩

abbrev nBuf : Space → Nat
  | .hbm => 41
  | .vmem => 42
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x352x1024, .f32⟩
  | .hbm, ⟨3, _⟩ => ⟨S2x1024x352, .f32⟩
  | .hbm, ⟨4, _⟩ => ⟨S2x1024x352, .f32⟩
  | .hbm, ⟨5, _⟩ => ⟨S2x352x1024, .f32⟩
  | .hbm, ⟨6, _⟩ => ⟨S2x1024x352, .f32⟩
  | .hbm, ⟨7, _⟩ => ⟨S2x1024x352, .f32⟩
  | .hbm, ⟨8, _⟩ => ⟨S2x352x1024, .f32⟩
  | .hbm, ⟨9, _⟩ => ⟨S2x1024x352, .f32⟩
  | .hbm, ⟨10, _⟩ => ⟨S2x1024x352, .f32⟩
  | .hbm, ⟨11, _⟩ => ⟨S2x352x1024, .f32⟩
  | .hbm, ⟨12, _⟩ => ⟨S2x352x1024, .f32⟩
  | .hbm, ⟨13, _⟩ => ⟨S704x1024, .f32⟩
  | .hbm, ⟨14, _⟩ => ⟨S2x352x1024, .f32⟩
  | .hbm, ⟨15, _⟩ => ⟨S704x1024, .f32⟩
  | .hbm, ⟨16, _⟩ => ⟨S704x1024, .f32⟩
  | .hbm, ⟨17, _⟩ => ⟨S2x352x1024, .f32⟩
  | .hbm, ⟨18, _⟩ => ⟨S704x1024, .f32⟩
  | .hbm, ⟨19, _⟩ => ⟨S2x352x1024, .f32⟩
  | .hbm, ⟨20, _⟩ => ⟨S704x1024, .f32⟩
  | .hbm, ⟨21, _⟩ => ⟨S704x1024, .f32⟩
  | .hbm, ⟨22, _⟩ => ⟨S2x352x1024, .f32⟩
  | .hbm, ⟨23, _⟩ => ⟨S704x1024, .f32⟩
  | .hbm, ⟨24, _⟩ => ⟨S2x352x1024, .f32⟩
  | .hbm, ⟨25, _⟩ => ⟨S704x1024, .f32⟩
  | .hbm, ⟨26, _⟩ => ⟨S704x1024, .f32⟩
  | .hbm, ⟨27, _⟩ => ⟨S2x352x1024, .f32⟩
  | .hbm, ⟨28, _⟩ => ⟨S704x1024, .f32⟩
  | .hbm, ⟨29, _⟩ => ⟨S2x352x1024, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | _, _ => ⟨S2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference10Ideal.lean ====
abbrev S2x1024x352 : Shape := ⟨3, ![2, 1024, 352]⟩
abbrev S2x352x1024 : Shape := ⟨3, ![2, 352, 1024]⟩
abbrev S_ : Shape := ⟨0, ![]⟩
abbrev S704x1024 : Shape := ⟨2, ![704, 1024]⟩

abbrev nBuf : Space → Nat
  | .hbm => 126
  | .vmem => 0
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x352x1024, .f32⟩
  | .hbm, ⟨3, _⟩ => ⟨S2x1024x352, .f32⟩
  | .hbm, ⟨4, _⟩ => ⟨S2x1024x352, .f32⟩
  | .hbm, ⟨5, _⟩ => ⟨S2x352x1024, .f32⟩
  | .hbm, ⟨6, _⟩ => ⟨S2x1024x352, .f32⟩
  | .hbm, ⟨7, _⟩ => ⟨S2x1024x352, .f32⟩
  | .hbm, ⟨8, _⟩ => ⟨S2x352x1024, .f32⟩
  | .hbm, ⟨9, _⟩ => ⟨S2x1024x352, .f32⟩
  | .hbm, ⟨10, _⟩ => ⟨S2x1024x352, .f32⟩
  | .hbm, ⟨11, _⟩ => ⟨S2x352x1024, .f32⟩
  | .hbm, ⟨12, _⟩ => ⟨S_, .f32⟩
  | .hbm, ⟨13, _⟩ => ⟨S2x1024x352, .f32⟩
  | .hbm, ⟨14, _⟩ => ⟨S2x1024x352, .f32⟩
  | .hbm, ⟨15, _⟩ => ⟨S_, .f32⟩
  | .hbm, ⟨16, _⟩ => ⟨S2x1024x352, .f32⟩
  | .hbm, ⟨17, _⟩ => ⟨S2x1024x352, .f32⟩
  | .hbm, ⟨18, _⟩ => ⟨S2x1024x352, .f32⟩
  | .hbm, ⟨19, _⟩ => ⟨S_, .f32⟩
  | .hbm, ⟨20, _⟩ => ⟨S2x1024x352, .f32⟩
  | .hbm, ⟨21, _⟩ => ⟨S2x1024x352, .f32⟩
  | .hbm, ⟨22, _⟩ => ⟨S2x1024x352, .f32⟩
  | .hbm, ⟨23, _⟩ => ⟨S_, .f32⟩
  | .hbm, ⟨24, _⟩ => ⟨S2x1024x352, .f32⟩
  | .hbm, ⟨25, _⟩ => ⟨S2x1024x352, .f32⟩
  | .hbm, ⟨26, _⟩ => ⟨S2x1024x352, .f32⟩
  | .hbm, ⟨27, _⟩ => ⟨S_, .f32⟩
  | .hbm, ⟨28, _⟩ => ⟨S2x1024x352, .f32⟩
  | .hbm, ⟨29, _⟩ => ⟨S2x1024x352, .f32⟩
  | .hbm, ⟨30, _⟩ => ⟨S_, .f32⟩
  | .hbm, ⟨31, _⟩ => ⟨S2x1024x352, .f32⟩
  | .hbm, ⟨32, _⟩ => ⟨S2x1024x352, .f32⟩
  | .hbm, ⟨33, _⟩ => ⟨S2x1024x352, .f32⟩
  | .hbm, ⟨34, _⟩ => ⟨S_, .f32⟩
  | .hbm, ⟨35, _⟩ => ⟨S2x1024x352, .f32⟩
  | .hbm, ⟨36, _⟩ => ⟨S2x1024x352, .f32⟩
  | .hbm, ⟨37, _⟩ => ⟨S2x1024x352, .f32⟩
  | .hbm, ⟨38, _⟩ => ⟨S_, .f32⟩
  | .hbm, ⟨39, _⟩ => ⟨S2x1024x352, .f32⟩
  | .hbm, ⟨40, _⟩ => ⟨S2x1024x352, .f32⟩
  | .hbm, ⟨41, _⟩ => ⟨S2x1024x352, .f32⟩
  | .hbm, ⟨42, _⟩ => ⟨S_, .f32⟩
  | .hbm, ⟨43, _⟩ => ⟨S2x1024x352, .f32⟩
  | .hbm, ⟨44, _⟩ => ⟨S2x1024x352, .f32⟩
  | .hbm, ⟨45, _⟩ => ⟨S_, .f32⟩
  | .hbm, ⟨46, _⟩ => ⟨S2x1024x352, .f32⟩
  | .hbm, ⟨47, _⟩ => ⟨S2x1024x352, .f32⟩
  | .hbm, ⟨48, _⟩ => ⟨S_, .f32⟩
  | .hbm, ⟨49, _⟩ => ⟨S2x1024x352, .f32⟩
  | .hbm, ⟨50, _⟩ => ⟨S2x1024x352, .f32⟩
  | .hbm, ⟨51, _⟩ => ⟨S2x1024x352, .f32⟩
  | .hbm, ⟨52, _⟩ => ⟨S_, .f32⟩
  | .hbm, ⟨53, _⟩ => ⟨S2x1024x352, .f32⟩
  | .hbm, ⟨54, _⟩ => ⟨S2x1024x352, .f32⟩
  | .hbm, ⟨55, _⟩ => ⟨S2x1024x352, .f32⟩
  | .hbm, ⟨56, _⟩ => ⟨S_, .f32⟩
  | .hbm, ⟨57, _⟩ => ⟨S2x1024x352, .f32⟩
  | .hbm, ⟨58, _⟩ => ⟨S2x1024x352, .f32⟩
  | .hbm, ⟨59, _⟩ => ⟨S2x1024x352, .f32⟩
  | .hbm, ⟨60, _⟩ => ⟨S_, .f32⟩
  | .hbm, ⟨61, _⟩ => ⟨S2x1024x352, .f32⟩
  | .hbm, ⟨62, _⟩ => ⟨S2x1024x352, .f32⟩
  | .hbm, ⟨63, _⟩ => ⟨S_, .f32⟩
  | .hbm, ⟨64, _⟩ => ⟨S2x1024x352, .f32⟩
  | .hbm, ⟨65, _⟩ => ⟨S2x1024x352, .f32⟩
  | .hbm, ⟨66, _⟩ => ⟨S2x1024x352, .f32⟩
  | .hbm, ⟨67, _⟩ => ⟨S_, .f32⟩
  | .hbm, ⟨68, _⟩ => ⟨S2x1024x352, .f32⟩
  | .hbm, ⟨69, _⟩ => ⟨S2x1024x352, .f32⟩
  | .hbm, ⟨70, _⟩ => ⟨S2x1024x352, .f32⟩
  | .hbm, ⟨71, _⟩ => ⟨S_, .f32⟩
  | .hbm, ⟨72, _⟩ => ⟨S2x1024x352, .f32⟩
  | .hbm, ⟨73, _⟩ => ⟨S2x1024x352, .f32⟩
  | .hbm, ⟨74, _⟩ => ⟨S2x1024x352, .f32⟩
  | .hbm, ⟨75, _⟩ => ⟨S_, .f32⟩
  | .hbm, ⟨76, _⟩ => ⟨S2x1024x352, .f32⟩
  | .hbm, ⟨77, _⟩ => ⟨S2x1024x352, .f32⟩
  | .hbm, ⟨78, _⟩ => ⟨S_, .f32⟩
  | .hbm, ⟨79, _⟩ => ⟨S2x352x1024, .f32⟩
  | .hbm, ⟨80, _⟩ => ⟨S2x352x1024, .f32⟩
  | .hbm, ⟨81, _⟩ => ⟨S_, .f32⟩
  | .hbm, ⟨82, _⟩ => ⟨S2x352x1024, .f32⟩
  | .hbm, ⟨83, _⟩ => ⟨S2x352x1024, .f32⟩
  | .hbm, ⟨84, _⟩ => ⟨S2x352x1024, .f32⟩
  | .hbm, ⟨85, _⟩ => ⟨S_, .f32⟩
  | .hbm, ⟨86, _⟩ => ⟨S2x352x1024, .f32⟩
  | .hbm, ⟨87, _⟩ => ⟨S2x352x1024, .f32⟩
  | .hbm, ⟨88, _⟩ => ⟨S2x352x1024, .f32⟩
  | .hbm, ⟨89, _⟩ => ⟨S_, .f32⟩
  | .hbm, ⟨90, _⟩ => ⟨S2x352x1024, .f32⟩
  | .hbm, ⟨91, _⟩ => ⟨S2x352x1024, .f32⟩
  | .hbm, ⟨92, _⟩ => ⟨S2x352x1024, .f32⟩
  | .hbm, ⟨93, _⟩ => ⟨S_, .f32⟩
  | .hbm, ⟨94, _⟩ => ⟨S2x352x1024, .f32⟩
  | .hbm, ⟨95, _⟩ => ⟨S2x352x1024, .f32⟩
  | .hbm, ⟨96, _⟩ => ⟨S_, .f32⟩
  | .hbm, ⟨97, _⟩ => ⟨S2x352x1024, .f32⟩
  | .hbm, ⟨98, _⟩ => ⟨S2x352x1024, .f32⟩
  | .hbm, ⟨99, _⟩ => ⟨S2x352x1024, .f32⟩
  | .hbm, ⟨100, _⟩ => ⟨S_, .f32⟩
  | .hbm, ⟨101, _⟩ => ⟨S2x352x1024, .f32⟩
  | .hbm, ⟨102, _⟩ => ⟨S2x352x1024, .f32⟩
  | .hbm, ⟨103, _⟩ => ⟨S2x352x1024, .f32⟩
  | .hbm, ⟨104, _⟩ => ⟨S_, .f32⟩
  | .hbm, ⟨105, _⟩ => ⟨S2x352x1024, .f32⟩
  | .hbm, ⟨106, _⟩ => ⟨S2x352x1024, .f32⟩
  | .hbm, ⟨107, _⟩ => ⟨S2x352x1024, .f32⟩
  | .hbm, ⟨108, _⟩ => ⟨S_, .f32⟩
  | .hbm, ⟨109, _⟩ => ⟨S2x352x1024, .f32⟩
  | .hbm, ⟨110, _⟩ => ⟨S2x352x1024, .f32⟩
  | .hbm, ⟨111, _⟩ => ⟨S2x352x1024, .f32⟩
  | .hbm, ⟨112, _⟩ => ⟨S704x1024, .f32⟩
  | .hbm, ⟨113, _⟩ => ⟨S2x352x1024, .f32⟩
  | .hbm, ⟨114, _⟩ => ⟨S704x1024, .f32⟩
  | .hbm, ⟨115, _⟩ => ⟨S704x1024, .f32⟩
  | .hbm, ⟨116, _⟩ => ⟨S2x352x1024, .f32⟩
  | .hbm, ⟨117, _⟩ => ⟨S704x1024, .f32⟩
  | .hbm, ⟨118, _⟩ => ⟨S2x352x1024, .f32⟩
  | .hbm, ⟨119, _⟩ => ⟨S704x1024, .f32⟩
  | .hbm, ⟨120, _⟩ => ⟨S704x1024, .f32⟩
  | .hbm, ⟨121, _⟩ => ⟨S2x352x1024, .f32⟩
  | .hbm, ⟨122, _⟩ => ⟨S704x1024, .f32⟩
  | .hbm, ⟨123, _⟩ => ⟨S2x352x1024, .f32⟩
  | .hbm, ⟨124, _⟩ => ⟨S704x1024, .f32⟩
  | .hbm, ⟨125, _⟩ => ⟨S704x1024, .f32⟩
  | _, _ => ⟨S2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== Kernel11.lean ====
abbrev S1x128x960 : Shape := ⟨3, ![1, 128, 960]⟩
abbrev S1x128x1024 : Shape := ⟨3, ![1, 128, 1024]⟩
abbrev S1x960x128 : Shape := ⟨3, ![1, 960, 128]⟩
abbrev S960x128 : Shape := ⟨2, ![960, 128]⟩
abbrev S128x1024 : Shape := ⟨2, ![128, 1024]⟩
abbrev S480x128 : Shape := ⟨2, ![480, 128]⟩
abbrev S64x1024 : Shape := ⟨2, ![64, 1024]⟩

abbrev nBuf : Space → Nat
  | .hbm => 26
  | .vmem => 28
  | .smem => 0
  | _ => 0

abbrev bufTy : (tb : Table) → Fin (tcTables nBuf tb) → BufTy
  | .hbm, ⟨0, _⟩ => ⟨S1x128x960, .f32⟩
  | .hbm, ⟨1, _⟩ => ⟨S1x128x1024, .f32⟩
  | .hbm, ⟨2, _⟩ => ⟨S1x128x960, .f32⟩
  | .hbm, ⟨3, _⟩ => ⟨S1x128x1024, .f32⟩
  | .hbm, ⟨4, _⟩ => ⟨S1x128x960, .f32⟩
  | .hbm, ⟨5, _⟩ => ⟨S1x128x1024, .f32⟩
  | .hbm, ⟨6, _⟩ => ⟨S1x128x960, .f32⟩
  | .hbm, ⟨7, _⟩ => ⟨S1x128x1024, .f32⟩
  | .hbm, ⟨8, _⟩ => ⟨S1x960x128, .f32⟩
  | .hbm, ⟨9, _⟩ => ⟨S960x128, .f32⟩
  | .hbm, ⟨10, _⟩ => ⟨S128x1024, .f32⟩
  | .hbm, ⟨11, _⟩ => ⟨S1x960x128, .f32⟩
  | .hbm, ⟨12, _⟩ => ⟨S960x128, .f32⟩
  | .hbm, ⟨13, _⟩ => ⟨S128x1024, .f32⟩
  | .hbm, ⟨14, _⟩ => ⟨S1x960x128, .f32⟩
  | .hbm, ⟨15, _⟩ => ⟨S960x128, .f32⟩
  | .hbm, ⟨16, _⟩ => ⟨S128x1024, .f32⟩
  | .hbm, ⟨17, _⟩ => ⟨S1x960x128, .f32⟩
  | .hbm, ⟨18, _⟩ => ⟨S960x128, .f32⟩
  | .hbm, ⟨19, _⟩ => ⟨S128x1024, .f32⟩
  | .hbm, ⟨20, _⟩ => ⟨S960x128, .f32⟩
  | .hbm, ⟨21, _⟩ => ⟨S128x1024, .f32⟩
  | .hbm, ⟨22, _⟩ => ⟨S960x128, .f32⟩
  | .hbm, ⟨23, _⟩ => ⟨S128x1024, .f32⟩
  | .hbm, ⟨24, _⟩ => ⟨S960x128, .f32⟩
  | .hbm, ⟨25, _⟩ => ⟨S128x1024, .f32⟩
  | .local _ .vmem, ⟨0, _⟩ => ⟨S480x128, .f32⟩
  | .local _ .vmem, ⟨1, _⟩ => ⟨S480x128, .f32⟩
  | .local _ .vmem, ⟨2, _⟩ => ⟨S64x1024, .f32⟩
  | .local _ .vmem, ⟨3, _⟩ => ⟨S64x1024, .f32⟩
  | .local _ .vmem, ⟨4, _⟩ => ⟨S480x128, .f32⟩
  | .local _ .vmem, ⟨5, _⟩ => ⟨S480x128, .f32⟩
  | .local _ .vmem, ⟨6, _⟩ => ⟨S64x1024, .f32⟩
  | .local _ .vmem, ⟨7, _⟩ => ⟨S64x1024, .f32⟩
  | .local _ .vmem, ⟨8, _⟩ => ⟨S480x128, .f32⟩
  | .local _ .vmem, ⟨9, _⟩ => ⟨S480x128, .f32⟩
  | .local _ .vmem, ⟨10, _⟩ => ⟨S64x1024, .f32⟩
  | .local _ .vmem, ⟨11, _⟩ => ⟨S64x1024, .f32⟩
  | .local _ .vmem, ⟨12, _⟩ => ⟨S480x128, .f32⟩
  | .local _ .vmem, ⟨13, _⟩ => ⟨S480x128, .f32⟩
  | .local _ .vmem, ⟨14, _⟩ => ⟨S64x1024, .f32⟩
  | .local _ .vmem, ⟨15, _⟩ => ⟨S64x1024, .f32⟩
  | .local _ .vmem, ⟨16, _⟩ => ⟨S480x128, .f32⟩
  | .local _ .vmem, ⟨17, _⟩ => ⟨S480x128, .f32⟩
  | .local _ .vmem, ⟨18, _⟩ => ⟨S64x1024, .f32⟩
  | .local _ .vmem, ⟨19, _⟩ => ⟨S64x1024, .f32⟩
  | .local _ .vmem, ⟨20, _⟩ => ⟨S480x128, .f32⟩
  | .local _ .vmem, ⟨21, _⟩ => ⟨S480x128, .f32⟩
  | .local _ .vmem, ⟨22, _⟩ => ⟨S64x1024, .f32⟩
  | .local _ .vmem, ⟨23, _⟩ => ⟨S64x1024, .f32⟩
  | .local _ .vmem, ⟨24, _⟩ => ⟨S480x128, .f32⟩
  | .local _ .vmem, ⟨25, _⟩ => ⟨S480x128, .f32⟩
  | .local _ .vmem, ⟨26, _⟩ => ⟨S64x1024, .f32⟩
  | .local _ .vmem, ⟨27, _⟩ => ⟨S64x1024, .f32⟩
  | _, _ => ⟨S1x128x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S480x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S480x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S480x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S480x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S480x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S480x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S1x128x960 : Shape := ⟨3, ![1, 128, 960]⟩
abbrev S1x128x1024 : Shape := ⟨3, ![1, 128, 1024]⟩
abbrev S_ : Shape := ⟨0, ![]⟩
abbrev S1x960x128 : Shape := ⟨3, ![1, 960, 128]⟩
abbrev S960x128 : Shape := ⟨2, ![960, 128]⟩
abbrev S128x1024 : Shape := ⟨2, ![128, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1x128x960, .f32⟩
  | .hbm, ⟨1, _⟩ => ⟨S1x128x1024, .f32⟩
  | .hbm, ⟨2, _⟩ => ⟨S1x128x960, .f32⟩
  | .hbm, ⟨3, _⟩ => ⟨S1x128x1024, .f32⟩
  | .hbm, ⟨4, _⟩ => ⟨S1x128x960, .f32⟩
  | .hbm, ⟨5, _⟩ => ⟨S1x128x1024, .f32⟩
  | .hbm, ⟨6, _⟩ => ⟨S1x128x960, .f32⟩
  | .hbm, ⟨7, _⟩ => ⟨S1x128x1024, .f32⟩
  | .hbm, ⟨8, _⟩ => ⟨S_, .f32⟩
  | .hbm, ⟨9, _⟩ => ⟨S1x128x960, .f32⟩
  | .hbm, ⟨10, _⟩ => ⟨S1x128x960, .f32⟩
  | .hbm, ⟨11, _⟩ => ⟨S_, .f32⟩
  | .hbm, ⟨12, _⟩ => ⟨S1x128x960, .f32⟩
  | .hbm, ⟨13, _⟩ => ⟨S1x128x960, .f32⟩
  | .hbm, ⟨14, _⟩ => ⟨S1x128x960, .f32⟩
  | .hbm, ⟨15, _⟩ => ⟨S_, .f32⟩
  | .hbm, ⟨16, _⟩ => ⟨S1x128x960, .f32⟩
  | .hbm, ⟨17, _⟩ => ⟨S1x128x960, .f32⟩
  | .hbm, ⟨18, _⟩ => ⟨S1x128x960, .f32⟩
  | .hbm, ⟨19, _⟩ => ⟨S_, .f32⟩
  | .hbm, ⟨20, _⟩ => ⟨S1x128x960, .f32⟩
  | .hbm, ⟨21, _⟩ => ⟨S1x128x960, .f32⟩
  | .hbm, ⟨22, _⟩ => ⟨S1x128x960, .f32⟩
  | .hbm, ⟨23, _⟩ => ⟨S_, .f32⟩
  | .hbm, ⟨24, _⟩ => ⟨S1x128x960, .f32⟩
  | .hbm, ⟨25, _⟩ => ⟨S1x128x960, .f32⟩
  | .hbm, ⟨26, _⟩ => ⟨S_, .f32⟩
  | .hbm, ⟨27, _⟩ => ⟨S1x128x960, .f32⟩
  | .hbm, ⟨28, _⟩ => ⟨S1x128x960, .f32⟩
  | .hbm, ⟨29, _⟩ => ⟨S1x128x960, .f32⟩
  | .hbm, ⟨30, _⟩ => ⟨S_, .f32⟩
  | .hbm, ⟨31, _⟩ => ⟨S1x128x960, .f32⟩
  | .hbm, ⟨32, _⟩ => ⟨S1x128x960, .f32⟩
  | .hbm, ⟨33, _⟩ => ⟨S1x128x960, .f32⟩
  | .hbm, ⟨34, _⟩ => ⟨S_, .f32⟩
  | .hbm, ⟨35, _⟩ => ⟨S1x128x960, .f32⟩
  | .hbm, ⟨36, _⟩ => ⟨S1x128x960, .f32⟩
  | .hbm, ⟨37, _⟩ => ⟨S1x128x960, .f32⟩
  | .hbm, ⟨38, _⟩ => ⟨S_, .f32⟩
  | .hbm, ⟨39, _⟩ => ⟨S1x128x960, .f32⟩
  | .hbm, ⟨40, _⟩ => ⟨S1x128x960, .f32⟩
  | .hbm, ⟨41, _⟩ => ⟨S_, .f32⟩
  | .hbm, ⟨42, _⟩ => ⟨S1x128x1024, .f32⟩
  | .hbm, ⟨43, _⟩ => ⟨S1x128x1024, .f32⟩
  | .hbm, ⟨44, _⟩ => ⟨S_, .f32⟩
  | .hbm, ⟨45, _⟩ => ⟨S1x128x1024, .f32⟩
  | .hbm, ⟨46, _⟩ => ⟨S1x128x1024, .f32⟩
  | .hbm, ⟨47, _⟩ => ⟨S1x128x1024, .f32⟩
  | .hbm, ⟨48, _⟩ => ⟨S_, .f32⟩
  | .hbm, ⟨49, _⟩ => ⟨S1x128x1024, .f32⟩
  | .hbm, ⟨50, _⟩ => ⟨S1x128x1024, .f32⟩
  | .hbm, ⟨51, _⟩ => ⟨S1x128x1024, .f32⟩
  | .hbm, ⟨52, _⟩ => ⟨S_, .f32⟩
  | .hbm, ⟨53, _⟩ => ⟨S1x128x1024, .f32⟩
  | .hbm, ⟨54, _⟩ => ⟨S1x128x1024, .f32⟩
  | .hbm, ⟨55, _⟩ => ⟨S1x128x1024, .f32⟩
  | .hbm, ⟨56, _⟩ => ⟨S_, .f32⟩
  | .hbm, ⟨57, _⟩ => ⟨S1x128x1024, .f32⟩
  | .hbm, ⟨58, _⟩ => ⟨S1x128x1024, .f32⟩
  | .hbm, ⟨59, _⟩ => ⟨S_, .f32⟩
  | .hbm, ⟨60, _⟩ => ⟨S1x128x1024, .f32⟩
  | .hbm, ⟨61, _⟩ => ⟨S1x128x1024, .f32⟩
  | .hbm, ⟨62, _⟩ => ⟨S1x128x1024, .f32⟩
  | .hbm, ⟨63, _⟩ => ⟨S_, .f32⟩
  | .hbm, ⟨64, _⟩ => ⟨S1x128x1024, .f32⟩
  | .hbm, ⟨65, _⟩ => ⟨S1x128x1024, .f32⟩
  | .hbm, ⟨66, _⟩ => ⟨S1x128x1024, .f32⟩
  | .hbm, ⟨67, _⟩ => ⟨S_, .f32⟩
  | .hbm, ⟨68, _⟩ => ⟨S1x128x1024, .f32⟩
  | .hbm, ⟨69, _⟩ => ⟨S1x128x1024, .f32⟩
  | .hbm, ⟨70, _⟩ => ⟨S1x128x1024, .f32⟩
  | .hbm, ⟨71, _⟩ => ⟨S_, .f32⟩
  | .hbm, ⟨72, _⟩ => ⟨S1x128x1024, .f32⟩
  | .hbm, ⟨73, _⟩ => ⟨S1x128x1024, .f32⟩
  | .hbm, ⟨74, _⟩ => ⟨S1x960x128, .f32⟩
  | .hbm, ⟨75, _⟩ => ⟨S960x128, .f32⟩
  | .hbm, ⟨76, _⟩ => ⟨S128x1024, .f32⟩
  | .hbm, ⟨77, _⟩ => ⟨S1x960x128, .f32⟩
  | .hbm, ⟨78, _⟩ => ⟨S960x128, .f32⟩
  | .hbm, ⟨79, _⟩ => ⟨S128x1024, .f32⟩
  | .hbm, ⟨80, _⟩ => ⟨S1x960x128, .f32⟩
  | .hbm, ⟨81, _⟩ => ⟨S960x128, .f32⟩
  | .hbm, ⟨82, _⟩ => ⟨S128x1024, .f32⟩
  | _, _ => ⟨S1x128x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Kernel12.lean ====
abbrev S1x1024x320 : Shape := ⟨3, ![1, 1024, 320]⟩
abbrev S1x128x1024 : Shape := ⟨3, ![1, 128, 1024]⟩
abbrev S4x320x1024 : Shape := ⟨3, ![4, 320, 1024]⟩
abbrev S4x128x1024 : Shape := ⟨3, ![4, 128, 1024]⟩
abbrev S3x320x1024 : Shape := ⟨3, ![3, 320, 1024]⟩
abbrev S3x128x1024 : Shape := ⟨3, ![3, 128, 1024]⟩
abbrev S1x320x1024 : Shape := ⟨3, ![1, 320, 1024]⟩
abbrev S320x1024 : Shape := ⟨2, ![320, 1024]⟩
abbrev S128x1024 : Shape := ⟨2, ![128, 1024]⟩
abbrev S160x1024 : Shape := ⟨2, ![160, 1024]⟩
abbrev S64x1024 : Shape := ⟨2, ![64, 1024]⟩
abbrev S1x160x1024 : Shape := ⟨3, ![1, 160, 1024]⟩
abbrev S1x64x1024 : Shape := ⟨3, ![1, 64, 1024]⟩
abbrev S3x160x1024 : Shape := ⟨3, ![3, 160, 1024]⟩
abbrev S3x64x1024 : Shape := ⟨3, ![3, 64, 1024]⟩

abbrev nBuf : Space → Nat
  | .hbm => 31
  | .vmem => 36
  | .smem => 0
  | _ => 0

abbrev bufTy : (tb : Table) → Fin (tcTables nBuf tb) → BufTy
  | .hbm, ⟨0, _⟩ => ⟨S1x1024x320, .f32⟩
  | .hbm, ⟨1, _⟩ => ⟨S1x128x1024, .f32⟩
  | .hbm, ⟨2, _⟩ => ⟨S4x320x1024, .f32⟩
  | .hbm, ⟨3, _⟩ => ⟨S4x128x1024, .f32⟩
  | .hbm, ⟨4, _⟩ => ⟨S3x320x1024, .f32⟩
  | .hbm, ⟨5, _⟩ => ⟨S3x128x1024, .f32⟩
  | .hbm, ⟨6, _⟩ => ⟨S1x1024x320, .f32⟩
  | .hbm, ⟨7, _⟩ => ⟨S1x128x1024, .f32⟩
  | .hbm, ⟨8, _⟩ => ⟨S1x1024x320, .f32⟩
  | .hbm, ⟨9, _⟩ => ⟨S1x128x1024, .f32⟩
  | .hbm, ⟨10, _⟩ => ⟨S1x320x1024, .f32⟩
  | .hbm, ⟨11, _⟩ => ⟨S320x1024, .f32⟩
  | .hbm, ⟨12, _⟩ => ⟨S128x1024, .f32⟩
  | .hbm, ⟨13, _⟩ => ⟨S1x320x1024, .f32⟩
  | .hbm, ⟨14, _⟩ => ⟨S320x1024, .f32⟩
  | .hbm, ⟨15, _⟩ => ⟨S128x1024, .f32⟩
  | .hbm, ⟨16, _⟩ => ⟨S1x320x1024, .f32⟩
  | .hbm, ⟨17, _⟩ => ⟨S320x1024, .f32⟩
  | .hbm, ⟨18, _⟩ => ⟨S128x1024, .f32⟩
  | .hbm, ⟨19, _⟩ => ⟨S4x320x1024, .bf16⟩
  | .hbm, ⟨20, _⟩ => ⟨S4x128x1024, .bf16⟩
  | .hbm, ⟨21, _⟩ => ⟨S3x320x1024, .bf16⟩
  | .hbm, ⟨22, _⟩ => ⟨S3x128x1024, .bf16⟩
  | .hbm, ⟨23, _⟩ => ⟨S320x1024, .f32⟩
  | .hbm, ⟨24, _⟩ => ⟨S128x1024, .f32⟩
  | .hbm, ⟨25, _⟩ => ⟨S320x1024, .f32⟩
  | .hbm, ⟨26, _⟩ => ⟨S128x1024, .f32⟩
  | .hbm, ⟨27, _⟩ => ⟨S320x1024, .f32⟩
  | .hbm, ⟨28, _⟩ => ⟨S128x1024, .f32⟩
  | .hbm, ⟨29, _⟩ => ⟨S320x1024, .f32⟩
  | .hbm, ⟨30, _⟩ => ⟨S128x1024, .f32⟩
  | .local _ .vmem, ⟨0, _⟩ => ⟨S160x1024, .f32⟩
  | .local _ .vmem, ⟨1, _⟩ => ⟨S160x1024, .f32⟩
  | .local _ .vmem, ⟨2, _⟩ => ⟨S64x1024, .f32⟩
  | .local _ .vmem, ⟨3, _⟩ => ⟨S64x1024, .f32⟩
  | .local _ .vmem, ⟨4, _⟩ => ⟨S1x160x1024, .bf16⟩
  | .local _ .vmem, ⟨5, _⟩ => ⟨S1x160x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S3x160x1024, .bf16⟩
  | .local _ .vmem, ⟨9, _⟩ => ⟨S3x160x1024, .bf16⟩
  | .local _ .vmem, ⟨10, _⟩ => ⟨S3x64x1024, .bf16⟩
  | .local _ .vmem, ⟨11, _⟩ => ⟨S3x64x1024, .bf16⟩
  | .local _ .vmem, ⟨12, _⟩ => ⟨S160x1024, .f32⟩
  | .local _ .vmem, ⟨13, _⟩ => ⟨S160x1024, .f32⟩
  | .local _ .vmem, ⟨14, _⟩ => ⟨S64x1024, .f32⟩
  | .local _ .vmem, ⟨15, _⟩ => ⟨S64x1024, .f32⟩
  | .local _ .vmem, ⟨16, _⟩ => ⟨S160x1024, .f32⟩
  | .local _ .vmem, ⟨17, _⟩ => ⟨S160x1024, .f32⟩
  | .local _ .vmem, ⟨18, _⟩ => ⟨S64x1024, .f32⟩
  | .local _ .vmem, ⟨19, _⟩ => ⟨S64x1024, .f32⟩
  | .local _ .vmem, ⟨20, _⟩ => ⟨S160x1024, .f32⟩
  | .local _ .vmem, ⟨21, _⟩ => ⟨S160x1024, .f32⟩
  | .local _ .vmem, ⟨22, _⟩ => ⟨S64x1024, .f32⟩
  | .local _ .vmem, ⟨23, _⟩ => ⟨S64x1024, .f32⟩
  | .local _ .vmem, ⟨24, _⟩ => ⟨S160x1024, .f32⟩
  | .local _ .vmem, ⟨25, _⟩ => ⟨S160x1024, .f32⟩
  | .local _ .vmem, ⟨26, _⟩ => ⟨S64x1024, .f32⟩
  | .local _ .vmem, ⟨27, _⟩ => ⟨S64x1024, .f32⟩
  | .local _ .vmem, ⟨28, _⟩ => ⟨S160x1024, .f32⟩
  | .local _ .vmem, ⟨29, _⟩ => ⟨S160x1024, .f32⟩
  | .local _ .vmem, ⟨30, _⟩ => ⟨S64x1024, .f32⟩
  | .local _ .vmem, ⟨31, _⟩ => ⟨S64x1024, .f32⟩
  | .local _ .vmem, ⟨32, _⟩ => ⟨S160x1024, .f32⟩
  | .local _ .vmem, ⟨33, _⟩ => ⟨S160x1024, .f32⟩
  | .local _ .vmem, ⟨34, _⟩ => ⟨S64x1024, .f32⟩
  | .local _ .vmem, ⟨35, _⟩ => ⟨S64x1024, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x160x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S160x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S160x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S160x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S160x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference12Ideal.lean ====
abbrev S1x1024x320 : Shape := ⟨3, ![1, 1024, 320]⟩
abbrev S1x128x1024 : Shape := ⟨3, ![1, 128, 1024]⟩
abbrev S4x320x1024 : Shape := ⟨3, ![4, 320, 1024]⟩
abbrev S4x128x1024 : Shape := ⟨3, ![4, 128, 1024]⟩
abbrev S3x320x1024 : Shape := ⟨3, ![3, 320, 1024]⟩
abbrev S3x128x1024 : Shape := ⟨3, ![3, 128, 1024]⟩
abbrev S1x320x1024 : Shape := ⟨3, ![1, 320, 1024]⟩
abbrev S320x1024 : Shape := ⟨2, ![320, 1024]⟩
abbrev S_ : Shape := ⟨0, ![]⟩
abbrev S128x1024 : Shape := ⟨2, ![128, 1024]⟩

abbrev nBuf : Space → Nat
  | .hbm => 95
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1x128x1024, .f32⟩
  | .hbm, ⟨2, _⟩ => ⟨S4x320x1024, .f32⟩
  | .hbm, ⟨3, _⟩ => ⟨S4x128x1024, .f32⟩
  | .hbm, ⟨4, _⟩ => ⟨S3x320x1024, .f32⟩
  | .hbm, ⟨5, _⟩ => ⟨S3x128x1024, .f32⟩
  | .hbm, ⟨6, _⟩ => ⟨S1x1024x320, .f32⟩
  | .hbm, ⟨7, _⟩ => ⟨S1x128x1024, .f32⟩
  | .hbm, ⟨8, _⟩ => ⟨S1x1024x320, .f32⟩
  | .hbm, ⟨9, _⟩ => ⟨S1x128x1024, .f32⟩
  | .hbm, ⟨10, _⟩ => ⟨S1x320x1024, .f32⟩
  | .hbm, ⟨11, _⟩ => ⟨S320x1024, .f32⟩
  | .hbm, ⟨12, _⟩ => ⟨S_, .f32⟩
  | .hbm, ⟨13, _⟩ => ⟨S320x1024, .f32⟩
  | .hbm, ⟨14, _⟩ => ⟨S320x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S1x320x1024, .f32⟩
  | .hbm, ⟨21, _⟩ => ⟨S320x1024, .f32⟩
  | .hbm, ⟨22, _⟩ => ⟨S1x320x1024, .f32⟩
  | .hbm, ⟨23, _⟩ => ⟨S320x1024, .f32⟩
  | .hbm, ⟨24, _⟩ => ⟨S1x320x1024, .f32⟩
  | .hbm, ⟨25, _⟩ => ⟨S320x1024, .f32⟩
  | .hbm, ⟨26, _⟩ => ⟨S_, .f32⟩
  | .hbm, ⟨27, _⟩ => ⟨S320x1024, .f32⟩
  | .hbm, ⟨28, _⟩ => ⟨S320x1024, .f32⟩
  | .hbm, ⟨29, _⟩ => ⟨S_, .f32⟩
  | .hbm, ⟨30, _⟩ => ⟨S320x1024, .f32⟩
  | .hbm, ⟨31, _⟩ => ⟨S320x1024, .f32⟩
  | .hbm, ⟨32, _⟩ => ⟨S320x1024, .f32⟩
  | .hbm, ⟨33, _⟩ => ⟨S_, .f32⟩
  | .hbm, ⟨34, _⟩ => ⟨S320x1024, .f32⟩
  | .hbm, ⟨35, _⟩ => ⟨S320x1024, .f32⟩
  | .hbm, ⟨36, _⟩ => ⟨S320x1024, .f32⟩
  | .hbm, ⟨37, _⟩ => ⟨S_, .f32⟩
  | .hbm, ⟨38, _⟩ => ⟨S320x1024, .f32⟩
  | .hbm, ⟨39, _⟩ => ⟨S320x1024, .f32⟩
  | .hbm, ⟨40, _⟩ => ⟨S320x1024, .f32⟩
  | .hbm, ⟨41, _⟩ => ⟨S_, .f32⟩
  | .hbm, ⟨42, _⟩ => ⟨S320x1024, .f32⟩
  | .hbm, ⟨43, _⟩ => ⟨S320x1024, .f32⟩
  | .hbm, ⟨44, _⟩ => ⟨S_, .f32⟩
  | .hbm, ⟨45, _⟩ => ⟨S320x1024, .f32⟩
  | .hbm, ⟨46, _⟩ => ⟨S320x1024, .f32⟩
  | .hbm, ⟨47, _⟩ => ⟨S320x1024, .f32⟩
  | .hbm, ⟨48, _⟩ => ⟨S_, .f32⟩
  | .hbm, ⟨49, _⟩ => ⟨S320x1024, .f32⟩
  | .hbm, ⟨50, _⟩ => ⟨S320x1024, .f32⟩
  | .hbm, ⟨51, _⟩ => ⟨S320x1024, .f32⟩
  | .hbm, ⟨52, _⟩ => ⟨S_, .f32⟩
  | .hbm, ⟨53, _⟩ => ⟨S320x1024, .f32⟩
  | .hbm, ⟨54, _⟩ => ⟨S320x1024, .f32⟩
  | .hbm, ⟨55, _⟩ => ⟨S320x1024, .f32⟩
  | .hbm, ⟨56, _⟩ => ⟨S_, .f32⟩
  | .hbm, ⟨57, _⟩ => ⟨S320x1024, .f32⟩
  | .hbm, ⟨58, _⟩ => ⟨S320x1024, .f32⟩
  | .hbm, ⟨59, _⟩ => ⟨S128x1024, .f32⟩
  | .hbm, ⟨60, _⟩ => ⟨S128x1024, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S_, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S_, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S_, .f32⟩
  | .hbm, ⟨78, _⟩ => ⟨S128x1024, .f32⟩
  | .hbm, ⟨79, _⟩ => ⟨S128x1024, .f32⟩
  | .hbm, ⟨80, _⟩ => ⟨S_, .f32⟩
  | .hbm, ⟨81, _⟩ => ⟨S128x1024, .f32⟩
  | .hbm, ⟨82, _⟩ => ⟨S128x1024, .f32⟩
  | .hbm, ⟨83, _⟩ => ⟨S128x1024, .f32⟩
  | .hbm, ⟨84, _⟩ => ⟨S_, .f32⟩
  | .hbm, ⟨85, _⟩ => ⟨S128x1024, .f32⟩
  | .hbm, ⟨86, _⟩ => ⟨S128x1024, .f32⟩
  | .hbm, ⟨87, _⟩ => ⟨S128x1024, .f32⟩
  | .hbm, ⟨88, _⟩ => ⟨S_, .f32⟩
  | .hbm, ⟨89, _⟩ => ⟨S128x1024, .f32⟩
  | .hbm, ⟨90, _⟩ => ⟨S128x1024, .f32⟩
  | .hbm, ⟨91, _⟩ => ⟨S128x1024, .f32⟩
  | .hbm, ⟨92, _⟩ => ⟨S_, .f32⟩
  | .hbm, ⟨93, _⟩ => ⟨S128x1024, .f32⟩
  | .hbm, ⟨94, _⟩ => ⟨S128x1024, .f32⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_18 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Proof.Even.Runs.lean ====
/- What the runs of the mixer backward kernel share: the first-block test, the staging memrefs of a point, the scratch. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Even

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- The buffer through which the contents of output 11 are read. -/
abbrev VO0_11 : View sig .tc .vmem S512x1024 .f32 := (Memref.whole cc0_stg11_0 : Memref sig .tc .vmem S512x1024 .f32).view
/-- The buffer through which the contents of output 12 are read. -/
abbrev VO0_12 : View sig .tc .vmem S512x2560 .bf16 := (Memref.whole cc0_stg12_0 : Memref sig .tc .vmem S512x2560 .bf16).view
/-- The buffer through which the contents of output 13 are read. -/
abbrev VO0_13 : View sig .tc .vmem S512x1024 .bf16 := (Memref.whole cc0_stg13_0 : Memref sig .tc .vmem S512x1024 .bf16).view
/-- The buffer through which the contents of output 14 are read. -/
abbrev VO0_14 : View sig .tc .vmem S512x1024 .bf16 := (Memref.whole cc0_stg14_0 : Memref sig .tc .vmem S512x1024 .bf16).view
/-- The buffer through which the contents of output 15 are read. -/
abbrev VO0_15 : View sig .tc .vmem S1x1024 .f32 := (Memref.whole cc0_stg15_0 : Memref sig .tc .vmem S1x1024 .f32).view
/-- The buffer through which the contents of output 16 are read. -/
abbrev VO0_16 : View sig .tc .vmem S4x128x128 .f32 := (Memref.whole cc0_stg16_0 : Memref sig .tc .vmem S4x128x128 .f32).view
/-- The buffer through which the contents of output 17 are read. -/
abbrev VO0_17 : View sig .tc .vmem S128x128 .f32 := (Memref.whole cc0_stg17_0 : Memref sig .tc .vmem S128x128 .f32).view
/-- The buffer through which the contents of output 18 are read. -/
abbrev VO0_18 : View sig .tc .vmem S1x512 .f32 := (Memref.whole cc0_stg18_0 : Memref sig .tc .vmem S1x512 .f32).view
/-- The buffer through which the contents of output 19 are read. -/
abbrev VO0_19 : View sig .tc .vmem S8x512 .f32 := (Memref.whole cc0_stg19_0 : Memref sig .tc .vmem S8x512 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x320x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x2560 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x512 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S16x512 .f32 := Memref.whole cc0_scratch0
/-- The scratch `arg21` the kernel carries between points, as a view: what it holds is stated through it. -/
abbrev VS0_0 : View sig .tc .vmem S16x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Even

end
-- ==== Proof.Even.RunA.lean ====
/- The body of the mixer backward kernel run at the first block. -/
module

public import proofs.«01_k».proof.Proof.Even.Runs

@[expose] public section

set_option maxRecDepth 16384

noncomputable section

namespace Cert.KernelIdeal.Even

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block number the body computes at the first point is 7, the last of its sequence. -/
theorem last_first (i : grid0.Coords) (hc0 : cond0_0 i) : (Scalar.subi 7#32 (BitVec.ofNat 32 (i 0).val)) = 7#32 := by
  have h : (i 0).val = 0 := by
    have hi : (i 0).val < 8 := (i 0).isLt
    revert hc0; unfold cond0_0; generalize (i 0).val = k at hi; intro hc0
    interval_cases k <;> first | rfl | (exfalso; revert hc0; decide)
  rw [h]; rfl

/-- `dy` extended by rows of zeros: what the shifts read at the end of a sequence. -/
def ext0 (i : grid0.Coords) (v30 v36 : FVec F S512x512 .f32) : FVec F S528x512 .f32 :=
  k0_pay175 (Scalar.subi 7#32 (BitVec.ofNat 32 (i 0).val)) v30 v36 (broadcast S16x512 (Scalar.ofBits .f32 0x00000000#32))

/-- The first two terms of the convolution's gradient over `ext0`. -/
def dzz0 (i : grid0.Coords) (v30 v36 : FVec F S512x512 .f32) (a b : Vec F S1x512 .f32) : FVec F S512x512 .f32 :=
  k0_pay176 (Scalar.subi 7#32 (BitVec.ofNat 32 (i 0).val)) v30 v36 (broadcast S16x512 (Scalar.ofBits .f32 0x00000000#32)) a b

theorem pay175_first (i : grid0.Coords) (hc0 : cond0_0 i) (v30 v36 : FVec F S512x512 .f32) (d : Vec F S16x512 .f32) :
    k0_pay175 (Scalar.subi 7#32 (BitVec.ofNat 32 (i 0).val)) v30 v36 d = ext0 i v30 v36 := by
  unfold ext0; rw [last_first i hc0]; rfl

theorem pay176_first (i : grid0.Coords) (hc0 : cond0_0 i) (v30 v36 : FVec F S512x512 .f32) (d : Vec F S16x512 .f32) (a b : Vec F S1x512 .f32) :
    k0_pay176 (Scalar.subi 7#32 (BitVec.ofNat 32 (i 0).val)) v30 v36 d a b = dzz0 i v30 v36 a b := by
  unfold dzz0 k0_pay176; rw [pay175_first i hc0, pay175_first i hc0]

/-- Part 20 of the body at the first block: the rows it reads are replaced by zeros. -/
def part20A (i : grid0.Coords) (arg1 : Memref sig .tc .vmem S512x1024 .f32) (harg1 : arg1.IsWhole) (arg2 : Memref sig .tc .vmem S512x2560 .bf16) (harg2 : arg2.IsWhole) (arg3 : Memref sig .tc .vmem S16x2560 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S8x320x1024 .bf16) (harg6 : arg6.IsWhole) (arg7 : Memref sig .tc .vmem S8x128x1024 .bf16) (harg7 : arg7.IsWhole) (arg8 : Memref sig .tc .vmem S1x512 .f32) (harg8 : arg8.IsWhole) (arg9 : Memref sig .tc .vmem S4x128x128 .f32) (harg9 : arg9.IsWhole) (arg10 : Memref sig .tc .vmem S128x128 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S512x2560 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x128 .f32) (harg18 : arg18.IsWhole) (arg19 : Memref sig .tc .vmem S1x512 .f32) (harg19 : arg19.IsWhole) (arg20 : Memref sig .tc .vmem S8x512 .f32) (harg20 : arg20.IsWhole) (arg21 : Memref sig .tc .vmem S16x512 .f32) (harg21 : arg21.IsWhole)  (v30 : FVec F S512x512 .f32) (v36 : FVec F S512x512 .f32) (v814 : FVec F S512x512 .f32) :
    Prog (TpuEff nD τ sig (Elt F) Λ₀ .tc) (Σ' (v817 : FVec F S512x512 .f32) (v832 : FVec F S528x512 .f32) (v848 : FVec F S512x512 .f32) (v850 : FVec F S1x512 .f32) (v851 : IVec S528x512 32), BitVec 32) := do
  let v816 : Vec F S512x512 .bf16 ← Prog.lift (.load arg14 (Rect.unit (s := S512x1024) ![0, 512] S512x512.size inb_S512x1024_S512x512_0_512).toLoadRect (View.loadsAt_vmem h_S512x512))
  Prog.lift (.store arg14 (Rect.unit (s := S512x1024) ![0, 512] S512x512.size inb_S512x1024_S512x512_0_512) (k0_pay173 v814) Finset.univ (View.stores_vmem h_S512x512 (harg14.storeExact_slice rfl _ packedbf16_S512x1024_S512x512_0_512) (fun _ => rfl)) (.inl rfl))
  let v829 : Vec F S16x512 .f32 ← Prog.lift (.load arg21 (Rect.unit (s := S16x512) ![0, 0] S16x512.size inb_S16x512_S16x512_0_0).toLoadRect (View.loadsAt_vmem h_S16x512))
  let v833 : Vec F S1x512 .f32 ← Prog.lift (.load arg11 (Rect.unit (s := S8x512) ![2, 0] S1x512.size inb_S8x512_S1x512_2_0).toLoadRect (View.loadsAt_vmem h_S1x512))
  let v837 : Vec F S1x512 .f32 ← Prog.lift (.load arg11 (Rect.unit (s := S8x512) ![1, 0] S1x512.size inb_S8x512_S1x512_1_0).toLoadRect (View.loadsAt_vmem h_S1x512))
  let v849 : Vec F S1x512 .f32 ← Prog.lift (.load arg11 (Rect.unit (s := S8x512) ![0, 0] S1x512.size inb_S8x512_S1x512_0_0).toLoadRect (View.loadsAt_vmem h_S1x512))
  have v851 : IVec S528x512 32 := iota .tc S528x512 32 [0] iota_S528x512_d0_w32
  pure ⟨k0_pay174 v30 v36, ext0 i v30 v36, dzz0 i v30 v36 v833 v837, k0_pay177 v849, v851, 526#32⟩

/-- Part 20 with the first block told apart. -/
def part20X (i : grid0.Coords) (arg1 : Memref sig .tc .vmem S512x1024 .f32) (harg1 : arg1.IsWhole) (arg2 : Memref sig .tc .vmem S512x2560 .bf16) (harg2 : arg2.IsWhole) (arg3 : Memref sig .tc .vmem S16x2560 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S8x320x1024 .bf16) (harg6 : arg6.IsWhole) (arg7 : Memref sig .tc .vmem S8x128x1024 .bf16) (harg7 : arg7.IsWhole) (arg8 : Memref sig .tc .vmem S1x512 .f32) (harg8 : arg8.IsWhole) (arg9 : Memref sig .tc .vmem S4x128x128 .f32) (harg9 : arg9.IsWhole) (arg10 : Memref sig .tc .vmem S128x128 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S512x2560 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x128 .f32) (harg18 : arg18.IsWhole) (arg19 : Memref sig .tc .vmem S1x512 .f32) (harg19 : arg19.IsWhole) (arg20 : Memref sig .tc .vmem S8x512 .f32) (harg20 : arg20.IsWhole) (arg21 : Memref sig .tc .vmem S16x512 .f32) (harg21 : arg21.IsWhole) (v0 : BitVec 32) (v30 : FVec F S512x512 .f32) (v36 : FVec F S512x512 .f32) (v814 : FVec F S512x512 .f32) :
    Prog (TpuEff nD τ sig (Elt F) Λ₀ .tc) (Σ' (v817 : FVec F S512x512 .f32) (v832 : FVec F S528x512 .f32) (v848 : FVec F S512x512 .f32) (v850 : FVec F S1x512 .f32) (v851 : IVec S528x512 32), BitVec 32) :=
  if cond0_0 i ∧ v0 = 7#32 then part20A i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v30 v36 v814 else k0_part20_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v30 v36 v814

set_option maxRecDepth 65536 in
theorem part20_first : k0_part20 (F := F) = part20X (F := F) := by
  rw [k0_part20_eq_skeleton]
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v30 v36 v814
  unfold part20X
  by_cases hv : cond0_0 i ∧ v0 = 7#32
  · rw [if_pos hv]; obtain ⟨hc0, hv⟩ := hv; obtain rfl := hv.trans (last_first i hc0).symm; unfold k0_part20_skel part20A
    simp only [pay175_first i hc0, pay176_first i hc0]
  · rw [if_neg hv]

-- (the run's proof term is large: the definition's epilogue — `abstractNestedProofs` — walks it past the default budget)
set_option maxHeartbeats 1000000 in
/-- The first block: the pieces the body leaves in each output and in the carried rows; what the rows held before is not read into any of them. -/
noncomputable def kernelRun0_A (c : Dev nD) (i : grid0.Coords) (arg1 : Memref sig .tc .vmem S512x1024 .f32) (harg1 : arg1.IsWhole) (arg2 : Memref sig .tc .vmem S512x2560 .bf16) (harg2 : arg2.IsWhole) (arg3 : Memref sig .tc .vmem S16x2560 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S8x320x1024 .bf16) (harg6 : arg6.IsWhole) (arg7 : Memref sig .tc .vmem S8x128x1024 .bf16) (harg7 : arg7.IsWhole) (arg8 : Memref sig .tc .vmem S1x512 .f32) (harg8 : arg8.IsWhole) (arg9 : Memref sig .tc .vmem S4x128x128 .f32) (harg9 : arg9.IsWhole) (arg10 : Memref sig .tc .vmem S128x128 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S512x2560 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x128 .f32) (harg18 : arg18.IsWhole) (arg19 : Memref sig .tc .vmem S1x512 .f32) (harg19 : arg19.IsWhole) (arg20 : Memref sig .tc .vmem S8x512 .f32) (harg20 : arg20.IsWhole) (arg21 : Memref sig .tc .vmem S16x512 .f32) (harg21 : arg21.IsWhole) (hc0 : cond0_0 i)
    (x0 : Vec F S512x1024 .f32) (x1 : Vec F S512x2560 .bf16) (x2 : Vec F S16x2560 .bf16) (x3 : Vec F S512x1024 .f32) (x4 : Vec F S1x1024 .f32) (x5 : Vec F S8x320x1024 .bf16) (x6 : Vec F S8x128x1024 .bf16) (x7 : Vec F S1x512 .f32) (x8 : Vec F S4x128x128 .f32) (x9 : Vec F S128x128 .f32) (x10 : Vec F S8x512 .f32) :
    Σ' (L11 : List (View.Piece (Elt F) S512x1024 .f32)), Σ' (L12 : List (View.Piece (Elt F) S512x2560 .bf16)), Σ' (L13 : List (View.Piece (Elt F) S512x1024 .bf16)), Σ' (L14 : List (View.Piece (Elt F) S512x1024 .bf16)), Σ' (L15 : List (View.Piece (Elt F) S1x1024 .f32)), Σ' (L16 : List (View.Piece (Elt F) S4x128x128 .f32)), Σ' (L17 : List (View.Piece (Elt F) S128x128 .f32)), Σ' (L18 : List (View.Piece (Elt F) S1x512 .f32)), Σ' (L19 : List (View.Piece (Elt F) S8x512 .f32)), { LS0 : List (View.Piece (Elt F) S16x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LS0)) -∗ K ⟨⟩))
          ⊢ wp frame (wpE (defs₀ (F := F)) Variants.none c none) E (cc0_even_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, fun E K => ?run⟩
  case run =>
    simp only [cc0_even_bwd_eq_skeleton]; unfold cc0_even_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, part20_first, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | exact ⟨hc0, last_first i hc0⟩)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact HS0

end Cert.KernelIdeal.Even

end
-- ==== Proof.Even.RunB.lean ====
/- The body of the mixer backward kernel run at every block but the first. -/
module

public import proofs.«01_k».proof.Proof.Even.RunA

@[expose] public section

set_option maxRecDepth 16384

noncomputable section

namespace Cert.KernelIdeal.Even

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- A later block: the pieces the body leaves in each output and in the carried rows, given the running sums and the rows the block before left. -/
noncomputable def kernelRun0_B (c : Dev nD) (i : grid0.Coords) (arg1 : Memref sig .tc .vmem S512x1024 .f32) (harg1 : arg1.IsWhole) (arg2 : Memref sig .tc .vmem S512x2560 .bf16) (harg2 : arg2.IsWhole) (arg3 : Memref sig .tc .vmem S16x2560 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S8x320x1024 .bf16) (harg6 : arg6.IsWhole) (arg7 : Memref sig .tc .vmem S8x128x1024 .bf16) (harg7 : arg7.IsWhole) (arg8 : Memref sig .tc .vmem S1x512 .f32) (harg8 : arg8.IsWhole) (arg9 : Memref sig .tc .vmem S4x128x128 .f32) (harg9 : arg9.IsWhole) (arg10 : Memref sig .tc .vmem S128x128 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S512x2560 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x128 .f32) (harg18 : arg18.IsWhole) (arg19 : Memref sig .tc .vmem S1x512 .f32) (harg19 : arg19.IsWhole) (arg20 : Memref sig .tc .vmem S8x512 .f32) (harg20 : arg20.IsWhole) (arg21 : Memref sig .tc .vmem S16x512 .f32) (harg21 : arg21.IsWhole) (hc0 : ¬cond0_0 i)
    (x0 : Vec F S512x1024 .f32) (x1 : Vec F S512x2560 .bf16) (x2 : Vec F S16x2560 .bf16) (x3 : Vec F S512x1024 .f32) (x4 : Vec F S1x1024 .f32) (x5 : Vec F S8x320x1024 .bf16) (x6 : Vec F S8x128x1024 .bf16) (x7 : Vec F S1x512 .f32) (x8 : Vec F S4x128x128 .f32) (x9 : Vec F S128x128 .f32) (x10 : Vec F S8x512 .f32) (xo15 : Vec F S1x1024 .f32) (xo16 : Vec F S4x128x128 .f32) (xo17 : Vec F S128x128 .f32) (xo18 : Vec F S1x512 .f32) (xo19 : Vec F S8x512 .f32) (xs0 : Vec F S16x512 .f32) :
    Σ' (L11 : List (View.Piece (Elt F) S512x1024 .f32)), Σ' (L12 : List (View.Piece (Elt F) S512x2560 .bf16)), Σ' (L13 : List (View.Piece (Elt F) S512x1024 .bf16)), Σ' (L14 : List (View.Piece (Elt F) S512x1024 .bf16)), Σ' (L15 : List (View.Piece (Elt F) S1x1024 .f32)), Σ' (L16 : List (View.Piece (Elt F) S4x128x128 .f32)), Σ' (L17 : List (View.Piece (Elt F) S128x128 .f32)), Σ' (L18 : List (View.Piece (Elt F) S1x512 .f32)), Σ' (L19 : List (View.Piece (Elt F) S8x512 .f32)), { LS0 : List (View.Piece (Elt F) S16x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xo15 ∗ owns (c : Thread nD τ) arg17 fullShare xo16 ∗ owns (c : Thread nD τ) arg18 fullShare xo17 ∗ owns (c : Thread nD τ) arg19 fullShare xo18 ∗ owns (c : Thread nD τ) arg20 fullShare xo19 ∗ owns (c : Thread nD τ) arg21 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread xo17) L17) ∗ (∃ f, arg19.view.loc (c : Thread nD τ) ↦[arg19.view.set]{fullShare} arg19.view.writes (Elt F) f L18) ∗ (arg20.view.loc (c : Thread nD τ) ↦[arg20.view.set]{fullShare} arg20.view.writes (Elt F) (harg20.unread xo19) L19) ∗ (∃ f, arg21.view.loc (c : Thread nD τ) ↦[arg21.view.set]{fullShare} arg21.view.writes (Elt F) f LS0)) -∗ K ⟨⟩))
          ⊢ wp frame (wpE (defs₀ (F := F)) Variants.none c none) E (cc0_even_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, fun E K => ?run⟩
  case run =>
    simp only [cc0_even_bwd_eq_skeleton]; unfold cc0_even_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf15; obtain rfl := harg17.eq_unread hf16; obtain rfl := harg18.eq_unread hf17; obtain rfl := harg19.eq_unread hf18; obtain rfl := harg20.eq_unread hf19; obtain rfl := harg21.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [H18]; · iexists _; iexact H18
    isplitl [H19]; · iexact H19
    iexists _; iexact HS0

end Cert.KernelIdeal.Even

end
-- ==== Proof.Even.Outs.lean ====
/- What the outputs of the mixer backward kernel hold, point by point. -/
module

public import proofs.«01_k».proof.Proof.Even.RunB

@[expose] public section

set_option maxRecDepth 16384

noncomputable section

namespace Cert.KernelIdeal.Even

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the outputs' blocks and the carried rows hold after a point. -/
abbrev St (F : FTy → Type) : Type := Vec F S512x1024 .f32 × Vec F S512x2560 .bf16 × Vec F S512x1024 .bf16 × Vec F S512x1024 .bf16 × Vec F S1x1024 .f32 × Vec F S4x128x128 .f32 × Vec F S128x128 .f32 × Vec F S1x512 .f32 × Vec F S8x512 .f32 × Vec F S16x512 .f32

/-- The run at the first block, on the point's memrefs and input blocks. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The run at a later block, over what the point before left. -/
abbrev runB (c : Dev nD) (t : Fin cfg0.N) (h0 : ¬t.val % 8 = 0) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.1 p.2.2.2.2.2.1 p.2.2.2.2.2.2.1 p.2.2.2.2.2.2.2.1 p.2.2.2.2.2.2.2.2.1 p.2.2.2.2.2.2.2.2.2

theorem coverA_0 (c : Dev nD) (t : Fin cfg0.N) (h0 : t.val % 8 = 0) (y : S512x1024.Idx) : ∃ pc ∈ (runA m c t h0).1, y ∈ pc.1.set :=
  View.cover_of_tiledL (runA m c t h0).1 S512x1024.size (by sl_kernel_rfl) y

theorem coverA_1 (c : Dev nD) (t : Fin cfg0.N) (h0 : t.val % 8 = 0) (y : S512x2560.Idx) : ∃ pc ∈ (runA m c t h0).2.1, y ∈ pc.1.set :=
  View.cover_of_tiledBy (runA m c t h0).2.1 ![512, 128] (by sl_kernel_rfl) y

theorem coverA_2 (c : Dev nD) (t : Fin cfg0.N) (h0 : t.val % 8 = 0) (y : S512x1024.Idx) : ∃ pc ∈ (runA m c t h0).2.2.1, y ∈ pc.1.set :=
  View.cover_of_tiledL (runA m c t h0).2.2.1 S512x512.size (by sl_kernel_rfl) y

theorem coverA_3 (c : Dev nD) (t : Fin cfg0.N) (h0 : t.val % 8 = 0) (y : S512x1024.Idx) : ∃ pc ∈ (runA m c t h0).2.2.2.1, y ∈ pc.1.set :=
  View.cover_of_tiledL (runA m c t h0).2.2.2.1 S512x1024.size (by sl_kernel_rfl) y

theorem coverA_4 (c : Dev nD) (t : Fin cfg0.N) (h0 : t.val % 8 = 0) (y : S1x1024.Idx) : ∃ pc ∈ (runA m c t h0).2.2.2.2.1, y ∈ pc.1.set :=
  View.cover_of_tiledL (runA m c t h0).2.2.2.2.1 S1x1024.size (by sl_kernel_rfl) y

theorem coverA_5 (c : Dev nD) (t : Fin cfg0.N) (h0 : t.val % 8 = 0) (y : S4x128x128.Idx) : ∃ pc ∈ (runA m c t h0).2.2.2.2.2.1, y ∈ pc.1.set :=
  View.cover_of_tiledBy (runA m c t h0).2.2.2.2.2.1 ![1, 128, 128] (by sl_kernel_rfl) y

theorem coverA_6 (c : Dev nD) (t : Fin cfg0.N) (h0 : t.val % 8 = 0) (y : S128x128.Idx) : ∃ pc ∈ (runA m c t h0).2.2.2.2.2.2.1, y ∈ pc.1.set :=
  View.cover_of_tiledBy (runA m c t h0).2.2.2.2.2.2.1 ![128, 1] (by sl_kernel_rfl) y

theorem coverA_7 (c : Dev nD) (t : Fin cfg0.N) (h0 : t.val % 8 = 0) (y : S1x512.Idx) : ∃ pc ∈ (runA m c t h0).2.2.2.2.2.2.2.1, y ∈ pc.1.set :=
  View.cover_of_tiledBy (runA m c t h0).2.2.2.2.2.2.2.1 ![1, 128] (by sl_kernel_rfl) y

theorem coverA_8 (c : Dev nD) (t : Fin cfg0.N) (h0 : t.val % 8 = 0) (y : S8x512.Idx) : ∃ pc ∈ (runA m c t h0).2.2.2.2.2.2.2.2.1, y ∈ pc.1.set :=
  View.cover_of_tiledBy (runA m c t h0).2.2.2.2.2.2.2.2.1 ![1, 512] (by sl_kernel_rfl) y

theorem coverA_9 (c : Dev nD) (t : Fin cfg0.N) (h0 : t.val % 8 = 0) (y : S16x512.Idx) : ∃ pc ∈ (runA m c t h0).2.2.2.2.2.2.2.2.2.1, y ∈ pc.1.set :=
  View.cover_of_tiledL (runA m c t h0).2.2.2.2.2.2.2.2.2.1 S16x512.size (by sl_kernel_rfl) y

theorem coverB_0 (c : Dev nD) (t : Fin cfg0.N) (h0 : ¬t.val % 8 = 0) (p : St F) (y : S512x1024.Idx) : ∃ pc ∈ (runB m c t h0 p).1, y ∈ pc.1.set :=
  View.cover_of_tiledL (runB m c t h0 p).1 S512x1024.size (by sl_kernel_rfl) y

theorem coverB_1 (c : Dev nD) (t : Fin cfg0.N) (h0 : ¬t.val % 8 = 0) (p : St F) (y : S512x2560.Idx) : ∃ pc ∈ (runB m c t h0 p).2.1, y ∈ pc.1.set :=
  View.cover_of_tiledBy (runB m c t h0 p).2.1 ![512, 128] (by sl_kernel_rfl) y

theorem coverB_2 (c : Dev nD) (t : Fin cfg0.N) (h0 : ¬t.val % 8 = 0) (p : St F) (y : S512x1024.Idx) : ∃ pc ∈ (runB m c t h0 p).2.2.1, y ∈ pc.1.set :=
  View.cover_of_tiledL (runB m c t h0 p).2.2.1 S512x512.size (by sl_kernel_rfl) y

theorem coverB_3 (c : Dev nD) (t : Fin cfg0.N) (h0 : ¬t.val % 8 = 0) (p : St F) (y : S512x1024.Idx) : ∃ pc ∈ (runB m c t h0 p).2.2.2.1, y ∈ pc.1.set :=
  View.cover_of_tiledL (runB m c t h0 p).2.2.2.1 S512x1024.size (by sl_kernel_rfl) y

theorem coverB_4 (c : Dev nD) (t : Fin cfg0.N) (h0 : ¬t.val % 8 = 0) (p : St F) (y : S1x1024.Idx) : ∃ pc ∈ (runB m c t h0 p).2.2.2.2.1, y ∈ pc.1.set :=
  View.cover_of_tiledL (runB m c t h0 p).2.2.2.2.1 S1x1024.size (by sl_kernel_rfl) y

theorem coverB_5 (c : Dev nD) (t : Fin cfg0.N) (h0 : ¬t.val % 8 = 0) (p : St F) (y : S4x128x128.Idx) : ∃ pc ∈ (runB m c t h0 p).2.2.2.2.2.1, y ∈ pc.1.set :=
  View.cover_of_tiledL (runB m c t h0 p).2.2.2.2.2.1 S1x128x128.size (by sl_kernel_rfl) y

theorem coverB_7 (c : Dev nD) (t : Fin cfg0.N) (h0 : ¬t.val % 8 = 0) (p : St F) (y : S1x512.Idx) : ∃ pc ∈ (runB m c t h0 p).2.2.2.2.2.2.2.1, y ∈ pc.1.set :=
  View.cover_of_tiledL (runB m c t h0 p).2.2.2.2.2.2.2.1 S1x128.size (by sl_kernel_rfl) y

theorem coverB_9 (c : Dev nD) (t : Fin cfg0.N) (h0 : ¬t.val % 8 = 0) (p : St F) (y : S16x512.Idx) : ∃ pc ∈ (runB m c t h0 p).2.2.2.2.2.2.2.2.2.1, y ∈ pc.1.set :=
  View.cover_of_tiledL (runB m c t h0 p).2.2.2.2.2.2.2.2.2.1 S16x512.size (by sl_kernel_rfl) y

/-- What the first point leaves. -/
def outA (c : Dev nD) (t : Fin cfg0.N) (h0 : t.val % 8 = 0) : St F :=
  (VO0_11.read (Elt F) (VO0_11.writes (Elt F) VO0_11.junk (runA m c t h0).1),
    VO0_12.read (Elt F) (VO0_12.writes (Elt F) VO0_12.junk (runA m c t h0).2.1),
    VO0_13.read (Elt F) (VO0_13.writes (Elt F) VO0_13.junk (runA m c t h0).2.2.1),
    VO0_14.read (Elt F) (VO0_14.writes (Elt F) VO0_14.junk (runA m c t h0).2.2.2.1),
    VO0_15.read (Elt F) (VO0_15.writes (Elt F) VO0_15.junk (runA m c t h0).2.2.2.2.1),
    VO0_16.read (Elt F) (VO0_16.writes (Elt F) VO0_16.junk (runA m c t h0).2.2.2.2.2.1),
    VO0_17.read (Elt F) (VO0_17.writes (Elt F) VO0_17.junk (runA m c t h0).2.2.2.2.2.2.1),
    VO0_18.read (Elt F) (VO0_18.writes (Elt F) VO0_18.junk (runA m c t h0).2.2.2.2.2.2.2.1),
    VO0_19.read (Elt F) (VO0_19.writes (Elt F) VO0_19.junk (runA m c t h0).2.2.2.2.2.2.2.2.1),
    VS0_0.read (Elt F) (VS0_0.writes (Elt F) VS0_0.junk (runA m c t h0).2.2.2.2.2.2.2.2.2.1))

/-- What a later point leaves, over what the point before left. -/
def outB (c : Dev nD) (t : Fin cfg0.N) (h0 : ¬t.val % 8 = 0) (p : St F) : St F :=
  (VO0_11.read (Elt F) (VO0_11.writes (Elt F) VO0_11.junk (runB m c t h0 p).1),
    VO0_12.read (Elt F) (VO0_12.writes (Elt F) VO0_12.junk (runB m c t h0 p).2.1),
    VO0_13.read (Elt F) (VO0_13.writes (Elt F) VO0_13.junk (runB m c t h0 p).2.2.1),
    VO0_14.read (Elt F) (VO0_14.writes (Elt F) VO0_14.junk (runB m c t h0 p).2.2.2.1),
    VO0_15.read (Elt F) (VO0_15.writes (Elt F) VO0_15.junk (runB m c t h0 p).2.2.2.2.1),
    VO0_16.read (Elt F) (VO0_16.writes (Elt F) VO0_16.junk (runB m c t h0 p).2.2.2.2.2.1),
    (ms0_17 t).view.read (Elt F) ((ms0_17 t).view.writes (Elt F) ((hs0_17 t).unread p.2.2.2.2.2.2.1) (runB m c t h0 p).2.2.2.2.2.2.1),
    VO0_18.read (Elt F) (VO0_18.writes (Elt F) VO0_18.junk (runB m c t h0 p).2.2.2.2.2.2.2.1),
    (ms0_19 t).view.read (Elt F) ((ms0_19 t).view.writes (Elt F) ((hs0_19 t).unread p.2.2.2.2.2.2.2.2.1) (runB m c t h0 p).2.2.2.2.2.2.2.2.1),
    VS0_0.read (Elt F) (VS0_0.writes (Elt F) VS0_0.junk (runB m c t h0 p).2.2.2.2.2.2.2.2.2.1))

/-- What the outputs and the carried rows hold after position `n`. -/
def outsAt0 (c : Dev nD) : (n : ℕ) → n < cfg0.N → St F
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn))

theorem outsAt0_A (c : Dev nD) (t : Fin cfg0.N) (h0 : t.val % 8 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

end Cert.KernelIdeal.Even

end
-- ==== Proof.Even.Frame.lean ====
/- The frame of the mixer backward kernel: its body obligation, its run and what it leaves unchanged. -/
module

public import proofs.«01_k».proof.Proof.Even.Outs

@[expose] public section

set_option maxRecDepth 16384

noncomputable section

namespace Cert.KernelIdeal.Even

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant before position `n`: the carried rows at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the one pipeline: inputs at their blocks, outputs at `outsAt0`, the carried rows in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨18, _⟩ => (outsAt0 m c t.val t.isLt).2.2.2.2.2.2.2.1
    | ⟨19, _⟩ => (outsAt0 m c t.val t.isLt).2.2.2.2.2.2.2.2.1
    | ⟨_ + 20, h⟩ => absurd h (Nat.not_lt.2 (Nat.le_add_left _ _))
  Φ t := PhiS m c t.val (Nat.le_of_lt_succ t.isLt)
  q w := Pipeline.shareOf spec0 w
  owed _ := 0

/-- The arrays are the contents at region entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]
theorem after0_18 (c : Dev nD) (t : Fin cfg0.N) : (dats m 0 c).after 18 t = (outsAt0 m c t.val t.isLt).2.2.2.2.2.2.2.1 := by dsimp only [dats]
theorem after0_19 (c : Dev nD) (t : Fin cfg0.N) : (dats m 0 c).after 19 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- Output 15 holds at a later point what the point before left. -/
theorem before0_15_B (c : Dev nD) (t : Fin cfg0.N) (h0 : ¬t.val % 8 = 0) (d) :
    (dats m 0 c).before 15 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 15 rfl t (by omega) (Bool.eq_false_iff.mpr fun h => by have := (flush0_15 _).mp h; dsimp only at this; omega)
    (fun _ => rfl) (fun _ _ => rfl)]
  dsimp only [dats]
/-- Output 16 holds at a later point what the point before left. -/
theorem before0_16_B (c : Dev nD) (t : Fin cfg0.N) (h0 : ¬t.val % 8 = 0) (d) :
    (dats m 0 c).before 16 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]
/-- Output 17 holds at a later point what the point before left. -/
theorem before0_17_B (c : Dev nD) (t : Fin cfg0.N) (h0 : ¬t.val % 8 = 0) (d) :
    (dats m 0 c).before 17 t d = (outsAt0 m c (t.val - 1) (Nat.lt_of_le_of_lt (Nat.sub_le _ _) t.isLt)).2.2.2.2.2.2.1 := by
  have hN : t.val < 8 := lt_of_lt_of_eq t.isLt (show cfg0.N = 8 from N_0)
  rw [Dat.before_out_kept _ 17 rfl t (by omega) (Bool.eq_false_iff.mpr fun h => by have := (flush0_17 _).mp h; dsimp only at this; omega)
    (fun _ => rfl) (fun _ _ => rfl)]
  dsimp only [dats]
/-- Output 18 holds at a later point what the point before left. -/
theorem before0_18_B (c : Dev nD) (t : Fin cfg0.N) (h0 : ¬t.val % 8 = 0) (d) :
    (dats m 0 c).before 18 t d = (outsAt0 m c (t.val - 1) (Nat.lt_of_le_of_lt (Nat.sub_le _ _) t.isLt)).2.2.2.2.2.2.2.1 := by
  have hN : t.val < 8 := lt_of_lt_of_eq t.isLt (show cfg0.N = 8 from N_0)
  rw [Dat.before_out_kept _ 18 rfl t (by omega) (Bool.eq_false_iff.mpr fun h => by have := (flush0_18 _).mp h; dsimp only at this; omega)
    (fun _ => rfl) (fun _ _ => rfl)]
  dsimp only [dats]
/-- Output 19 holds at a later point what the point before left. -/
theorem before0_19_B (c : Dev nD) (t : Fin cfg0.N) (h0 : ¬t.val % 8 = 0) (d) :
    (dats m 0 c).before 19 t d = (outsAt0 m c (t.val - 1) (Nat.lt_of_le_of_lt (Nat.sub_le _ _) t.isLt)).2.2.2.2.2.2.2.2.1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body at any point: the inputs hold their blocks, an accumulator what the point before left, the carried rows likewise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold outA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runA m c t h0).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (coverA_9 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverA_0 m c t h0)
      isplitl [H12]
      · unfold owns; iexists _; isplitr
        swap; · iexact H12
        ipureintro; exact View.read_writes_of_cover _ _ _ _ _ (coverA_1 m c t h0)
      isplitl [H13]
      · unfold owns; iexists _; isplitr
        swap; · iexact H13
        ipureintro; exact View.read_writes_of_cover _ _ _ _ _ (coverA_2 m c t h0)
      isplitl [H14]
      · unfold owns; iexists _; isplitr
        swap; · iexact H14
        ipureintro; exact View.read_writes_of_cover _ _ _ _ _ (coverA_3 m c t h0)
      isplitl [H15]
      · unfold owns; iexists _; isplitr
        swap; · iexact H15
        ipureintro; exact View.read_writes_of_cover _ _ _ _ _ (coverA_4 m c t h0)
      isplitl [H16]
      · unfold owns; iexists _; isplitr
        swap; · iexact H16
        ipureintro; exact View.read_writes_of_cover _ _ _ _ _ (coverA_5 m c t h0)
      isplitl [H17]
      · unfold owns; iexists _; isplitr
        swap; · iexact H17
        ipureintro; exact View.read_writes_of_cover _ _ _ _ _ (coverA_6 m c t h0)
      isplitl [H18]
      · unfold owns; iexists _; isplitr
        swap; · iexact H18
        ipureintro; exact View.read_writes_of_cover _ _ _ _ _ (coverA_7 m c t h0)
      unfold owns; iexists _; isplitr
      swap; · iexact H19
      ipureintro; exact View.read_writes_of_cover _ _ _ _ _ (coverA_8 m c t h0)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_15_B m c t h0, before0_16_B m c t h0, before0_17_B m c t h0, before0_18_B m c t h0, before0_19_B m c t h0]
      unfold outB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runB m c t h0 _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexact H15
      isplitl [H16]; · iexact H16
      isplitl [H17]; · iexact H17
      isplitl [H18]; · iexact H18
      isplitl [H19]; · iexact H19
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, H17, ⟨%e18, H18⟩, H19, ⟨%es0, HS0⟩⟩
      isplitl [HS0 Hg]
      · isplitl [HS0]
        · unfold owns; iexists _; isplitr
          swap; · iexact HS0
          ipureintro; exact View.read_writes_of_cover _ _ _ _ _ (coverB_9 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverB_0 m c t h0 _)
      isplitl [H12]
      · unfold owns; iexists _; isplitr
        swap; · iexact H12
        ipureintro; exact View.read_writes_of_cover _ _ _ _ _ (coverB_1 m c t h0 _)
      isplitl [H13]
      · unfold owns; iexists _; isplitr
        swap; · iexact H13
        ipureintro; exact View.read_writes_of_cover _ _ _ _ _ (coverB_2 m c t h0 _)
      isplitl [H14]
      · unfold owns; iexists _; isplitr
        swap; · iexact H14
        ipureintro; exact View.read_writes_of_cover _ _ _ _ _ (coverB_3 m c t h0 _)
      isplitl [H15]
      · unfold owns; iexists _; isplitr
        swap; · iexact H15
        ipureintro; exact View.read_writes_of_cover _ _ _ _ _ (coverB_4 m c t h0 _)
      isplitl [H16]
      · unfold owns; iexists _; isplitr
        swap; · iexact H16
        ipureintro; exact View.read_writes_of_cover _ _ _ _ _ (coverB_5 m c t h0 _)
      isplitl [H17]
      · unfold owns; iexists _; isplitr
        swap; · iexact H17
        ipureintro; rfl
      isplitl [H18]
      · unfold owns; iexists _; isplitr
        swap; · iexact H18
        ipureintro; exact View.read_writes_of_cover _ _ _ _ _ (coverB_7 m c t h0 _)
      unfold owns; iexists _; isplitr
      swap; · iexact H19
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run of @main ends with the arrays as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Even

end
-- ==== Proof.Even.Kern.lean ====
/- The kernel's body as functions of its blocks, each written once for every head and chunk. -/
module

public import proofs.«01_k».proof.Proof.Gen.KernelIdeal.Skeleton

@[expose] public section

noncomputable section

namespace Cert.KernelIdeal.Even.K

open Cert.KernelIdeal.Gen
open Idealize.ShloMosaic Idealize.ShloMosaic.TcCoe
open Facts

variable {F : FTy → Type} [FloatOps F] [Named F]

/-- One over the root of the mean square of each row. -/
def inv (x : Vec F S512x1024 .f32) : FVec F S512x1 .f32 :=
  have v5 : FVec F S512x1024 .f32 := shapeCast S512x1024 x shapeCasts_S512x1024_S512x1024
  have v8 : FVec F S512x1024 .f32 := mulf v5 v5
  have v9 : FVec F S512 .f32 := multiReduction .add [1] S512 v8 0x00000000#32 reduces_S512x1024_S512 (.inl rfl) rfl
  have v10 : FVec F S512x1 .f32 := shapeCast S512x1 v9 shapeCasts_S512_S512x1
  have v11 : FVec F S512x1 .f32 := broadcast S512x1 (Scalar.ofBits .f32 0x44800000#32 : F .f32)
  have v12 : FVec F S512x1 .f32 := divf v10 v11
  have v13 : FVec F S512x1 .f32 := broadcast S512x1 (Scalar.ofBits .f32 0x358637BD#32 : F .f32)
  have v14 : FVec F S512x1 .f32 := addf v12 v13
  have v15 : FVec F S512x1 .f32 := rsqrt v14
  v15

/-- The normalised rows. -/
def hid (x : Vec F S512x1024 .f32) (g : Vec F S1x1024 .f32) : FVec F S512x1024 .bf16 :=
  have v5 : FVec F S512x1024 .f32 := shapeCast S512x1024 x shapeCasts_S512x1024_S512x1024
  have v15 : FVec F S512x1 .f32 := inv x
  have v16 : FVec F S512x1024 .f32 := broadcastTo S512x1024 v15 broadcasts_S512x1_S512x1024
  have v17 : FVec F S512x1024 .f32 := mulf v5 v16
  have v7 : FVec F S1x1024 .f32 := shapeCast S1x1024 g shapeCasts_S1x1024_S1x1024
  have v18 : FVec F S512x1024 .f32 := broadcastTo S512x1024 v7 broadcasts_S1x1024_S512x1024
  have v19 : FVec F S512x1024 .f32 := mulf v17 v18
  have v20 : FVec F S512x1024 .bf16 := truncf .bf16 v19 bitsLt_bf16_f32
  v20

/-- The cotangent through the output projection. -/
def dmix (ct : Vec F S512x1024 .f32) (wo : Vec F S8x128x1024 .bf16) : FVec F S512x1024 .f32 :=
  have v23 : FVec F S512x1024 .f32 := shapeCast S512x1024 ct shapeCasts_S512x1024_S512x1024
  have v24 : FVec F S512x1024 .bf16 := truncf .bf16 v23 bitsLt_bf16_f32
  have v26 : FVec F S8x128x1024 .bf16 := shapeCast S8x128x1024 wo shapeCasts_S8x128x1024_S8x128x1024
  have v27 : FVec F S1024x1024 .bf16 := shapeCast S1024x1024 v26 shapeCasts_S8x128x1024_S1024x1024
  have v28 : FVec F S512x1024 .f32 := matmul dot_S512x1024_S1024x1024_S512x1024_1_1_0_0_n_n none v24 v27 (constant S512x1024 .f32 0x00000000#32 : FVec F S512x1024 .f32)
  v28

/-- One half of the cotangent of the mixers' outputs. -/
def half (o : ℕ) (h : S512x1024.Slices ![0, o] S512x512) (d : FVec F S512x1024 .f32) : FVec F S512x512 .f32 :=
  have v29 : FVec F S512x512 .f32 := extractStridedSlice S512x512 ![0, o] d h
  v29

/-- One of the five groups of projected columns. -/
def grp (o : ℕ) (h : S512x2560.Slices ![0, o] S512x512) (p : Vec F S512x2560 .bf16) : FVec F S512x512 .f32 :=
  have v32 : FVec F S512x2560 .bf16 := shapeCast S512x2560 p shapeCasts_S512x2560_S512x2560
  have v33 : FVec F S512x2560 .f32 := extf .f32 v32 bitsLt_bf16_f32
  have v34 : FVec F S512x512 .f32 := extractStridedSlice S512x512 ![0, o] v33 h
  v34

/-- The activation. -/
def gelu (a : FVec F S512x512 .f32) : FVec F S512x512 .f32 :=
  have v39 : FVec F S512x512 .f32 := broadcast S512x512 (Scalar.ofBits .f32 0x3F000000#32 : F .f32)
  have v40 : FVec F S512x512 .f32 := mulf v39 a
  have v44 : FVec F S512x512 .f32 := broadcast S512x512 (Scalar.ofBits .f32 0x3F800000#32 : F .f32)
  have v41 : FVec F S512x512 .f32 := broadcast S512x512 (Named.named κ "inv_sqrt2" 0x3F3504F3#32 : F .f32)
  have v42 : FVec F S512x512 .f32 := mulf a v41
  have v43 : FVec F S512x512 .f32 := erf v42
  have v45 : FVec F S512x512 .f32 := addf v44 v43
  have v46 : FVec F S512x512 .f32 := mulf v40 v45
  v46

/-- A head's columns less their mean. -/
def xc (o : ℕ) (h : S512x512.Slices ![0, o] S512x128) (gv : FVec F S512x512 .f32) : FVec F S512x128 .f32 :=
  have v57 : FVec F S512x128 .f32 := extractStridedSlice S512x128 ![0, o] gv h
  have v58 : FVec F S512 .f32 := multiReduction .add [1] S512 v57 0x00000000#32 reduces_S512x128_S512 (.inl rfl) rfl
  have v59 : FVec F S512x1 .f32 := shapeCast S512x1 v58 shapeCasts_S512_S512x1
  have v60 : FVec F S512x1 .f32 := broadcast S512x1 (Scalar.ofBits .f32 0x43000000#32 : F .f32)
  have v61 : FVec F S512x1 .f32 := divf v59 v60
  have v62 : FVec F S512x128 .f32 := broadcastTo S512x128 v61 broadcasts_S512x1_S512x128
  have v63 : FVec F S512x128 .f32 := subf v57 v62
  v63

/-- One over the root of a head's variance. -/
def rr (xc : FVec F S512x128 .f32) : FVec F S512x1 .f32 :=
  have v64 : FVec F S512x128 .f32 := mulf xc xc
  have v65 : FVec F S512 .f32 := multiReduction .add [1] S512 v64 0x00000000#32 reduces_S512x128_S512 (.inl rfl) rfl
  have v66 : FVec F S512x1 .f32 := shapeCast S512x1 v65 shapeCasts_S512_S512x1
  have v67 : FVec F S512x1 .f32 := broadcast S512x1 (Scalar.ofBits .f32 0x43000000#32 : F .f32)
  have v68 : FVec F S512x1 .f32 := divf v66 v67
  have v69 : FVec F S512x1 .f32 := broadcast S512x1 (Scalar.ofBits .f32 0x358637BD#32 : F .f32)
  have v70 : FVec F S512x1 .f32 := addf v68 v69
  have v71 : FVec F S512x1 .f32 := rsqrt v70
  v71

/-- A head's normalised columns. -/
def xh (xc : FVec F S512x128 .f32) : FVec F S512x128 .f32 :=
  have v71 : FVec F S512x1 .f32 := rr xc
  have v72 : FVec F S512x128 .f32 := broadcastTo S512x128 v71 broadcasts_S512x1_S512x128
  have v73 : FVec F S512x128 .f32 := mulf xc v72
  v73

/-- The gain on a head's normalised columns. -/
def vnb (xh : FVec F S512x128 .f32) (lg : Vec F S1x128 .f32) : FVec F S512x128 .bf16 :=
  have v56 : FVec F S1x128 .f32 := shapeCast S1x128 lg shapeCasts_S1x128_S1x128
  have v74 : FVec F S512x128 .f32 := broadcastTo S512x128 v56 broadcasts_S1x128_S512x128
  have v75 : FVec F S512x128 .f32 := mulf xh v74
  have v76 : FVec F S512x128 .bf16 := truncf .bf16 v75 bitsLt_bf16_f32
  v76

/-- A head's lower triangular weights. -/
def wm (w : Vec F S1x128x128 .f32) : FVec F S128x128 .bf16 :=
  have v79 : IVec S128x128 32 := iota .tc S128x128 32 [0] iota_S128x128_d0_w32
  have v80 : IVec S128x128 32 := iota .tc S128x128 32 [1] iota_S128x128_d1_w32
  have v81 : IVec S128x128 1 := cmpi .sge v79 v80
  have v78 : FVec F S128x128 .f32 := shapeCast S128x128 w shapeCasts_S1x128x128_S128x128
  have v82 : FVec F S128x128 .f32 := broadcast S128x128 (Scalar.ofBits .f32 0x00000000#32 : F .f32)
  have v83 : FVec F S128x128 .f32 := select v81 v78 v82
  have v84 : FVec F S128x128 .bf16 := truncf .bf16 v83 bitsLt_bf16_f32
  v84

/-- A chunk mixed along its tokens. -/
def mixedC (r : ℕ) (h : S512x128.Slices ![r, 0] S128x128) (w : FVec F S128x128 .bf16) (vn : FVec F S512x128 .bf16) (b : Vec F S128x1 .f32) : FVec F S128x128 .f32 :=
  have v89 : FVec F S128x128 .bf16 := extractStridedSlice S128x128 ![r, 0] vn h
  have v90 : FVec F S128x128 .f32 := matmul dot_S128x128_S128x128_S128x128_1_0_0_1_n_n none w v89 (constant S128x128 .f32 0x00000000#32 : FVec F S128x128 .f32)
  have v86 : FVec F S128x1 .f32 := shapeCast S128x1 b shapeCasts_S128x1_S128x1
  have v91 : FVec F S128x128 .f32 := broadcastTo S128x128 v86 broadcasts_S128x1_S128x128
  have v92 : FVec F S128x128 .f32 := addf v90 v91
  v92

/-- The cotangent of a chunk's mixed values. -/
def dmixedC (r o : ℕ) (h : S512x512.Slices ![r, o] S128x128) (da : FVec F S512x512 .f32) (gu : FVec F S512x512 .f32) : FVec F S128x128 .f32 :=
  have v93 : FVec F S128x128 .f32 := extractStridedSlice S128x128 ![r, o] da h
  have v94 : FVec F S128x128 .f32 := extractStridedSlice S128x128 ![r, o] gu h
  have v95 : FVec F S128x128 .f32 := mulf v93 v94
  v95

/-- The cotangent of a chunk's gained columns. -/
def dvnC (w : FVec F S128x128 .bf16) (dm : FVec F S128x128 .f32) : FVec F S128x128 .f32 :=
  have v96 : FVec F S128x128 .bf16 := truncf .bf16 dm bitsLt_bf16_f32
  have v97 : FVec F S128x128 .f32 := matmul dot_S128x128_S128x128_S128x128_0_0_1_1_n_n none w v96 (constant S128x128 .f32 0x00000000#32 : FVec F S128x128 .f32)
  v97

/-- A chunk's part of the weights' gradient. -/
def dwC (r : ℕ) (h : S512x128.Slices ![r, 0] S128x128) (dm : FVec F S128x128 .f32) (vn : FVec F S512x128 .bf16) : FVec F S128x128 .f32 :=
  have v96 : FVec F S128x128 .bf16 := truncf .bf16 dm bitsLt_bf16_f32
  have v98 : FVec F S128x128 .bf16 := extractStridedSlice S128x128 ![r, 0] vn h
  have v99 : FVec F S128x128 .f32 := matmul dot_S128x128_S128x128_S128x128_1_1_0_0_n_n none v96 v98 (constant S128x128 .f32 0x00000000#32 : FVec F S128x128 .f32)
  v99

/-- A chunk's part of the bias's gradient. -/
def dbC (dm : FVec F S128x128 .f32) : FVec F S128x1 .f32 :=
  have v101 : FVec F S128 .f32 := multiReduction .add [1] S128 dm 0x00000000#32 reduces_S128x128_S128 (.inl rfl) rfl
  have v102 : FVec F S128x1 .f32 := shapeCast S128x1 v101 shapeCasts_S128_S128x1
  v102

/-- A head mixed along the tokens of its chunks. -/
def mixedH (w : FVec F S128x128 .bf16) (vn : FVec F S512x128 .bf16) (b : Vec F S128x1 .f32) : FVec F S512x128 .f32 :=
  have v92 : FVec F S128x128 .f32 := mixedC 0 slices_S512x128_o0_0_S128x128 w vn b
  have v107 : FVec F S128x128 .f32 := mixedC 128 slices_S512x128_o128_0_S128x128 w vn b
  have v122 : FVec F S128x128 .f32 := mixedC 256 slices_S512x128_o256_0_S128x128 w vn b
  have v137 : FVec F S128x128 .f32 := mixedC 384 slices_S512x128_o384_0_S128x128 w vn b
  have v149 : FVec F S512x128 .f32 := concatenate S512x128 0 [⟨S128x128, v92⟩, ⟨S128x128, v107⟩, ⟨S128x128, v122⟩, ⟨S128x128, v137⟩] concatenates_S128x128_S128x128_S128x128_S128x128_S512x128_d0
  v149

/-- The cotangent of a head's gained columns. -/
def dvnH (o : ℕ) (h0 : S512x512.Slices ![0, o] S128x128) (h1 : S512x512.Slices ![128, o] S128x128) (h2 : S512x512.Slices ![256, o] S128x128) (h3 : S512x512.Slices ![384, o] S128x128) (w : FVec F S128x128 .bf16) (da : FVec F S512x512 .f32) (gu : FVec F S512x512 .f32) : FVec F S512x128 .f32 :=
  have v97 : FVec F S128x128 .f32 := dvnC w (dmixedC 0 o h0 da gu)
  have v112 : FVec F S128x128 .f32 := dvnC w (dmixedC 128 o h1 da gu)
  have v127 : FVec F S128x128 .f32 := dvnC w (dmixedC 256 o h2 da gu)
  have v142 : FVec F S128x128 .f32 := dvnC w (dmixedC 384 o h3 da gu)
  have v150 : FVec F S512x128 .f32 := concatenate S512x128 0 [⟨S128x128, v97⟩, ⟨S128x128, v112⟩, ⟨S128x128, v127⟩, ⟨S128x128, v142⟩] concatenates_S128x128_S128x128_S128x128_S128x128_S512x128_d0
  v150

/-- A block's part of a head's weights' gradient. -/
def dwH (o : ℕ) (h0 : S512x512.Slices ![0, o] S128x128) (h1 : S512x512.Slices ![128, o] S128x128) (h2 : S512x512.Slices ![256, o] S128x128) (h3 : S512x512.Slices ![384, o] S128x128) (da : FVec F S512x512 .f32) (gu : FVec F S512x512 .f32) (vn : FVec F S512x128 .bf16) : FVec F S128x128 .f32 :=
  have v151 : IVec S128x128 32 := iota .tc S128x128 32 [0] iota_S128x128_d0_w32
  have v152 : IVec S128x128 32 := iota .tc S128x128 32 [1] iota_S128x128_d1_w32
  have v155 : IVec S128x128 1 := cmpi .sge v151 v152
  have v87 : FVec F S128x128 .f32 := broadcast S128x128 (Scalar.ofBits .f32 0x00000000#32 : F .f32)
  have v99 : FVec F S128x128 .f32 := dwC 0 slices_S512x128_o0_0_S128x128 (dmixedC 0 o h0 da gu) vn
  have v100 : FVec F S128x128 .f32 := addf v87 v99
  have v114 : FVec F S128x128 .f32 := dwC 128 slices_S512x128_o128_0_S128x128 (dmixedC 128 o h1 da gu) vn
  have v115 : FVec F S128x128 .f32 := addf v100 v114
  have v129 : FVec F S128x128 .f32 := dwC 256 slices_S512x128_o256_0_S128x128 (dmixedC 256 o h2 da gu) vn
  have v130 : FVec F S128x128 .f32 := addf v115 v129
  have v144 : FVec F S128x128 .f32 := dwC 384 slices_S512x128_o384_0_S128x128 (dmixedC 384 o h3 da gu) vn
  have v145 : FVec F S128x128 .f32 := addf v130 v144
  have v156 : FVec F S128x128 .f32 := broadcast S128x128 (Scalar.ofBits .f32 0x00000000#32 : F .f32)
  have v157 : FVec F S128x128 .f32 := select v155 v145 v156
  v157

/-- A block's part of a head's bias's gradient. -/
def dbH (o : ℕ) (h0 : S512x512.Slices ![0, o] S128x128) (h1 : S512x512.Slices ![128, o] S128x128) (h2 : S512x512.Slices ![256, o] S128x128) (h3 : S512x512.Slices ![384, o] S128x128) (da : FVec F S512x512 .f32) (gu : FVec F S512x512 .f32) : FVec F S128x1 .f32 :=
  have v88 : FVec F S128x1 .f32 := broadcast S128x1 (Scalar.ofBits .f32 0x00000000#32 : F .f32)
  have v102 : FVec F S128x1 .f32 := dbC (dmixedC 0 o h0 da gu)
  have v103 : FVec F S128x1 .f32 := addf v88 v102
  have v117 : FVec F S128x1 .f32 := dbC (dmixedC 128 o h1 da gu)
  have v118 : FVec F S128x1 .f32 := addf v103 v117
  have v132 : FVec F S128x1 .f32 := dbC (dmixedC 256 o h2 da gu)
  have v133 : FVec F S128x1 .f32 := addf v118 v132
  have v147 : FVec F S128x1 .f32 := dbC (dmixedC 384 o h3 da gu)
  have v148 : FVec F S128x1 .f32 := addf v133 v147
  v148

/-- A block's part of a head's gain's gradient. -/
def dlgH (dvn : FVec F S512x128 .f32) (xh : FVec F S512x128 .f32) : FVec F S1x128 .f32 :=
  have v168 : FVec F S512x128 .f32 := mulf dvn xh
  have v169 : FVec F S128 .f32 := multiReduction .add [0] S128 v168 0x00000000#32 reduces_S512x128_S128 (.inl rfl) rfl
  have v170 : FVec F S1x128 .f32 := shapeCast S1x128 v169 shapeCasts_S128_S1x128
  v170

/-- The cotangent through a head's normalisation. -/
def dgvH (dvn : FVec F S512x128 .f32) (lg : Vec F S1x128 .f32) (xh : FVec F S512x128 .f32) (rr : FVec F S512x1 .f32) : FVec F S512x128 .f32 :=
  have v189 : FVec F S512x128 .f32 := broadcastTo S512x128 rr broadcasts_S512x1_S512x128
  have v56 : FVec F S1x128 .f32 := shapeCast S1x128 lg shapeCasts_S1x128_S1x128
  have v173 : FVec F S512x128 .f32 := broadcastTo S512x128 v56 broadcasts_S1x128_S512x128
  have v174 : FVec F S512x128 .f32 := mulf dvn v173
  have v175 : FVec F S512 .f32 := multiReduction .add [1] S512 v174 0x00000000#32 reduces_S512x128_S512 (.inl rfl) rfl
  have v176 : FVec F S512x1 .f32 := shapeCast S512x1 v175 shapeCasts_S512_S512x1
  have v177 : FVec F S512x1 .f32 := broadcast S512x1 (Scalar.ofBits .f32 0x43000000#32 : F .f32)
  have v178 : FVec F S512x1 .f32 := divf v176 v177
  have v179 : FVec F S512x128 .f32 := broadcastTo S512x128 v178 broadcasts_S512x1_S512x128
  have v180 : FVec F S512x128 .f32 := subf v174 v179
  have v181 : FVec F S512x128 .f32 := mulf v174 xh
  have v182 : FVec F S512 .f32 := multiReduction .add [1] S512 v181 0x00000000#32 reduces_S512x128_S512 (.inl rfl) rfl
  have v183 : FVec F S512x1 .f32 := shapeCast S512x1 v182 shapeCasts_S512_S512x1
  have v184 : FVec F S512x1 .f32 := broadcast S512x1 (Scalar.ofBits .f32 0x43000000#32 : F .f32)
  have v185 : FVec F S512x1 .f32 := divf v183 v184
  have v186 : FVec F S512x128 .f32 := broadcastTo S512x128 v185 broadcasts_S512x1_S512x128
  have v187 : FVec F S512x128 .f32 := mulf xh v186
  have v188 : FVec F S512x128 .f32 := subf v180 v187
  have v190 : FVec F S512x128 .f32 := mulf v189 v188
  v190

/-- A head's gated output. -/
def aH (o : ℕ) (h : S512x512.Slices ![0, o] S512x128) (gu : FVec F S512x512 .f32) (mx : FVec F S512x128 .f32) : FVec F S512x128 .f32 :=
  have v191 : FVec F S512x128 .f32 := extractStridedSlice S512x128 ![0, o] gu h
  have v192 : FVec F S512x128 .f32 := mulf v191 mx
  v192

/-- The activation's derivative. -/
def gg (a : FVec F S512x128 .f32) : FVec F S512x128 .f32 :=
  have v201 : FVec F S512x128 .f32 := broadcast S512x128 (Scalar.ofBits .f32 0x3F000000#32 : F .f32)
  have v199 : FVec F S512x128 .f32 := broadcast S512x128 (Scalar.ofBits .f32 0x3F800000#32 : F .f32)
  have v196 : FVec F S512x128 .f32 := broadcast S512x128 (Named.named κ "inv_sqrt2" 0x3F3504F3#32 : F .f32)
  have v197 : FVec F S512x128 .f32 := mulf a v196
  have v198 : FVec F S512x128 .f32 := erf v197
  have v200 : FVec F S512x128 .f32 := addf v199 v198
  have v202 : FVec F S512x128 .f32 := mulf v201 v200
  have v203 : FVec F S512x128 .f32 := broadcast S512x128 (Scalar.ofBits .f32 0xBF000000#32 : F .f32)
  have v204 : FVec F S512x128 .f32 := mulf v203 a
  have v205 : FVec F S512x128 .f32 := mulf v204 a
  have v206 : FVec F S512x128 .f32 := exp v205
  have v207 : FVec F S512x128 .f32 := mulf a v206
  have v208 : FVec F S512x128 .f32 := broadcast S512x128 (Named.named κ "inv_sqrt_2pi" 0x3ECC422A#32 : F .f32)
  have v209 : FVec F S512x128 .f32 := mulf v207 v208
  have v210 : FVec F S512x128 .f32 := addf v202 v209
  v210

/-- The cotangent of a head's gate columns. -/
def duH (o : ℕ) (h : S512x512.Slices ![0, o] S512x128) (da : FVec F S512x512 .f32) (mx : FVec F S512x128 .f32) (u : FVec F S512x512 .f32) : FVec F S512x128 .bf16 :=
  have v193 : FVec F S512x128 .f32 := extractStridedSlice S512x128 ![0, o] da h
  have v194 : FVec F S512x128 .f32 := mulf v193 mx
  have v195 : FVec F S512x128 .f32 := extractStridedSlice S512x128 ![0, o] u h
  have v210 : FVec F S512x128 .f32 := gg v195
  have v211 : FVec F S512x128 .f32 := mulf v194 v210
  have v212 : FVec F S512x128 .bf16 := truncf .bf16 v211 bitsLt_bf16_f32
  v212

/-- The cotangent of a head's value columns. -/
def dvH (o : ℕ) (h : S512x512.Slices ![0, o] S512x128) (dgv : FVec F S512x128 .f32) (v : FVec F S512x512 .f32) : FVec F S512x128 .f32 :=
  have v214 : FVec F S512x128 .f32 := extractStridedSlice S512x128 ![0, o] v h
  have v229 : FVec F S512x128 .f32 := gg v214
  have v230 : FVec F S512x128 .f32 := mulf dgv v229
  v230

/-- Four heads side by side. -/
def cat4 (a : FVec F S512x128 .f32) (b : FVec F S512x128 .f32) (c : FVec F S512x128 .f32) (d : FVec F S512x128 .f32) : FVec F S512x512 .f32 :=
  have v762 : FVec F S512x512 .f32 := concatenate S512x512 1 [⟨S512x128, a⟩, ⟨S512x128, b⟩, ⟨S512x128, c⟩, ⟨S512x128, d⟩] concatenates_S512x128_S512x128_S512x128_S512x128_S512x512_d1
  v762

/-- The product that the convolution runs over. -/
def z (cg : FVec F S512x512 .f32) (hv : FVec F S512x512 .f32) : FVec F S512x512 .f32 :=
  have v765 : FVec F S512x512 .f32 := mulf cg hv
  v765

/-- The rows before the block, zero at a sequence's start. -/
def tail (k : BitVec 32) (pt : Vec F S16x2560 .bf16) : FVec F S16x512 .f32 :=
  have v769 : BitVec 1 := Scalar.cmpi .eq (4#32 : BitVec 32) (0#32 : BitVec 32)
  have v770 : BitVec 32 := Scalar.select v769 (1#32 : BitVec 32) (4#32 : BitVec 32)
  have v771 : BitVec 32 := Scalar.remsi k v770
  have v773 : BitVec 1 := Scalar.cmpi .slt v771 (0#32 : BitVec 32)
  have v774 : BitVec 1 := Scalar.cmpi .slt v770 (0#32 : BitVec 32)
  have v775 : BitVec 1 := Scalar.xori v773 v774
  have v772 : BitVec 1 := Scalar.cmpi .ne v771 (0#32 : BitVec 32)
  have v776 : BitVec 1 := Scalar.andi v775 v772
  have v777 : BitVec 32 := Scalar.addi v771 v770
  have v778 : BitVec 32 := Scalar.select v776 v777 v771
  have v779 : BitVec 1 := Scalar.cmpi .eq v778 (0#32 : BitVec 32)
  have v783 : FVec F S16x512 .f32 := broadcast S16x512 (Scalar.ofBits .f32 0x00000000#32 : F .f32)
  have v767 : FVec F S16x2560 .bf16 := shapeCast S16x2560 pt shapeCasts_S16x2560_S16x2560
  have v768 : FVec F S16x2560 .f32 := extf .f32 v767 bitsLt_bf16_f32
  have v780 : FVec F S16x512 .f32 := extractStridedSlice S16x512 ![0, 1536] v768 slices_S16x2560_o0_1536_S16x512
  have v781 : FVec F S16x512 .f32 := extractStridedSlice S16x512 ![0, 2048] v768 slices_S16x2560_o0_2048_S16x512
  have v782 : FVec F S16x512 .f32 := mulf v780 v781
  have v784 : FVec F S16x512 .f32 := Scalar.select v779 v783 v782
  v784

/-- The rows before the block, then the block. -/
def extD (tl : FVec F S16x512 .f32) (zz : FVec F S512x512 .f32) : FVec F S528x512 .f32 :=
  have v785 : FVec F S528x512 .f32 := concatenate S528x512 0 [⟨S16x512, tl⟩, ⟨S512x512, zz⟩] concatenates_S16x512_S512x512_S528x512_d0
  v785

/-- The block one row earlier. -/
def zs1 (e : FVec F S528x512 .f32) : FVec F S512x512 .f32 :=
  have v786 : IVec S528x512 32 := iota .tc S528x512 32 [0] iota_S528x512_d0_w32
  have v787 : IVec S528x512 32 := broadcast S528x512 (1#32 : BitVec 32)
  have v788 : IVec S528x512 1 := cmpi .sge v786 v787
  have v789 : FVec F S528x512 .f32 := dynamicRotate 0 (1#32 : BitVec 32) none e rotates_S528x512_d0
  have v790 : FVec F S528x512 .f32 := broadcast S528x512 (Scalar.ofBits .f32 0x00000000#32 : F .f32)
  have v791 : FVec F S528x512 .f32 := select v788 v789 v790
  have v792 : FVec F S512x512 .f32 := extractStridedSlice S512x512 ![16, 0] v791 slices_S528x512_o16_0_S512x512
  v792

/-- The block two rows earlier. -/
def zs2 (e : FVec F S528x512 .f32) : FVec F S512x512 .f32 :=
  have v793 : IVec S528x512 32 := iota .tc S528x512 32 [0] iota_S528x512_d0_w32
  have v794 : IVec S528x512 32 := broadcast S528x512 (2#32 : BitVec 32)
  have v795 : IVec S528x512 1 := cmpi .sge v793 v794
  have v796 : FVec F S528x512 .f32 := dynamicRotate 0 (2#32 : BitVec 32) none e rotates_S528x512_d0
  have v797 : FVec F S528x512 .f32 := broadcast S528x512 (Scalar.ofBits .f32 0x00000000#32 : F .f32)
  have v798 : FVec F S528x512 .f32 := select v795 v796 v797
  have v799 : FVec F S512x512 .f32 := extractStridedSlice S512x512 ![16, 0] v798 slices_S528x512_o16_0_S512x512
  v799

/-- The convolution. -/
def y (zz : FVec F S512x512 .f32) (z1 : FVec F S512x512 .f32) (z2 : FVec F S512x512 .f32) (w2 : Vec F S1x512 .f32) (w1 : Vec F S1x512 .f32) (w0 : Vec F S1x512 .f32) : FVec F S512x512 .f32 :=
  have v801 : FVec F S1x512 .f32 := shapeCast S1x512 w2 shapeCasts_S1x512_S1x512
  have v802 : FVec F S512x512 .f32 := broadcastTo S512x512 v801 broadcasts_S1x512_S512x512
  have v803 : FVec F S512x512 .f32 := mulf v802 zz
  have v805 : FVec F S1x512 .f32 := shapeCast S1x512 w1 shapeCasts_S1x512_S1x512
  have v806 : FVec F S512x512 .f32 := broadcastTo S512x512 v805 broadcasts_S1x512_S512x512
  have v807 : FVec F S512x512 .f32 := mulf v806 z1
  have v808 : FVec F S512x512 .f32 := addf v803 v807
  have v810 : FVec F S1x512 .f32 := shapeCast S1x512 w0 shapeCasts_S1x512_S1x512
  have v811 : FVec F S512x512 .f32 := broadcastTo S512x512 v810 broadcasts_S1x512_S512x512
  have v812 : FVec F S512x512 .f32 := mulf v811 z2
  have v813 : FVec F S512x512 .f32 := addf v808 v812
  v813

/-- The gated convolution. -/
def gatedY (bg : FVec F S512x512 .f32) (yy : FVec F S512x512 .f32) : FVec F S512x512 .bf16 :=
  have v814 : FVec F S512x512 .f32 := mulf bg yy
  have v815 : FVec F S512x512 .bf16 := truncf .bf16 v814 bitsLt_bf16_f32
  v815

/-- The cotangent of the convolution. -/
def dy (db : FVec F S512x512 .f32) (bg : FVec F S512x512 .f32) : FVec F S512x512 .f32 :=
  have v817 : FVec F S512x512 .f32 := mulf db bg
  v817

/-- The rows after the block, zero at a sequence's end. -/
def headRows (k : BitVec 32) (hd : Vec F S16x512 .f32) : FVec F S16x512 .f32 :=
  have v818 : BitVec 1 := Scalar.cmpi .eq (4#32 : BitVec 32) (0#32 : BitVec 32)
  have v819 : BitVec 32 := Scalar.select v818 (1#32 : BitVec 32) (4#32 : BitVec 32)
  have v820 : BitVec 32 := Scalar.remsi k v819
  have v822 : BitVec 1 := Scalar.cmpi .slt v820 (0#32 : BitVec 32)
  have v823 : BitVec 1 := Scalar.cmpi .slt v819 (0#32 : BitVec 32)
  have v824 : BitVec 1 := Scalar.xori v822 v823
  have v821 : BitVec 1 := Scalar.cmpi .ne v820 (0#32 : BitVec 32)
  have v825 : BitVec 1 := Scalar.andi v824 v821
  have v826 : BitVec 32 := Scalar.addi v820 v819
  have v827 : BitVec 32 := Scalar.select v825 v826 v820
  have v828 : BitVec 1 := Scalar.cmpi .eq v827 (3#32 : BitVec 32)
  have v830 : FVec F S16x512 .f32 := broadcast S16x512 (Scalar.ofBits .f32 0x00000000#32 : F .f32)
  have v831 : FVec F S16x512 .f32 := Scalar.select v828 v830 hd
  v831

/-- The block, then the rows after it. -/
def extU (d : FVec F S512x512 .f32) (hd : FVec F S16x512 .f32) : FVec F S528x512 .f32 :=
  have v832 : FVec F S528x512 .f32 := concatenate S528x512 0 [⟨S512x512, d⟩, ⟨S16x512, hd⟩] concatenates_S512x512_S16x512_S528x512_d0
  v832

/-- The cotangent of the product that the convolution runs over. -/
def dz (d : FVec F S512x512 .f32) (e : FVec F S528x512 .f32) (w2 : Vec F S1x512 .f32) (w1 : Vec F S1x512 .f32) (w0 : Vec F S1x512 .f32) : FVec F S512x512 .f32 :=
  have v834 : FVec F S1x512 .f32 := shapeCast S1x512 w2 shapeCasts_S1x512_S1x512
  have v835 : FVec F S512x512 .f32 := broadcastTo S512x512 v834 broadcasts_S1x512_S512x512
  have v836 : FVec F S512x512 .f32 := mulf v835 d
  have v838 : FVec F S1x512 .f32 := shapeCast S1x512 w1 shapeCasts_S1x512_S1x512
  have v846 : FVec F S512x512 .f32 := broadcastTo S512x512 v838 broadcasts_S1x512_S512x512
  have v839 : IVec S528x512 32 := iota .tc S528x512 32 [0] iota_S528x512_d0_w32
  have v840 : IVec S528x512 32 := broadcast S528x512 (527#32 : BitVec 32)
  have v841 : IVec S528x512 1 := cmpi .slt v839 v840
  have v842 : FVec F S528x512 .f32 := dynamicRotate 0 (527#32 : BitVec 32) none e rotates_S528x512_d0
  have v843 : FVec F S528x512 .f32 := broadcast S528x512 (Scalar.ofBits .f32 0x00000000#32 : F .f32)
  have v844 : FVec F S528x512 .f32 := select v841 v842 v843
  have v845 : FVec F S512x512 .f32 := extractStridedSlice S512x512 ![0, 0] v844 slices_S528x512_o0_0_S512x512
  have v847 : FVec F S512x512 .f32 := mulf v846 v845
  have v848 : FVec F S512x512 .f32 := addf v836 v847
  have v850 : FVec F S1x512 .f32 := shapeCast S1x512 w0 shapeCasts_S1x512_S1x512
  have v858 : FVec F S512x512 .f32 := broadcastTo S512x512 v850 broadcasts_S1x512_S512x512
  have v851 : IVec S528x512 32 := iota .tc S528x512 32 [0] iota_S528x512_d0_w32
  have v852 : IVec S528x512 32 := broadcast S528x512 (526#32 : BitVec 32)
  have v853 : IVec S528x512 1 := cmpi .slt v851 v852
  have v854 : FVec F S528x512 .f32 := dynamicRotate 0 (526#32 : BitVec 32) none e rotates_S528x512_d0
  have v855 : FVec F S528x512 .f32 := broadcast S528x512 (Scalar.ofBits .f32 0x00000000#32 : F .f32)
  have v856 : FVec F S528x512 .f32 := select v853 v854 v855
  have v857 : FVec F S512x512 .f32 := extractStridedSlice S512x512 ![0, 0] v856 slices_S528x512_o0_0_S512x512
  have v859 : FVec F S512x512 .f32 := mulf v858 v857
  have v860 : FVec F S512x512 .f32 := addf v848 v859
  v860

/-- The block's first rows, for the block before. -/
def carry (d : FVec F S512x512 .f32) : FVec F S16x512 .f32 :=
  have v861 : FVec F S16x512 .f32 := extractStridedSlice S16x512 ![0, 0] d slices_S512x512_o0_0_S16x512
  have v864 : FVec F S16x512 .f32 := shapeCast S16x512 v861 shapeCasts_S16x512_S16x512
  v864

/-- A block's part of one of the taps' gradient. -/
def dcwC (d : FVec F S512x512 .f32) (zz : FVec F S512x512 .f32) : FVec F S1x512 .f32 :=
  have v867 : FVec F S512x512 .f32 := mulf d zz
  have v868 : FVec F S512 .f32 := multiReduction .add [0] S512 v867 0x00000000#32 reduces_S512x512_S512 (.inl rfl) rfl
  have v869 : FVec F S1x512 .f32 := shapeCast S1x512 v868 shapeCasts_S512_S1x512
  v869

/-- A product of columns. -/
def prod (a : FVec F S512x512 .f32) (b : FVec F S512x512 .f32) : FVec F S512x512 .bf16 :=
  have v889 : FVec F S512x512 .f32 := mulf a b
  have v890 : FVec F S512x512 .bf16 := truncf .bf16 v889 bitsLt_bf16_f32
  v890

/-- The cotangent of the normalised rows. -/
def dh (dp : Vec F S512x2560 .bf16) (wi : Vec F S8x320x1024 .bf16) : FVec F S512x1024 .f32 :=
  have v896 : FVec F S512x2560 .bf16 := shapeCast S512x2560 dp shapeCasts_S512x2560_S512x2560
  have v898 : FVec F S8x320x1024 .bf16 := shapeCast S8x320x1024 wi shapeCasts_S8x320x1024_S8x320x1024
  have v899 : FVec F S2560x1024 .bf16 := shapeCast S2560x1024 v898 shapeCasts_S8x320x1024_S2560x1024
  have v900 : FVec F S512x1024 .f32 := matmul dot_S512x2560_S2560x1024_S512x1024_1_0_0_1_n_n none v896 v899 (constant S512x1024 .f32 0x00000000#32 : FVec F S512x1024 .f32)
  v900

/-- The cotangent of the rows. -/
def dxo (x : Vec F S512x1024 .f32) (g : Vec F S1x1024 .f32) (ct : Vec F S512x1024 .f32) (dh : FVec F S512x1024 .f32) : FVec F S512x1024 .f32 :=
  have v23 : FVec F S512x1024 .f32 := shapeCast S512x1024 ct shapeCasts_S512x1024_S512x1024
  have v15 : FVec F S512x1 .f32 := inv x
  have v913 : FVec F S512x1024 .f32 := broadcastTo S512x1024 v15 broadcasts_S512x1_S512x1024
  have v7 : FVec F S1x1024 .f32 := shapeCast S1x1024 g shapeCasts_S1x1024_S1x1024
  have v903 : FVec F S512x1024 .f32 := broadcastTo S512x1024 v7 broadcasts_S1x1024_S512x1024
  have v904 : FVec F S512x1024 .f32 := mulf dh v903
  have v5 : FVec F S512x1024 .f32 := shapeCast S512x1024 x shapeCasts_S512x1024_S512x1024
  have v901 : FVec F S512x1024 .f32 := broadcastTo S512x1024 v15 broadcasts_S512x1_S512x1024
  have v902 : FVec F S512x1024 .f32 := mulf v5 v901
  have v905 : FVec F S512x1024 .f32 := mulf v904 v902
  have v906 : FVec F S512 .f32 := multiReduction .add [1] S512 v905 0x00000000#32 reduces_S512x1024_S512 (.inl rfl) rfl
  have v907 : FVec F S512x1 .f32 := shapeCast S512x1 v906 shapeCasts_S512_S512x1
  have v908 : FVec F S512x1 .f32 := broadcast S512x1 (Scalar.ofBits .f32 0x44800000#32 : F .f32)
  have v909 : FVec F S512x1 .f32 := divf v907 v908
  have v910 : FVec F S512x1024 .f32 := broadcastTo S512x1024 v909 broadcasts_S512x1_S512x1024
  have v911 : FVec F S512x1024 .f32 := mulf v902 v910
  have v912 : FVec F S512x1024 .f32 := subf v904 v911
  have v914 : FVec F S512x1024 .f32 := mulf v913 v912
  have v922 : FVec F S512x1024 .f32 := addf v23 v914
  v922

/-- A block's part of the gain's gradient. -/
def dgamC (x : Vec F S512x1024 .f32) (dh : FVec F S512x1024 .f32) : FVec F S1x1024 .f32 :=
  have v5 : FVec F S512x1024 .f32 := shapeCast S512x1024 x shapeCasts_S512x1024_S512x1024
  have v15 : FVec F S512x1 .f32 := inv x
  have v901 : FVec F S512x1024 .f32 := broadcastTo S512x1024 v15 broadcasts_S512x1_S512x1024
  have v902 : FVec F S512x1024 .f32 := mulf v5 v901
  have v915 : FVec F S512x1024 .f32 := mulf dh v902
  have v916 : FVec F S1024 .f32 := multiReduction .add [0] S1024 v915 0x00000000#32 reduces_S512x1024_S1024 (.inl rfl) rfl
  have v917 : FVec F S1x1024 .f32 := shapeCast S1x1024 v916 shapeCasts_S1024_S1x1024
  v917

end Cert.KernelIdeal.Even.K

end
-- ==== Proof.Even.Block.lean ====
/- The kernel's block at a point: what its outputs hold in terms of its blocks. -/
module

public import proofs.«01_k».proof.Proof.Even.Outs
public import proofs.«01_k».proof.Proof.Even.Kern

@[expose] public section

noncomputable section

namespace Cert.KernelIdeal.Even

open Cert.KernelIdeal.Gen
open Idealize.ShloMosaic Idealize.ShloMosaic.TcCoe Idealize.ShloMosaic.Tactic
open Facts

variable {F : FTy → Type} [FloatOps F] [Named F]

/-- The input blocks of a point. -/
structure Blk (F : FTy → Type) where
  x : Vec F S512x1024 .f32
  p : Vec F S512x2560 .bf16
  pt : Vec F S16x2560 .bf16
  ct : Vec F S512x1024 .f32
  g : Vec F S1x1024 .f32
  wi : Vec F S8x320x1024 .bf16
  wo : Vec F S8x128x1024 .bf16
  lg : Vec F S1x512 .f32
  w : Vec F S4x128x128 .f32
  b : Vec F S128x128 .f32
  cw : Vec F S8x512 .f32

/-- A head's columns among the five hundred and twelve. -/
structure Hd where
  n : ℕ
  o : ℕ
  s : S512x512.Slices ![0, o] S512x128
  c0 : S512x512.Slices ![0, o] S128x128
  c1 : S512x512.Slices ![128, o] S128x128
  c2 : S512x512.Slices ![256, o] S128x128
  c3 : S512x512.Slices ![384, o] S128x128
  il : ∀ a, (![0, o] : Fin 2 → Nat) a + S1x128.size a ≤ S1x512.size a
  iw : ∀ a, (![n, 0, 0] : Fin 3 → Nat) a + S1x128x128.size a ≤ S4x128x128.size a
  ib : ∀ a, (![0, n] : Fin 2 → Nat) a + S128x1.size a ≤ S128x128.size a

/-- Head 0. -/
abbrev hd0 : Hd := ⟨0, 0, slices_S512x512_o0_0_S512x128, slices_S512x512_o0_0_S128x128, slices_S512x512_o128_0_S128x128, slices_S512x512_o256_0_S128x128, slices_S512x512_o384_0_S128x128, inb_S1x512_S1x128_0_0, inb_S4x128x128_S1x128x128_0_0_0, inb_S128x128_S128x1_0_0⟩

/-- Head 1. -/
abbrev hd1 : Hd := ⟨1, 128, slices_S512x512_o0_128_S512x128, slices_S512x512_o0_128_S128x128, slices_S512x512_o128_128_S128x128, slices_S512x512_o256_128_S128x128, slices_S512x512_o384_128_S128x128, inb_S1x512_S1x128_0_128, inb_S4x128x128_S1x128x128_1_0_0, inb_S128x128_S128x1_0_1⟩

/-- Head 2. -/
abbrev hd2 : Hd := ⟨2, 256, slices_S512x512_o0_256_S512x128, slices_S512x512_o0_256_S128x128, slices_S512x512_o128_256_S128x128, slices_S512x512_o256_256_S128x128, slices_S512x512_o384_256_S128x128, inb_S1x512_S1x128_0_256, inb_S4x128x128_S1x128x128_2_0_0, inb_S128x128_S128x1_0_2⟩

/-- Head 3. -/
abbrev hd3 : Hd := ⟨3, 384, slices_S512x512_o0_384_S512x128, slices_S512x512_o0_384_S128x128, slices_S512x512_o128_384_S128x128, slices_S512x512_o256_384_S128x128, slices_S512x512_o384_384_S128x128, inb_S1x512_S1x128_0_384, inb_S4x128x128_S1x128x128_3_0_0, inb_S128x128_S128x1_0_3⟩

namespace Blk

variable (B : Blk F) (H : Hd) (k : BitVec 32) (hr : Vec F S16x512 .f32)

/-- The cotangent of the mixers' outputs. -/
def dm : FVec F S512x1024 .f32 := K.dmix B.ct B.wo
/-- Its half at the gated values. -/
def da : FVec F S512x512 .f32 := K.half 0 slices_S512x1024_o0_0_S512x512 B.dm
/-- Its half at the gated convolution. -/
def db : FVec F S512x512 .f32 := K.half 512 slices_S512x1024_o0_512_S512x512 B.dm
/-- The gate before its activation. -/
def u : FVec F S512x512 .f32 := K.grp 0 slices_S512x2560_o0_0_S512x512 B.p
/-- The values before their activation. -/
def v : FVec F S512x512 .f32 := K.grp 512 slices_S512x2560_o0_512_S512x512 B.p
/-- The convolution's outer gate. -/
def bg : FVec F S512x512 .f32 := K.grp 1024 slices_S512x2560_o0_1024_S512x512 B.p
/-- The convolution's inner gate. -/
def cg : FVec F S512x512 .f32 := K.grp 1536 slices_S512x2560_o0_1536_S512x512 B.p
/-- The convolution's values. -/
def hv : FVec F S512x512 .f32 := K.grp 2048 slices_S512x2560_o0_2048_S512x512 B.p
/-- The gate. -/
def gu : FVec F S512x512 .f32 := K.gelu B.u
/-- The values. -/
def gv : FVec F S512x512 .f32 := K.gelu B.v
/-- A head's gain. -/
def lgH : Vec F S1x128 .f32 := View.ld B.lg (Rect.unit (s := S1x512) ![0, H.o] S1x128.size H.il)
/-- A head's weights. -/
def wH : Vec F S1x128x128 .f32 := View.ld B.w (Rect.unit (s := S4x128x128) ![H.n, 0, 0] S1x128x128.size H.iw)
/-- A head's bias. -/
def bH : Vec F S128x1 .f32 := View.ld B.b (Rect.unit (s := S128x128) ![0, H.n] S128x1.size H.ib)
/-- A tap. -/
def tap0 : Vec F S1x512 .f32 := View.ld B.cw (Rect.unit (s := S8x512) ![0, 0] S1x512.size inb_S8x512_S1x512_0_0)
/-- A tap. -/
def tap1 : Vec F S1x512 .f32 := View.ld B.cw (Rect.unit (s := S8x512) ![1, 0] S1x512.size inb_S8x512_S1x512_1_0)
/-- A tap. -/
def tap2 : Vec F S1x512 .f32 := View.ld B.cw (Rect.unit (s := S8x512) ![2, 0] S1x512.size inb_S8x512_S1x512_2_0)
/-- A head's centred values. -/
def xc : FVec F S512x128 .f32 := K.xc H.o H.s B.gv
/-- A head's inverse deviation. -/
def rr : FVec F S512x1 .f32 := K.rr (B.xc H)
/-- A head's normalised values. -/
def xh : FVec F S512x128 .f32 := K.xh (B.xc H)
/-- A head's gained values. -/
def vn : FVec F S512x128 .bf16 := K.vnb (B.xh H) (B.lgH H)
/-- A head's masked weights. -/
def wm : FVec F S128x128 .bf16 := K.wm (B.wH H)
/-- A head's mixed values. -/
def mx : FVec F S512x128 .f32 := K.mixedH (B.wm H) (B.vn H) (B.bH H)
/-- The cotangent of a head's gained values. -/
def dvn : FVec F S512x128 .f32 := K.dvnH H.o H.c0 H.c1 H.c2 H.c3 (B.wm H) B.da B.gu
/-- The part of a head's weights' gradient. -/
def dw : FVec F S128x128 .f32 := K.dwH H.o H.c0 H.c1 H.c2 H.c3 B.da B.gu (B.vn H)
/-- The part of a head's bias's gradient. -/
def dbs : FVec F S128x1 .f32 := K.dbH H.o H.c0 H.c1 H.c2 H.c3 B.da B.gu
/-- The part of a head's gain's gradient. -/
def dlg : FVec F S1x128 .f32 := K.dlgH (B.dvn H) (B.xh H)
/-- The cotangent of a head's values. -/
def dgv : FVec F S512x128 .f32 := K.dgvH (B.dvn H) (B.lgH H) (B.xh H) (B.rr H)
/-- A head's gated values. -/
def a : FVec F S512x128 .f32 := K.aH H.o H.s B.gu (B.mx H)
/-- The cotangent of a head's gate before its activation. -/
def du : FVec F S512x128 .bf16 := K.duH H.o H.s B.da (B.mx H) B.u
/-- The cotangent of a head's values before their activation. -/
def dv : FVec F S512x128 .f32 := K.dvH H.o H.s (B.dgv H) B.v
/-- What the convolution runs over. -/
def z : FVec F S512x512 .f32 := K.z B.cg B.hv
/-- The same with the rows before the block. -/
def ez : FVec F S528x512 .f32 := K.extD (K.tail k B.pt) B.z
/-- One row earlier. -/
def z1 : FVec F S512x512 .f32 := K.zs1 (B.ez k)
/-- Two rows earlier. -/
def z2 : FVec F S512x512 .f32 := K.zs2 (B.ez k)
/-- The convolution. -/
def y : FVec F S512x512 .f32 := K.y B.z (B.z1 k) (B.z2 k) B.tap2 B.tap1 B.tap0
/-- The convolution's cotangent. -/
def dy : FVec F S512x512 .f32 := K.dy B.db B.bg
/-- The cotangent of what the convolution runs over. -/
def dz : FVec F S512x512 .f32 := K.dz B.dy (K.extU B.dy (K.headRows k hr)) B.tap2 B.tap1 B.tap0
/-- The cotangent of the projected columns, as it is stored. -/
def pcs : List (View.Piece (Elt F) S512x2560 .bf16) :=
  [⟨Rect.unit (s := S512x2560) ![0, 2048] S512x512.size inb_S512x2560_S512x512_0_2048, K.prod (B.dz k hr) B.cg⟩,
    ⟨Rect.unit (s := S512x2560) ![0, 1536] S512x512.size inb_S512x2560_S512x512_0_1536, K.prod (B.dz k hr) B.hv⟩,
    ⟨Rect.unit (s := S512x2560) ![0, 1024] S512x512.size inb_S512x2560_S512x512_0_1024, K.gatedY B.db (B.y k)⟩,
    ⟨Rect.unit (s := S512x2560) ![0, 512] S512x512.size inb_S512x2560_S512x512_0_512, truncf .bf16 (K.cat4 (B.dv hd0) (B.dv hd1) (B.dv hd2) (B.dv hd3)) bitsLt_bf16_f32⟩,
    ⟨Rect.unit (s := S512x2560) ![0, 384] S512x128.size inb_S512x2560_S512x128_0_384, B.du hd3⟩,
    ⟨Rect.unit (s := S512x2560) ![0, 256] S512x128.size inb_S512x2560_S512x128_0_256, B.du hd2⟩,
    ⟨Rect.unit (s := S512x2560) ![0, 128] S512x128.size inb_S512x2560_S512x128_0_128, B.du hd1⟩,
    ⟨Rect.unit (s := S512x2560) ![0, 0] S512x128.size inb_S512x2560_S512x128_0_0, B.du hd0⟩]
/-- The cotangent of the projected columns. -/
def dproj : Vec F S512x2560 .bf16 := View.canon (B.pcs k hr)
/-- The cotangent of the normalised rows. -/
def dh : FVec F S512x1024 .f32 := K.dh (B.dproj k hr) B.wi
/-- The mixers' outputs. -/
def mix : Vec F S512x1024 .bf16 :=
  View.canon [⟨Rect.unit (s := S512x1024) ![0, 512] S512x512.size inb_S512x1024_S512x512_0_512, K.gatedY B.bg (B.y k)⟩,
    ⟨Rect.unit (s := S512x1024) ![0, 0] S512x512.size inb_S512x1024_S512x512_0_0, truncf .bf16 (K.cat4 (B.a hd0) (B.a hd1) (B.a hd2) (B.a hd3)) bitsLt_bf16_f32⟩]
/-- The gain's gradient, added to. -/
def accG (q : Vec F S1x1024 .f32) : FVec F S1x1024 .f32 := addf (shapeCast S1x1024 q shapeCasts_S1x1024_S1x1024) (K.dgamC B.x (B.dh k hr))
/-- A head's weights' gradient, added to. -/
def accW (q : Vec F S1x128x128 .f32) : FVec F S1x128x128 .f32 :=
  shapeCast S1x128x128 (addf (shapeCast S128x128 q shapeCasts_S1x128x128_S128x128) (B.dw H)) shapeCasts_S128x128_S1x128x128
/-- A head's bias's gradient, added to. -/
def accB (q : Vec F S128x1 .f32) : FVec F S128x1 .f32 := addf (shapeCast S128x1 q shapeCasts_S128x1_S128x1) (B.dbs H)
/-- A head's gain's gradient, added to. -/
def accL (q : Vec F S1x128 .f32) : FVec F S1x128 .f32 := addf (shapeCast S1x128 q shapeCasts_S1x128_S1x128) (B.dlg H)
/-- A tap's gradient, added to. -/
def accC (zz : FVec F S512x512 .f32) (q : Vec F S1x512 .f32) : FVec F S1x512 .f32 := addf (shapeCast S1x512 q shapeCasts_S1x512_S1x512) (K.dcwC B.dy zz)

/-- The weights' gradient as it is stored over `q`. -/
def pcsW (q : Hd → Vec F S1x128x128 .f32) : List (View.Piece (Elt F) S4x128x128 .f32) :=
  [⟨Rect.unit (s := S4x128x128) ![3, 0, 0] S1x128x128.size inb_S4x128x128_S1x128x128_3_0_0, B.accW hd3 (q hd3)⟩,
    ⟨Rect.unit (s := S4x128x128) ![2, 0, 0] S1x128x128.size inb_S4x128x128_S1x128x128_2_0_0, B.accW hd2 (q hd2)⟩,
    ⟨Rect.unit (s := S4x128x128) ![1, 0, 0] S1x128x128.size inb_S4x128x128_S1x128x128_1_0_0, B.accW hd1 (q hd1)⟩,
    ⟨Rect.unit (s := S4x128x128) ![0, 0, 0] S1x128x128.size inb_S4x128x128_S1x128x128_0_0_0, B.accW hd0 (q hd0)⟩]
/-- The bias's gradient as it is stored over `q`. -/
def pcsB (q : Hd → Vec F S128x1 .f32) : List (View.Piece (Elt F) S128x128 .f32) :=
  [⟨Rect.unit (s := S128x128) ![0, 3] S128x1.size inb_S128x128_S128x1_0_3, B.accB hd3 (q hd3)⟩,
    ⟨Rect.unit (s := S128x128) ![0, 2] S128x1.size inb_S128x128_S128x1_0_2, B.accB hd2 (q hd2)⟩,
    ⟨Rect.unit (s := S128x128) ![0, 1] S128x1.size inb_S128x128_S128x1_0_1, B.accB hd1 (q hd1)⟩,
    ⟨Rect.unit (s := S128x128) ![0, 0] S128x1.size inb_S128x128_S128x1_0_0, B.accB hd0 (q hd0)⟩]
/-- The gain's gradient as it is stored over `q`. -/
def pcsL (q : Hd → Vec F S1x128 .f32) : List (View.Piece (Elt F) S1x512 .f32) :=
  [⟨Rect.unit (s := S1x512) ![0, 384] S1x128.size inb_S1x512_S1x128_0_384, B.accL hd3 (q hd3)⟩,
    ⟨Rect.unit (s := S1x512) ![0, 256] S1x128.size inb_S1x512_S1x128_0_256, B.accL hd2 (q hd2)⟩,
    ⟨Rect.unit (s := S1x512) ![0, 128] S1x128.size inb_S1x512_S1x128_0_128, B.accL hd1 (q hd1)⟩,
    ⟨Rect.unit (s := S1x512) ![0, 0] S1x128.size inb_S1x512_S1x128_0_0, B.accL hd0 (q hd0)⟩]
/-- The taps' gradient as it is stored over three rows. -/
def pcsC (q0 q1 q2 : Vec F S1x512 .f32) : List (View.Piece (Elt F) S8x512 .f32) :=
  [⟨Rect.unit (s := S8x512) ![0, 0] S1x512.size inb_S8x512_S1x512_0_0, B.accC (B.z2 k) q0⟩,
    ⟨Rect.unit (s := S8x512) ![1, 0] S1x512.size inb_S8x512_S1x512_1_0, B.accC (B.z1 k) q1⟩,
    ⟨Rect.unit (s := S8x512) ![2, 0] S1x512.size inb_S8x512_S1x512_2_0, B.accC B.z q2⟩]

end Blk

end Cert.KernelIdeal.Even

end
-- ==== Proof.Even.Real.lean ====
/- The block's mathematics over the reals, and the rules that carry an extended real expression of reals to a real. -/
module

public import Idealize.ShloMosaic.PureOps.Ideal
public import Idealize.ShloMosaic.PureOps.Ideal.Laws
public import Idealize.ShloMosaic.PureOps.IdealRules

@[expose] public section

noncomputable section

namespace Cert.Spec

open Idealize.ShloMosaic

/-! Carrying extended reals to reals. -/

theorem csum {ι : Type} [Fintype ι] (f : ι → ℝ) : (∑ x, ((f x : ℝ) : EReal)) = ((∑ x, f x : ℝ) : EReal) :=
  (map_sum (⟨⟨Real.toEReal, EReal.coe_zero⟩, fun a b => EReal.coe_add a b⟩ : ℝ →+ EReal) f Finset.univ).symm

theorem cdiv (a b : ℝ) (hb : b ≠ 0) : Ideal.div (a : EReal) (b : EReal) = ((a / b : ℝ) : EReal) := by
  rw [Ideal.div_coe hb, ← EReal.coe_mul]; congr 1; ring

/-- The error function on the reals. -/
def erf (r : ℝ) : ℝ := 2 / Real.sqrt Real.pi * ∫ t in (0 : ℝ)..r, Real.exp (-(t ^ 2))

theorem cerf (r : ℝ) : Ideal.erf (r : EReal) = ((erf r : ℝ) : EReal) := rfl

theorem erf_neg (r : ℝ) : erf (-r) = -erf r := by
  have h := Ideal.erf_neg (r : EReal)
  rw [← EReal.coe_neg, cerf, cerf, ← EReal.coe_neg] at h
  exact EReal.coe_injective h

theorem cerfc (r : ℝ) : Ideal.erfc (r : EReal) = ((1 - erf r : ℝ) : EReal) := rfl

theorem cexp (r : ℝ) : Ideal.exp (r : EReal) = ((Real.exp r : ℝ) : EReal) := rfl

theorem crsqrt (r : ℝ) (h : 0 < r) : Ideal.rsqrt (r : EReal) = (((Real.sqrt r)⁻¹ : ℝ) : EReal) := by
  rw [Ideal.rsqrt_coe, if_neg h.le.not_gt, if_neg h.ne']

theorem cneg (r : ℝ) : -(r : EReal) = ((-r : ℝ) : EReal) := rfl

/-- The small number under the root. -/
def eps : ℝ := (Ideal.ofBits .f32 897988541#32).toReal

theorem eps_bits : Ideal.ofBits .f32 897988541#32 = ((eps : ℝ) : EReal) ∧ 0 < eps := by
  have h : Ideal.ofBits .f32 897988541#32 = ((8796093 / 8796093022208 : ℝ) : EReal) := by
    simp [Ideal.ofBits, Ideal.ieee, -EReal.coe_mul]; norm_num
  have e : eps = (8796093 / 8796093022208 : ℝ) := by rw [eps, h]; rfl
  rw [e, h]; exact ⟨rfl, by norm_num⟩

theorem c_eps : Ideal.ofBits .f32 897988541#32 = ((eps : ℝ) : EReal) := eps_bits.1
theorem eps_pos : 0 < eps := eps_bits.2

theorem c_1024 : Ideal.ofBits .f32 1149239296#32 = ((1024 : ℝ) : EReal) := by
  simp [Ideal.ofBits, Ideal.ieee, -EReal.coe_mul]; norm_num
theorem c_128 : Ideal.ofBits .f32 1124073472#32 = ((128 : ℝ) : EReal) := by
  simp [Ideal.ofBits, Ideal.ieee, -EReal.coe_mul]; norm_num
theorem c_half : Ideal.ofBits .f32 1056964608#32 = ((1 / 2 : ℝ) : EReal) := by
  simp [Ideal.ofBits, Ideal.ieee, -EReal.coe_mul]; norm_num
theorem c_mhalf : Ideal.ofBits .f32 3204448256#32 = ((-(1 / 2) : ℝ) : EReal) := by
  simp [Ideal.ofBits, Ideal.ieee, -EReal.coe_mul]; norm_num

theorem d1024 (a : ℝ) : Ideal.div (a : EReal) ((1024 : ℝ) : EReal) = ((a / 1024 : ℝ) : EReal) := cdiv a _ (by norm_num)
theorem d128 (a : ℝ) : Ideal.div (a : EReal) ((128 : ℝ) : EReal) = ((a / 128 : ℝ) : EReal) := cdiv a _ (by norm_num)

theorem msq_pos {n : ℕ} (f : Fin n → ℝ) (d : ℝ) (hd : 0 < d) : 0 < (∑ x, f x * f x) / d + eps :=
  add_pos_of_nonneg_of_pos (div_nonneg (Finset.sum_nonneg fun x _ => mul_self_nonneg (f x)) hd.le) eps_pos

theorem r1024 {n : ℕ} (f : Fin n → ℝ) :
    Ideal.rsqrt (((∑ x, f x * f x) / 1024 + eps : ℝ) : EReal) = (((Real.sqrt ((∑ x, f x * f x) / 1024 + eps))⁻¹ : ℝ) : EReal) :=
  crsqrt _ (msq_pos f _ (by norm_num))
theorem r128 {n : ℕ} (f : Fin n → ℝ) :
    Ideal.rsqrt (((∑ x, f x * f x) / 128 + eps : ℝ) : EReal) = (((Real.sqrt ((∑ x, f x * f x) / 128 + eps))⁻¹ : ℝ) : EReal) :=
  crsqrt _ (msq_pos f _ (by norm_num))

/-- Rows from an offset on. -/
def sh (n : ℕ) (a : ℕ → ℕ → ℝ) (r c : ℕ) : ℝ := a (n + r) c

/-! The mathematics. A row is one of the tokens, counted over both sequences. -/

/-- One over the root of the mean square of a row. -/
def inv (x : ℕ → ℕ → ℝ) (r : ℕ) : ℝ := (Real.sqrt ((∑ d : Fin 1024, x r d * x r d) / 1024 + eps))⁻¹
/-- A row over its root mean square, with the gain. -/
def hid (x : ℕ → ℕ → ℝ) (g : ℕ → ℝ) (r d : ℕ) : ℝ := x r d * inv x r * g d
/-- The projected columns. -/
def proj (h w : ℕ → ℕ → ℝ) (r e : ℕ) : ℝ := ∑ d : Fin 1024, h r d * w d e
/-- The cotangent through the output projection. -/
def dmix (ct wo : ℕ → ℕ → ℝ) (r j : ℕ) : ℝ := ∑ d : Fin 1024, ct r d * wo j d
/-- Columns from an offset on. -/
def grp (o : ℕ) (p : ℕ → ℕ → ℝ) (r c : ℕ) : ℝ := p r (o + c)
/-- The activation. -/
def gelu1 (a : ℝ) : ℝ := 1 / 2 * a * (1 + erf (a * (Real.sqrt 2)⁻¹))
/-- The activation's derivative. -/
def gg1 (a : ℝ) : ℝ :=
  1 / 2 * (1 + erf (a * (Real.sqrt 2)⁻¹)) + a * Real.exp (-(1 / 2) * a * a) * (Real.sqrt (2 * Real.pi))⁻¹
def gelu (a : ℕ → ℕ → ℝ) (r c : ℕ) : ℝ := gelu1 (a r c)
def gg (a : ℕ → ℕ → ℝ) (r c : ℕ) : ℝ := gg1 (a r c)
/-- A head's columns less their mean. -/
def xc (a : ℕ → ℕ → ℝ) (r j : ℕ) : ℝ := a r j - (∑ e : Fin 128, a r e) / 128
/-- One over the root of a head's variance. -/
def rr (x : ℕ → ℕ → ℝ) (r : ℕ) : ℝ := (Real.sqrt ((∑ e : Fin 128, x r e * x r e) / 128 + eps))⁻¹
def xh (x : ℕ → ℕ → ℝ) (r j : ℕ) : ℝ := x r j * rr x r
def vn (x : ℕ → ℕ → ℝ) (lg : ℕ → ℝ) (r j : ℕ) : ℝ := x r j * lg j
/-- The lower triangle of a head's weights. -/
def wm (w : ℕ → ℕ → ℝ) (t s : ℕ) : ℝ := if s ≤ t then w t s else 0
/-- A head mixed along the tokens of each chunk of 128. -/
def mixed (w v : ℕ → ℕ → ℝ) (b : ℕ → ℝ) (r j : ℕ) : ℝ := (∑ s : Fin 128, w (r % 128) s * v (128 * (r / 128) + s) j) + b (r % 128)
def mul (a b : ℕ → ℕ → ℝ) (r j : ℕ) : ℝ := a r j * b r j
/-- The cotangent of the gained columns. -/
def dvn (w d : ℕ → ℕ → ℝ) (r j : ℕ) : ℝ := ∑ t : Fin 128, w t (r % 128) * d (128 * (r / 128) + t) j
/-- The cotangent through a head's normalisation. -/
def dgv (d : ℕ → ℕ → ℝ) (lg : ℕ → ℝ) (x : ℕ → ℕ → ℝ) (q : ℕ → ℝ) (r j : ℕ) : ℝ :=
  q r * (d r j * lg j - (∑ e : Fin 128, d r e * lg e) / 128 - x r j * ((∑ e : Fin 128, d r e * lg e * x r e) / 128))
/-- One row earlier, and two, in the row's sequence of 2048. -/
def back1 (z : ℕ → ℕ → ℝ) (r c : ℕ) : ℝ := if r % 2048 < 1 then 0 else z (r - 1) c
def back2 (z : ℕ → ℕ → ℝ) (r c : ℕ) : ℝ := if r % 2048 < 2 then 0 else z (r - 2) c
/-- One row later, and two, in the row's sequence of 2048. -/
def fore1 (z : ℕ → ℕ → ℝ) (r c : ℕ) : ℝ := if r % 2048 < 2047 then z (r + 1) c else 0
def fore2 (z : ℕ → ℕ → ℝ) (r c : ℕ) : ℝ := if r % 2048 < 2046 then z (r + 2) c else 0
/-- A weighted sum of three. -/
def taps (z z1 z2 : ℕ → ℕ → ℝ) (w2 w1 w0 : ℕ → ℝ) (r c : ℕ) : ℝ := w2 c * z r c + w1 c * z1 r c + w0 c * z2 r c
/-- The cotangent of the normalised rows. -/
def dh (p w : ℕ → ℕ → ℝ) (r d : ℕ) : ℝ := ∑ e : Fin 2560, p r e * w d e
/-- The cotangent of the rows. -/
def dx (x : ℕ → ℕ → ℝ) (g : ℕ → ℝ) (ct h : ℕ → ℕ → ℝ) (r d : ℕ) : ℝ :=
  ct r d + inv x r * (h r d * g d - x r d * inv x r * ((∑ e : Fin 1024, h r e * g e * (x r e * inv x r)) / 1024))

end Cert.Spec

end
-- ==== Proof.Even.Read.lean ====
/- The kernel's functions at the extended reals, where their arguments are real. -/
module

public import proofs.«01_k».proof.Proof.Even.Kern
public import proofs.«01_k».proof.Proof.Even.Real
public import Idealize.ShloMosaic.Lib.Pointwise
public import Idealize.ShloMosaic.Lib.WordCmp

@[expose] public section

set_option maxHeartbeats 400000

noncomputable section

namespace Cert.KernelIdeal.Even.K

open Idealize.ShloMosaic Idealize.ShloMosaic.Pointwise
open Cert.Spec (csum cdiv cerf cexp d1024 d128 r1024 r128 c_eps c_1024 c_128 c_half c_mhalf)
open Facts

theorem n_sqrt2 : (Named.named κ "inv_sqrt2" 0x3F3504F3#32 : Ideal .f32) = (((Real.sqrt 2)⁻¹ : ℝ) : EReal) :=
  IdealRules.named_const.ideal_named_scalar _ _ _ _ rfl
theorem n_sqrt2pi : (Named.named κ "inv_sqrt_2pi" 0x3ECC422A#32 : Ideal .f32) = (((Real.sqrt (2 * Real.pi))⁻¹ : ℝ) : EReal) :=
  IdealRules.named_const.ideal_named_scalar _ _ _ _ rfl

/-- A choice by the order of two small words. -/
theorem sel_sge {α : Type} {i j : ℕ} (hi : i < 2 ^ 31) (hj : j < 2 ^ 31) (a b : α) :
    Scalar.select (IntOp.cmpi CmpIPredicate.sge (BitVec.ofNat 32 i) (BitVec.ofNat 32 j)) a b = if j ≤ i then a else b := by
  rw [WordCmp.cmpi_sge_eq, WordCmp.toInt_ofNat_of_lt (by omega), WordCmp.toInt_ofNat_of_lt (by omega)]
  by_cases h : j ≤ i <;> simp [h, Scalar.select]
theorem sel_slt {α : Type} {i j : ℕ} (hi : i < 2 ^ 31) (hj : j < 2 ^ 31) (a b : α) :
    Scalar.select (IntOp.cmpi CmpIPredicate.slt (BitVec.ofNat 32 i) (BitVec.ofNat 32 j)) a b = if i < j then a else b := by
  rw [WordCmp.cmpi_slt_eq, WordCmp.toInt_ofNat_of_lt (by omega), WordCmp.toInt_ofNat_of_lt (by omega)]
  by_cases h : i < j <;> simp [h, Scalar.select]

/-- Whether a block is the first of its sequence. -/
def tailBit (k : BitVec 32) : BitVec 1 :=
  have v769 : BitVec 1 := Scalar.cmpi .eq (4#32 : BitVec 32) (0#32 : BitVec 32)
  have v770 : BitVec 32 := Scalar.select v769 (1#32 : BitVec 32) (4#32 : BitVec 32)
  have v771 : BitVec 32 := Scalar.remsi k v770
  have v773 : BitVec 1 := Scalar.cmpi .slt v771 (0#32 : BitVec 32)
  have v774 : BitVec 1 := Scalar.cmpi .slt v770 (0#32 : BitVec 32)
  have v775 : BitVec 1 := Scalar.xori v773 v774
  have v772 : BitVec 1 := Scalar.cmpi .ne v771 (0#32 : BitVec 32)
  have v776 : BitVec 1 := Scalar.andi v775 v772
  have v777 : BitVec 32 := Scalar.addi v771 v770
  have v778 : BitVec 32 := Scalar.select v776 v777 v771
  have v779 : BitVec 1 := Scalar.cmpi .eq v778 (0#32 : BitVec 32)
  v779

/-- Whether a block is the last of its sequence. -/
def headBit (k : BitVec 32) : BitVec 1 :=
  have v818 : BitVec 1 := Scalar.cmpi .eq (4#32 : BitVec 32) (0#32 : BitVec 32)
  have v819 : BitVec 32 := Scalar.select v818 (1#32 : BitVec 32) (4#32 : BitVec 32)
  have v820 : BitVec 32 := Scalar.remsi k v819
  have v822 : BitVec 1 := Scalar.cmpi .slt v820 (0#32 : BitVec 32)
  have v823 : BitVec 1 := Scalar.cmpi .slt v819 (0#32 : BitVec 32)
  have v824 : BitVec 1 := Scalar.xori v822 v823
  have v821 : BitVec 1 := Scalar.cmpi .ne v820 (0#32 : BitVec 32)
  have v825 : BitVec 1 := Scalar.andi v824 v821
  have v826 : BitVec 32 := Scalar.addi v820 v819
  have v827 : BitVec 32 := Scalar.select v825 v826 v820
  have v828 : BitVec 1 := Scalar.cmpi .eq v827 (3#32 : BitVec 32)
  v828

/-- The normalised rows. -/
theorem hid_r {x : Vec Ideal S512x1024 .f32} {g : Vec Ideal S1x1024 .f32} {X : ℕ → ℕ → ℝ} {G : ℕ → ℝ} (h_x : ∀ (i : Fin 512) (j : Fin 1024), x (ix2 i j) = ((X i j : ℝ) : EReal)) (h_g : ∀ (i : Fin 1) (j : Fin 1024), g (ix2 i j) = ((G j : ℝ) : EReal)) (i : Fin 512) (j : Fin 1024) :
    hid x g (ix2 i j) = ((Spec.hid X G i j : ℝ) : EReal) := by
  unfold hid inv
  pointwise
  simp only [h_x, h_g, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- One over the root mean square. -/
theorem inv_r {x : Vec Ideal S512x1024 .f32} {X : ℕ → ℕ → ℝ} (h_x : ∀ (i : Fin 512) (j : Fin 1024), x (ix2 i j) = ((X i j : ℝ) : EReal)) (i : Fin 512) (j : Fin 1) :
    inv x (ix2 i j) = ((Spec.inv X i : ℝ) : EReal) := by
  unfold inv
  pointwise
  simp only [h_x, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The cotangent through the output projection. -/
theorem dmix_r {ct : Vec Ideal S512x1024 .f32} {wo : Vec Ideal S8x128x1024 .bf16} {CT : ℕ → ℕ → ℝ} {WO : ℕ → ℕ → ℝ} (h_ct : ∀ (i : Fin 512) (j : Fin 1024), ct (ix2 i j) = ((CT i j : ℝ) : EReal)) (h_wo : ∀ (a : Fin 8) (i : Fin 128) (j : Fin 1024), wo (ix3 a i j) = ((WO (128 * a + i) j : ℝ) : EReal)) (i : Fin 512) (j : Fin 1024) :
    dmix ct wo (ix2 i j) = ((Spec.dmix CT WO i j : ℝ) : EReal) := by
  unfold dmix
  pointwise
  simp only [h_ct, h_wo, Nat.div_add_mod, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- One half of the columns. -/
theorem half_r (o : ℕ) (h : S512x1024.Slices ![0, o] S512x512) {d : FVec Ideal S512x1024 .f32} {D : ℕ → ℕ → ℝ} (h_d : ∀ (i : Fin 512) (j : Fin 1024), d (ix2 i j) = ((D i j : ℝ) : EReal)) (i : Fin 512) (j : Fin 512) :
    half o h d (ix2 i j) = ((Spec.grp o D i j : ℝ) : EReal) := by
  unfold half
  pointwise
  simp only [h_d, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- One of the five groups of columns. -/
theorem grp_r (o : ℕ) (h : S512x2560.Slices ![0, o] S512x512) {p : Vec Ideal S512x2560 .bf16} {P : ℕ → ℕ → ℝ} (h_p : ∀ (i : Fin 512) (j : Fin 2560), p (ix2 i j) = ((P i j : ℝ) : EReal)) (i : Fin 512) (j : Fin 512) :
    grp o h p (ix2 i j) = ((Spec.grp o P i j : ℝ) : EReal) := by
  unfold grp
  pointwise
  simp only [h_p, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The activation. -/
theorem gelu_r {a : FVec Ideal S512x512 .f32} {A : ℕ → ℕ → ℝ} (h_a : ∀ (i : Fin 512) (j : Fin 512), a (ix2 i j) = ((A i j : ℝ) : EReal)) (i : Fin 512) (j : Fin 512) :
    gelu a (ix2 i j) = ((Spec.gelu A i j : ℝ) : EReal) := by
  unfold gelu
  pointwise
  simp only [h_a, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The activation's derivative. -/
theorem gg_r {a : FVec Ideal S512x128 .f32} {A : ℕ → ℕ → ℝ} (h_a : ∀ (i : Fin 512) (j : Fin 128), a (ix2 i j) = ((A i j : ℝ) : EReal)) (i : Fin 512) (j : Fin 128) :
    gg a (ix2 i j) = ((Spec.gg A i j : ℝ) : EReal) := by
  unfold gg
  pointwise
  simp only [h_a, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A head less its mean. -/
theorem xc_r (o : ℕ) (h : S512x512.Slices ![0, o] S512x128) {a : FVec Ideal S512x512 .f32} {A : ℕ → ℕ → ℝ} (h_a : ∀ (i : Fin 512) (j : Fin 512), a (ix2 i j) = ((A i j : ℝ) : EReal)) (i : Fin 512) (j : Fin 128) :
    xc o h a (ix2 i j) = ((Spec.xc (Spec.grp o A) i j : ℝ) : EReal) := by
  unfold xc
  pointwise
  simp only [h_a, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- One over the root of a head's variance. -/
theorem rr_r {x : FVec Ideal S512x128 .f32} {X : ℕ → ℕ → ℝ} (h_x : ∀ (i : Fin 512) (j : Fin 128), x (ix2 i j) = ((X i j : ℝ) : EReal)) (i : Fin 512) (j : Fin 1) :
    rr x (ix2 i j) = ((Spec.rr X i : ℝ) : EReal) := by
  unfold rr
  pointwise
  simp only [h_x, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A head's normalised columns. -/
theorem xh_r {x : FVec Ideal S512x128 .f32} {X : ℕ → ℕ → ℝ} (h_x : ∀ (i : Fin 512) (j : Fin 128), x (ix2 i j) = ((X i j : ℝ) : EReal)) (i : Fin 512) (j : Fin 128) :
    xh x (ix2 i j) = ((Spec.xh X i j : ℝ) : EReal) := by
  unfold xh rr
  pointwise
  simp only [h_x, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The gained columns. -/
theorem vnb_r {x : FVec Ideal S512x128 .f32} {lg : Vec Ideal S1x128 .f32} {X : ℕ → ℕ → ℝ} {LG : ℕ → ℝ} (h_x : ∀ (i : Fin 512) (j : Fin 128), x (ix2 i j) = ((X i j : ℝ) : EReal)) (h_lg : ∀ (i : Fin 1) (j : Fin 128), lg (ix2 i j) = ((LG j : ℝ) : EReal)) (i : Fin 512) (j : Fin 128) :
    vnb x lg (ix2 i j) = ((Spec.vn X LG i j : ℝ) : EReal) := by
  unfold vnb
  pointwise
  simp only [h_x, h_lg, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The lower triangle. -/
theorem wm_r {w : Vec Ideal S1x128x128 .f32} {W : ℕ → ℕ → ℝ} (h_w : ∀ (a : Fin 1) (i j : Fin 128), w (ix3 a i j) = ((W i j : ℝ) : EReal)) (i : Fin 128) (j : Fin 128) :
    wm w (ix2 i j) = ((Spec.wm W i j : ℝ) : EReal) := by
  unfold wm
  pointwise
  simp only [h_w, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  rw [sel_sge (by have := i.isLt; omega) (by have := j.isLt; omega), Spec.wm]
  split <;> rfl

/-- A chunk mixed. -/
theorem mixedC_r (r : ℕ) (h : S512x128.Slices ![r, 0] S128x128) {w : FVec Ideal S128x128 .bf16} {v : FVec Ideal S512x128 .bf16} {b : Vec Ideal S128x1 .f32} {W : ℕ → ℕ → ℝ} {U : ℕ → ℕ → ℝ} {B : ℕ → ℝ} (h_w : ∀ (i : Fin 128) (j : Fin 128), w (ix2 i j) = ((W i j : ℝ) : EReal)) (h_v : ∀ (i : Fin 512) (j : Fin 128), v (ix2 i j) = ((U i j : ℝ) : EReal)) (h_b : ∀ (i : Fin 128) (j : Fin 1), b (ix2 i j) = ((B i : ℝ) : EReal)) (i : Fin 128) (j : Fin 128) :
    mixedC r h w v b (ix2 i j) = (((∑ s : Fin 128, W i s * U (r + s) j) + B i : ℝ) : EReal) := by
  unfold mixedC
  pointwise
  simp only [h_w, h_v, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A chunk's product. -/
theorem dmixedC_r (r o : ℕ) (h : S512x512.Slices ![r, o] S128x128) {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 128) (j : Fin 128) :
    dmixedC r o h a b (ix2 i j) = ((Spec.sh r (Spec.mul (Spec.grp o A) (Spec.grp o B)) i j : ℝ) : EReal) := by
  unfold dmixedC
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A chunk's transposed product. -/
theorem dvnC_r {w : FVec Ideal S128x128 .bf16} {d : FVec Ideal S128x128 .f32} {W : ℕ → ℕ → ℝ} {D : ℕ → ℕ → ℝ} (h_w : ∀ (i : Fin 128) (j : Fin 128), w (ix2 i j) = ((W i j : ℝ) : EReal)) (h_d : ∀ (i : Fin 128) (j : Fin 128), d (ix2 i j) = ((D i j : ℝ) : EReal)) (i : Fin 128) (j : Fin 128) :
    dvnC w d (ix2 i j) = ((∑ t : Fin 128, W t i * D t j : ℝ) : EReal) := by
  unfold dvnC
  pointwise
  simp only [h_w, h_d, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A chunk's part of the weights' gradient. -/
theorem dwC_r (r : ℕ) (h : S512x128.Slices ![r, 0] S128x128) {d : FVec Ideal S128x128 .f32} {v : FVec Ideal S512x128 .bf16} {D : ℕ → ℕ → ℝ} {U : ℕ → ℕ → ℝ} (h_d : ∀ (i : Fin 128) (j : Fin 128), d (ix2 i j) = ((D i j : ℝ) : EReal)) (h_v : ∀ (i : Fin 512) (j : Fin 128), v (ix2 i j) = ((U i j : ℝ) : EReal)) (i : Fin 128) (j : Fin 128) :
    dwC r h d v (ix2 i j) = ((∑ e : Fin 128, D i e * U (r + j) e : ℝ) : EReal) := by
  unfold dwC
  pointwise
  simp only [h_d, h_v, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A chunk's part of the bias's gradient. -/
theorem dbC_r {d : FVec Ideal S128x128 .f32} {D : ℕ → ℕ → ℝ} (h_d : ∀ (i : Fin 128) (j : Fin 128), d (ix2 i j) = ((D i j : ℝ) : EReal)) (i : Fin 128) (j : Fin 1) :
    dbC d (ix2 i j) = ((∑ e : Fin 128, D i e : ℝ) : EReal) := by
  unfold dbC
  pointwise
  simp only [h_d, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A head mixed. -/
theorem mixedH_r {w : FVec Ideal S128x128 .bf16} {v : FVec Ideal S512x128 .bf16} {b : Vec Ideal S128x1 .f32} {W : ℕ → ℕ → ℝ} {U : ℕ → ℕ → ℝ} {B : ℕ → ℝ} (h_w : ∀ (i : Fin 128) (j : Fin 128), w (ix2 i j) = ((W i j : ℝ) : EReal)) (h_v : ∀ (i : Fin 512) (j : Fin 128), v (ix2 i j) = ((U i j : ℝ) : EReal)) (h_b : ∀ (i : Fin 128) (j : Fin 1), b (ix2 i j) = ((B i : ℝ) : EReal)) (i : Fin 512) (j : Fin 128) :
    mixedH w v b (ix2 i j) = ((Spec.mixed W U B i j : ℝ) : EReal) := by
  unfold mixedH
  pointwise
  obtain ⟨i, hi⟩ := i
  simp only [mixedC_r _ _ h_w h_v h_b, Spec.mixed]
  split_ifs with c1 c2 c3 <;> try dsimp only at *
  · rw [show i / 128 = 0 by omega, show i % 128 = i by omega]
  · rw [show i / 128 = 1 by omega, show i % 128 = i - 128 by omega]
  · rw [show i / 128 = 2 by omega, show i % 128 = i - 128 - 128 by omega]
  · rw [show i / 128 = 3 by omega, show i % 128 = i - 128 - 128 - 128 by omega]

/-- The cotangent of a head's gained columns. -/
theorem dvnH_r (o : ℕ) (h0 : S512x512.Slices ![0, o] S128x128) (h1 : S512x512.Slices ![128, o] S128x128) (h2 : S512x512.Slices ![256, o] S128x128) (h3 : S512x512.Slices ![384, o] S128x128) {w : FVec Ideal S128x128 .bf16} {a : FVec Ideal S512x512 .f32} {b : FVec Ideal S512x512 .f32} {W : ℕ → ℕ → ℝ} {A : ℕ → ℕ → ℝ} {B : ℕ → ℕ → ℝ} (h_w : ∀ (i : Fin 128) (j : Fin 128), w (ix2 i j) = ((W i j : ℝ) : EReal)) (h_a : ∀ (i : Fin 512) (j : Fin 512), a (ix2 i j) = ((A i j : ℝ) : EReal)) (h_b : ∀ (i : Fin 512) (j : Fin 512), b (ix2 i j) = ((B i j : ℝ) : EReal)) (i : Fin 512) (j : Fin 128) :
    dvnH o h0 h1 h2 h3 w a b (ix2 i j) = ((Spec.dvn W (Spec.mul (Spec.grp o A) (Spec.grp o B)) i j : ℝ) : EReal) := by
  unfold dvnH
  pointwise
  obtain ⟨i, hi⟩ := i
  simp only [dvnC_r h_w (dmixedC_r 0 o h0 h_a h_b), dvnC_r h_w (dmixedC_r 128 o h1 h_a h_b), dvnC_r h_w (dmixedC_r 256 o h2 h_a h_b), dvnC_r h_w (dmixedC_r 384 o h3 h_a h_b), Spec.dvn, Spec.sh]
  split_ifs with c1 c2 c3 <;> try dsimp only at *
  · rw [show i / 128 = 0 by omega, show i % 128 = i by omega]
  · rw [show i / 128 = 1 by omega, show i % 128 = i - 128 by omega]
  · rw [show i / 128 = 2 by omega, show i % 128 = i - 128 - 128 by omega]
  · rw [show i / 128 = 3 by omega, show i % 128 = i - 128 - 128 - 128 by omega]

/-- A block's part of a head's weights' gradient. -/
theorem dwH_r (o : ℕ) (h0 : S512x512.Slices ![0, o] S128x128) (h1 : S512x512.Slices ![128, o] S128x128) (h2 : S512x512.Slices ![256, o] S128x128) (h3 : S512x512.Slices ![384, o] S128x128) {a : FVec Ideal S512x512 .f32} {b : FVec Ideal S512x512 .f32} {v : FVec Ideal S512x128 .bf16} {A : ℕ → ℕ → ℝ} {B : ℕ → ℕ → ℝ} {U : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (h_v : ∀ (i : Fin 512) (j : Fin 128), v (ix2 i j) = ((U i j : ℝ) : EReal)) (i : Fin 128) (j : Fin 128) :
    dwH o h0 h1 h2 h3 a b v (ix2 i j) = ((if (j : ℕ) ≤ i then ∑ c : Fin 4, ∑ e : Fin 128, Spec.mul (Spec.grp o A) (Spec.grp o B) (128 * c + i) e * U (128 * c + j) e else 0 : ℝ) : EReal) := by
  unfold dwH
  pointwise
  simp only [dwC_r _ _ (dmixedC_r _ _ h0 h_a h_b) h_v, dwC_r _ _ (dmixedC_r _ _ h1 h_a h_b) h_v, dwC_r _ _ (dmixedC_r _ _ h2 h_a h_b) h_v, dwC_r _ _ (dmixedC_r _ _ h3 h_a h_b) h_v, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  rw [sel_sge (by have := i.isLt; omega) (by have := j.isLt; omega)]
  split
  · rw [Fin.sum_univ_four]; congr 1
  · rfl

/-- A block's part of a head's bias's gradient. -/
theorem dbH_r (o : ℕ) (h0 : S512x512.Slices ![0, o] S128x128) (h1 : S512x512.Slices ![128, o] S128x128) (h2 : S512x512.Slices ![256, o] S128x128) (h3 : S512x512.Slices ![384, o] S128x128) {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 128) (j : Fin 1) :
    dbH o h0 h1 h2 h3 a b (ix2 i j) = ((∑ c : Fin 4, ∑ e : Fin 128, Spec.mul (Spec.grp o A) (Spec.grp o B) (128 * c + i) e : ℝ) : EReal) := by
  unfold dbH
  pointwise
  simp only [dbC_r (dmixedC_r _ _ h0 h_a h_b), dbC_r (dmixedC_r _ _ h1 h_a h_b), dbC_r (dmixedC_r _ _ h2 h_a h_b), dbC_r (dmixedC_r _ _ h3 h_a h_b), csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  rw [Fin.sum_univ_four]; congr 1

/-- A block's part of a head's gain's gradient. -/
theorem dlgH_r {a : FVec Ideal S512x128 .f32} {b : FVec Ideal S512x128 .f32} {A : ℕ → ℕ → ℝ} {B : ℕ → ℕ → ℝ} (h_a : ∀ (i : Fin 512) (j : Fin 128), a (ix2 i j) = ((A i j : ℝ) : EReal)) (h_b : ∀ (i : Fin 512) (j : Fin 128), b (ix2 i j) = ((B i j : ℝ) : EReal)) (i : Fin 1) (j : Fin 128) :
    dlgH a b (ix2 i j) = ((∑ r : Fin 512, A r j * B r j : ℝ) : EReal) := by
  unfold dlgH
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The cotangent through a head's normalisation. -/
theorem dgvH_r {d : FVec Ideal S512x128 .f32} {lg : Vec Ideal S1x128 .f32} {x : FVec Ideal S512x128 .f32} {q : FVec Ideal S512x1 .f32} {D : ℕ → ℕ → ℝ} {X : ℕ → ℕ → ℝ} {LG : ℕ → ℝ} {Q : ℕ → ℝ} (h_d : ∀ (i : Fin 512) (j : Fin 128), d (ix2 i j) = ((D i j : ℝ) : EReal)) (h_lg : ∀ (i : Fin 1) (j : Fin 128), lg (ix2 i j) = ((LG j : ℝ) : EReal)) (h_x : ∀ (i : Fin 512) (j : Fin 128), x (ix2 i j) = ((X i j : ℝ) : EReal)) (h_q : ∀ (i : Fin 512) (j : Fin 1), q (ix2 i j) = ((Q i : ℝ) : EReal)) (i : Fin 512) (j : Fin 128) :
    dgvH d lg x q (ix2 i j) = ((Spec.dgv D LG X Q i j : ℝ) : EReal) := by
  unfold dgvH
  pointwise
  simp only [h_d, h_lg, h_x, h_q, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A head's gated output. -/
theorem aH_r (o : ℕ) (h : S512x512.Slices ![0, o] S512x128) {a : FVec Ideal S512x512 .f32} {b : FVec Ideal S512x128 .f32} {A : ℕ → ℕ → ℝ} {B : ℕ → ℕ → ℝ} (h_a : ∀ (i : Fin 512) (j : Fin 512), a (ix2 i j) = ((A i j : ℝ) : EReal)) (h_b : ∀ (i : Fin 512) (j : Fin 128), b (ix2 i j) = ((B i j : ℝ) : EReal)) (i : Fin 512) (j : Fin 128) :
    aH o h a b (ix2 i j) = ((Spec.mul (Spec.grp o A) B i j : ℝ) : EReal) := by
  unfold aH
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The slice of a head. -/
theorem slice_r (o : ℕ) (h : S512x512.Slices ![0, o] S512x128) {a : FVec Ideal S512x512 .f32} {A : ℕ → ℕ → ℝ} (h_a : ∀ (i : Fin 512) (j : Fin 512), a (ix2 i j) = ((A i j : ℝ) : EReal)) (i : Fin 512) (j : Fin 128) :
    (extractStridedSlice S512x128 ![0, o] a h : FVec Ideal S512x128 .f32) (ix2 i j) = ((Spec.grp o A i j : ℝ) : EReal) := by
  pointwise
  simp only [h_a]
  rfl

/-- The cotangent of a head's gate columns. -/
theorem duH_r (o : ℕ) (h : S512x512.Slices ![0, o] S512x128) {a : FVec Ideal S512x512 .f32} {m : FVec Ideal S512x128 .f32} {u : FVec Ideal S512x512 .f32} {A : ℕ → ℕ → ℝ} {M : ℕ → ℕ → ℝ} {U : ℕ → ℕ → ℝ} (h_a : ∀ (i : Fin 512) (j : Fin 512), a (ix2 i j) = ((A i j : ℝ) : EReal)) (h_m : ∀ (i : Fin 512) (j : Fin 128), m (ix2 i j) = ((M i j : ℝ) : EReal)) (h_u : ∀ (i : Fin 512) (j : Fin 512), u (ix2 i j) = ((U i j : ℝ) : EReal)) (i : Fin 512) (j : Fin 128) :
    duH o h a m u (ix2 i j) = ((Spec.mul (Spec.mul (Spec.grp o A) M) (Spec.gg (Spec.grp o U)) i j : ℝ) : EReal) := by
  unfold duH
  pointwise
  simp only [h_a, h_m, gg_r (slice_r o h h_u), csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The cotangent of a head's value columns. -/
theorem dvH_r (o : ℕ) (h : S512x512.Slices ![0, o] S512x128) {d : FVec Ideal S512x128 .f32} {v : FVec Ideal S512x512 .f32} {D : ℕ → ℕ → ℝ} {U : ℕ → ℕ → ℝ} (h_d : ∀ (i : Fin 512) (j : Fin 128), d (ix2 i j) = ((D i j : ℝ) : EReal)) (h_v : ∀ (i : Fin 512) (j : Fin 512), v (ix2 i j) = ((U i j : ℝ) : EReal)) (i : Fin 512) (j : Fin 128) :
    dvH o h d v (ix2 i j) = ((Spec.mul D (Spec.gg (Spec.grp o U)) i j : ℝ) : EReal) := by
  unfold dvH
  pointwise
  simp only [h_d, gg_r (slice_r o h h_v), csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- Four heads side by side. -/
theorem cat4_r {a : FVec Ideal S512x128 .f32} {b : FVec Ideal S512x128 .f32} {c : FVec Ideal S512x128 .f32} {d : FVec Ideal S512x128 .f32} {A : ℕ → ℕ → ℕ → ℝ} (h_a : ∀ (i : Fin 512) (j : Fin 128), a (ix2 i j) = ((A 0 i j : ℝ) : EReal)) (h_b : ∀ (i : Fin 512) (j : Fin 128), b (ix2 i j) = ((A 1 i j : ℝ) : EReal)) (h_c : ∀ (i : Fin 512) (j : Fin 128), c (ix2 i j) = ((A 2 i j : ℝ) : EReal)) (h_d : ∀ (i : Fin 512) (j : Fin 128), d (ix2 i j) = ((A 3 i j : ℝ) : EReal)) (i : Fin 512) (j : Fin 512) :
    cat4 a b c d (ix2 i j) = ((A ((j : ℕ) / 128) i ((j : ℕ) % 128) : ℝ) : EReal) := by
  unfold cat4
  pointwise
  obtain ⟨j, hj⟩ := j
  simp only [h_a, h_b, h_c, h_d]
  split_ifs with c1 c2 c3 <;> try dsimp only at *
  · rw [show j / 128 = 0 by omega, show j % 128 = j by omega]
  · rw [show j / 128 = 1 by omega, show j % 128 = j - 128 by omega]
  · rw [show j / 128 = 2 by omega, show j % 128 = j - 128 - 128 by omega]
  · rw [show j / 128 = 3 by omega, show j % 128 = j - 128 - 128 - 128 by omega]

/-- The product of two groups. -/
theorem z_r {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 512) (j : Fin 512) :
    z a b (ix2 i j) = ((Spec.mul A B i j : ℝ) : EReal) := by
  unfold z
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The gated convolution. -/
theorem gatedY_r {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 512) (j : Fin 512) :
    gatedY a b (ix2 i j) = ((Spec.mul A B i j : ℝ) : EReal) := by
  unfold gatedY
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The cotangent of the convolution. -/
theorem dy_r {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 512) (j : Fin 512) :
    dy a b (ix2 i j) = ((Spec.mul A B i j : ℝ) : EReal) := by
  unfold dy
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A product of columns. -/
theorem prod_r {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 512) (j : Fin 512) :
    prod a b (ix2 i j) = ((Spec.mul A B i j : ℝ) : EReal) := by
  unfold prod
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A part of a tap's gradient. -/
theorem dcwC_r {a : FVec Ideal S512x512 .f32} {b : FVec Ideal S512x512 .f32} {A : ℕ → ℕ → ℝ} {B : ℕ → ℕ → ℝ} (h_a : ∀ (i : Fin 512) (j : Fin 512), a (ix2 i j) = ((A i j : ℝ) : EReal)) (h_b : ∀ (i : Fin 512) (j : Fin 512), b (ix2 i j) = ((B i j : ℝ) : EReal)) (i : Fin 1) (j : Fin 512) :
    dcwC a b (ix2 i j) = ((∑ r : Fin 512, A r j * B r j : ℝ) : EReal) := by
  unfold dcwC
  pointwise
  simp only [h_a, h_b, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The convolution. -/
theorem y_r {a : FVec Ideal S512x512 .f32} {b : FVec Ideal S512x512 .f32} {c : FVec Ideal S512x512 .f32} {w2 : Vec Ideal S1x512 .f32} {w1 : Vec Ideal S1x512 .f32} {w0 : Vec Ideal S1x512 .f32} {A : ℕ → ℕ → ℝ} {B : ℕ → ℕ → ℝ} {C : ℕ → ℕ → ℝ} {W2 : ℕ → ℝ} {W1 : ℕ → ℝ} {W0 : ℕ → ℝ} (h_a : ∀ (i : Fin 512) (j : Fin 512), a (ix2 i j) = ((A i j : ℝ) : EReal)) (h_b : ∀ (i : Fin 512) (j : Fin 512), b (ix2 i j) = ((B i j : ℝ) : EReal)) (h_c : ∀ (i : Fin 512) (j : Fin 512), c (ix2 i j) = ((C i j : ℝ) : EReal)) (h_w2 : ∀ (i : Fin 1) (j : Fin 512), w2 (ix2 i j) = ((W2 j : ℝ) : EReal)) (h_w1 : ∀ (i : Fin 1) (j : Fin 512), w1 (ix2 i j) = ((W1 j : ℝ) : EReal)) (h_w0 : ∀ (i : Fin 1) (j : Fin 512), w0 (ix2 i j) = ((W0 j : ℝ) : EReal)) (i : Fin 512) (j : Fin 512) :
    y a b c w2 w1 w0 (ix2 i j) = ((Spec.taps A B C W2 W1 W0 i j : ℝ) : EReal) := by
  unfold y
  pointwise
  simp only [h_a, h_b, h_c, h_w2, h_w1, h_w0, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The block's first rows. -/
theorem carry_r {d : FVec Ideal S512x512 .f32} {D : ℕ → ℕ → ℝ} (h_d : ∀ (i : Fin 512) (j : Fin 512), d (ix2 i j) = ((D i j : ℝ) : EReal)) (i : Fin 16) (j : Fin 512) :
    carry d (ix2 i j) = ((D i j : ℝ) : EReal) := by
  unfold carry
  pointwise
  simp only [h_d, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  skip

/-- The rows before the block and the block, one row earlier. -/
theorem zs1_r {tl : FVec Ideal S16x512 .f32} {a : FVec Ideal S512x512 .f32} {T : ℕ → ℕ → ℝ} {A : ℕ → ℕ → ℝ} (h_tl : ∀ (i : Fin 16) (j : Fin 512), tl (ix2 i j) = ((T i j : ℝ) : EReal)) (h_a : ∀ (i : Fin 512) (j : Fin 512), a (ix2 i j) = ((A i j : ℝ) : EReal)) (i : Fin 512) (j : Fin 512) :
    zs1 (extD tl a) (ix2 i j) = ((if (i : ℕ) < 1 then T 15 j else A (i - 1) j : ℝ) : EReal) := by
  unfold zs1 extD
  pointwise
  obtain ⟨i, hi⟩ := i
  simp only [h_tl, h_a]
  rw [sel_sge (by omega) (by omega), if_pos (by omega)]
  by_cases c : i < 1
  · rw [if_pos c, dif_pos (by omega)]; congr 2; omega
  · rw [if_neg c, dif_neg (by omega)]; congr 2; omega

/-- The rows before the block and the block, two rows earlier. -/
theorem zs2_r {tl : FVec Ideal S16x512 .f32} {a : FVec Ideal S512x512 .f32} {T : ℕ → ℕ → ℝ} {A : ℕ → ℕ → ℝ} (h_tl : ∀ (i : Fin 16) (j : Fin 512), tl (ix2 i j) = ((T i j : ℝ) : EReal)) (h_a : ∀ (i : Fin 512) (j : Fin 512), a (ix2 i j) = ((A i j : ℝ) : EReal)) (i : Fin 512) (j : Fin 512) :
    zs2 (extD tl a) (ix2 i j) = ((if (i : ℕ) < 2 then T (14 + i) j else A (i - 2) j : ℝ) : EReal) := by
  unfold zs2 extD
  pointwise
  obtain ⟨i, hi⟩ := i
  simp only [h_tl, h_a]
  rw [sel_sge (by omega) (by omega), if_pos (by omega)]
  by_cases c : i < 2
  · rw [if_pos c, dif_pos (by omega)]; congr 2; omega
  · rw [if_neg c, dif_neg (by omega)]; congr 2; omega

/-- The cotangent of the convolved product. -/
theorem dz_r {d : FVec Ideal S512x512 .f32} {hd : FVec Ideal S16x512 .f32} {w2 : Vec Ideal S1x512 .f32} {w1 : Vec Ideal S1x512 .f32} {w0 : Vec Ideal S1x512 .f32} {D : ℕ → ℕ → ℝ} {T : ℕ → ℕ → ℝ} {W2 : ℕ → ℝ} {W1 : ℕ → ℝ} {W0 : ℕ → ℝ} (h_d : ∀ (i : Fin 512) (j : Fin 512), d (ix2 i j) = ((D i j : ℝ) : EReal)) (h_hd : ∀ (i : Fin 16) (j : Fin 512), hd (ix2 i j) = ((T i j : ℝ) : EReal)) (h_w2 : ∀ (i : Fin 1) (j : Fin 512), w2 (ix2 i j) = ((W2 j : ℝ) : EReal)) (h_w1 : ∀ (i : Fin 1) (j : Fin 512), w1 (ix2 i j) = ((W1 j : ℝ) : EReal)) (h_w0 : ∀ (i : Fin 1) (j : Fin 512), w0 (ix2 i j) = ((W0 j : ℝ) : EReal)) (i : Fin 512) (j : Fin 512) :
    dz d (extU d hd) w2 w1 w0 (ix2 i j) = ((Spec.taps D (fun r c => if r < 511 then D (r + 1) c else T 0 c) (fun r c => if r < 510 then D (r + 2) c else T (r - 510) c) W2 W1 W0 i j : ℝ) : EReal) := by
  unfold dz extU
  pointwise
  obtain ⟨i, hi⟩ := i
  simp only [h_d, h_hd, h_w2, h_w1, h_w0]
  rw [sel_slt (by omega) (by omega), if_pos (by omega), sel_slt (by omega) (by omega), if_pos (by omega)]
  simp only [Spec.taps]
  have e1 : (i + 528 - 527) % 528 = i + 1 := by omega
  have e2 : (i + 528 - 526) % 528 = i + 2 := by omega
  simp only [e1, e2]
  by_cases c : i < 511 <;> by_cases c' : i < 510
  · rw [dif_pos (by omega), dif_pos (by omega), if_pos c, if_pos c']; rfl
  · rw [dif_pos (by omega), dif_neg (by omega), if_pos c, if_neg c', show i + 2 - 512 = i - 510 by omega]; rfl
  · omega
  · rw [dif_neg (by omega), dif_neg (by omega), if_neg c, if_neg c', show i + 2 - 512 = i - 510 by omega, show i + 1 - 512 = 0 by omega]; rfl

/-- The cotangent of the normalised rows. -/
theorem dh_r {p : Vec Ideal S512x2560 .bf16} {wi : Vec Ideal S8x320x1024 .bf16} {P : ℕ → ℕ → ℝ} {W : ℕ → ℕ → ℝ} (h_p : ∀ (i : Fin 512) (j : Fin 2560), p (ix2 i j) = ((P i j : ℝ) : EReal)) (h_wi : ∀ (a : Fin 8) (i : Fin 320) (j : Fin 1024), wi (ix3 a i j) = ((W j (320 * a + i) : ℝ) : EReal)) (i : Fin 512) (j : Fin 1024) :
    dh p wi (ix2 i j) = ((Spec.dh P W i j : ℝ) : EReal) := by
  unfold dh
  pointwise
  simp only [h_p, h_wi, Nat.div_add_mod, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The cotangent of the rows. -/
theorem dxo_r {x : Vec Ideal S512x1024 .f32} {g : Vec Ideal S1x1024 .f32} {ct : Vec Ideal S512x1024 .f32} {q : FVec Ideal S512x1024 .f32} {X : ℕ → ℕ → ℝ} {CT : ℕ → ℕ → ℝ} {Q : ℕ → ℕ → ℝ} {G : ℕ → ℝ} (h_x : ∀ (i : Fin 512) (j : Fin 1024), x (ix2 i j) = ((X i j : ℝ) : EReal)) (h_g : ∀ (i : Fin 1) (j : Fin 1024), g (ix2 i j) = ((G j : ℝ) : EReal)) (h_ct : ∀ (i : Fin 512) (j : Fin 1024), ct (ix2 i j) = ((CT i j : ℝ) : EReal)) (h_q : ∀ (i : Fin 512) (j : Fin 1024), q (ix2 i j) = ((Q i j : ℝ) : EReal)) (i : Fin 512) (j : Fin 1024) :
    dxo x g ct q (ix2 i j) = ((Spec.dx X G CT Q i j : ℝ) : EReal) := by
  unfold dxo inv
  pointwise
  simp only [h_x, h_g, h_ct, h_q, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- A block's part of the gain's gradient. -/
theorem dgamC_r {x : Vec Ideal S512x1024 .f32} {q : FVec Ideal S512x1024 .f32} {X : ℕ → ℕ → ℝ} {Q : ℕ → ℕ → ℝ} (h_x : ∀ (i : Fin 512) (j : Fin 1024), x (ix2 i j) = ((X i j : ℝ) : EReal)) (h_q : ∀ (i : Fin 512) (j : Fin 1024), q (ix2 i j) = ((Q i j : ℝ) : EReal)) (i : Fin 1) (j : Fin 1024) :
    dgamC x q (ix2 i j) = ((∑ r : Fin 512, Q r j * (X r j * Spec.inv X r) : ℝ) : EReal) := by
  unfold dgamC inv
  pointwise
  simp only [h_x, h_q, csum, d1024, d128, r1024, r128, cerf, cexp, c_eps, c_1024, c_128, c_half, c_mhalf, n_sqrt2, n_sqrt2pi, ← EReal.coe_mul, ← EReal.coe_add, ← EReal.coe_sub, ← EReal.coe_one, ← EReal.coe_zero]
  all_goals rfl

/-- The rows before the block. -/
theorem tail_r (k : BitVec 32) (c : Prop) [Decidable c] (hk : K.tailBit k = if c then 1#1 else 0#1) {p : Vec Ideal S16x2560 .bf16} {P : ℕ → ℕ → ℝ} (h_p : ∀ (i : Fin 16) (j : Fin 2560), p (ix2 i j) = ((P i j : ℝ) : EReal)) (i : Fin 16) (j : Fin 512) :
    tail k p (ix2 i j) = ((if c then 0 else P i (1536 + j) * P i (2048 + j) : ℝ) : EReal) := by
  unfold tail
  change (Scalar.select (tailBit k) _ _ : FVec Ideal S16x512 .f32) (ix2 i j) = _
  rw [hk]
  by_cases hc : c <;> simp only [hc, if_true, if_false]
  · change (broadcast S16x512 (Scalar.ofBits .f32 0x00000000#32 : Ideal .f32) : FVec Ideal S16x512 .f32) (ix2 i j) = _
    pointwise
    rfl
  · change (mulf _ _ : FVec Ideal S16x512 .f32) (ix2 i j) = _
    pointwise
    simp only [h_p, ← EReal.coe_mul]

/-- The rows after the block. -/
theorem headRows_r (k : BitVec 32) (c : Prop) [Decidable c] (hk : K.headBit k = if c then 1#1 else 0#1) {p : Vec Ideal S16x512 .f32} {P : ℕ → ℕ → ℝ}  (h_p : ¬ c → ∀ (i : Fin 16) (j : Fin 512), p (ix2 i j) = ((P i j : ℝ) : EReal)) (i : Fin 16) (j : Fin 512) :
    headRows k p (ix2 i j) = ((if c then 0 else P i j : ℝ) : EReal) := by
  unfold headRows
  change (Scalar.select (headBit k) _ _ : FVec Ideal S16x512 .f32) (ix2 i j) = _
  rw [hk]
  by_cases hc : c <;> simp only [hc, if_true, if_false]
  · change (broadcast S16x512 (Scalar.ofBits .f32 0x00000000#32 : Ideal .f32) : FVec Ideal S16x512 .f32) (ix2 i j) = _
    pointwise
    rfl
  · exact h_p hc i j

end Cert.KernelIdeal.Even.K

end
-- ==== Proof.Even.Spec.lean ====
/- The block's mathematics over both sequences, as functions of real arguments. -/
module

public import proofs.«01_k».proof.Proof.Even.Real

@[expose] public section

noncomputable section

namespace Cert.Spec

/-- The arguments, as reals. -/
structure In where
  x : ℕ → ℕ → ℝ
  g : ℕ → ℝ
  win : ℕ → ℕ → ℝ
  lg : ℕ → ℝ
  w : ℕ → ℕ → ℕ → ℝ
  b : ℕ → ℕ → ℝ
  cw : ℕ → ℕ → ℝ
  wo : ℕ → ℕ → ℝ
  ct : ℕ → ℕ → ℝ

namespace In

variable (I : In)

/-- The normalised rows. -/
def h : ℕ → ℕ → ℝ := hid I.x I.g
/-- The projected columns. -/
def P : ℕ → ℕ → ℝ := proj I.h I.win
/-- The cotangent of the mixers' outputs, and its halves. -/
def dm : ℕ → ℕ → ℝ := dmix I.ct I.wo
def da : ℕ → ℕ → ℝ := grp 0 I.dm
def db : ℕ → ℕ → ℝ := grp 512 I.dm
/-- The five groups of columns. -/
def u : ℕ → ℕ → ℝ := grp 0 I.P
def v : ℕ → ℕ → ℝ := grp 512 I.P
def bg : ℕ → ℕ → ℝ := grp 1024 I.P
def cg : ℕ → ℕ → ℝ := grp 1536 I.P
def hv : ℕ → ℕ → ℝ := grp 2048 I.P
/-- The gate and the values. -/
def gu : ℕ → ℕ → ℝ := gelu I.u
def gv : ℕ → ℕ → ℝ := gelu I.v
/-- A head's gain. -/
def lgH (n j : ℕ) : ℝ := I.lg (128 * n + j)
/-- A head's normalisation. -/
def xc (n : ℕ) : ℕ → ℕ → ℝ := Spec.xc (grp (128 * n) I.gv)
def rr (n : ℕ) : ℕ → ℝ := Spec.rr (I.xc n)
def xh (n : ℕ) : ℕ → ℕ → ℝ := Spec.xh (I.xc n)
def vn (n : ℕ) : ℕ → ℕ → ℝ := Spec.vn (I.xh n) (I.lgH n)
/-- A head's mixing. -/
def wm (n : ℕ) : ℕ → ℕ → ℝ := Spec.wm (I.w n)
def mx (n : ℕ) : ℕ → ℕ → ℝ := mixed (I.wm n) (I.vn n) (I.b n)
/-- The cotangent of a head's mixed values. -/
def dmx (n : ℕ) : ℕ → ℕ → ℝ := mul (grp (128 * n) I.da) (grp (128 * n) I.gu)
def dvn (n : ℕ) : ℕ → ℕ → ℝ := Spec.dvn (I.wm n) (I.dmx n)
def dgv (n : ℕ) : ℕ → ℕ → ℝ := Spec.dgv (I.dvn n) (I.lgH n) (I.xh n) (I.rr n)
/-- A head's outputs and the cotangents of its columns. -/
def a (n : ℕ) : ℕ → ℕ → ℝ := mul (grp (128 * n) I.gu) (I.mx n)
def du (n : ℕ) : ℕ → ℕ → ℝ := mul (mul (grp (128 * n) I.da) (I.mx n)) (gg (grp (128 * n) I.u))
def dv (n : ℕ) : ℕ → ℕ → ℝ := mul (I.dgv n) (gg (grp (128 * n) I.v))
/-- The convolution. -/
def z : ℕ → ℕ → ℝ := mul I.cg I.hv
def y : ℕ → ℕ → ℝ := taps I.z (back1 I.z) (back2 I.z) (I.cw 2) (I.cw 1) (I.cw 0)
def dy : ℕ → ℕ → ℝ := mul I.db I.bg
def dz : ℕ → ℕ → ℝ := taps I.dy (fore1 I.dy) (fore2 I.dy) (I.cw 2) (I.cw 1) (I.cw 0)
def db' : ℕ → ℕ → ℝ := mul I.db I.y
def dcg : ℕ → ℕ → ℝ := mul I.dz I.hv
def dhv : ℕ → ℕ → ℝ := mul I.dz I.cg
/-- The cotangent of the projected columns. -/
def dproj (r e : ℕ) : ℝ :=
  if e < 512 then I.du (e / 128) r (e % 128)
  else if e < 1024 then I.dv ((e - 512) / 128) r ((e - 512) % 128)
  else if e < 1536 then I.db' r (e - 1024)
  else if e < 2048 then I.dcg r (e - 1536)
  else I.dhv r (e - 2048)
/-- The mixers' outputs. -/
def mix (r j : ℕ) : ℝ := if j < 512 then I.a (j / 128) r (j % 128) else mul I.bg I.y r (j - 512)
/-- The cotangent of the normalised rows. -/
def dh : ℕ → ℕ → ℝ := Spec.dh I.dproj I.win
/-- The cotangent of the rows. -/
def dx : ℕ → ℕ → ℝ := Spec.dx I.x I.g I.ct I.dh
/-- A row's part of the gain's gradient. -/
def pg (r d : ℕ) : ℝ := I.dh r d * (I.x r d * inv I.x r)
def dgam (d : ℕ) : ℝ := ∑ r : Fin 4096, I.pg r d
/-- A chunk's part of a head's weights' gradient. -/
def pw (n t s c : ℕ) : ℝ := ∑ e : Fin 128, I.dmx n (128 * c + t) e * I.vn n (128 * c + s) e
def dw (n t s : ℕ) : ℝ := if s ≤ t then ∑ c : Fin 32, I.pw n t s c else 0
/-- A chunk's part of a head's bias's gradient. -/
def pb (n t c : ℕ) : ℝ := ∑ e : Fin 128, I.dmx n (128 * c + t) e
def dbs (n t : ℕ) : ℝ := ∑ c : Fin 32, I.pb n t c
/-- A row's part of a head's gain's gradient. -/
def pl (n r j : ℕ) : ℝ := I.dvn n r j * I.xh n r j
def dlg (n j : ℕ) : ℝ := ∑ r : Fin 4096, I.pl n r j
/-- What the taps meet. -/
def zz (q : ℕ) : ℕ → ℕ → ℝ := if q = 0 then back2 I.z else if q = 1 then back1 I.z else I.z
def pc (q r c : ℕ) : ℝ := I.dy r c * I.zz q r c
def dcw (q c : ℕ) : ℝ := ∑ r : Fin 4096, I.pc q r c

end In

/-! Rows from a block's first on. -/

theorem mixed_sh (b : ℕ) (w v : ℕ → ℕ → ℝ) (bs : ℕ → ℝ) (r j : ℕ) :
    mixed w (sh (512 * b) v) bs r j = sh (512 * b) (mixed w v bs) r j := by
  simp only [mixed, sh]
  rw [show (512 * b + r) % 128 = r % 128 by omega, show (512 * b + r) / 128 = 4 * b + r / 128 by omega]
  congr 1; refine Finset.sum_congr rfl fun s _ => ?_
  congr 2; omega

theorem dvn_sh (b : ℕ) (w d : ℕ → ℕ → ℝ) (r j : ℕ) : dvn w (sh (512 * b) d) r j = sh (512 * b) (dvn w d) r j := by
  simp only [dvn, sh]
  rw [show (512 * b + r) % 128 = r % 128 by omega, show (512 * b + r) / 128 = 4 * b + r / 128 by omega]
  refine Finset.sum_congr rfl fun s _ => ?_
  congr 2; omega

theorem back1_sh (b : ℕ) (z : ℕ → ℕ → ℝ) (r c : ℕ) (hr : r < 512) :
    (if r < 1 then (if b % 4 = 0 then 0 else z (512 * b - 16 + 15) c) else sh (512 * b) z (r - 1) c) = sh (512 * b) (back1 z) r c := by
  simp only [back1, sh]
  by_cases h : r < 1
  · rw [if_pos h]
    by_cases h4 : b % 4 = 0
    · rw [if_pos h4, if_pos (by omega)]
    · rw [if_neg h4, if_neg (by omega)]; congr 1; omega
  · rw [if_neg h, if_neg (by omega)]; congr 1; omega

theorem back2_sh (b : ℕ) (z : ℕ → ℕ → ℝ) (r c : ℕ) (hr : r < 512) :
    (if r < 2 then (if b % 4 = 0 then 0 else z (512 * b - 16 + (14 + r)) c) else sh (512 * b) z (r - 2) c) = sh (512 * b) (back2 z) r c := by
  simp only [back2, sh]
  by_cases h : r < 2
  · rw [if_pos h]
    by_cases h4 : b % 4 = 0
    · rw [if_pos h4, if_pos (by omega)]
    · rw [if_neg h4, if_neg (by omega)]; congr 1; omega
  · rw [if_neg h, if_neg (by omega)]; congr 1; omega

theorem fore1_sh (b : ℕ) (d : ℕ → ℕ → ℝ) (r c : ℕ) (hr : r < 512) :
    (if r < 511 then sh (512 * b) d (r + 1) c else (if b % 4 = 3 then 0 else sh (512 * (b + 1)) d 0 c)) = sh (512 * b) (fore1 d) r c := by
  simp only [fore1, sh]
  by_cases h : r < 511
  · rw [if_pos h, if_pos (by omega)]; rfl
  · rw [if_neg h]
    by_cases h4 : b % 4 = 3
    · rw [if_pos h4, if_neg (by omega)]
    · rw [if_neg h4, if_pos (by omega)]; congr 1; omega

theorem fore2_sh (b : ℕ) (d : ℕ → ℕ → ℝ) (r c : ℕ) (hr : r < 512) :
    (if r < 510 then sh (512 * b) d (r + 2) c else (if b % 4 = 3 then 0 else sh (512 * (b + 1)) d (r - 510) c)) = sh (512 * b) (fore2 d) r c := by
  simp only [fore2, sh]
  by_cases h : r < 510
  · rw [if_pos h, if_pos (by omega)]; rfl
  · rw [if_neg h]
    by_cases h4 : b % 4 = 3
    · rw [if_pos h4, if_neg (by omega)]
    · rw [if_neg h4, if_pos (by omega)]; congr 1; omega

end Cert.Spec

end
-- ==== Proof.Even.BlockRead.lean ====
/- A point's block at the extended reals, where the arguments are real. -/
module

public import proofs.«01_k».proof.Proof.Even.Block
public import proofs.«01_k».proof.Proof.Even.Read
public import proofs.«01_k».proof.Proof.Even.Spec
public import Idealize.ShloMosaic.Lib.Pipeline.ValueKit.Tiles

@[expose] public section

noncomputable section

namespace Cert.KernelIdeal.Even

open Idealize.ShloMosaic Idealize.ShloMosaic.Pointwise
open Cert.Spec (sh In)
open Facts

/-- The blocks of block `b`. -/
structure IsB (I : In) (b : ℕ) (B : Blk Ideal) : Prop where
  x : ∀ (i : Fin 512) (j : Fin 1024), B.x (ix2 i j) = ((sh (512 * b) I.x i j : ℝ) : EReal)
  p : ∀ (i : Fin 512) (j : Fin 2560), B.p (ix2 i j) = ((sh (512 * b) I.P i j : ℝ) : EReal)
  pt : ∀ (i : Fin 16) (j : Fin 2560), B.pt (ix2 i j) = ((sh (512 * b - 16) I.P i j : ℝ) : EReal)
  ct : ∀ (i : Fin 512) (j : Fin 1024), B.ct (ix2 i j) = ((sh (512 * b) I.ct i j : ℝ) : EReal)
  g : ∀ (i : Fin 1) (j : Fin 1024), B.g (ix2 i j) = ((I.g j : ℝ) : EReal)
  wi : ∀ (a : Fin 8) (i : Fin 320) (j : Fin 1024), B.wi (ix3 a i j) = ((I.win j (320 * a + i) : ℝ) : EReal)
  wo : ∀ (a : Fin 8) (i : Fin 128) (j : Fin 1024), B.wo (ix3 a i j) = ((I.wo (128 * a + i) j : ℝ) : EReal)
  lg : ∀ (i : Fin 1) (j : Fin 512), B.lg (ix2 i j) = ((I.lg j : ℝ) : EReal)
  w : ∀ (a : Fin 4) (i j : Fin 128), B.w (ix3 a i j) = ((I.w a i j : ℝ) : EReal)
  b : ∀ (i : Fin 128) (j : Fin 128), (j : ℕ) < 4 → B.b (ix2 i j) = ((I.b j i : ℝ) : EReal)
  cw : ∀ (i : Fin 8) (j : Fin 512), (i : ℕ) < 3 → B.cw (ix2 i j) = ((I.cw i j : ℝ) : EReal)

/-- A head is where its number says. -/
structure HdOk (H : Hd) : Prop where
  o : H.o = 128 * H.n
  n : H.n < 4

theorem ok0 : HdOk hd0 := ⟨rfl, by decide⟩
theorem ok1 : HdOk hd1 := ⟨rfl, by decide⟩
theorem ok2 : HdOk hd2 := ⟨rfl, by decide⟩
theorem ok3 : HdOk hd3 := ⟨rfl, by decide⟩

namespace IsB

variable {I : In} {b : ℕ} {B : Blk Ideal} (hB : IsB I b B) {H : Hd} (hH : HdOk H)
include hB

theorem dm (i : Fin 512) (j : Fin 1024) : B.dm (ix2 i j) = ((sh (512 * b) I.dm i j : ℝ) : EReal) := K.dmix_r hB.ct hB.wo i j
theorem da (i : Fin 512) (j : Fin 512) : B.da (ix2 i j) = ((sh (512 * b) I.da i j : ℝ) : EReal) := K.half_r 0 _ hB.dm i j
theorem db (i : Fin 512) (j : Fin 512) : B.db (ix2 i j) = ((sh (512 * b) I.db i j : ℝ) : EReal) := K.half_r 512 _ hB.dm i j
theorem u (i : Fin 512) (j : Fin 512) : B.u (ix2 i j) = ((sh (512 * b) I.u i j : ℝ) : EReal) := K.grp_r 0 _ hB.p i j
theorem v (i : Fin 512) (j : Fin 512) : B.v (ix2 i j) = ((sh (512 * b) I.v i j : ℝ) : EReal) := K.grp_r 512 _ hB.p i j
theorem bg (i : Fin 512) (j : Fin 512) : B.bg (ix2 i j) = ((sh (512 * b) I.bg i j : ℝ) : EReal) := K.grp_r 1024 _ hB.p i j
theorem cg (i : Fin 512) (j : Fin 512) : B.cg (ix2 i j) = ((sh (512 * b) I.cg i j : ℝ) : EReal) := K.grp_r 1536 _ hB.p i j
theorem hv (i : Fin 512) (j : Fin 512) : B.hv (ix2 i j) = ((sh (512 * b) I.hv i j : ℝ) : EReal) := K.grp_r 2048 _ hB.p i j
theorem gu (i : Fin 512) (j : Fin 512) : B.gu (ix2 i j) = ((sh (512 * b) I.gu i j : ℝ) : EReal) := K.gelu_r hB.u i j
theorem gv (i : Fin 512) (j : Fin 512) : B.gv (ix2 i j) = ((sh (512 * b) I.gv i j : ℝ) : EReal) := K.gelu_r hB.v i j
theorem tap0 (i : Fin 1) (j : Fin 512) : B.tap0 (ix2 i j) = ((I.cw 0 j : ℝ) : EReal) :=
  (View.ld_unit_apply_of B.cw _ _ _ (ix2 i j) (ix2 0 j) (by intro a; fin_cases a <;> simp [ix2])).trans (hB.cw 0 j (by decide))
theorem tap1 (i : Fin 1) (j : Fin 512) : B.tap1 (ix2 i j) = ((I.cw 1 j : ℝ) : EReal) :=
  (View.ld_unit_apply_of B.cw _ _ _ (ix2 i j) (ix2 1 j) (by intro a; fin_cases a <;> simp [ix2])).trans (hB.cw 1 j (by decide))
theorem tap2 (i : Fin 1) (j : Fin 512) : B.tap2 (ix2 i j) = ((I.cw 2 j : ℝ) : EReal) :=
  (View.ld_unit_apply_of B.cw _ _ _ (ix2 i j) (ix2 2 j) (by intro a; fin_cases a <;> simp [ix2])).trans (hB.cw 2 j (by decide))

include hH

theorem lgH (i : Fin 1) (j : Fin 128) : B.lgH H (ix2 i j) = ((I.lgH H.n j : ℝ) : EReal) := by
  have h := j.isLt; have h4 := hH.n; have ho := hH.o
  refine (View.ld_unit_apply_of B.lg _ _ _ (ix2 i j) (ix2 0 ⟨128 * H.n + j, by omega⟩) ?_).trans (hB.lg 0 _)
  intro a; fin_cases a <;> simp [ix2, ho]
theorem wH (a : Fin 1) (i j : Fin 128) : B.wH H (ix3 a i j) = ((I.w H.n i j : ℝ) : EReal) := by
  have h4 := hH.n
  refine (View.ld_unit_apply_of B.w _ _ _ (ix3 a i j) (ix3 ⟨H.n, h4⟩ i j) ?_).trans (hB.w ⟨H.n, h4⟩ i j)
  intro a; fin_cases a <;> simp [ix3]
theorem bH (i : Fin 128) (j : Fin 1) : B.bH H (ix2 i j) = ((I.b H.n i : ℝ) : EReal) := by
  have h4 := hH.n
  refine (View.ld_unit_apply_of B.b _ _ _ (ix2 i j) (ix2 i ⟨H.n, by omega⟩) ?_).trans (hB.b i ⟨H.n, by omega⟩ h4)
  intro a; fin_cases a <;> simp [ix2]
theorem xc (i : Fin 512) (j : Fin 128) : B.xc H (ix2 i j) = ((sh (512 * b) (I.xc H.n) i j : ℝ) : EReal) := by
  refine (K.xc_r H.o H.s hB.gv i j).trans ?_; rw [hH.o]; rfl
theorem rr (i : Fin 512) (j : Fin 1) : B.rr H (ix2 i j) = ((I.rr H.n (512 * b + i) : ℝ) : EReal) := K.rr_r (hB.xc hH) i j
theorem xh (i : Fin 512) (j : Fin 128) : B.xh H (ix2 i j) = ((sh (512 * b) (I.xh H.n) i j : ℝ) : EReal) := K.xh_r (hB.xc hH) i j
theorem vn (i : Fin 512) (j : Fin 128) : B.vn H (ix2 i j) = ((sh (512 * b) (I.vn H.n) i j : ℝ) : EReal) := K.vnb_r (hB.xh hH) (hB.lgH hH) i j
theorem wm (i : Fin 128) (j : Fin 128) : B.wm H (ix2 i j) = ((I.wm H.n i j : ℝ) : EReal) := K.wm_r (hB.wH hH) i j
theorem mx (i : Fin 512) (j : Fin 128) : B.mx H (ix2 i j) = ((sh (512 * b) (I.mx H.n) i j : ℝ) : EReal) :=
  (K.mixedH_r (hB.wm hH) (hB.vn hH) (hB.bH hH) i j).trans (congrArg _ (Spec.mixed_sh _ _ _ _ _ _))
theorem dvn (i : Fin 512) (j : Fin 128) : B.dvn H (ix2 i j) = ((sh (512 * b) (I.dvn H.n) i j : ℝ) : EReal) := by
  refine (K.dvnH_r H.o H.c0 H.c1 H.c2 H.c3 (hB.wm hH) hB.da hB.gu i j).trans ?_
  rw [hH.o]; exact congrArg _ (Spec.dvn_sh b (I.wm H.n) (I.dmx H.n) i j)
theorem dw (i : Fin 128) (j : Fin 128) : B.dw H (ix2 i j) = ((if (j : ℕ) ≤ i then ∑ c : Fin 4, I.pw H.n i j (4 * b + c) else 0 : ℝ) : EReal) := by
  refine (K.dwH_r H.o H.c0 H.c1 H.c2 H.c3 hB.da hB.gu (hB.vn hH) i j).trans ?_
  rw [hH.o]
  refine congrArg _ (if_congr Iff.rfl (Finset.sum_congr rfl fun c _ => Finset.sum_congr rfl fun e _ => ?_) rfl)
  simp only [In.dmx, Spec.mul, Spec.grp, sh]
  rw [show 512 * b + (128 * (c : ℕ) + i) = 128 * (4 * b + c) + i by ring, show 512 * b + (128 * (c : ℕ) + j) = 128 * (4 * b + c) + j by ring]
theorem dbs (i : Fin 128) (j : Fin 1) : B.dbs H (ix2 i j) = ((∑ c : Fin 4, I.pb H.n i (4 * b + c) : ℝ) : EReal) := by
  refine (K.dbH_r H.o H.c0 H.c1 H.c2 H.c3 hB.da hB.gu i j).trans ?_
  rw [hH.o]
  refine congrArg _ (Finset.sum_congr rfl fun c _ => Finset.sum_congr rfl fun e _ => ?_)
  simp only [In.dmx, Spec.mul, Spec.grp, sh]
  rw [show 512 * b + (128 * (c : ℕ) + i) = 128 * (4 * b + c) + i by ring]
theorem dlg (i : Fin 1) (j : Fin 128) : B.dlg H (ix2 i j) = ((∑ r : Fin 512, I.pl H.n (512 * b + r) j : ℝ) : EReal) :=
  K.dlgH_r (hB.dvn hH) (hB.xh hH) i j
theorem dgv (i : Fin 512) (j : Fin 128) : B.dgv H (ix2 i j) = ((sh (512 * b) (I.dgv H.n) i j : ℝ) : EReal) :=
  K.dgvH_r (Q := fun r => I.rr H.n (512 * b + r)) (hB.dvn hH) (hB.lgH hH) (hB.xh hH) (hB.rr hH) i j
theorem a (i : Fin 512) (j : Fin 128) : B.a H (ix2 i j) = ((sh (512 * b) (I.a H.n) i j : ℝ) : EReal) := by
  refine (K.aH_r H.o H.s hB.gu (hB.mx hH) i j).trans ?_; rw [hH.o]; rfl
theorem du (i : Fin 512) (j : Fin 128) : B.du H (ix2 i j) = ((sh (512 * b) (I.du H.n) i j : ℝ) : EReal) := by
  refine (K.duH_r H.o H.s hB.da (hB.mx hH) hB.u i j).trans ?_; rw [hH.o]; rfl
theorem dv (i : Fin 512) (j : Fin 128) : B.dv H (ix2 i j) = ((sh (512 * b) (I.dv H.n) i j : ℝ) : EReal) := by
  refine (K.dvH_r H.o H.s (hB.dgv hH) hB.v i j).trans ?_; rw [hH.o]; rfl

omit hH

theorem z (i : Fin 512) (j : Fin 512) : B.z (ix2 i j) = ((sh (512 * b) I.z i j : ℝ) : EReal) := K.z_r hB.cg hB.hv i j
theorem dy (i : Fin 512) (j : Fin 512) : B.dy (ix2 i j) = ((sh (512 * b) I.dy i j : ℝ) : EReal) := K.dy_r hB.db hB.bg i j

variable {k : BitVec 32} (hk : K.tailBit k = if b % 4 = 0 then 1#1 else 0#1)
include hk

theorem tl (i : Fin 16) (j : Fin 512) : K.tail k B.pt (ix2 i j) = ((if b % 4 = 0 then 0 else sh (512 * b - 16) I.z i j : ℝ) : EReal) :=
  K.tail_r k (b % 4 = 0) hk hB.pt i j
theorem z1 (i : Fin 512) (j : Fin 512) : B.z1 k (ix2 i j) = ((sh (512 * b) (Spec.back1 I.z) i j : ℝ) : EReal) :=
  (K.zs1_r (T := fun i j => if b % 4 = 0 then 0 else sh (512 * b - 16) I.z i j) (hB.tl hk) hB.z i j).trans
    (congrArg _ (Spec.back1_sh b I.z i j i.isLt))
theorem z2 (i : Fin 512) (j : Fin 512) : B.z2 k (ix2 i j) = ((sh (512 * b) (Spec.back2 I.z) i j : ℝ) : EReal) :=
  (K.zs2_r (T := fun i j => if b % 4 = 0 then 0 else sh (512 * b - 16) I.z i j) (hB.tl hk) hB.z i j).trans
    (congrArg _ (Spec.back2_sh b I.z i j i.isLt))
theorem y (i : Fin 512) (j : Fin 512) : B.y k (ix2 i j) = ((sh (512 * b) I.y i j : ℝ) : EReal) :=
  K.y_r hB.z (hB.z1 hk) (hB.z2 hk) hB.tap2 hB.tap1 hB.tap0 i j

omit hk
variable {hr : Vec Ideal S16x512 .f32} (hk' : K.headBit k = if b % 4 = 3 then 1#1 else 0#1)
  (hhr : ¬ b % 4 = 3 → ∀ (i : Fin 16) (j : Fin 512), hr (ix2 i j) = ((sh (512 * (b + 1)) I.dy i j : ℝ) : EReal))
include hk' hhr

theorem hd (i : Fin 16) (j : Fin 512) : K.headRows k hr (ix2 i j) = ((if b % 4 = 3 then 0 else sh (512 * (b + 1)) I.dy i j : ℝ) : EReal) :=
  K.headRows_r k (b % 4 = 3) hk' hhr i j
theorem dz (i : Fin 512) (j : Fin 512) : B.dz k hr (ix2 i j) = ((sh (512 * b) I.dz i j : ℝ) : EReal) := by
  refine (K.dz_r (T := fun i j => if b % 4 = 3 then 0 else sh (512 * (b + 1)) I.dy i j) hB.dy (hB.hd hk' hhr) hB.tap2 hB.tap1 hB.tap0 i j).trans (congrArg _ ?_)
  simp only [In.dz, Spec.taps]
  rw [Spec.fore1_sh b I.dy i j i.isLt, Spec.fore2_sh b I.dy i j i.isLt]; rfl

include hk

theorem dproj (i : Fin 512) (j : Fin 2560) : B.dproj k hr (ix2 i j) = ((sh (512 * b) I.dproj i j : ℝ) : EReal) := by
  have hj := j.isLt
  unfold Blk.dproj Blk.pcs
  canon_tiles x h using View.cover_of_tiledBy _ ![512, 128] (by sl_kernel_rfl) (ix2 i j)
  all_goals
    rw [eq_ix2 x]
    replace h0 : (i : ℕ) = x 0 := h0
    simp only [sh, In.dproj]
    rw [h0]
  · replace h1 : (j : ℕ) = 2048 + x 1 := h1
    refine (K.prod_r (hB.dz hk' hhr) hB.cg _ _).trans (congrArg _ ?_)
    rw [h1, if_neg (by omega), if_neg (by omega), if_neg (by omega), if_neg (by omega), Nat.add_sub_cancel_left]; rfl
  · replace h1 : (j : ℕ) = 1536 + x 1 := h1
    refine (K.prod_r (hB.dz hk' hhr) hB.hv _ _).trans (congrArg _ ?_)
    rw [h1, if_neg (by omega), if_neg (by omega), if_neg (by omega), if_pos (by omega), Nat.add_sub_cancel_left]; rfl
  · replace h1 : (j : ℕ) = 1024 + x 1 := h1
    refine (K.gatedY_r hB.db (hB.y hk) _ _).trans (congrArg _ ?_)
    rw [h1, if_neg (by omega), if_neg (by omega), if_pos (by omega), Nat.add_sub_cancel_left]; rfl
  · replace h1 : (j : ℕ) = 512 + x 1 := h1
    have e0 : ∀ (i : Fin 512) (j : Fin 128), B.dv hd0 (ix2 i j) = ((sh (512 * b) (I.dv 0) i j : ℝ) : EReal) := hB.dv ok0
    have e1 : ∀ (i : Fin 512) (j : Fin 128), B.dv hd1 (ix2 i j) = ((sh (512 * b) (I.dv 1) i j : ℝ) : EReal) := hB.dv ok1
    have e2 : ∀ (i : Fin 512) (j : Fin 128), B.dv hd2 (ix2 i j) = ((sh (512 * b) (I.dv 2) i j : ℝ) : EReal) := hB.dv ok2
    have e3 : ∀ (i : Fin 512) (j : Fin 128), B.dv hd3 (ix2 i j) = ((sh (512 * b) (I.dv 3) i j : ℝ) : EReal) := hB.dv ok3
    refine (K.cat4_r (A := fun n => sh (512 * b) (I.dv n)) e0 e1 e2 e3 _ _).trans (congrArg _ ?_)
    rw [h1, if_neg (by omega), if_pos (by omega), Nat.add_sub_cancel_left]; rfl
  · replace h1 : (j : ℕ) = 384 + x 1 := h1
    refine (hB.du ok3 _ _).trans (congrArg _ ?_)
    rw [h1, if_pos (by omega), show (384 + (x 1 : ℕ)) / 128 = 3 by omega, show (384 + (x 1 : ℕ)) % 128 = x 1 by omega]; rfl
  · replace h1 : (j : ℕ) = 256 + x 1 := h1
    refine (hB.du ok2 _ _).trans (congrArg _ ?_)
    rw [h1, if_pos (by omega), show (256 + (x 1 : ℕ)) / 128 = 2 by omega, show (256 + (x 1 : ℕ)) % 128 = x 1 by omega]; rfl
  · replace h1 : (j : ℕ) = 128 + x 1 := h1
    refine (hB.du ok1 _ _).trans (congrArg _ ?_)
    rw [h1, if_pos (by omega), show (128 + (x 1 : ℕ)) / 128 = 1 by omega, show (128 + (x 1 : ℕ)) % 128 = x 1 by omega]; rfl
  · replace h1 : (j : ℕ) = x 1 := h1
    refine (hB.du ok0 _ _).trans (congrArg _ ?_)
    rw [h1, if_pos (by omega), show ((x 1 : ℕ)) / 128 = 0 by omega, show ((x 1 : ℕ)) % 128 = x 1 by omega]; rfl

theorem mix (i : Fin 512) (j : Fin 1024) : B.mix k (ix2 i j) = ((sh (512 * b) I.mix i j : ℝ) : EReal) := by
  have hj := j.isLt
  unfold Blk.mix
  canon_tiles x h
  all_goals
    rw [eq_ix2 x]
    replace h0 : (i : ℕ) = x 0 := h0
    simp only [sh, In.mix]
    rw [h0]
  · replace h1 : (j : ℕ) = 512 + x 1 := h1
    refine (K.gatedY_r hB.bg (hB.y hk) _ _).trans (congrArg _ ?_)
    rw [h1, if_neg (by omega), Nat.add_sub_cancel_left]; rfl
  · replace h1 : (j : ℕ) = x 1 := h1
    have e0 : ∀ (i : Fin 512) (j : Fin 128), B.a hd0 (ix2 i j) = ((sh (512 * b) (I.a 0) i j : ℝ) : EReal) := hB.a ok0
    have e1 : ∀ (i : Fin 512) (j : Fin 128), B.a hd1 (ix2 i j) = ((sh (512 * b) (I.a 1) i j : ℝ) : EReal) := hB.a ok1
    have e2 : ∀ (i : Fin 512) (j : Fin 128), B.a hd2 (ix2 i j) = ((sh (512 * b) (I.a 2) i j : ℝ) : EReal) := hB.a ok2
    have e3 : ∀ (i : Fin 512) (j : Fin 128), B.a hd3 (ix2 i j) = ((sh (512 * b) (I.a 3) i j : ℝ) : EReal) := hB.a ok3
    refine (K.cat4_r (A := fun n => sh (512 * b) (I.a n)) e0 e1 e2 e3 _ _).trans (congrArg _ ?_)
    rw [h1, if_pos (by omega)]; rfl

theorem dh (i : Fin 512) (j : Fin 1024) : B.dh k hr (ix2 i j) = ((sh (512 * b) I.dh i j : ℝ) : EReal) :=
  K.dh_r (hB.dproj hk hk' hhr) hB.wi i j
theorem dx (i : Fin 512) (j : Fin 1024) : K.dxo B.x B.g B.ct (B.dh k hr) (ix2 i j) = ((sh (512 * b) I.dx i j : ℝ) : EReal) :=
  K.dxo_r hB.x hB.g hB.ct (hB.dh hk hk' hhr) i j
theorem dgam (i : Fin 1) (j : Fin 1024) : K.dgamC B.x (B.dh k hr) (ix2 i j) = ((∑ r : Fin 512, I.pg (512 * b + r) j : ℝ) : EReal) :=
  K.dgamC_r hB.x (hB.dh hk hk' hhr) i j

end IsB

end Cert.KernelIdeal.Even

end
-- ==== Proof.Even.Host.lean ====
/- What the call's arrays hold when it starts, where the arguments are real. -/
module

public import proofs.«01_k».proof.Proof.Even.Spec
public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Even

open Cert.KernelIdeal.Gen
open Idealize.ShloMosaic Idealize.ShloMosaic.TcCoe Idealize.ShloMosaic.Pointwise
open Idealize.SL.Sem
open Cert.Spec (csum cdiv cerf cexp d1024 d128 r1024 r128 c_eps c_1024 c_128 c_half c_mhalf)
open Cert.Spec (sh In)

/-- The arguments are the reals `I`. -/
structure IsIn (I : In) (m : (ℓ : Loc nD τ sig) → Buf (Elt Ideal) ℓ) (c : Dev nD) : Prop where
  x : ∀ (a : Fin 2) (i : Fin 2048) (j : Fin 1024), (m ((c : Thread nD τ).loc main_arg0) : Vec Ideal S2x2048x1024 .f32) (ix3 a i j) = ((I.x (2048 * a + i) j : ℝ) : EReal)
  g : ∀ j : Fin 1024, (m ((c : Thread nD τ).loc main_arg1) : Vec Ideal S1024 .f32) (ix1 j) = ((I.g j : ℝ) : EReal)
  win : ∀ (i : Fin 1024) (j : Fin 2560), (m ((c : Thread nD τ).loc main_arg2) : Vec Ideal S1024x2560 .f32) (ix2 i j) = ((I.win i j : ℝ) : EReal)
  lg : ∀ j : Fin 512, (m ((c : Thread nD τ).loc main_arg3) : Vec Ideal S512 .f32) (ix1 j) = ((I.lg j : ℝ) : EReal)
  w : ∀ (a : Fin 4) (i j : Fin 128), (m ((c : Thread nD τ).loc main_arg4) : Vec Ideal S4x128x128 .f32) (ix3 a i j) = ((I.w a i j : ℝ) : EReal)
  b : ∀ (i : Fin 4) (j : Fin 128), (m ((c : Thread nD τ).loc main_arg5) : Vec Ideal S4x128 .f32) (ix2 i j) = ((I.b i j : ℝ) : EReal)
  cw : ∀ (i : Fin 3) (j : Fin 512), (m ((c : Thread nD τ).loc main_arg6) : Vec Ideal S3x512 .f32) (ix2 i j) = ((I.cw i j : ℝ) : EReal)
  wo : ∀ (i j : Fin 1024), (m ((c : Thread nD τ).loc main_arg7) : Vec Ideal S1024x1024 .f32) (ix2 i j) = ((I.wo i j : ℝ) : EReal)
  ct : ∀ (a : Fin 2) (i : Fin 2048) (j : Fin 1024), (m ((c : Thread nD τ).loc main_arg8) : Vec Ideal S2x2048x1024 .f32) (ix3 a i j) = ((I.ct (2048 * a + i) j : ℝ) : EReal)

variable {I : In} {m : (ℓ : Loc nD τ sig) → Buf (Elt Ideal) ℓ} {c : Dev nD} (h : IsIn I m c)
include h

theorem V_x (i : Fin 4096) (j : Fin 1024) : (V m c main_v0 : Vec Ideal S4096x1024 .f32) (ix2 i j) = ((I.x i j : ℝ) : EReal) := by
  simp only [V, hostOps0, hostOps0_1, hostOps0_2, hostOps0_3, hostOps0_4, List.flatten_cons, List.flatten_nil, List.append_nil, List.cons_append, List.nil_append]
  after_results
  pointwise
  simp only [h.x, Nat.div_add_mod]

theorem V_ct (i : Fin 4096) (j : Fin 1024) : (V m c main_v24 : Vec Ideal S4096x1024 .f32) (ix2 i j) = ((I.ct i j : ℝ) : EReal) := by
  simp only [V, hostOps0, hostOps0_1, hostOps0_2, hostOps0_3, hostOps0_4, List.flatten_cons, List.flatten_nil, List.append_nil, List.cons_append, List.nil_append]
  after_results
  pointwise
  simp only [h.ct, Nat.div_add_mod]

theorem V_P (i : Fin 4096) (j : Fin 2560) : (V m c main_v15 : Vec Ideal S4096x2560 .bf16) (ix2 i j) = ((I.P i j : ℝ) : EReal) := by
  simp only [V, hostOps0, hostOps0_1, hostOps0_2, hostOps0_3, hostOps0_4, List.flatten_cons, List.flatten_nil, List.append_nil, List.cons_append, List.nil_append]
  after_results
  pointwise
  simp only [h.x, h.g, h.win, Nat.div_add_mod, csum, d1024, d128, r1024, r128, c_eps, c_1024, ← EReal.coe_mul, ← EReal.coe_add, ← EReal.coe_sub, ← EReal.coe_one, ← EReal.coe_zero]
  all_goals rfl

theorem V_g (i : Fin 1) (j : Fin 1024) : (V m c main_v25 : Vec Ideal S1x1024 .f32) (ix2 i j) = ((I.g j : ℝ) : EReal) := by
  simp only [V, hostOps0, hostOps0_1, hostOps0_2, hostOps0_3, hostOps0_4, List.flatten_cons, List.flatten_nil, List.append_nil, List.cons_append, List.nil_append]
  after_results
  pointwise
  simp only [h.g]

theorem V_lg (i : Fin 1) (j : Fin 512) : (V m c main_v26 : Vec Ideal S1x512 .f32) (ix2 i j) = ((I.lg j : ℝ) : EReal) := by
  simp only [V, hostOps0, hostOps0_1, hostOps0_2, hostOps0_3, hostOps0_4, List.flatten_cons, List.flatten_nil, List.append_nil, List.cons_append, List.nil_append]
  after_results
  pointwise
  simp only [h.lg]

theorem V_wi (a : Fin 8) (i : Fin 320) (j : Fin 1024) : (V m c main_v18 : Vec Ideal S8x320x1024 .bf16) (ix3 a i j) = ((I.win j (320 * a + i) : ℝ) : EReal) := by
  simp only [V, hostOps0, hostOps0_1, hostOps0_2, hostOps0_3, hostOps0_4, List.flatten_cons, List.flatten_nil, List.append_nil, List.cons_append, List.nil_append]
  after_results
  pointwise
  simp only [h.win, Nat.mul_comm (320 : ℕ), Nat.mul_comm 320]

theorem V_wo (a : Fin 8) (i : Fin 128) (j : Fin 1024) : (V m c main_v20 : Vec Ideal S8x128x1024 .bf16) (ix3 a i j) = ((I.wo (128 * a + i) j : ℝ) : EReal) := by
  simp only [V, hostOps0, hostOps0_1, hostOps0_2, hostOps0_3, hostOps0_4, List.flatten_cons, List.flatten_nil, List.append_nil, List.cons_append, List.nil_append]
  after_results
  pointwise
  simp only [h.wo, Nat.mul_comm 128]

theorem V_w (a : Fin 4) (i j : Fin 128) : (V m c main_arg4 : Vec Ideal S4x128x128 .f32) (ix3 a i j) = ((I.w a i j : ℝ) : EReal) := by
  rw [V_main_arg4]; exact h.w a i j

theorem V_b (i j : Fin 128) (hj : (j : ℕ) < 4) : (V m c main_v22 : Vec Ideal S128x128 .f32) (ix2 i j) = ((I.b j i : ℝ) : EReal) := by
  simp only [V, hostOps0, hostOps0_1, hostOps0_2, hostOps0_3, hostOps0_4, List.flatten_cons, List.flatten_nil, List.append_nil, List.cons_append, List.nil_append]
  after_results
  refine Eq.trans (b := (pad S128x128 ![0, 0] ![0, 124] ![0, 0] (transpose S128x4 [1, 0] (m ((c : Thread nD τ).loc main_arg5) : Vec Ideal S4x128 .f32) transposes_S4x128_S128x4_1_0) (sitofp (F := Ideal) FTy.f32 (constantI S_ 32 0#32)) pads_S128x4_S128x128_000_01240 h_S_ : Vec Ideal S128x128 .f32) (ix2 i j)) rfl ?_
  pointwise
  rw [dif_pos (by omega)]
  exact h.b ⟨j, hj⟩ i

theorem V_cw (i : Fin 8) (j : Fin 512) (hi : (i : ℕ) < 3) : (V m c main_v23 : Vec Ideal S8x512 .f32) (ix2 i j) = ((I.cw i j : ℝ) : EReal) := by
  simp only [V, hostOps0, hostOps0_1, hostOps0_2, hostOps0_3, hostOps0_4, List.flatten_cons, List.flatten_nil, List.append_nil, List.cons_append, List.nil_append]
  after_results
  have key : ∀ (x : Vec Ideal S3x512 .f32), (pad S8x512 ![0, 0] ![5, 0] ![0, 0] x (sitofp (F := Ideal) FTy.f32 (constantI S_ 32 0#32)) pads_S3x512_S8x512_050_000 h_S_ : Vec Ideal S8x512 .f32) (ix2 i j) = x (ix2 ⟨i, hi⟩ j) := by
    intro x
    pointwise
    rw [dif_pos (by omega)]
  refine Eq.trans (b := (pad S8x512 ![0, 0] ![5, 0] ![0, 0] (m ((c : Thread nD τ).loc main_arg6) : Vec Ideal S3x512 .f32) (sitofp (F := Ideal) FTy.f32 (constantI S_ 32 0#32)) pads_S3x512_S8x512_050_000 h_S_ : Vec Ideal S8x512 .f32) (ix2 i j)) rfl ?_
  exact (key _).trans (h.cw ⟨i, hi⟩ j)

end Cert.KernelIdeal.Even
-- ==== Proof.Even.Pieces.lean ====
/- What each output holds after a point, as the block's functions. -/
module

public import proofs.«01_k».proof.Proof.Even.Block
public import Idealize.ShloMosaic.Lib.Pipeline.ReadBack
public import Idealize.ShloMosaic.Lib.Pipeline.ValueKit.Acc
@[expose] public section
noncomputable section
namespace Cert.KernelIdeal.Even
open Cert.KernelIdeal.Gen
open Idealize.ShloMosaic Idealize.ShloMosaic.TcCoe Idealize.ShloMosaic.Tactic
variable {F : FTy → Type} [FloatOps F] [Named F]
variable (m : (ℓ : Loc nD τ sig) → Buf (Elt F) ℓ)
set_option maxHeartbeats 2000000
set_option maxRecDepth 16384
/-- The input blocks of point `t`. -/
def blk (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t, iblk m c 10 t⟩
/-- The number of the block of point `t`. -/
def kAt (t : Fin cfg0.N) : BitVec 32 := Scalar.subi 7#32 (BitVec.ofNat 32 (grid0.coords t 0).val)
/-- A read of the whole array after stores. -/
theorem readCov_whole {Val : EltTy → Type} [∀ e, Nonempty (Val e)] {sg : RefSig} {κ : Kind} {sp : Space} {s : Shape} {e : EltTy} (v : View sg κ sp s e) (L : List (View.Piece Val s e)) {off : Fin s.rank → ℕ} (inb : ∀ a, off a + s.size a ≤ s.size a) (h : ∀ a, off a = 0) :
    v.readCov L (Rect.unit off (no_index s.size) inb).toLoadRect = View.canon L :=
  (View.readCov_eq_canon' v L _).trans (View.ld_unit_lit inb (View.canon L) h)

/-- No rows after the block. -/
def zrows : Vec F S16x512 .f32 := broadcast S16x512 (Scalar.ofBits .f32 0x00000000#32)

/-- Output 0 at a later point. -/
theorem outB_0 (c : Dev nD) (t : Fin cfg0.N) (h0 : ¬t.val % 8 = 0) (p : St F) : (outB m c t h0 p).1 = K.dxo (blk m c t).x (blk m c t).g (blk m c t).ct ((blk m c t).dh (kAt t) p.2.2.2.2.2.2.2.2.2) := by
  unfold outB runB
  frame_out
  simp (disch := decide) only [read_unread_whole, readCov_whole]
  sl_kernel_rfl

/-- Output 1 at a later point. -/
theorem outB_1 (c : Dev nD) (t : Fin cfg0.N) (h0 : ¬t.val % 8 = 0) (p : St F) : (outB m c t h0 p).2.1 = (blk m c t).dproj (kAt t) p.2.2.2.2.2.2.2.2.2 := by
  unfold outB runB
  frame_out
  simp (disch := decide) only [read_unread_whole, readCov_whole]
  sl_kernel_rfl

/-- Output 2 at a later point. -/
theorem outB_2 (c : Dev nD) (t : Fin cfg0.N) (h0 : ¬t.val % 8 = 0) (p : St F) : (outB m c t h0 p).2.2.1 = (blk m c t).mix (kAt t) := by
  unfold outB runB
  frame_out
  sl_kernel_rfl

/-- Output 3 at a later point. -/
theorem outB_3 (c : Dev nD) (t : Fin cfg0.N) (h0 : ¬t.val % 8 = 0) (p : St F) : (outB m c t h0 p).2.2.2.1 = K.hid (blk m c t).x (blk m c t).g := by
  unfold outB runB
  frame_out
  sl_kernel_rfl

/-- Output 4 at a later point. -/
theorem outB_4 (c : Dev nD) (t : Fin cfg0.N) (h0 : ¬t.val % 8 = 0) (p : St F) : (outB m c t h0 p).2.2.2.2.1 = (blk m c t).accG (kAt t) p.2.2.2.2.2.2.2.2.2 p.2.2.2.2.1 := by
  unfold outB runB
  frame_out
  simp (disch := decide) only [read_unread_whole, readCov_whole]
  sl_kernel_rfl

/-- Output 5 at a later point. -/
theorem outB_5 (c : Dev nD) (t : Fin cfg0.N) (h0 : ¬t.val % 8 = 0) (p : St F) : (outB m c t h0 p).2.2.2.2.2.1 = View.canon ((blk m c t).pcsW fun H => View.ld p.2.2.2.2.2.1 (Rect.unit (s := S4x128x128) ![H.n, 0, 0] S1x128x128.size H.iw)) := by
  unfold outB runB
  frame_out
  sl_kernel_rfl

/-- Output 6 at a later point. -/
theorem outB_6 (c : Dev nD) (t : Fin cfg0.N) (h0 : ¬t.val % 8 = 0) (p : St F) : (outB m c t h0 p).2.2.2.2.2.2.1 = (ms0_17 t).view.read (Elt F) ((ms0_17 t).view.writes (Elt F) ((hs0_17 t).unread p.2.2.2.2.2.2.1) ((blk m c t).pcsB fun H => View.ld p.2.2.2.2.2.2.1 (Rect.unit (s := S128x128) ![0, H.n] S128x1.size H.ib))) := by
  unfold outB runB
  frame_out
  sl_kernel_rfl

/-- Output 7 at a later point. -/
theorem outB_7 (c : Dev nD) (t : Fin cfg0.N) (h0 : ¬t.val % 8 = 0) (p : St F) : (outB m c t h0 p).2.2.2.2.2.2.2.1 = View.canon ((blk m c t).pcsL fun H => View.ld p.2.2.2.2.2.2.2.1 (Rect.unit (s := S1x512) ![0, H.o] S1x128.size H.il)) := by
  unfold outB runB
  frame_out
  sl_kernel_rfl

/-- Output 8 at a later point. -/
theorem outB_8 (c : Dev nD) (t : Fin cfg0.N) (h0 : ¬t.val % 8 = 0) (p : St F) : (outB m c t h0 p).2.2.2.2.2.2.2.2.1 = (ms0_19 t).view.read (Elt F) ((ms0_19 t).view.writes (Elt F) ((hs0_19 t).unread p.2.2.2.2.2.2.2.2.1) ((blk m c t).pcsC (kAt t) (View.ld p.2.2.2.2.2.2.2.2.1 (Rect.unit (s := S8x512) ![0, 0] S1x512.size inb_S8x512_S1x512_0_0)) (View.ld p.2.2.2.2.2.2.2.2.1 (Rect.unit (s := S8x512) ![1, 0] S1x512.size inb_S8x512_S1x512_1_0)) (View.ld p.2.2.2.2.2.2.2.2.1 (Rect.unit (s := S8x512) ![2, 0] S1x512.size inb_S8x512_S1x512_2_0)))) := by
  unfold outB runB
  frame_out
  sl_kernel_rfl

/-- Output 9 at a later point. -/
theorem outB_9 (c : Dev nD) (t : Fin cfg0.N) (h0 : ¬t.val % 8 = 0) (p : St F) : (outB m c t h0 p).2.2.2.2.2.2.2.2.2 = K.carry (blk m c t).dy := by
  unfold outB runB
  frame_out
  sl_kernel_rfl

/-- Output 0 at the first point. -/
theorem outA_0 (c : Dev nD) (t : Fin cfg0.N) (h0 : t.val % 8 = 0) : (outA m c t h0).1 = K.dxo (blk m c t).x (blk m c t).g (blk m c t).ct ((blk m c t).dh (kAt t) zrows) := by
  unfold outA runA
  frame_out
  simp (disch := decide) only [read_unread_whole, readCov_whole]
  sl_kernel_rfl

/-- Output 1 at the first point. -/
theorem outA_1 (c : Dev nD) (t : Fin cfg0.N) (h0 : t.val % 8 = 0) : (outA m c t h0).2.1 = (blk m c t).dproj (kAt t) zrows := by
  unfold outA runA
  frame_out
  sl_kernel_rfl

/-- Output 2 at the first point. -/
theorem outA_2 (c : Dev nD) (t : Fin cfg0.N) (h0 : t.val % 8 = 0) : (outA m c t h0).2.2.1 = (blk m c t).mix (kAt t) := by
  unfold outA runA
  frame_out
  sl_kernel_rfl

/-- Output 3 at the first point. -/
theorem outA_3 (c : Dev nD) (t : Fin cfg0.N) (h0 : t.val % 8 = 0) : (outA m c t h0).2.2.2.1 = K.hid (blk m c t).x (blk m c t).g := by
  unfold outA runA
  frame_out
  sl_kernel_rfl

/-- Output 4 at the first point. -/
theorem outA_4 (c : Dev nD) (t : Fin cfg0.N) (h0 : t.val % 8 = 0) : (outA m c t h0).2.2.2.2.1 = (blk m c t).accG (kAt t) zrows k0_pay1 := by
  unfold outA runA
  frame_out
  simp (disch := decide) only [read_unread_whole, readCov_whole]
  sl_kernel_rfl

/-- Output 5 at the first point. -/
theorem outA_5 (c : Dev nD) (t : Fin cfg0.N) (h0 : t.val % 8 = 0) : (outA m c t h0).2.2.2.2.2.1 = View.canon ((blk m c t).pcsW (fun H => View.ld k0_pay2 (Rect.unit (s := S4x128x128) ![H.n, 0, 0] S1x128x128.size H.iw)) ++ [⟨Rect.unit (s := S4x128x128) ![0, 0, 0] S4x128x128.size inb_S4x128x128_S4x128x128_0_0_0, k0_pay2⟩]) := by
  unfold outA runA
  frame_open
  simp (disch := decide) only [↓ View.readCov_skip, ↓ View.readCov_cons_toLoadRect, ↓ View.readCov_fill]
  frame_out
  sl_kernel_rfl

/-- Output 6 at the first point. -/
theorem outA_6 (c : Dev nD) (t : Fin cfg0.N) (h0 : t.val % 8 = 0) : (outA m c t h0).2.2.2.2.2.2.1 = View.canon ((blk m c t).pcsB (fun H => View.ld k0_pay3 (Rect.unit (s := S128x128) ![0, H.n] S128x1.size H.ib)) ++ [⟨Rect.unit (s := S128x128) ![0, 0] S128x128.size inb_S128x128_S128x128_0_0, k0_pay3⟩]) := by
  unfold outA runA
  frame_open
  simp (disch := decide) only [↓ View.readCov_skip, ↓ View.readCov_cons_toLoadRect, ↓ View.readCov_fill]
  frame_out
  sl_kernel_rfl

/-- Output 7 at the first point. -/
theorem outA_7 (c : Dev nD) (t : Fin cfg0.N) (h0 : t.val % 8 = 0) : (outA m c t h0).2.2.2.2.2.2.2.1 = View.canon ((blk m c t).pcsL (fun H => View.ld k0_pay4 (Rect.unit (s := S1x512) ![0, H.o] S1x128.size H.il)) ++ [⟨Rect.unit (s := S1x512) ![0, 0] S1x512.size inb_S1x512_S1x512_0_0, k0_pay4⟩]) := by
  unfold outA runA
  frame_open
  simp (disch := decide) only [↓ View.readCov_skip, ↓ View.readCov_cons_toLoadRect, ↓ View.readCov_fill]
  frame_out
  sl_kernel_rfl

/-- Output 8 at the first point. -/
theorem outA_8 (c : Dev nD) (t : Fin cfg0.N) (h0 : t.val % 8 = 0) : (outA m c t h0).2.2.2.2.2.2.2.2.1 = View.canon ((blk m c t).pcsC (kAt t) (View.ld k0_pay5 (Rect.unit (s := S8x512) ![0, 0] S1x512.size inb_S8x512_S1x512_0_0)) (View.ld k0_pay5 (Rect.unit (s := S8x512) ![1, 0] S1x512.size inb_S8x512_S1x512_1_0)) (View.ld k0_pay5 (Rect.unit (s := S8x512) ![2, 0] S1x512.size inb_S8x512_S1x512_2_0)) ++ [⟨Rect.unit (s := S8x512) ![0, 0] S8x512.size inb_S8x512_S8x512_0_0, k0_pay5⟩]) := by
  unfold outA runA
  frame_open
  simp (disch := decide) only [↓ View.readCov_skip, ↓ View.readCov_cons_toLoadRect, ↓ View.readCov_fill]
  frame_out
  sl_kernel_rfl

/-- Output 9 at the first point. -/
theorem outA_9 (c : Dev nD) (t : Fin cfg0.N) (h0 : t.val % 8 = 0) : (outA m c t h0).2.2.2.2.2.2.2.2.2 = K.carry (blk m c t).dy := by
  unfold outA runA
  frame_out
  sl_kernel_rfl

end Cert.KernelIdeal.Even

end
-- ==== Proof.Even.Blocks.lean ====
/- The blocks of a point, where the arguments are real. -/
module

public import proofs.«01_k».proof.Proof.Even.BlockRead
public import proofs.«01_k».proof.Proof.Even.Host
public import proofs.«01_k».proof.Proof.Even.Pieces
public import Idealize.ShloMosaic.Lib.Pipeline.ValueKit.Point

@[expose] public section

set_option maxRecDepth 16384

noncomputable section

namespace Cert.KernelIdeal.Even

open Cert.KernelIdeal.Gen
open Idealize.ShloMosaic Idealize.ShloMosaic.TcCoe Idealize.ShloMosaic.Pointwise
open Idealize.SL.Sem
open Cert.Spec (sh In)

theorem ix_row0 : ∀ t : Fin cfg0.N, win0_0.index t = ![7 - t.val, 0] := (by decide +kernel : ∀ t : Fin grid0.N, _)
theorem ix_row1 : ∀ t : Fin cfg0.N, win0_1.index t = ![7 - t.val, 0] := (by decide +kernel : ∀ t : Fin grid0.N, _)
theorem ix_row2 : ∀ t : Fin cfg0.N, win0_2.index t = ![(32 * (7 - t.val)) - 1, 0] := (by decide +kernel : ∀ t : Fin grid0.N, _)
theorem ix_row3 : ∀ t : Fin cfg0.N, win0_3.index t = ![7 - t.val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)

theorem tailBit_at : ∀ t : Fin cfg0.N, K.tailBit (kAt t) = if (7 - t.val) % 4 = 0 then 1#1 else 0#1 := (by decide +kernel : ∀ t : Fin grid0.N, _)
theorem headBit_at : ∀ t : Fin cfg0.N, K.headBit (kAt t) = if (7 - t.val) % 4 = 3 then 1#1 else 0#1 := (by decide +kernel : ∀ t : Fin grid0.N, _)

variable {I : In} {m : (ℓ : Loc nD τ sig) → Buf (Elt Ideal) ℓ} {c : Dev nD} (h : IsIn I m c)
include h

theorem blk_x (t : Fin cfg0.N) (i : Fin 512) (j : Fin 1024) : (iblk m c 0 t : Vec Ideal S512x1024 .f32) (ix2 i j) = ((sh (512 * (7 - t.val)) I.x i j : ℝ) : EReal) := by
  have hb : 512 * (7 - t.val) + (i : ℕ) < 4096 := by omega
  refine Eq.trans (b := (V m c main_v0 : Vec Ideal S4096x1024 .f32) (ix2 ⟨512 * (7 - t.val) + i, hb⟩ j)) ?_ (V_x h _ _)
  blk_ext! [iblk, ix_row0 t]

theorem blk_p (t : Fin cfg0.N) (i : Fin 512) (j : Fin 2560) : (iblk m c 1 t : Vec Ideal S512x2560 .bf16) (ix2 i j) = ((sh (512 * (7 - t.val)) I.P i j : ℝ) : EReal) := by
  have hb : 512 * (7 - t.val) + (i : ℕ) < 4096 := by omega
  refine Eq.trans (b := (V m c main_v15 : Vec Ideal S4096x2560 .bf16) (ix2 ⟨512 * (7 - t.val) + i, hb⟩ j)) ?_ (V_P h _ _)
  blk_ext! [iblk, ix_row1 t]

theorem blk_pt (t : Fin cfg0.N) (i : Fin 16) (j : Fin 2560) : (iblk m c 2 t : Vec Ideal S16x2560 .bf16) (ix2 i j) = ((sh (512 * (7 - t.val) - 16) I.P i j : ℝ) : EReal) := by
  have hb : 512 * (7 - t.val) - 16 + (i : ℕ) < 4096 := by omega
  refine Eq.trans (b := (V m c main_v15 : Vec Ideal S4096x2560 .bf16) (ix2 ⟨512 * (7 - t.val) - 16 + i, hb⟩ j)) ?_ (V_P h _ _)
  blk_ext! [iblk, ix_row2 t]

theorem blk_ct (t : Fin cfg0.N) (i : Fin 512) (j : Fin 1024) : (iblk m c 3 t : Vec Ideal S512x1024 .f32) (ix2 i j) = ((sh (512 * (7 - t.val)) I.ct i j : ℝ) : EReal) := by
  have hb : 512 * (7 - t.val) + (i : ℕ) < 4096 := by omega
  refine Eq.trans (b := (V m c main_v24 : Vec Ideal S4096x1024 .f32) (ix2 ⟨512 * (7 - t.val) + i, hb⟩ j)) ?_ (V_ct h _ _)
  blk_ext! [iblk, ix_row3 t]

theorem blk_g (t : Fin cfg0.N) (i : Fin 1) (j : Fin 1024) : (iblk m c 4 t : Vec Ideal S1x1024 .f32) (ix2 i j) = ((I.g j : ℝ) : EReal) := by
  refine Eq.trans (b := (V m c main_v25 : Vec Ideal S1x1024 .f32) (ix2 i j)) ?_ (V_g h _ _)
  blk_ext! [iblk, ix_4 t]

theorem blk_wi (t : Fin cfg0.N) (a : Fin 8) (i : Fin 320) (j : Fin 1024) : (iblk m c 5 t : Vec Ideal S8x320x1024 .bf16) (ix3 a i j) = ((I.win j (320 * a + i) : ℝ) : EReal) := by
  refine Eq.trans (b := (V m c main_v18 : Vec Ideal S8x320x1024 .bf16) (ix3 a i j)) ?_ (V_wi h _ _ _)
  blk_ext! [iblk, ix_5 t]

theorem blk_wo (t : Fin cfg0.N) (a : Fin 8) (i : Fin 128) (j : Fin 1024) : (iblk m c 6 t : Vec Ideal S8x128x1024 .bf16) (ix3 a i j) = ((I.wo (128 * a + i) j : ℝ) : EReal) := by
  refine Eq.trans (b := (V m c main_v20 : Vec Ideal S8x128x1024 .bf16) (ix3 a i j)) ?_ (V_wo h _ _ _)
  blk_ext! [iblk, ix_6 t]

theorem blk_lg (t : Fin cfg0.N) (i : Fin 1) (j : Fin 512) : (iblk m c 7 t : Vec Ideal S1x512 .f32) (ix2 i j) = ((I.lg j : ℝ) : EReal) := by
  refine Eq.trans (b := (V m c main_v26 : Vec Ideal S1x512 .f32) (ix2 i j)) ?_ (V_lg h _ _)
  blk_ext! [iblk, ix_7 t]

theorem blk_w (t : Fin cfg0.N) (a : Fin 4) (i j : Fin 128) : (iblk m c 8 t : Vec Ideal S4x128x128 .f32) (ix3 a i j) = ((I.w a i j : ℝ) : EReal) := by
  have e : ((win0_8.blk t).view.emb (ix3 a i j) : S4x128x128.Idx) = ix3 a i j := by
    blk_ext [ix_8 t]
  refine Eq.trans ?_ (V_w h a i j)
  exact congrArg (V m c main_arg4 : Vec Ideal S4x128x128 .f32) e

theorem blk_b (t : Fin cfg0.N) (i j : Fin 128) (hj : (j : ℕ) < 4) : (iblk m c 9 t : Vec Ideal S128x128 .f32) (ix2 i j) = ((I.b j i : ℝ) : EReal) := by
  refine Eq.trans (b := (V m c main_v22 : Vec Ideal S128x128 .f32) (ix2 i j)) ?_ (V_b h _ _ hj)
  blk_ext! [iblk, ix_9 t]

theorem blk_cw (t : Fin cfg0.N) (i : Fin 8) (j : Fin 512) (hi : (i : ℕ) < 3) : (iblk m c 10 t : Vec Ideal S8x512 .f32) (ix2 i j) = ((I.cw i j : ℝ) : EReal) := by
  refine Eq.trans (b := (V m c main_v23 : Vec Ideal S8x512 .f32) (ix2 i j)) ?_ (V_cw h _ _ hi)
  blk_ext! [iblk, ix_10 t]

theorem isB (t : Fin cfg0.N) : IsB I (7 - t.val) (blk m c t) := by
  have hx := blk_x h t
  have hp := blk_p h t
  have hpt := blk_pt h t
  have hct := blk_ct h t
  have hg := blk_g h t
  have hwi := blk_wi h t
  have hwo := blk_wo h t
  have hlg := blk_lg h t
  have hw := blk_w h t
  have hb := blk_b h t
  have hcw := blk_cw h t
  unfold blk
  generalize (iblk m c 0 t : Vec Ideal S512x1024 .f32) = X0 at *
  generalize (iblk m c 1 t : Vec Ideal S512x2560 .bf16) = X1 at *
  generalize (iblk m c 2 t : Vec Ideal S16x2560 .bf16) = X2 at *
  generalize (iblk m c 3 t : Vec Ideal S512x1024 .f32) = X3 at *
  generalize (iblk m c 4 t : Vec Ideal S1x1024 .f32) = X4 at *
  generalize (iblk m c 5 t : Vec Ideal S8x320x1024 .bf16) = X5 at *
  generalize (iblk m c 6 t : Vec Ideal S8x128x1024 .bf16) = X6 at *
  generalize (iblk m c 7 t : Vec Ideal S1x512 .f32) = X7 at *
  generalize (iblk m c 8 t : Vec Ideal S4x128x128 .f32) = X8 at *
  generalize (iblk m c 9 t : Vec Ideal S128x128 .f32) = X9 at *
  generalize (iblk m c 10 t : Vec Ideal S8x512 .f32) = X10 at *
  exact ⟨hx, hp, hpt, hct, hg, hwi, hwo, hlg, hw, hb, hcw⟩

end Cert.KernelIdeal.Even
-- ==== Proof.Even.Acc.lean ====
/- What the outputs hold after each point, where the arguments are real. -/
module

public import proofs.«01_k».proof.Proof.Even.Blocks
public import Idealize.ShloMosaic.Lib.WritesUnit

@[expose] public section

set_option maxRecDepth 16384

noncomputable section

namespace Cert.KernelIdeal.Even

open Cert.KernelIdeal.Gen
open Idealize.ShloMosaic Idealize.ShloMosaic.TcCoe Idealize.ShloMosaic.Pointwise
open Idealize.SL.Sem
open Cert.Spec (sh In)
open Facts

/-- A sum from `a` on. -/
def tl (f : ℕ → ℝ) (a n : ℕ) : ℝ := ∑ r ∈ Finset.Ico a n, f r

theorem tl_self (f : ℕ → ℝ) (n : ℕ) : tl f n n = 0 := by simp [tl]

theorem tl_step (f : ℕ → ℝ) {a k n : ℕ} (h : a + k ≤ n) : tl f (a + k) n + ∑ r : Fin k, f (a + r) = tl f a n := by
  unfold tl
  rw [← Finset.sum_Ico_consecutive f (Nat.le_add_right a k) h, add_comm]
  congr 1
  rw [Finset.sum_Ico_eq_sum_range, Nat.add_sub_cancel_left, Finset.sum_range]

theorem tl_all (f : ℕ → ℝ) (n : ℕ) : tl f 0 n = ∑ r : Fin n, f r := by
  unfold tl
  rw [Finset.sum_Ico_eq_sum_range, Finset.sum_range]
  simp

/-- A way of reading stores, the last one first. -/
structure Lays {S : Shape} {e : EltTy} (R : List (View.Piece (Elt Ideal) S e) → S.Idx → Elt Ideal e) : Prop where
  mem : ∀ {off size : Fin S.rank → ℕ} (inb : ∀ a, off a + size a ≤ S.size a) (w : (Rect.unit off size inb).shape.Idx → Elt Ideal e) (L : List (View.Piece (Elt Ideal) S e)) (y : S.Idx) (x : (Rect.unit off size inb).shape.Idx),
    (∀ a, (y a).val = off a + (x a).val) → R (⟨Rect.unit off size inb, w⟩ :: L) y = w x
  nmem : ∀ {off size : Fin S.rank → ℕ} (inb : ∀ a, off a + size a ≤ S.size a) (w : (Rect.unit off size inb).shape.Idx → Elt Ideal e) (L : List (View.Piece (Elt Ideal) S e)) (y : S.Idx) (a : Fin S.rank),
    ((y a).val < off a ∨ off a + size a ≤ (y a).val) → R (⟨Rect.unit off size inb, w⟩ :: L) y = R L y

theorem lays_canon {S : Shape} {e : EltTy} : Lays (S := S) (e := e) (fun L => View.canon L) where
  mem := fun {off size} inb w L y x hx => by
    have hy : (Rect.unit off size inb).emb x = y := funext fun a => Fin.ext (by
      show off a + 1 * (x a).val = (y a).val
      rw [hx a, Nat.one_mul])
    rw [← hy]; exact View.canon_cons_emb _ _ _ _
  nmem := fun {off size} inb w L y a ha => by
    refine View.canon_cons_of_not_mem _ _ ?_
    show y ∉ (Rect.unit off size inb).set
    rw [Rect.mem_set_unit]
    intro hall
    have := hall a
    omega

theorem lays_view {sg : RefSig} {κ : Kind} {sp : Space} {S : Shape} {e : EltTy} (v : View sg κ sp S e) (f) : Lays (S := S) (e := e) (fun L => v.read (Elt Ideal) (v.writes (Elt Ideal) f L)) where
  mem := fun inb w L y x hx => View.read_writes_cons_unit_of_mem v f inb w L y x rfl hx
  nmem := fun inb w L y a ha => View.read_writes_cons_unit_of_not_mem v f inb w L y rfl a ha

variable {I : In} {b : ℕ} {B : Blk Ideal} (hB : IsB I b B) {H : Hd} (hH : HdOk H)
include hB

theorem hid_at (i : Fin 512) (j : Fin 1024) : K.hid B.x B.g (ix2 i j) = ((sh (512 * b) (Spec.hid I.x I.g) i j : ℝ) : EReal) :=
  (K.hid_r hB.x hB.g i j).trans rfl

theorem carry_at (i : Fin 16) (j : Fin 512) : K.carry B.dy (ix2 i j) = ((sh (512 * b) I.dy i j : ℝ) : EReal) :=
  (K.carry_r hB.dy i j).trans rfl

include hH

theorem accW_r {q : Vec Ideal S1x128x128 .f32} {Q : ℕ → ℕ → ℝ} (hq : ∀ (z : Fin 1) (i j : Fin 128), q (ix3 z i j) = ((Q i j : ℝ) : EReal)) (z : Fin 1) (i j : Fin 128) :
    B.accW H q (ix3 z i j) = ((Q i j + (if (j : ℕ) ≤ i then ∑ c : Fin 4, I.pw H.n i j (4 * b + c) else 0) : ℝ) : EReal) := by
  have hD := hB.dw hH
  unfold Blk.accW
  generalize B.dw H = D at *
  pointwise
  simp only [hq, hD, ← EReal.coe_add]

theorem accB_r {q : Vec Ideal S128x1 .f32} {Q : ℕ → ℝ} (hq : ∀ (i : Fin 128) (z : Fin 1), q (ix2 i z) = ((Q i : ℝ) : EReal)) (i : Fin 128) (z : Fin 1) :
    B.accB H q (ix2 i z) = ((Q i + ∑ c : Fin 4, I.pb H.n i (4 * b + c) : ℝ) : EReal) := by
  have hD := hB.dbs hH
  unfold Blk.accB
  generalize B.dbs H = D at *
  pointwise
  simp only [hq, hD, ← EReal.coe_add]

theorem accL_r {q : Vec Ideal S1x128 .f32} {Q : ℕ → ℝ} (hq : ∀ (z : Fin 1) (i : Fin 128), q (ix2 z i) = ((Q i : ℝ) : EReal)) (z : Fin 1) (i : Fin 128) :
    B.accL H q (ix2 z i) = ((Q i + ∑ r : Fin 512, I.pl H.n (512 * b + r) i : ℝ) : EReal) := by
  have hD := hB.dlg hH
  unfold Blk.accL
  generalize B.dlg H = D at *
  pointwise
  simp only [hq, hD, ← EReal.coe_add]

omit hH

theorem accC_r {zz : Vec Ideal S512x512 .f32} {n : ℕ} (hz : ∀ (i j : Fin 512), zz (ix2 i j) = ((sh (512 * b) (I.zz n) i j : ℝ) : EReal)) {q : Vec Ideal S1x512 .f32} {Q : ℕ → ℝ} (hq : ∀ (z : Fin 1) (i : Fin 512), q (ix2 z i) = ((Q i : ℝ) : EReal)) (z : Fin 1) (i : Fin 512) :
    B.accC zz q (ix2 z i) = ((Q i + ∑ r : Fin 512, I.pc n (512 * b + r) i : ℝ) : EReal) := by
  have hD : ∀ (z : Fin 1) (i : Fin 512), K.dcwC B.dy zz (ix2 z i) = ((∑ r : Fin 512, I.pc n (512 * b + r) i : ℝ) : EReal) :=
    fun z i => (K.dcwC_r hB.dy hz z i).trans rfl
  unfold Blk.accC
  generalize K.dcwC B.dy zz = D at *
  pointwise
  simp only [hq, hD, ← EReal.coe_add]

theorem accG_r {k : BitVec 32} {hr : Vec Ideal S16x512 .f32} (hD : ∀ (i : Fin 1) (j : Fin 1024), K.dgamC B.x (B.dh k hr) (ix2 i j) = ((∑ r : Fin 512, I.pg (512 * b + r) j : ℝ) : EReal)) {q : Vec Ideal S1x1024 .f32} {Q : ℕ → ℝ} (hq : ∀ (z : Fin 1) (i : Fin 1024), q (ix2 z i) = ((Q i : ℝ) : EReal)) (z : Fin 1) (i : Fin 1024) :
    B.accG k hr q (ix2 z i) = ((Q i + ∑ r : Fin 512, I.pg (512 * b + r) i : ℝ) : EReal) := by
  unfold Blk.accG
  generalize K.dgamC B.x (B.dh k hr) = D at *
  pointwise
  simp only [hq, hD, ← EReal.coe_add]

theorem pcsW_r {R : List (View.Piece (Elt Ideal) S4x128x128 .f32) → S4x128x128.Idx → Elt Ideal .f32} (hR : Lays R) (L : List (View.Piece (Elt Ideal) S4x128x128 .f32)) {q : Hd → Vec Ideal S1x128x128 .f32} {Q : ℕ → ℕ → ℕ → ℝ}
    (hq : ∀ H, HdOk H → ∀ (z : Fin 1) (i j : Fin 128), q H (ix3 z i j) = ((Q H.n i j : ℝ) : EReal)) (a : Fin 4) (i j : Fin 128) :
    R (B.pcsW q ++ L) (ix3 a i j) = ((Q a i j + (if (j : ℕ) ≤ i then ∑ c : Fin 4, I.pw a i j (4 * b + c) else 0) : ℝ) : EReal) := by
  unfold Blk.pcsW
  simp only [List.cons_append, List.nil_append]
  have hx : ∀ (o : ℕ), (a : ℕ) = o → ∀ d : Fin 3, ((ix3 a i j : S4x128x128.Idx) d).val = (![o, 0, 0] : Fin 3 → ℕ) d + ((ix3 (0 : Fin 1) i j : S1x128x128.Idx) d).val := by
    intro o ho d; fin_cases d
    · exact ho
    · exact (Nat.zero_add _).symm
    · exact (Nat.zero_add _).symm
  have hn : ∀ (o : ℕ), (a : ℕ) ≠ o → ((ix3 a i j : S4x128x128.Idx) 0).val < (![o, 0, 0] : Fin 3 → ℕ) 0 ∨ (![o, 0, 0] : Fin 3 → ℕ) 0 + S1x128x128.size 0 ≤ ((ix3 a i j : S4x128x128.Idx) 0).val := by
    intro o ho
    show (a : ℕ) < o ∨ o + 1 ≤ a
    omega
  by_cases h3 : (a : ℕ) = 3
  · refine (hR.mem (size := ![1, 128, 128]) _ _ _ _ (ix3 0 i j) (hx 3 h3)).trans ?_; rw [h3]; exact accW_r hB ok3 (hq hd3 ok3) 0 i j
  rw [hR.nmem _ _ _ _ 0 (hn 3 h3)]
  by_cases h2 : (a : ℕ) = 2
  · refine (hR.mem (size := ![1, 128, 128]) _ _ _ _ (ix3 0 i j) (hx 2 h2)).trans ?_; rw [h2]; exact accW_r hB ok2 (hq hd2 ok2) 0 i j
  rw [hR.nmem _ _ _ _ 0 (hn 2 h2)]
  by_cases h1 : (a : ℕ) = 1
  · refine (hR.mem (size := ![1, 128, 128]) _ _ _ _ (ix3 0 i j) (hx 1 h1)).trans ?_; rw [h1]; exact accW_r hB ok1 (hq hd1 ok1) 0 i j
  rw [hR.nmem _ _ _ _ 0 (hn 1 h1)]
  have h0 : (a : ℕ) = 0 := by omega
  refine (hR.mem (size := ![1, 128, 128]) _ _ _ _ (ix3 0 i j) (hx 0 h0)).trans ?_; rw [h0]; exact accW_r hB ok0 (hq hd0 ok0) 0 i j

theorem pcsB_r {R : List (View.Piece (Elt Ideal) S128x128 .f32) → S128x128.Idx → Elt Ideal .f32} (hR : Lays R) (L : List (View.Piece (Elt Ideal) S128x128 .f32)) {q : Hd → Vec Ideal S128x1 .f32} {Q : ℕ → ℕ → ℝ}
    (hq : ∀ H, HdOk H → ∀ (i : Fin 128) (z : Fin 1), q H (ix2 i z) = ((Q H.n i : ℝ) : EReal)) (i a : Fin 128) :
    R (B.pcsB q ++ L) (ix2 i a) = if (a : ℕ) < 4 then ((Q a i + ∑ c : Fin 4, I.pb a i (4 * b + c) : ℝ) : EReal) else R L (ix2 i a) := by
  unfold Blk.pcsB
  simp only [List.cons_append, List.nil_append]
  have hx : ∀ (o : ℕ), (a : ℕ) = o → ∀ d : Fin 2, ((ix2 i a : S128x128.Idx) d).val = (![0, o] : Fin 2 → ℕ) d + ((ix2 i (0 : Fin 1) : S128x1.Idx) d).val := by
    intro o ho d; fin_cases d
    · exact (Nat.zero_add _).symm
    · exact ho
  have hn : ∀ (o : ℕ), (a : ℕ) ≠ o → ((ix2 i a : S128x128.Idx) 1).val < (![0, o] : Fin 2 → ℕ) 1 ∨ (![0, o] : Fin 2 → ℕ) 1 + S128x1.size 1 ≤ ((ix2 i a : S128x128.Idx) 1).val := by
    intro o ho
    show (a : ℕ) < o ∨ o + 1 ≤ a
    omega
  by_cases h3 : (a : ℕ) = 3
  · refine (hR.mem (size := ![128, 1]) _ _ _ _ (ix2 i 0) (hx 3 h3)).trans ?_; rw [if_pos (by omega), h3]; exact accB_r hB ok3 (hq hd3 ok3) i 0
  rw [hR.nmem _ _ _ _ 1 (hn 3 h3)]
  by_cases h2 : (a : ℕ) = 2
  · refine (hR.mem (size := ![128, 1]) _ _ _ _ (ix2 i 0) (hx 2 h2)).trans ?_; rw [if_pos (by omega), h2]; exact accB_r hB ok2 (hq hd2 ok2) i 0
  rw [hR.nmem _ _ _ _ 1 (hn 2 h2)]
  by_cases h1 : (a : ℕ) = 1
  · refine (hR.mem (size := ![128, 1]) _ _ _ _ (ix2 i 0) (hx 1 h1)).trans ?_; rw [if_pos (by omega), h1]; exact accB_r hB ok1 (hq hd1 ok1) i 0
  rw [hR.nmem _ _ _ _ 1 (hn 1 h1)]
  by_cases h0 : (a : ℕ) = 0
  · refine (hR.mem (size := ![128, 1]) _ _ _ _ (ix2 i 0) (hx 0 h0)).trans ?_; rw [if_pos (by omega), h0]; exact accB_r hB ok0 (hq hd0 ok0) i 0
  rw [hR.nmem _ _ _ _ 1 (hn 0 h0), if_neg (by omega)]

theorem pcsL_r {R : List (View.Piece (Elt Ideal) S1x512 .f32) → S1x512.Idx → Elt Ideal .f32} (hR : Lays R) (L : List (View.Piece (Elt Ideal) S1x512 .f32)) {q : Hd → Vec Ideal S1x128 .f32} {Q : ℕ → ℕ → ℝ}
    (hq : ∀ H, HdOk H → ∀ (z : Fin 1) (i : Fin 128), q H (ix2 z i) = ((Q H.n i : ℝ) : EReal)) (z : Fin 1) (j : Fin 512) :
    R (B.pcsL q ++ L) (ix2 z j) = ((Q ((j : ℕ) / 128) ((j : ℕ) % 128) + ∑ r : Fin 512, I.pl ((j : ℕ) / 128) (512 * b + r) ((j : ℕ) % 128) : ℝ) : EReal) := by
  unfold Blk.pcsL
  simp only [List.cons_append, List.nil_append]
  have hx : ∀ (n o : ℕ), (j : ℕ) / 128 = n → o = 128 * n → ∀ d : Fin 2, ((ix2 z j : S1x512.Idx) d).val = (![0, o] : Fin 2 → ℕ) d + ((ix2 z (⟨(j : ℕ) % 128, by omega⟩ : Fin 128) : S1x128.Idx) d).val := by
    intro n o hn ho d; fin_cases d
    · exact (Nat.zero_add _).symm
    · show (j : ℕ) = o + (j : ℕ) % 128
      omega
  have hn : ∀ (n o : ℕ), (j : ℕ) / 128 ≠ n → o = 128 * n → ((ix2 z j : S1x512.Idx) 1).val < (![0, o] : Fin 2 → ℕ) 1 ∨ (![0, o] : Fin 2 → ℕ) 1 + S1x128.size 1 ≤ ((ix2 z j : S1x512.Idx) 1).val := by
    intro n o hn ho
    show (j : ℕ) < o ∨ o + 128 ≤ j
    omega
  by_cases h3 : (j : ℕ) / 128 = 3
  · refine (hR.mem (size := ![1, 128]) _ _ _ _ _ (hx 3 384 h3 rfl)).trans ?_; rw [h3]; exact accL_r hB ok3 (hq hd3 ok3) z _
  rw [hR.nmem _ _ _ _ 1 (hn 3 384 h3 rfl)]
  by_cases h2 : (j : ℕ) / 128 = 2
  · refine (hR.mem (size := ![1, 128]) _ _ _ _ _ (hx 2 256 h2 rfl)).trans ?_; rw [h2]; exact accL_r hB ok2 (hq hd2 ok2) z _
  rw [hR.nmem _ _ _ _ 1 (hn 2 256 h2 rfl)]
  by_cases h1 : (j : ℕ) / 128 = 1
  · refine (hR.mem (size := ![1, 128]) _ _ _ _ _ (hx 1 128 h1 rfl)).trans ?_; rw [h1]; exact accL_r hB ok1 (hq hd1 ok1) z _
  rw [hR.nmem _ _ _ _ 1 (hn 1 128 h1 rfl)]
  have h0 : (j : ℕ) / 128 = 0 := by omega
  refine (hR.mem (size := ![1, 128]) _ _ _ _ _ (hx 0 0 h0 rfl)).trans ?_; rw [h0]; exact accL_r hB ok0 (hq hd0 ok0) z _

theorem pcsC_r {k : BitVec 32} (hk : K.tailBit k = if b % 4 = 0 then 1#1 else 0#1) {R : List (View.Piece (Elt Ideal) S8x512 .f32) → S8x512.Idx → Elt Ideal .f32} (hR : Lays R) (L : List (View.Piece (Elt Ideal) S8x512 .f32)) {q0 q1 q2 : Vec Ideal S1x512 .f32} {Q : ℕ → ℕ → ℝ}
    (hq0 : ∀ (z : Fin 1) (i : Fin 512), q0 (ix2 z i) = ((Q 0 i : ℝ) : EReal)) (hq1 : ∀ (z : Fin 1) (i : Fin 512), q1 (ix2 z i) = ((Q 1 i : ℝ) : EReal)) (hq2 : ∀ (z : Fin 1) (i : Fin 512), q2 (ix2 z i) = ((Q 2 i : ℝ) : EReal)) (a : Fin 8) (j : Fin 512) :
    R (B.pcsC k q0 q1 q2 ++ L) (ix2 a j) = if (a : ℕ) < 3 then ((Q a j + ∑ r : Fin 512, I.pc a (512 * b + r) j : ℝ) : EReal) else R L (ix2 a j) := by
  unfold Blk.pcsC
  simp only [List.cons_append, List.nil_append]
  have hx : ∀ (o : ℕ), (a : ℕ) = o → ∀ d : Fin 2, ((ix2 a j : S8x512.Idx) d).val = (![o, 0] : Fin 2 → ℕ) d + ((ix2 (0 : Fin 1) j : S1x512.Idx) d).val := by
    intro o ho d; fin_cases d
    · exact ho
    · exact (Nat.zero_add _).symm
  have hn : ∀ (o : ℕ), (a : ℕ) ≠ o → ((ix2 a j : S8x512.Idx) 0).val < (![o, 0] : Fin 2 → ℕ) 0 ∨ (![o, 0] : Fin 2 → ℕ) 0 + S1x512.size 0 ≤ ((ix2 a j : S8x512.Idx) 0).val := by
    intro o ho
    show (a : ℕ) < o ∨ o + 1 ≤ a
    omega
  by_cases h0 : (a : ℕ) = 0
  · refine (hR.mem (size := ![1, 512]) _ _ _ _ (ix2 0 j) (hx 0 h0)).trans ?_; rw [if_pos (by omega), h0]; exact accC_r hB (n := 0) (hB.z2 hk) hq0 0 j
  rw [hR.nmem _ _ _ _ 0 (hn 0 h0)]
  by_cases h1 : (a : ℕ) = 1
  · refine (hR.mem (size := ![1, 512]) _ _ _ _ (ix2 0 j) (hx 1 h1)).trans ?_; rw [if_pos (by omega), h1]; exact accC_r hB (n := 1) (hB.z1 hk) hq1 0 j
  rw [hR.nmem _ _ _ _ 0 (hn 1 h1)]
  by_cases h2 : (a : ℕ) = 2
  · refine (hR.mem (size := ![1, 512]) _ _ _ _ (ix2 0 j) (hx 2 h2)).trans ?_; rw [if_pos (by omega), h2]; exact accC_r hB (n := 2) hB.z hq2 0 j
  rw [hR.nmem _ _ _ _ 0 (hn 2 h2), if_neg (by omega)]

end Cert.KernelIdeal.Even
-- ==== Proof.Even.Sums.lean ====
/- The outputs of every point as sums of what the rows give, where the arguments are real. -/
module

public import proofs.«01_k».proof.Proof.Even.Acc

@[expose] public section

set_option maxRecDepth 16384

noncomputable section

namespace Cert.KernelIdeal.Even

open Cert.KernelIdeal.Gen
open Idealize.ShloMosaic Idealize.ShloMosaic.TcCoe Idealize.ShloMosaic.Pointwise
open Idealize.SL.Sem
open Cert.Spec (sh In)
open Facts

/-- The sums that the accumulated outputs hold once the blocks from `b` on are done. -/
structure Sums (I : In) (b : ℕ) (g : Vec Ideal S1x1024 .f32) (w : Vec Ideal S4x128x128 .f32) (bs : Vec Ideal S128x128 .f32) (l : Vec Ideal S1x512 .f32) (cc : Vec Ideal S8x512 .f32) : Prop where
  g : ∀ (z : Fin 1) (j : Fin 1024), g (ix2 z j) = ((tl (fun r => I.pg r j) (512 * b) 4096 : ℝ) : EReal)
  w : ∀ (a : Fin 4) (i j : Fin 128), w (ix3 a i j) = ((if (j : ℕ) ≤ i then tl (fun c => I.pw a i j c) (4 * b) 32 else 0 : ℝ) : EReal)
  bs : ∀ (i a : Fin 128), bs (ix2 i a) = ((if (a : ℕ) < 4 then tl (fun c => I.pb a i c) (4 * b) 32 else 0 : ℝ) : EReal)
  l : ∀ (z : Fin 1) (j : Fin 512), l (ix2 z j) = ((tl (fun r => I.pl ((j : ℕ) / 128) r ((j : ℕ) % 128)) (512 * b) 4096 : ℝ) : EReal)
  cc : ∀ (a : Fin 8) (j : Fin 512), cc (ix2 a j) = ((if (a : ℕ) < 3 then tl (fun r => I.pc a r j) (512 * b) 4096 else 0 : ℝ) : EReal)

theorem sums0 (I : In) : Sums I 8 (k0_pay1 (F := Ideal)) (k0_pay2 (F := Ideal)) (k0_pay3 (F := Ideal)) (k0_pay4 (F := Ideal)) (k0_pay5 (F := Ideal)) where
  g := fun z j => by rw [tl_self]; unfold k0_pay1; pointwise; rfl
  w := fun a i j => by rw [tl_self, ite_self]; unfold k0_pay2; pointwise; rfl
  bs := fun i a => by rw [tl_self, ite_self]; unfold k0_pay3; pointwise; rfl
  l := fun z j => by rw [tl_self]; unfold k0_pay4; pointwise; rfl
  cc := fun a j => by rw [tl_self, ite_self]; unfold k0_pay5; pointwise; rfl

variable {I : In} {b : ℕ} (hb : b < 8) {B : Blk Ideal} (hB : IsB I b B) {g : Vec Ideal S1x1024 .f32} {w : Vec Ideal S4x128x128 .f32} {bs : Vec Ideal S128x128 .f32} {l : Vec Ideal S1x512 .f32} {cc : Vec Ideal S8x512 .f32} (h : Sums I (b + 1) g w bs l cc)
  {k : BitVec 32} (hk : K.tailBit k = if b % 4 = 0 then 1#1 else 0#1)
include hb hB h

theorem next_g {hr : Vec Ideal S16x512 .f32} (hD : ∀ (i : Fin 1) (j : Fin 1024), K.dgamC B.x (B.dh k hr) (ix2 i j) = ((∑ r : Fin 512, I.pg (512 * b + r) j : ℝ) : EReal)) (z : Fin 1) (j : Fin 1024) :
    B.accG k hr g (ix2 z j) = ((tl (fun r => I.pg r j) (512 * b) 4096 : ℝ) : EReal) :=
  (accG_r hB hD (Q := fun j => tl (fun r => I.pg r j) (512 * (b + 1)) 4096) h.g z j).trans (congrArg _ (tl_step (fun r => I.pg r j) (a := 512 * b) (k := 512) (by omega)))

theorem next_w {R : List (View.Piece (Elt Ideal) S4x128x128 .f32) → S4x128x128.Idx → Elt Ideal .f32} (hR : Lays R) (L : List (View.Piece (Elt Ideal) S4x128x128 .f32)) (a : Fin 4) (i j : Fin 128) :
    R (B.pcsW (fun H => View.ld w (Rect.unit (s := S4x128x128) ![H.n, 0, 0] S1x128x128.size H.iw)) ++ L) (ix3 a i j) = ((if (j : ℕ) ≤ i then tl (fun c => I.pw a i j c) (4 * b) 32 else 0 : ℝ) : EReal) := by
  refine (pcsW_r hB hR L (Q := fun a i j => if j ≤ i then tl (fun c => I.pw a i j c) (4 * (b + 1)) 32 else 0) (fun H hH z i j => ?_) a i j).trans (congrArg _ ?_)
  · refine (View.ld_unit_apply_of w _ _ _ _ (ix3 (⟨H.n, hH.n⟩ : Fin 4) i j) ?_).trans (h.w _ _ _)
    intro d; fin_cases d
    · show H.n = H.n + (z : ℕ)
      omega
    · exact (Nat.zero_add _).symm
    · exact (Nat.zero_add _).symm
  · by_cases hij : (j : ℕ) ≤ i
    · simp only [if_pos hij]
      exact tl_step (fun c => I.pw a i j c) (a := 4 * b) (k := 4) (by omega)
    · simp only [if_neg hij, add_zero]

theorem next_b {R : List (View.Piece (Elt Ideal) S128x128 .f32) → S128x128.Idx → Elt Ideal .f32} (hR : Lays R) (L : List (View.Piece (Elt Ideal) S128x128 .f32)) (hL : ∀ i a : Fin 128, ¬ (a : ℕ) < 4 → R L (ix2 i a) = ((0 : ℝ) : EReal)) (i a : Fin 128) :
    R (B.pcsB (fun H => View.ld bs (Rect.unit (s := S128x128) ![0, H.n] S128x1.size H.ib)) ++ L) (ix2 i a) = ((if (a : ℕ) < 4 then tl (fun c => I.pb a i c) (4 * b) 32 else 0 : ℝ) : EReal) := by
  refine (pcsB_r hB hR L (Q := fun a i => tl (fun c => I.pb a i c) (4 * (b + 1)) 32) (fun H hH i z => ?_) i a).trans ?_
  · have hn := hH.n
    refine (View.ld_unit_apply_of bs _ _ _ _ (ix2 i (⟨H.n, by omega⟩ : Fin 128)) ?_).trans ((h.bs _ _).trans (congrArg _ (if_pos hn)))
    intro d; fin_cases d
    · exact (Nat.zero_add _).symm
    · show H.n = H.n + (z : ℕ)
      omega
  · by_cases ha : (a : ℕ) < 4
    · rw [if_pos ha, if_pos ha]
      exact congrArg _ (tl_step (fun c => I.pb a i c) (a := 4 * b) (k := 4) (by omega))
    · rw [if_neg ha, if_neg ha]; exact hL i a ha

theorem next_l {R : List (View.Piece (Elt Ideal) S1x512 .f32) → S1x512.Idx → Elt Ideal .f32} (hR : Lays R) (L : List (View.Piece (Elt Ideal) S1x512 .f32)) (z : Fin 1) (j : Fin 512) :
    R (B.pcsL (fun H => View.ld l (Rect.unit (s := S1x512) ![0, H.o] S1x128.size H.il)) ++ L) (ix2 z j) = ((tl (fun r => I.pl ((j : ℕ) / 128) r ((j : ℕ) % 128)) (512 * b) 4096 : ℝ) : EReal) := by
  refine (pcsL_r hB hR L (Q := fun n i => tl (fun r => I.pl n r i) (512 * (b + 1)) 4096) (fun H hH z i => ?_) z j).trans (congrArg _ (tl_step (fun r => I.pl ((j : ℕ) / 128) r ((j : ℕ) % 128)) (a := 512 * b) (k := 512) (by omega)))
  have hn := hH.n
  have ho := hH.o
  refine (View.ld_unit_apply_of l _ _ _ _ (ix2 z (⟨H.o + i, by omega⟩ : Fin 512)) ?_).trans ((h.l _ _).trans ?_)
  · intro d; fin_cases d
    · exact (Nat.zero_add _).symm
    · rfl
  · show ((tl (fun r => I.pl ((H.o + (i : ℕ)) / 128) r ((H.o + (i : ℕ)) % 128)) (512 * (b + 1)) 4096 : ℝ) : EReal) = _
    rw [show (H.o + (i : ℕ)) / 128 = H.n by omega, show (H.o + (i : ℕ)) % 128 = i by omega]

include hk

theorem next_c {R : List (View.Piece (Elt Ideal) S8x512 .f32) → S8x512.Idx → Elt Ideal .f32} (hR : Lays R) (L : List (View.Piece (Elt Ideal) S8x512 .f32)) (hL : ∀ (a : Fin 8) (j : Fin 512), ¬ (a : ℕ) < 3 → R L (ix2 a j) = ((0 : ℝ) : EReal)) (a : Fin 8) (j : Fin 512) :
    R (B.pcsC k (View.ld cc (Rect.unit (s := S8x512) ![0, 0] S1x512.size inb_S8x512_S1x512_0_0)) (View.ld cc (Rect.unit (s := S8x512) ![1, 0] S1x512.size inb_S8x512_S1x512_1_0)) (View.ld cc (Rect.unit (s := S8x512) ![2, 0] S1x512.size inb_S8x512_S1x512_2_0)) ++ L) (ix2 a j) = ((if (a : ℕ) < 3 then tl (fun r => I.pc a r j) (512 * b) 4096 else 0 : ℝ) : EReal) := by
  have hrow : ∀ (n : Fin 8) (hn : (n : ℕ) < 3) (z : Fin 1) (i : Fin 512) (inb), View.ld cc (Rect.unit (s := S8x512) ![(n : ℕ), 0] S1x512.size inb) (ix2 z i) = ((tl (fun r => I.pc n r i) (512 * (b + 1)) 4096 : ℝ) : EReal) := by
    intro n hn z i inb
    refine (View.ld_unit_apply_of cc _ _ _ _ (ix2 n i) ?_).trans ((h.cc _ _).trans (congrArg _ (if_pos hn)))
    intro d; fin_cases d
    · show (n : ℕ) = n + (z : ℕ)
      omega
    · exact (Nat.zero_add _).symm
  refine (pcsC_r hB hk hR L (Q := fun a j => tl (fun r => I.pc a r j) (512 * (b + 1)) 4096) (fun z i => hrow 0 (by decide) z i _) (fun z i => hrow 1 (by decide) z i _) (fun z i => hrow 2 (by decide) z i _) a j).trans ?_
  by_cases ha : (a : ℕ) < 3
  · rw [if_pos ha, if_pos ha]
    exact congrArg _ (tl_step (fun r => I.pc a r j) (a := 512 * b) (k := 512) (by omega))
  · rw [if_neg ha, if_neg ha]; exact hL a j ha

omit hb hB h hk

/-- What the outputs and the carried rows hold after block `b`. -/
structure Ok (I : In) (b : ℕ) (s : St Ideal) : Prop where
  dx : ∀ (i : Fin 512) (j : Fin 1024), s.1 (ix2 i j) = ((sh (512 * b) I.dx i j : ℝ) : EReal)
  dproj : ∀ (i : Fin 512) (j : Fin 2560), s.2.1 (ix2 i j) = ((sh (512 * b) I.dproj i j : ℝ) : EReal)
  mix : ∀ (i : Fin 512) (j : Fin 1024), s.2.2.1 (ix2 i j) = ((sh (512 * b) I.mix i j : ℝ) : EReal)
  hid : ∀ (i : Fin 512) (j : Fin 1024), s.2.2.2.1 (ix2 i j) = ((sh (512 * b) (Spec.hid I.x I.g) i j : ℝ) : EReal)
  sums : Sums I b s.2.2.2.2.1 s.2.2.2.2.2.1 s.2.2.2.2.2.2.1 s.2.2.2.2.2.2.2.1 s.2.2.2.2.2.2.2.2.1
  dy : ∀ (i : Fin 16) (j : Fin 512), s.2.2.2.2.2.2.2.2.2 (ix2 i j) = ((sh (512 * b) I.dy i j : ℝ) : EReal)

variable {m : (ℓ : Loc nD τ sig) → Buf (Elt Ideal) ℓ} {c : Dev nD} (hI : IsIn I m c)
include hI

theorem ok_B (t : Fin cfg0.N) (h0 : ¬ t.val % 8 = 0) (ht : t.val < 8) (p : St Ideal) (hp : Ok I (7 - t.val + 1) p) : Ok I (7 - t.val) (outB m c t h0 p) := by
  have hB := isB hI t
  have hk := tailBit_at t
  have hk' := headBit_at t
  have hb : 7 - t.val < 8 := by omega
  have hhr : ¬ (7 - t.val) % 4 = 3 → ∀ (i : Fin 16) (j : Fin 512), p.2.2.2.2.2.2.2.2.2 (ix2 i j) = ((sh (512 * (7 - t.val + 1)) I.dy i j : ℝ) : EReal) := fun _ => hp.dy
  refine ⟨?_, ?_, ?_, ?_, ⟨?_, ?_, ?_, ?_, ?_⟩, ?_⟩
  · rw [outB_0]; exact hB.dx hk hk' hhr
  · rw [outB_1]; exact hB.dproj hk hk' hhr
  · rw [outB_2]; exact hB.mix hk hk' hhr
  · rw [outB_3]; exact hid_at hB
  · rw [outB_4]; exact next_g hb hB hp.sums (hB.dgam hk hk' hhr)
  · rw [outB_5, ← List.append_nil (Blk.pcsW _ _)]; exact next_w hb hB hp.sums lays_canon []
  · rw [outB_6, ← List.append_nil (Blk.pcsB _ _)]
    refine next_b hb hB hp.sums (lays_view _ _) [] (fun i a ha => ?_)
    refine (congrFun ((hs0_17 t).read_unread p.2.2.2.2.2.2.1) _).trans ((hp.sums.bs i a).trans (congrArg _ (if_neg ha)))
  · rw [outB_7, ← List.append_nil (Blk.pcsL _ _)]; exact next_l hb hB hp.sums lays_canon []
  · rw [outB_8, ← List.append_nil (Blk.pcsC _ _ _ _ _)]
    refine next_c hb hB hp.sums hk (lays_view _ _) [] (fun a j ha => ?_)
    refine (congrFun ((hs0_19 t).read_unread p.2.2.2.2.2.2.2.2.1) _).trans ((hp.sums.cc a j).trans (congrArg _ (if_neg ha)))
  · rw [outB_9]; exact carry_at hB

theorem ok_A (t : Fin cfg0.N) (h0 : t.val % 8 = 0) (ht : t.val < 8) : Ok I (7 - t.val) (outA m c t h0) := by
  have hB := isB hI t
  have hk := tailBit_at t
  have hk' := headBit_at t
  have e7 : 7 - t.val + 1 = 8 := by omega
  have hb : 7 - t.val < 8 := by omega
  have hhr : ¬ (7 - t.val) % 4 = 3 → ∀ (i : Fin 16) (j : Fin 512), (zrows (F := Ideal)) (ix2 i j) = ((sh (512 * (7 - t.val + 1)) I.dy i j : ℝ) : EReal) := fun hn => absurd (by omega) hn
  have hs : Sums I (7 - t.val + 1) (k0_pay1 (F := Ideal)) (k0_pay2 (F := Ideal)) (k0_pay3 (F := Ideal)) (k0_pay4 (F := Ideal)) (k0_pay5 (F := Ideal)) := by rw [e7]; exact sums0 I
  refine ⟨?_, ?_, ?_, ?_, ⟨?_, ?_, ?_, ?_, ?_⟩, ?_⟩
  · rw [outA_0]; exact hB.dx hk hk' hhr
  · rw [outA_1]; exact hB.dproj hk hk' hhr
  · rw [outA_2]; exact hB.mix hk hk' hhr
  · rw [outA_3]; exact hid_at hB
  · rw [outA_4]; exact next_g hb hB hs (hB.dgam hk hk' hhr)
  · rw [outA_5]; exact next_w hb hB hs lays_canon _
  · rw [outA_6]
    refine next_b hb hB hs lays_canon _ (fun i a ha => ?_)
    refine (lays_canon.mem (S := S128x128) (e := .f32) (off := ![0, 0]) (size := ![128, 128]) inb_S128x128_S128x128_0_0 (k0_pay3 (F := Ideal)) [] (ix2 i a) (ix2 i a) ?_).trans ((hs.bs i a).trans (congrArg _ (if_neg ha)))
    intro d; fin_cases d <;> exact (Nat.zero_add _).symm
  · rw [outA_7]; exact next_l hb hB hs lays_canon _
  · rw [outA_8]
    refine next_c hb hB hs hk lays_canon _ (fun a j ha => ?_)
    refine (lays_canon.mem (S := S8x512) (e := .f32) (off := ![0, 0]) (size := ![8, 512]) inb_S8x512_S8x512_0_0 (k0_pay5 (F := Ideal)) [] (ix2 a j) (ix2 a j) ?_).trans ((hs.cc a j).trans (congrArg _ (if_neg ha)))
    intro d; fin_cases d <;> exact (Nat.zero_add _).symm
  · rw [outA_9]; exact carry_at hB

/-- After every point. -/
theorem ok_at : ∀ (n : ℕ) (hn : n < cfg0.N), Ok I (7 - n) (outsAt0 m c n hn)
  | 0, hn => by
    have h := ok_A hI ⟨0, hn⟩ (Nat.zero_mod _) (Nat.zero_lt_succ 7)
    exact (outsAt0_A m c ⟨0, hn⟩ (Nat.zero_mod _)).symm ▸ h
  | n + 1, hn => by
    have hN : n + 1 < 8 := hn
    have h0 : ¬ (n + 1) % 8 = 0 := by omega
    have ih := ok_at n (Nat.lt_of_succ_lt hn)
    have h := ok_B hI ⟨n + 1, hn⟩ h0 hN (outsAt0 m c n (Nat.lt_of_succ_lt hn)) (by
      show Ok I (7 - (n + 1) + 1) _
      rw [show 7 - (n + 1) + 1 = 7 - n by omega]; exact ih)
    exact (outsAt0_B m c ⟨n + 1, hn⟩ h0).symm ▸ h

end Cert.KernelIdeal.Even
-- ==== Proof.Even.Value.lean ====
/- The results of the mixer backward kernel, named by what each point leaves. -/
module

public import proofs.«01_k».proof.Proof.Even.Frame
public import Idealize.ShloMosaic.Lib.Pipeline.Value

@[expose] public section

set_option maxRecDepth 16384

noncomputable section

namespace Cert.KernelIdeal.Even

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Block by block: what each point writes back, and the final array. -/

theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

theorem idx_inj11 : ∀ t t' : Fin cfg0.N, win0_11.index t = win0_11.index t' → t = t' :=
  (by decide +kernel : ∀ t t' : Fin grid0.N, win0_11.index t = win0_11.index t' → t = t')

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- Block `t` of the final array is what point `t` wrote back. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

theorem idx_inj12 : ∀ t t' : Fin cfg0.N, win0_12.index t = win0_12.index t' → t = t' :=
  (by decide +kernel : ∀ t t' : Fin grid0.N, win0_12.index t = win0_12.index t' → t = t')

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- Block `t` of the final array is what point `t` wrote back. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

theorem idx_inj13 : ∀ t t' : Fin cfg0.N, win0_13.index t = win0_13.index t' → t = t' :=
  (by decide +kernel : ∀ t t' : Fin grid0.N, win0_13.index t = win0_13.index t' → t = t')

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- Block `t` of the final array is what point `t` wrote back. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

theorem idx_inj14 : ∀ t t' : Fin cfg0.N, win0_14.index t = win0_14.index t' → t = t' :=
  (by decide +kernel : ∀ t t' : Fin grid0.N, win0_14.index t = win0_14.index t' → t = t')

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- Block `t` of the final array is what point `t` wrote back. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

theorem flushed15 (c : Dev nD) (t : Fin cfg0.N) :
    (dats m 0 c).flushed 15 t = (cfg0.win 15).cut (grid0.coords t) ((outsAt0 m c t.val t.isLt).2.2.2.2.1) := by
  show (cfg0.win 15).cut (grid0.coords t) ((dats m 0 c).after 15 t) = _
  rw [after0_15]

theorem disjoint15 : ∀ t t' : Fin cfg0.N, (cfg0.win 15).flush t = true → (cfg0.win 15).flush t' = true → t ≠ t' →
    Disjoint ((cfg0.win 15).blk t).view.set ((cfg0.win 15).blk t').view.set :=
  fun t t' h h' hne => absurd (Fin.ext (by
    have ht : t.val < 8 := lt_of_lt_of_eq t.isLt (show cfg0.N = 8 from N_0)
    have ht' : t'.val < 8 := lt_of_lt_of_eq t'.isLt (show cfg0.N = 8 from N_0)
    have := (flush0_15 t).mp h; have := (flush0_15 t').mp h'; omega)) hne

/-- Block `t` of the final array is what point `t` wrote back. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

theorem flushed16 (c : Dev nD) (t : Fin cfg0.N) :
    (dats m 0 c).flushed 16 t = (cfg0.win 16).cut (grid0.coords t) ((outsAt0 m c t.val t.isLt).2.2.2.2.2.1) := by
  show (cfg0.win 16).cut (grid0.coords t) ((dats m 0 c).after 16 t) = _
  rw [after0_16]

theorem disjoint16 : ∀ t t' : Fin cfg0.N, (cfg0.win 16).flush t = true → (cfg0.win 16).flush t' = true → t ≠ t' →
    Disjoint ((cfg0.win 16).blk t).view.set ((cfg0.win 16).blk t').view.set :=
  fun t t' h h' hne => absurd (Fin.ext (by
    have ht : t.val < 8 := lt_of_lt_of_eq t.isLt (show cfg0.N = 8 from N_0)
    have ht' : t'.val < 8 := lt_of_lt_of_eq t'.isLt (show cfg0.N = 8 from N_0)
    have := (flush0_16 t).mp h; have := (flush0_16 t').mp h'; omega)) hne

/-- Block `t` of the final array is what point `t` wrote back. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

theorem flushed17 (c : Dev nD) (t : Fin cfg0.N) :
    (dats m 0 c).flushed 17 t = (cfg0.win 17).cut (grid0.coords t) ((outsAt0 m c t.val t.isLt).2.2.2.2.2.2.1) := by
  show (cfg0.win 17).cut (grid0.coords t) ((dats m 0 c).after 17 t) = _
  rw [after0_17]

theorem disjoint17 : ∀ t t' : Fin cfg0.N, (cfg0.win 17).flush t = true → (cfg0.win 17).flush t' = true → t ≠ t' →
    Disjoint ((cfg0.win 17).blk t).view.set ((cfg0.win 17).blk t').view.set :=
  fun t t' h h' hne => absurd (Fin.ext (by
    have ht : t.val < 8 := lt_of_lt_of_eq t.isLt (show cfg0.N = 8 from N_0)
    have ht' : t'.val < 8 := lt_of_lt_of_eq t'.isLt (show cfg0.N = 8 from N_0)
    have := (flush0_17 t).mp h; have := (flush0_17 t').mp h'; omega)) hne

/-- Block `t` of the final array is what point `t` wrote back. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem flushed18 (c : Dev nD) (t : Fin cfg0.N) :
    (dats m 0 c).flushed 18 t = (cfg0.win 18).cut (grid0.coords t) ((outsAt0 m c t.val t.isLt).2.2.2.2.2.2.2.1) := by
  show (cfg0.win 18).cut (grid0.coords t) ((dats m 0 c).after 18 t) = _
  rw [after0_18]

theorem disjoint18 : ∀ t t' : Fin cfg0.N, (cfg0.win 18).flush t = true → (cfg0.win 18).flush t' = true → t ≠ t' →
    Disjoint ((cfg0.win 18).blk t).view.set ((cfg0.win 18).blk t').view.set :=
  fun t t' h h' hne => absurd (Fin.ext (by
    have ht : t.val < 8 := lt_of_lt_of_eq t.isLt (show cfg0.N = 8 from N_0)
    have ht' : t'.val < 8 := lt_of_lt_of_eq t'.isLt (show cfg0.N = 8 from N_0)
    have := (flush0_18 t).mp h; have := (flush0_18 t').mp h'; omega)) hne

/-- Block `t` of the final array is what point `t` wrote back. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem flushed19 (c : Dev nD) (t : Fin cfg0.N) :
    (dats m 0 c).flushed 19 t = (cfg0.win 19).cut (grid0.coords t) ((outsAt0 m c t.val t.isLt).2.2.2.2.2.2.2.2.1) := by
  show (cfg0.win 19).cut (grid0.coords t) ((dats m 0 c).after 19 t) = _
  rw [after0_19]

theorem disjoint19 : ∀ t t' : Fin cfg0.N, (cfg0.win 19).flush t = true → (cfg0.win 19).flush t' = true → t ≠ t' →
    Disjoint ((cfg0.win 19).blk t).view.set ((cfg0.win 19).blk t').view.set :=
  fun t t' h h' hne => absurd (Fin.ext (by
    have ht : t.val < 8 := lt_of_lt_of_eq t.isLt (show cfg0.N = 8 from N_0)
    have ht' : t'.val < 8 := lt_of_lt_of_eq t'.isLt (show cfg0.N = 8 from N_0)
    have := (flush0_19 t).mp h; have := (flush0_19 t').mp h'; omega)) hne

/-- Block `t` of the final array is what point `t` wrote back. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem post11 (r : PUnit × MemSt nD τ sig (Elt F)) (h : Pipeline.FramePost cfgs (dats m) 0 (V m) r) (c : Dev nD) :
    r.2.mem ((c : Thread nD τ).loc main_v27_0) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v27_1) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v27_2) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v27_3) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v27_4) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v27_5) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v27_6) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v27_7) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v27_8) = (dats m 0 c).arrAt 19 cfg0.N :=
  (h c).1 19

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 8).trans (((dats m 0 c).arrAt_in 8 rfl _).trans ((A_eq m c 8).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run, with each result named and the arguments unchanged. -/
theorem run_blocks : θ_run defs (onTc (τ := τ) (main (F := F))) ⟨m, fun _ => 0, ρ⟩ fun r => ∀ c : Dev nD,
      r.2.mem ((c : Thread nD τ).loc main_v27_0) = (dats m 0 c).arrAt 11 cfg0.N
      ∧ r.2.mem ((c : Thread nD τ).loc main_v27_1) = (dats m 0 c).arrAt 12 cfg0.N
      ∧ r.2.mem ((c : Thread nD τ).loc main_v27_2) = (dats m 0 c).arrAt 13 cfg0.N
      ∧ r.2.mem ((c : Thread nD τ).loc main_v27_3) = (dats m 0 c).arrAt 14 cfg0.N
      ∧ r.2.mem ((c : Thread nD τ).loc main_v27_4) = (dats m 0 c).arrAt 15 cfg0.N
      ∧ r.2.mem ((c : Thread nD τ).loc main_v27_5) = (dats m 0 c).arrAt 16 cfg0.N
      ∧ r.2.mem ((c : Thread nD τ).loc main_v27_6) = (dats m 0 c).arrAt 17 cfg0.N
      ∧ r.2.mem ((c : Thread nD τ).loc main_v27_7) = (dats m 0 c).arrAt 18 cfg0.N
      ∧ r.2.mem ((c : Thread nD τ).loc main_v27_8) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post11 m r h c,
      post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Even

end
-- ==== Proof.Even.Arrays.lean ====
/- The call's results, where the arguments are real. -/
module

public import proofs.«01_k».proof.Proof.Even.Sums
public import proofs.«01_k».proof.Proof.Even.Value

@[expose] public section

set_option maxRecDepth 16384

noncomputable section

namespace Cert.KernelIdeal.Even

open Cert.KernelIdeal.Gen
open Idealize.ShloMosaic Idealize.ShloMosaic.TcCoe Idealize.ShloMosaic.Pointwise
open Idealize.SL.Sem
open Cert.Spec (sh In)

theorem ix_11 : ∀ t : Fin cfg0.N, win0_11.index t = ![7 - t.val, 0] := (by decide +kernel : ∀ t : Fin grid0.N, _)
theorem ix_12 : ∀ t : Fin cfg0.N, win0_12.index t = ![7 - t.val, 0] := (by decide +kernel : ∀ t : Fin grid0.N, _)
theorem ix_13 : ∀ t : Fin cfg0.N, win0_13.index t = ![7 - t.val, 0] := (by decide +kernel : ∀ t : Fin grid0.N, _)
theorem ix_14 : ∀ t : Fin cfg0.N, win0_14.index t = ![7 - t.val, 0] := (by decide +kernel : ∀ t : Fin grid0.N, _)
theorem ix_15 : ∀ t : Fin cfg0.N, win0_15.index t = ![0, 0] := (by decide +kernel : ∀ t : Fin grid0.N, _)
theorem ix_16 : ∀ t : Fin cfg0.N, win0_16.index t = ![0, 0, 0] := (by decide +kernel : ∀ t : Fin grid0.N, _)
theorem ix_17 : ∀ t : Fin cfg0.N, win0_17.index t = ![0, 0] := (by decide +kernel : ∀ t : Fin grid0.N, _)
theorem ix_18 : ∀ t : Fin cfg0.N, win0_18.index t = ![0, 0] := (by decide +kernel : ∀ t : Fin grid0.N, _)
theorem ix_19 : ∀ t : Fin cfg0.N, win0_19.index t = ![0, 0] := (by decide +kernel : ∀ t : Fin grid0.N, _)

variable {I : In} {m : (ℓ : Loc nD τ sig) → Buf (Elt Ideal) ℓ} {c : Dev nD} (hI : IsIn I m c)
include hI

theorem arr11 (i : Fin 4096) (j : Fin 1024) : ((dats m 0 c).arrAt 11 cfg0.N : Vec Ideal S4096x1024 .f32) (ix2 i j) = ((I.dx i j : ℝ) : EReal) := by
  have key : (dats m 0 c).arrAt 11 cfg0.N = (fun i => ((I.dx (i 0) (i 1) : ℝ) : EReal) : Vec Ideal S4096x1024 .f32) := by
    refine (dats m 0 c).arrAt_eq_of_covers 11 _ (by decide +kernel) fun t hf y => ?_
    blk_simp
    rw [after0_11]
    have h := (ok_at hI t.val t.isLt).dx (y 0) (y 1)
    rw [← eq_ix2] at h
    refine h.trans ?_
    blk_simp [ix_11 t]
    rw [Nat.mul_comm (7 - t.val)]
    rfl
  exact congrFun key (ix2 i j)

theorem arr12 (i : Fin 4096) (j : Fin 2560) : ((dats m 0 c).arrAt 12 cfg0.N : Vec Ideal S4096x2560 .f32) (ix2 i j) = ((I.dproj i j : ℝ) : EReal) := by
  have key : (dats m 0 c).arrAt 12 cfg0.N = (fun i => ((I.dproj (i 0) (i 1) : ℝ) : EReal) : Vec Ideal S4096x2560 .f32) := by
    refine (dats m 0 c).arrAt_eq_of_covers 12 _ (by decide +kernel) fun t hf y => ?_
    blk_simp
    rw [after0_12]
    have h := (ok_at hI t.val t.isLt).dproj (y 0) (y 1)
    rw [← eq_ix2] at h
    refine h.trans ?_
    blk_simp [ix_12 t]
    rw [Nat.mul_comm (7 - t.val)]
    rfl
  exact congrFun key (ix2 i j)

theorem arr13 (i : Fin 4096) (j : Fin 1024) : ((dats m 0 c).arrAt 13 cfg0.N : Vec Ideal S4096x1024 .bf16) (ix2 i j) = ((I.mix i j : ℝ) : EReal) := by
  have key : (dats m 0 c).arrAt 13 cfg0.N = (fun i => ((I.mix (i 0) (i 1) : ℝ) : EReal) : Vec Ideal S4096x1024 .bf16) := by
    refine (dats m 0 c).arrAt_eq_of_covers 13 _ (by decide +kernel) fun t hf y => ?_
    blk_simp
    rw [after0_13]
    have h := (ok_at hI t.val t.isLt).mix (y 0) (y 1)
    rw [← eq_ix2] at h
    refine h.trans ?_
    blk_simp [ix_13 t]
    rw [Nat.mul_comm (7 - t.val)]
    rfl
  exact congrFun key (ix2 i j)

theorem arr14 (i : Fin 4096) (j : Fin 1024) : ((dats m 0 c).arrAt 14 cfg0.N : Vec Ideal S4096x1024 .bf16) (ix2 i j) = ((Spec.hid I.x I.g i j : ℝ) : EReal) := by
  have key : (dats m 0 c).arrAt 14 cfg0.N = (fun i => ((Spec.hid I.x I.g (i 0) (i 1) : ℝ) : EReal) : Vec Ideal S4096x1024 .bf16) := by
    refine (dats m 0 c).arrAt_eq_of_covers 14 _ (by decide +kernel) fun t hf y => ?_
    blk_simp
    rw [after0_14]
    have h := (ok_at hI t.val t.isLt).hid (y 0) (y 1)
    rw [← eq_ix2] at h
    refine h.trans ?_
    blk_simp [ix_14 t]
    rw [Nat.mul_comm (7 - t.val)]
    rfl
  exact congrFun key (ix2 i j)

theorem arr15 (i : Fin 1) (j : Fin 1024) : ((dats m 0 c).arrAt 15 cfg0.N : Vec Ideal S1x1024 .f32) (ix2 i j) = ((I.dgam (j) : ℝ) : EReal) := by
  have key : (dats m 0 c).arrAt 15 cfg0.N = (fun i => ((I.dgam (i 1) : ℝ) : EReal) : Vec Ideal S1x1024 .f32) := by
    refine (dats m 0 c).arrAt_eq_of_covers 15 _ (by decide +kernel) fun t hf y => ?_
    have h7 := (flush0_15 t).1 hf
    have ht := t.isLt
    blk_simp
    rw [after0_15]
    have h := (ok_at hI t.val t.isLt).sums.g (y 0) (y 1)
    rw [← eq_ix2, show 512 * (7 - t.val) = 0 by omega, tl_all] at h
    refine h.trans ?_
    blk_simp [ix_15 t]
    rfl
  exact congrFun key (ix2 i j)

theorem arr16 (a : Fin 4) (i j : Fin 128) : ((dats m 0 c).arrAt 16 cfg0.N : Vec Ideal S4x128x128 .f32) (ix3 a i j) = ((I.dw (a) (i) (j) : ℝ) : EReal) := by
  have key : (dats m 0 c).arrAt 16 cfg0.N = (fun i => ((I.dw (i 0) (i 1) (i 2) : ℝ) : EReal) : Vec Ideal S4x128x128 .f32) := by
    refine (dats m 0 c).arrAt_eq_of_covers 16 _ (by decide +kernel) fun t hf y => ?_
    have h7 := (flush0_16 t).1 hf
    have ht := t.isLt
    blk_simp
    rw [after0_16]
    have h := (ok_at hI t.val t.isLt).sums.w (y 0) (y 1) (y 2)
    rw [← eq_ix3, show 4 * (7 - t.val) = 0 by omega, tl_all] at h
    refine h.trans ?_
    blk_simp [ix_16 t]
    rfl
  exact congrFun key (ix3 a i j)

theorem arr17 (i j : Fin 128) : ((dats m 0 c).arrAt 17 cfg0.N : Vec Ideal S128x128 .f32) (ix2 i j) = ((if ((j : ℕ)) < 4 then I.dbs (j) (i) else 0 : ℝ) : EReal) := by
  have key : (dats m 0 c).arrAt 17 cfg0.N = (fun i => ((if ((i 1 : ℕ)) < 4 then I.dbs (i 1) (i 0) else 0 : ℝ) : EReal) : Vec Ideal S128x128 .f32) := by
    refine (dats m 0 c).arrAt_eq_of_covers 17 _ (by decide +kernel) fun t hf y => ?_
    have h7 := (flush0_17 t).1 hf
    have ht := t.isLt
    blk_simp
    rw [after0_17]
    have h := (ok_at hI t.val t.isLt).sums.bs (y 0) (y 1)
    rw [← eq_ix2, show 4 * (7 - t.val) = 0 by omega, tl_all] at h
    refine h.trans ?_
    blk_simp [ix_17 t]
    rfl
  exact congrFun key (ix2 i j)

theorem arr18 (i : Fin 1) (j : Fin 512) : ((dats m 0 c).arrAt 18 cfg0.N : Vec Ideal S1x512 .f32) (ix2 i j) = ((I.dlg ((j : ℕ) / 128) ((j : ℕ) % 128) : ℝ) : EReal) := by
  have key : (dats m 0 c).arrAt 18 cfg0.N = (fun i => ((I.dlg ((i 1 : ℕ) / 128) ((i 1 : ℕ) % 128) : ℝ) : EReal) : Vec Ideal S1x512 .f32) := by
    refine (dats m 0 c).arrAt_eq_of_covers 18 _ (by decide +kernel) fun t hf y => ?_
    have h7 := (flush0_18 t).1 hf
    have ht := t.isLt
    blk_simp
    rw [after0_18]
    have h := (ok_at hI t.val t.isLt).sums.l (y 0) (y 1)
    rw [← eq_ix2, show 512 * (7 - t.val) = 0 by omega, tl_all] at h
    refine h.trans ?_
    blk_simp [ix_18 t]
    rfl
  exact congrFun key (ix2 i j)

theorem arr19 (i : Fin 8) (j : Fin 512) : ((dats m 0 c).arrAt 19 cfg0.N : Vec Ideal S8x512 .f32) (ix2 i j) = ((if ((i : ℕ)) < 3 then I.dcw (i) (j) else 0 : ℝ) : EReal) := by
  have key : (dats m 0 c).arrAt 19 cfg0.N = (fun i => ((if ((i 0 : ℕ)) < 3 then I.dcw (i 0) (i 1) else 0 : ℝ) : EReal) : Vec Ideal S8x512 .f32) := by
    refine (dats m 0 c).arrAt_eq_of_covers 19 _ (by decide +kernel) fun t hf y => ?_
    have h7 := (flush0_19 t).1 hf
    have ht := t.isLt
    blk_simp
    rw [after0_19]
    have h := (ok_at hI t.val t.isLt).sums.cc (y 0) (y 1)
    rw [← eq_ix2, show 512 * (7 - t.val) = 0 by omega, tl_all] at h
    refine h.trans ?_
    blk_simp [ix_19 t]
    rfl
  exact congrFun key (ix2 i j)

end Cert.KernelIdeal.Even
-- ==== Proof.Even.Ref1.lean ====
/- The reference read where its arguments are real: the norm, the projections and the activation. -/
module

public import proofs.«01_k».proof.Proof.Even.Spec
public import proofs.«01_k».proof.Proof.Gen.ReferenceIdeal.Read
public import Idealize.ShloMosaic.Lib.Pointwise
public import Idealize.ShloMosaic.Lib.WordCmp

@[expose] public section

set_option maxHeartbeats 1000000
set_option maxRecDepth 16384

noncomputable section

namespace Cert.ReferenceIdeal.Even

open Cert.ReferenceIdeal Cert.ReferenceIdeal.Read
open Idealize.ShloMosaic Idealize.ShloMosaic.Pointwise
open Cert.Spec (csum cdiv cerf cexp cneg d1024 d128 r1024 r128 c_eps c_1024 c_128 c_half c_mhalf)
open Cert.Spec (grp back1 back2 fore1 fore2 In)

/-- The arguments are the reals `I`. -/
structure IsA (I : In) (x0 : Vec Ideal S2x2048x1024 .f32) (x1 : Vec Ideal S1024 .f32) (x2 : Vec Ideal S1024x2560 .f32) (x3 : Vec Ideal S512 .f32) (x4 : Vec Ideal S4x128x128 .f32) (x5 : Vec Ideal S4x128 .f32) (x6 : Vec Ideal S3x512 .f32) (x7 : Vec Ideal S1024x1024 .f32) (x8 : Vec Ideal S2x2048x1024 .f32) : Prop where
  x : ∀ (a : Fin 2) (i : Fin 2048) (j : Fin 1024), x0 (ix3 a i j) = ((I.x (2048 * a + i) j : ℝ) : EReal)
  g : ∀ (j : Fin 1024), x1 (ix1 j) = ((I.g j : ℝ) : EReal)
  win : ∀ (i : Fin 1024) (j : Fin 2560), x2 (ix2 i j) = ((I.win i j : ℝ) : EReal)
  lg : ∀ (j : Fin 512), x3 (ix1 j) = ((I.lg j : ℝ) : EReal)
  w : ∀ (a : Fin 4) (i : Fin 128) (j : Fin 128), x4 (ix3 a i j) = ((I.w a i j : ℝ) : EReal)
  b : ∀ (i : Fin 4) (j : Fin 128), x5 (ix2 i j) = ((I.b i j : ℝ) : EReal)
  cw : ∀ (i : Fin 3) (j : Fin 512), x6 (ix2 i j) = ((I.cw i j : ℝ) : EReal)
  wo : ∀ (i : Fin 1024) (j : Fin 1024), x7 (ix2 i j) = ((I.wo i j : ℝ) : EReal)
  ct : ∀ (a : Fin 2) (i : Fin 2048) (j : Fin 1024), x8 (ix3 a i j) = ((I.ct (2048 * a + i) j : ℝ) : EReal)

theorem c_two : Ideal.ofBits .f32 0x40000000#32 = ((2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_mone : Ideal.ofBits .f32 0xBF800000#32 = ((-1 : ℝ) : EReal) := by
  simp [Ideal.ofBits, Ideal.ieee, -EReal.coe_mul]; norm_num
/-- The root of two, and π as the angle of cosine -1. -/
theorem q2 : Ideal.sqrt ((2 : ℝ) : EReal) = ((Real.sqrt 2 : ℝ) : EReal) := by
  rw [Ideal.sqrt_coe, if_neg (by norm_num)]
theorem pi1 : Ideal.acos ((-1 : ℝ) : EReal) = ((Real.pi : ℝ) : EReal) := by
  change (if (-1 : ℝ) ≤ -1 ∧ (-1 : ℝ) ≤ 1 then ((Real.arccos (-1) : ℝ) : EReal) else ⊥) = _
  rw [if_pos (by norm_num), Real.arccos_neg_one]
theorem qpi : Ideal.sqrt ((Real.pi : ℝ) : EReal) = ((Real.sqrt Real.pi : ℝ) : EReal) := by
  rw [Ideal.sqrt_coe, if_neg (not_lt.mpr Real.pi_pos.le)]
theorem two_sqpi : Ideal.div ((2 : ℝ) : EReal) ((Real.sqrt Real.pi : ℝ) : EReal) = ((2 / Real.sqrt Real.pi : ℝ) : EReal) :=
  cdiv _ _ (Real.sqrt_pos.mpr Real.pi_pos).ne'
theorem dsq2 (a : ℝ) : Ideal.div (a : EReal) ((Real.sqrt 2 : ℝ) : EReal) = ((a * (Real.sqrt 2)⁻¹ : ℝ) : EReal) := by
  rw [cdiv _ _ (Real.sqrt_pos.mpr (by norm_num)).ne', div_eq_mul_inv]

variable {I : In} {x0 : Vec Ideal S2x2048x1024 .f32} {x1 : Vec Ideal S1024 .f32} {x2 : Vec Ideal S1024x2560 .f32} {x3 : Vec Ideal S512 .f32} {x4 : Vec Ideal S4x128x128 .f32} {x5 : Vec Ideal S4x128 .f32} {x6 : Vec Ideal S3x512 .f32} {x7 : Vec Ideal S1024x1024 .f32} {x8 : Vec Ideal S2x2048x1024 .f32}
variable (hA : IsA I x0 x1 x2 x3 x4 x5 x6 x7 x8)
include hA

theorem r_v0 (i : Fin 4096) (j : Fin 1024) : (val_main_v0 (F := Ideal) x0 : Vec Ideal S4096x1024 .f32) (ix2 i j) = ((I.x i j : ℝ) : EReal) := by
  unfold val_main_v0
  pointwise
  simp only [hA.x, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v8 (i : Fin 4096) (j : Fin 1) : (val_main_v8 (F := Ideal) x0 : Vec Ideal S4096x1 .f32) (ix2 i j) = ((Spec.inv I.x i : ℝ) : EReal) := by
  unfold val_main_v8 val_main_v7 val_main_v5 val_main_v3 val_main_v2 val_main_v1 val_main_cst val_main_v4 val_main_cst_0 val_main_v6 val_main_cst_1
  pointwise
  simp only [r_v0 hA, hA.x, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v13 (i : Fin 4096) (j : Fin 1024) : (val_main_v13 (F := Ideal) x0 : Vec Ideal S4096x1024 .f32) (ix2 i j) = ((I.x i j * Spec.inv I.x i : ℝ) : EReal) := by
  unfold val_main_v13 val_main_v12
  pointwise
  simp only [r_v0 hA, r_v8 hA, hA.x, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v16 (i : Fin 4096) (j : Fin 1024) : (val_main_v16 (F := Ideal) x0 x1 : Vec Ideal S4096x1024 .f32) (ix2 i j) = ((I.h i j : ℝ) : EReal) := by
  unfold val_main_v16 val_main_v15 val_main_v14
  pointwise
  simp only [r_v13 hA, hA.x, hA.g, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v17 (i : Fin 4096) (j : Fin 2560) : (val_main_v17 (F := Ideal) x0 x1 x2 : Vec Ideal S4096x2560 .f32) (ix2 i j) = ((I.P i j : ℝ) : EReal) := by
  unfold val_main_v17
  pointwise
  simp only [r_v16 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v18 (i : Fin 4096) (j : Fin 512) : (val_main_v18 (F := Ideal) x0 x1 x2 : Vec Ideal S4096x512 .f32) (ix2 i j) = ((I.u i j : ℝ) : EReal) := by
  unfold val_main_v18
  pointwise
  simp only [r_v17 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp [In.u, In.v, In.bg, In.cg, In.hv, grp]

theorem r_v19 (i : Fin 4096) (j : Fin 512) : (val_main_v19 (F := Ideal) x0 x1 x2 : Vec Ideal S4096x512 .f32) (ix2 i j) = ((I.v i j : ℝ) : EReal) := by
  unfold val_main_v19
  pointwise
  simp only [r_v17 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v20 (i : Fin 4096) (j : Fin 512) : (val_main_v20 (F := Ideal) x0 x1 x2 : Vec Ideal S4096x512 .f32) (ix2 i j) = ((I.bg i j : ℝ) : EReal) := by
  unfold val_main_v20
  pointwise
  simp only [r_v17 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v21 (i : Fin 4096) (j : Fin 512) : (val_main_v21 (F := Ideal) x0 x1 x2 : Vec Ideal S4096x512 .f32) (ix2 i j) = ((I.cg i j : ℝ) : EReal) := by
  unfold val_main_v21
  pointwise
  simp only [r_v17 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v22 (i : Fin 4096) (j : Fin 512) : (val_main_v22 (F := Ideal) x0 x1 x2 : Vec Ideal S4096x512 .f32) (ix2 i j) = ((I.hv i j : ℝ) : EReal) := by
  unfold val_main_v22
  pointwise
  simp only [r_v17 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v27 (i : Fin 4096) (j : Fin 512) : (val_main_v27 (F := Ideal) x0 x1 x2 : Vec Ideal S4096x512 .f32) (ix2 i j) = ((I.u i j * (Real.sqrt 2)⁻¹ : ℝ) : EReal) := by
  unfold val_main_v27 val_main_v26 val_main_v25 val_main_cst_4
  pointwise
  simp only [r_v18 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v36 (i : Fin 4096) (j : Fin 512) : (val_main_v36 (F := Ideal) x0 x1 x2 : Vec Ideal S4096x512 .f32) (ix2 i j) = ((2 / Real.sqrt Real.pi * Real.exp (-(I.u i j * (Real.sqrt 2)⁻¹ * (I.u i j * (Real.sqrt 2)⁻¹))) : ℝ) : EReal) := by
  unfold val_main_v36 val_main_v35 val_main_v31 val_main_cst_6 val_main_v30 val_main_v29 val_main_cst_5 val_main_v34 val_main_v33 val_main_v32
  pointwise
  simp only [r_v27 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v38 (i : Fin 4096) (j : Fin 512) : (val_main_v38 (F := Ideal) x0 x1 x2 : Vec Ideal S4096x512 .f32) (ix2 i j) = ((1 + Spec.erf (I.u i j * (Real.sqrt 2)⁻¹) : ℝ) : EReal) := by
  unfold val_main_v38 val_main_v37 val_main_cst_7 val_main_v28
  pointwise
  simp only [r_v27 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v39 (i : Fin 4096) (j : Fin 512) : (val_main_v39 (F := Ideal) x0 x1 x2 : Vec Ideal S4096x512 .f32) (ix2 i j) = ((I.gu i j : ℝ) : EReal) := by
  unfold val_main_v39 val_main_v24 val_main_v23 val_main_cst_3
  pointwise
  simp only [r_v18 hA, r_v38 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v44 (i : Fin 4096) (j : Fin 512) : (val_main_v44 (F := Ideal) x0 x1 x2 : Vec Ideal S4096x512 .f32) (ix2 i j) = ((I.v i j * (Real.sqrt 2)⁻¹ : ℝ) : EReal) := by
  unfold val_main_v44 val_main_v43 val_main_v42 val_main_cst_9
  pointwise
  simp only [r_v19 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v53 (i : Fin 4096) (j : Fin 512) : (val_main_v53 (F := Ideal) x0 x1 x2 : Vec Ideal S4096x512 .f32) (ix2 i j) = ((2 / Real.sqrt Real.pi * Real.exp (-(I.v i j * (Real.sqrt 2)⁻¹ * (I.v i j * (Real.sqrt 2)⁻¹))) : ℝ) : EReal) := by
  unfold val_main_v53 val_main_v52 val_main_v48 val_main_cst_11 val_main_v47 val_main_v46 val_main_cst_10 val_main_v51 val_main_v50 val_main_v49
  pointwise
  simp only [r_v44 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v55 (i : Fin 4096) (j : Fin 512) : (val_main_v55 (F := Ideal) x0 x1 x2 : Vec Ideal S4096x512 .f32) (ix2 i j) = ((1 + Spec.erf (I.v i j * (Real.sqrt 2)⁻¹) : ℝ) : EReal) := by
  unfold val_main_v55 val_main_v54 val_main_cst_12 val_main_v45
  pointwise
  simp only [r_v44 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v56 (i : Fin 4096) (j : Fin 512) : (val_main_v56 (F := Ideal) x0 x1 x2 : Vec Ideal S4096x512 .f32) (ix2 i j) = ((I.gv i j : ℝ) : EReal) := by
  unfold val_main_v56 val_main_v41 val_main_v40 val_main_cst_8
  pointwise
  simp only [r_v19 hA, r_v55 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

end Cert.ReferenceIdeal.Even

end
-- ==== Proof.Even.Ref2.lean ====
/- The reference read where its arguments are real: the heads, their normalisation and their mixing. -/
module

public import proofs.«01_k».proof.Proof.Even.Ref1

@[expose] public section

set_option maxHeartbeats 1000000
set_option maxRecDepth 16384

noncomputable section

namespace Cert.ReferenceIdeal.Even

open Cert.ReferenceIdeal Cert.ReferenceIdeal.Read
open Idealize.ShloMosaic Idealize.ShloMosaic.Pointwise
open Cert.Spec (csum cdiv cerf cexp cneg d1024 d128 r1024 r128 c_eps c_1024 c_128 c_half c_mhalf)
open Cert.Spec (grp back1 back2 fore1 fore2 In)

/-- One over a root, over what is under it. -/
theorem rdiv128 {n : ℕ} (f : Fin n → ℝ) :
    Ideal.div (((Real.sqrt ((∑ x, f x * f x) / 128 + Spec.eps))⁻¹ : ℝ) : EReal) (((∑ x, f x * f x) / 128 + Spec.eps : ℝ) : EReal) =
      (((Real.sqrt ((∑ x, f x * f x) / 128 + Spec.eps))⁻¹ * ((Real.sqrt ((∑ x, f x * f x) / 128 + Spec.eps))⁻¹ * (Real.sqrt ((∑ x, f x * f x) / 128 + Spec.eps))⁻¹) : ℝ) : EReal) := by
  have h := Spec.msq_pos f 128 (by norm_num)
  rw [cdiv _ _ h.ne', ← mul_inv, Real.mul_self_sqrt h.le, div_eq_mul_inv]
theorem rdiv1024 {n : ℕ} (f : Fin n → ℝ) :
    Ideal.div (((Real.sqrt ((∑ x, f x * f x) / 1024 + Spec.eps))⁻¹ : ℝ) : EReal) (((∑ x, f x * f x) / 1024 + Spec.eps : ℝ) : EReal) =
      (((Real.sqrt ((∑ x, f x * f x) / 1024 + Spec.eps))⁻¹ * ((Real.sqrt ((∑ x, f x * f x) / 1024 + Spec.eps))⁻¹ * (Real.sqrt ((∑ x, f x * f x) / 1024 + Spec.eps))⁻¹) : ℝ) : EReal) := by
  have h := Spec.msq_pos f 1024 (by norm_num)
  rw [cdiv _ _ h.ne', ← mul_inv, Real.mul_self_sqrt h.le, div_eq_mul_inv]
theorem sge_ofNat {i j : ℕ} (hi : i < 2 ^ 31) (hj : j < 2 ^ 31) :
    IntOp.cmpi CmpIPredicate.sge (BitVec.ofNat 32 i) (BitVec.ofNat 32 j) = if j ≤ i then 1#1 else 0#1 := by
  rw [WordCmp.cmpi_sge_eq, WordCmp.toInt_ofNat_of_lt (by omega), WordCmp.toInt_ofNat_of_lt (by omega)]
  by_cases h : j ≤ i <;> simp [h]

variable {I : In} {x0 : Vec Ideal S2x2048x1024 .f32} {x1 : Vec Ideal S1024 .f32} {x2 : Vec Ideal S1024x2560 .f32} {x3 : Vec Ideal S512 .f32} {x4 : Vec Ideal S4x128x128 .f32} {x5 : Vec Ideal S4x128 .f32} {x6 : Vec Ideal S3x512 .f32} {x7 : Vec Ideal S1024x1024 .f32} {x8 : Vec Ideal S2x2048x1024 .f32}
variable (hA : IsA I x0 x1 x2 x3 x4 x5 x6 x7 x8)
include hA

theorem r_v57 (i : Fin 4096) (n : Fin 4) (j : Fin 128) : (val_main_v57 (F := Ideal) x0 x1 x2 : Vec Ideal S4096x4x128 .f32) (ix3 i n j) = ((grp (128 * n) I.gv i j : ℝ) : EReal) := by
  unfold val_main_v57
  pointwise
  simp only [r_v56 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [grp, Nat.mul_comm 128]

theorem r_v58 (n : Fin 4) (j : Fin 128) : (val_main_v58 (F := Ideal) x3 : Vec Ideal S4x128 .f32) (ix2 n j) = ((I.lgH n j : ℝ) : EReal) := by
  unfold val_main_v58
  pointwise
  simp only [hA.lg, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.lgH, Nat.mul_comm 128]

theorem r_v64 (i : Fin 4096) (n : Fin 4) (j : Fin 128) : (val_main_v64 (F := Ideal) x0 x1 x2 : Vec Ideal S4096x4x128 .f32) (ix3 i n j) = ((I.xc n i j : ℝ) : EReal) := by
  unfold val_main_v64 val_main_v63 val_main_v62 val_main_v60 val_main_v59 val_main_cst_13 val_main_v61 val_main_cst_14
  pointwise
  simp only [r_v57 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v71 (i : Fin 4096) (n : Fin 4) (j : Fin 1) : (val_main_v71 (F := Ideal) x0 x1 x2 : Vec Ideal S4096x4x1 .f32) (ix3 i n j) = (((∑ e : Fin 128, I.xc n i e * I.xc n i e) / 128 + Spec.eps : ℝ) : EReal) := by
  unfold val_main_v71 val_main_v69 val_main_v67 val_main_v66 val_main_v65 val_main_cst_15 val_main_v68 val_main_cst_16 val_main_v70 val_main_cst_17
  pointwise
  simp only [r_v64 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v72 (i : Fin 4096) (n : Fin 4) (j : Fin 1) : (val_main_v72 (F := Ideal) x0 x1 x2 : Vec Ideal S4096x4x1 .f32) (ix3 i n j) = ((I.rr n i : ℝ) : EReal) := by
  unfold val_main_v72
  pointwise
  simp only [r_v71 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v75 (i : Fin 4096) (n : Fin 4) (j : Fin 1) : (val_main_v75 (F := Ideal) x0 x1 x2 : Vec Ideal S4096x4x1 .f32) (ix3 i n j) = ((-(1 / 2) * (I.rr n i * (I.rr n i * I.rr n i)) : ℝ) : EReal) := by
  unfold val_main_v75 val_main_v74 val_main_cst_18 val_main_v73
  pointwise
  simp only [r_v72 hA, r_v71 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero, In.rr, Spec.rr, rdiv128]
  all_goals rfl

theorem r_v77 (i : Fin 4096) (n : Fin 4) (j : Fin 128) : (val_main_v77 (F := Ideal) x0 x1 x2 : Vec Ideal S4096x4x128 .f32) (ix3 i n j) = ((I.xh n i j : ℝ) : EReal) := by
  unfold val_main_v77 val_main_v76
  pointwise
  simp only [r_v64 hA, r_v72 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v80 (i : Fin 4096) (n : Fin 4) (j : Fin 128) : (val_main_v80 (F := Ideal) x0 x1 x2 x3 : Vec Ideal S4096x4x128 .f32) (ix3 i n j) = ((I.vn n i j : ℝ) : EReal) := by
  unfold val_main_v80 val_main_v79 val_main_v78
  pointwise
  simp only [r_v77 hA, r_v58 hA, hA.x, hA.g, hA.win, hA.lg, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v81 (a : Fin 32) (t : Fin 128) (n : Fin 4) (j : Fin 128) : (val_main_v81 (F := Ideal) x0 x1 x2 x3 : Vec Ideal S32x128x4x128 .f32) (ix4 a t n j) = ((I.vn n (128 * a + t) j : ℝ) : EReal) := by
  unfold val_main_v81
  pointwise
  simp only [r_v80 hA, hA.x, hA.g, hA.win, hA.lg, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [Nat.mul_comm 128]

theorem r_v85_0 (n : Fin 4) (t : Fin 128) (s : Fin 128) : (val_main_v85_0 (F := Ideal) x4 : Vec Ideal S4x128x128 .f32) (ix3 n t s) = ((I.wm n t s : ℝ) : EReal) := by
  unfold val_main_v85_0 val_main_v85_1 val_main_v84 val_main_v83 val_main_call0_v4 val_main_call0_v2 val_main_call0_v0 val_main_call0_v1 val_main_call0_c val_main_call0_v3 val_main_v82 val_main_c val_main_call0_v5 val_main_call0_c_0 val_main_call1_v2 val_main_call1_v0 val_main_cst_19
  pointwise
  simp only [hA.w, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  have ht := t.isLt
  have hs := s.isLt
  rw [show IntOp.addi (BitVec.ofNat 32 (t : ℕ)) 0#32 = BitVec.ofNat 32 t from BitVec.add_zero _, sge_ofNat (by omega) (by omega)]
  simp only [In.wm, Spec.wm]
  by_cases h : (s : ℕ) ≤ t
  · simp [h, Scalar.select]
  · simp only [h, Scalar.select, if_false]
    exact Ideal.ofBits_zero_f32

theorem r_v86 (n : Fin 4) (a : Fin 32) (j : Fin 128) (t : Fin 128) : (val_main_v86 (F := Ideal) x0 x1 x2 x3 x4 : Vec Ideal S4x32x128x128 .f32) (ix4 n a j t) = ((∑ s : Fin 128, I.vn n (128 * a + s) j * I.wm n t s : ℝ) : EReal) := by
  unfold val_main_v86
  pointwise
  simp only [r_v81 hA, r_v85_0 hA, hA.x, hA.g, hA.win, hA.lg, hA.w, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v91 (a : Fin 32) (t : Fin 128) (n : Fin 4) (j : Fin 128) : (val_main_v91 (F := Ideal) x0 x1 x2 x3 x4 x5 : Vec Ideal S32x128x4x128 .f32) (ix4 a t n j) = ((I.mx n (128 * a + t) j : ℝ) : EReal) := by
  unfold val_main_v91 val_main_v87 val_main_v90 val_main_v89 val_main_v88
  pointwise
  simp only [r_v86 hA, hA.x, hA.g, hA.win, hA.lg, hA.w, hA.b, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  have ht : (t : ℕ) < 128 := t.isLt
  simp only [In.mx, Spec.mixed, show (128 * (a : ℕ) + t) % 128 = t by omega, show (128 * (a : ℕ) + t) / 128 = a by omega]
  congr 1
  exact Finset.sum_congr rfl fun s _ => mul_comm _ _

theorem r_v92 (i : Fin 4096) (j : Fin 512) : (val_main_v92 (F := Ideal) x0 x1 x2 x3 x4 x5 : Vec Ideal S4096x512 .f32) (ix2 i j) = ((I.mx (j / 128) i (j % 128) : ℝ) : EReal) := by
  unfold val_main_v92
  pointwise
  simp only [r_v91 hA, hA.x, hA.g, hA.win, hA.lg, hA.w, hA.b, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v93 (i : Fin 4096) (j : Fin 512) : (val_main_v93 (F := Ideal) x0 x1 x2 x3 x4 x5 : Vec Ideal S4096x512 .f32) (ix2 i j) = ((I.a (j / 128) i (j % 128) : ℝ) : EReal) := by
  unfold val_main_v93
  pointwise
  simp only [r_v39 hA, r_v92 hA, hA.x, hA.g, hA.win, hA.lg, hA.w, hA.b, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.a, Spec.mul, grp, Nat.div_add_mod]

end Cert.ReferenceIdeal.Even

end
-- ==== Proof.Even.Ref3.lean ====
/- The reference read where its arguments are real: the convolution, forward and backward. -/
module

public import proofs.«01_k».proof.Proof.Even.Ref2

@[expose] public section

set_option maxHeartbeats 1000000
set_option maxRecDepth 16384

noncomputable section

namespace Cert.ReferenceIdeal.Even

open Cert.ReferenceIdeal Cert.ReferenceIdeal.Read
open Idealize.ShloMosaic Idealize.ShloMosaic.Pointwise
open Cert.Spec (csum cdiv cerf cexp cneg d1024 d128 r1024 r128 c_eps c_1024 c_128 c_half c_mhalf)
open Cert.Spec (grp back1 back2 fore1 fore2 In)

/-- The host's sum over the first two axes of three. -/
theorem hra_r3 {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ a : Fin n0, ∑ b : Fin n1, v (ix3 a b j) := by
  unfold Ideal.hostReduceAdd
  rw [Finset.sum_filter_eq_sum_of_fiber _ (fun k : Fin n0 × Fin n1 => ix3 k.1 k.2 j) (fun _ _ e => Prod.ext (congrFun e 0) (congrFun e 1)) ?_, Fintype.sum_prod_type]
  intro i
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

/-- The host's sum over the first and last axes of four. -/
theorem hra_r4 {n0 n1 n2 n3 : ℕ} (h : (⟨4, ![n0, n1, n2, n3]⟩ : Shape).ReducesTo [0, 3] ⟨2, ![n1, n2]⟩) (v : (⟨4, ![n0, n1, n2, n3]⟩ : Shape).Idx → EReal) (init : EReal) (i : Fin n1) (j : Fin n2) :
    Ideal.hostReduceAdd h v init (ix2 i j) = init + ∑ a : Fin n0, ∑ b : Fin n3, v (ix4 a i j b) := by
  unfold Ideal.hostReduceAdd
  rw [Finset.sum_filter_eq_sum_of_fiber _ (fun k : Fin n0 × Fin n3 => ix4 k.1 i j k.2) (fun _ _ e => Prod.ext (congrFun e 0) (congrFun e 3)) ?_, Fintype.sum_prod_type]
  intro q
  constructor
  · intro e
    refine ⟨(q 0, q 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b; apply Fin.ext
    match b with
    | ⟨0, _⟩ => rfl
    | ⟨1, _⟩ => rfl

/-- A sum over the rows, by sequences. -/
theorem sum_split (A B : ℕ) (f : ℕ → ℝ) : ∑ a : Fin A, ∑ b : Fin B, f (B * a + b) = ∑ r : Fin (A * B), f r := by
  rw [← Fintype.sum_prod_type']
  refine Fintype.sum_equiv finProdFinEquiv _ _ fun p => ?_
  rw [finProdFinEquiv_apply_val, add_comm]

variable {I : In} {x0 : Vec Ideal S2x2048x1024 .f32} {x1 : Vec Ideal S1024 .f32} {x2 : Vec Ideal S1024x2560 .f32} {x3 : Vec Ideal S512 .f32} {x4 : Vec Ideal S4x128x128 .f32} {x5 : Vec Ideal S4x128 .f32} {x6 : Vec Ideal S3x512 .f32} {x7 : Vec Ideal S1024x1024 .f32} {x8 : Vec Ideal S2x2048x1024 .f32}
variable (hA : IsA I x0 x1 x2 x3 x4 x5 x6 x7 x8)
include hA

theorem r_v94 (i : Fin 4096) (j : Fin 512) : (val_main_v94 (F := Ideal) x0 x1 x2 : Vec Ideal S4096x512 .f32) (ix2 i j) = ((I.z i j : ℝ) : EReal) := by
  unfold val_main_v94
  pointwise
  simp only [r_v21 hA, r_v22 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v95 (a : Fin 2) (i : Fin 2048) (j : Fin 512) : (val_main_v95 (F := Ideal) x0 x1 x2 : Vec Ideal S2x2048x512 .f32) (ix3 a i j) = ((I.z (2048 * a + i) j : ℝ) : EReal) := by
  unfold val_main_v95
  pointwise
  simp only [r_v94 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [Nat.mul_comm 2048]

theorem r_v98 (a : Fin 2) (i : Fin 2050) (j : Fin 512) : (val_main_v98 (F := Ideal) x0 x1 x2 : Vec Ideal S2x2050x512 .f32) (ix3 a i j) = ((if (i : ℕ) < 2 then 0 else I.z (2048 * a + (i - 2)) j : ℝ) : EReal) := by
  unfold val_main_v98 val_main_v97 val_main_cst_20
  pointwise
  simp only [r_v95 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  exact (apply_ite Real.toEReal _ _ _).symm

theorem r_v102 (a : Fin 2) (i : Fin 2048) (j : Fin 512) : (val_main_v102 (F := Ideal) x0 x1 x2 : Vec Ideal S2x2048x512 .f32) (ix3 a i j) = ((back2 I.z (2048 * a + i) j : ℝ) : EReal) := by
  unfold val_main_v102
  pointwise
  simp only [r_v98 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  have hi : (i : ℕ) < 2048 := i.isLt
  simp only [back2, show (2048 * (a : ℕ) + i) % 2048 = i by omega]
  split
  · rfl
  · congr 1; omega

theorem r_v108 (a : Fin 2) (i : Fin 2048) (j : Fin 512) : (val_main_v108 (F := Ideal) x0 x1 x2 : Vec Ideal S2x2048x512 .f32) (ix3 a i j) = ((back1 I.z (2048 * a + i) j : ℝ) : EReal) := by
  unfold val_main_v108
  pointwise
  simp only [r_v98 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  have hi : (i : ℕ) < 2048 := i.isLt
  simp only [back1, show (2048 * (a : ℕ) + i) % 2048 = i by omega]
  by_cases h : (i : ℕ) < 1
  · rw [if_pos (by omega), if_pos h]
  · rw [if_neg (by omega), if_neg h]; congr 1; omega

theorem r_v115 (a : Fin 2) (i : Fin 2048) (j : Fin 512) : (val_main_v115 (F := Ideal) x0 x1 x2 : Vec Ideal S2x2048x512 .f32) (ix3 a i j) = ((I.z (2048 * a + i) j : ℝ) : EReal) := by
  unfold val_main_v115
  pointwise
  simp only [r_v98 hA, hA.x, hA.g, hA.win, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  rw [if_neg (by omega)]; congr 1; omega

theorem r_v119 (a : Fin 2) (i : Fin 2048) (j : Fin 512) : (val_main_v119 (F := Ideal) x0 x1 x2 x6 : Vec Ideal S2x2048x512 .f32) (ix3 a i j) = ((I.y (2048 * a + i) j : ℝ) : EReal) := by
  unfold val_main_v119 val_main_v112 val_main_v105 val_main_v104 val_main_v103 val_main_v101 val_main_v100 val_main_v111 val_main_v110 val_main_v109 val_main_v107 val_main_v106 val_main_v118 val_main_v117 val_main_v116 val_main_v114 val_main_v113
  pointwise
  simp only [r_v102 hA, r_v108 hA, r_v115 hA, hA.x, hA.g, hA.win, hA.cw, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  simp only [In.y, Spec.taps]
  ring!

theorem r_v120 (i : Fin 4096) (j : Fin 512) : (val_main_v120 (F := Ideal) x0 x1 x2 x6 : Vec Ideal S4096x512 .f32) (ix2 i j) = ((I.y i j : ℝ) : EReal) := by
  unfold val_main_v120
  pointwise
  simp only [r_v119 hA, hA.x, hA.g, hA.win, hA.cw, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v122 (i : Fin 4096) (j : Fin 1024) : (val_main_v122 (F := Ideal) x0 x1 x2 x3 x4 x5 x6 : Vec Ideal S4096x1024 .f32) (ix2 i j) = ((I.mix i j : ℝ) : EReal) := by
  unfold val_main_v122 val_main_v121
  pointwise
  simp only [r_v93 hA, r_v20 hA, r_v120 hA, hA.x, hA.g, hA.win, hA.lg, hA.w, hA.b, hA.cw, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  simp only [In.mix, Spec.mul]
  split <;> rfl

theorem r_v125 (i : Fin 4096) (j : Fin 1024) : (val_main_v125 (F := Ideal) x8 : Vec Ideal S4096x1024 .f32) (ix2 i j) = ((I.ct i j : ℝ) : EReal) := by
  unfold val_main_v125
  pointwise
  simp only [hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v126 (i : Fin 4096) (j : Fin 1024) : (val_main_v126 (F := Ideal) x7 x8 : Vec Ideal S4096x1024 .f32) (ix2 i j) = ((I.dm i j : ℝ) : EReal) := by
  unfold val_main_v126
  pointwise
  simp only [r_v125 hA, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v127 (i : Fin 4096) (j : Fin 512) : (val_main_v127 (F := Ideal) x7 x8 : Vec Ideal S4096x512 .f32) (ix2 i j) = ((I.da i j : ℝ) : EReal) := by
  unfold val_main_v127
  pointwise
  simp only [r_v126 hA, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp [In.da, grp]

theorem r_v128 (i : Fin 4096) (j : Fin 512) : (val_main_v128 (F := Ideal) x7 x8 : Vec Ideal S4096x512 .f32) (ix2 i j) = ((I.db i j : ℝ) : EReal) := by
  unfold val_main_v128
  pointwise
  simp only [r_v126 hA, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v129 (i : Fin 4096) (j : Fin 512) : (val_main_v129 (F := Ideal) x0 x1 x2 x7 x8 : Vec Ideal S4096x512 .f32) (ix2 i j) = ((I.dy i j : ℝ) : EReal) := by
  unfold val_main_v129
  pointwise
  simp only [r_v20 hA, r_v128 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.dy, Spec.mul, mul_comm]

theorem r_v130 (i : Fin 4096) (j : Fin 512) : (val_main_v130 (F := Ideal) x0 x1 x2 x6 x7 x8 : Vec Ideal S4096x512 .f32) (ix2 i j) = ((I.db' i j : ℝ) : EReal) := by
  unfold val_main_v130
  pointwise
  simp only [r_v128 hA, r_v120 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v131 (a : Fin 2) (i : Fin 2048) (j : Fin 512) : (val_main_v131 (F := Ideal) x0 x1 x2 x7 x8 : Vec Ideal S2x2048x512 .f32) (ix3 a i j) = ((I.dy (2048 * a + i) j : ℝ) : EReal) := by
  unfold val_main_v131
  pointwise
  simp only [r_v129 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [Nat.mul_comm 2048]

theorem r_v134 (a : Fin 2) (i : Fin 2048) (j : Fin 512) : (val_main_v134 (F := Ideal) x0 x1 x2 x7 x8 : Vec Ideal S2x2048x512 .f32) (ix3 a i j) = ((I.dy (2048 * a + i) j * I.z (2048 * a + i) j : ℝ) : EReal) := by
  unfold val_main_v134
  pointwise
  simp only [r_v131 hA, r_v115 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v143 (a : Fin 2) (i : Fin 2048) (j : Fin 512) : (val_main_v143 (F := Ideal) x0 x1 x2 x7 x8 : Vec Ideal S2x2048x512 .f32) (ix3 a i j) = ((I.dy (2048 * a + i) j * back1 I.z (2048 * a + i) j : ℝ) : EReal) := by
  unfold val_main_v143
  pointwise
  simp only [r_v131 hA, r_v108 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v154 (a : Fin 2) (i : Fin 2048) (j : Fin 512) : (val_main_v154 (F := Ideal) x0 x1 x2 x7 x8 : Vec Ideal S2x2048x512 .f32) (ix3 a i j) = ((I.dy (2048 * a + i) j * back2 I.z (2048 * a + i) j : ℝ) : EReal) := by
  unfold val_main_v154
  pointwise
  simp only [r_v131 hA, r_v102 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v135 (j : Fin 512) : (val_main_v135 (F := Ideal) x0 x1 x2 x7 x8 : Vec Ideal S512 .f32) (ix1 j) = ((I.dcw 2 j : ℝ) : EReal) := by
  unfold val_main_v135 val_main_cst_22
  refine (hra_r3 _ _ _ _).trans ?_
  pointwise
  simp only [r_v134 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  refine Eq.trans ?_ (sum_split 2 2048 fun r => I.pc 2 r j)
  simp [In.pc, In.zz]

theorem r_v137 (j : Fin 512) : (val_main_v137 (F := Ideal) x0 x1 x2 x7 x8 : Vec Ideal S512 .f32) (ix1 j) = ((I.dcw 2 j : ℝ) : EReal) := by
  unfold val_main_v137 val_main_v136 val_main_cst_23
  refine (hra_r3 _ _ _ _).trans ?_
  pointwise
  simp only [r_v135 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp

theorem r_v144 (j : Fin 512) : (val_main_v144 (F := Ideal) x0 x1 x2 x7 x8 : Vec Ideal S512 .f32) (ix1 j) = ((I.dcw 1 j : ℝ) : EReal) := by
  unfold val_main_v144 val_main_cst_26
  refine (hra_r3 _ _ _ _).trans ?_
  pointwise
  simp only [r_v143 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  refine Eq.trans ?_ (sum_split 2 2048 fun r => I.pc 1 r j)
  simp [In.pc, In.zz]

theorem r_v146 (j : Fin 512) : (val_main_v146 (F := Ideal) x0 x1 x2 x7 x8 : Vec Ideal S512 .f32) (ix1 j) = ((I.dcw 1 j : ℝ) : EReal) := by
  unfold val_main_v146 val_main_v145 val_main_cst_27
  refine (hra_r3 _ _ _ _).trans ?_
  pointwise
  simp only [r_v144 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp

theorem r_v155 (j : Fin 512) : (val_main_v155 (F := Ideal) x0 x1 x2 x7 x8 : Vec Ideal S512 .f32) (ix1 j) = ((I.dcw 0 j : ℝ) : EReal) := by
  unfold val_main_v155 val_main_cst_30
  refine (hra_r3 _ _ _ _).trans ?_
  pointwise
  simp only [r_v154 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  refine Eq.trans ?_ (sum_split 2 2048 fun r => I.pc 0 r j)
  simp [In.pc, In.zz]

theorem r_v157 (j : Fin 512) : (val_main_v157 (F := Ideal) x0 x1 x2 x7 x8 : Vec Ideal S512 .f32) (ix1 j) = ((I.dcw 0 j : ℝ) : EReal) := by
  unfold val_main_v157 val_main_v156 val_main_cst_31
  refine (hra_r3 _ _ _ _).trans ?_
  pointwise
  simp only [r_v155 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp

theorem r_v140 (i : Fin 3) (j : Fin 512) : (val_main_v140 (F := Ideal) x0 x1 x2 x7 x8 : Vec Ideal S3x512 .f32) (ix2 i j) = ((if (i : ℕ) = 2 then I.dcw 2 j else 0 : ℝ) : EReal) := by
  unfold val_main_v140 val_main_v139 val_main_cst_25
  pointwise
  simp only [r_v137 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (i : ℕ) = 2
  · rw [dif_pos (by omega), if_pos h]
  · rw [dif_neg (by omega), if_neg h]

theorem r_v150 (i : Fin 3) (j : Fin 512) : (val_main_v150 (F := Ideal) x0 x1 x2 x7 x8 : Vec Ideal S3x512 .f32) (ix2 i j) = ((if (i : ℕ) = 1 then I.dcw 1 j else 0 : ℝ) : EReal) := by
  unfold val_main_v150 val_main_v149 val_main_cst_29
  pointwise
  simp only [r_v146 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (i : ℕ) = 1
  · rw [dif_pos (by omega), if_pos h]
  · rw [dif_neg (by omega), if_neg h]

theorem r_v161 (i : Fin 3) (j : Fin 512) : (val_main_v161 (F := Ideal) x0 x1 x2 x7 x8 : Vec Ideal S3x512 .f32) (ix2 i j) = ((if (i : ℕ) = 0 then I.dcw 0 j else 0 : ℝ) : EReal) := by
  unfold val_main_v161 val_main_v160 val_main_cst_33
  pointwise
  simp only [r_v157 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (i : ℕ) = 0
  · rw [dif_pos (by omega), if_pos h]
  · rw [dif_neg (by omega), if_neg h]

theorem r_v162 (i : Fin 3) (j : Fin 512) : (val_main_v162 (F := Ideal) x0 x1 x2 x7 x8 : Vec Ideal S3x512 .f32) (ix2 i j) = ((I.dcw i j : ℝ) : EReal) := by
  unfold val_main_v162 val_main_v151
  pointwise
  simp only [r_v140 hA, r_v150 hA, r_v161 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  rcases i with ⟨i, hi⟩
  interval_cases i <;> simp

theorem r_v138 (a : Fin 2) (i : Fin 2050) (j : Fin 512) : (val_main_v138 (F := Ideal) x0 x1 x2 x6 x7 x8 : Vec Ideal S2x2050x512 .f32) (ix3 a i j) = ((if (i : ℕ) < 2 then 0 else I.cw 2 j * I.dy (2048 * a + (i - 2)) j : ℝ) : EReal) := by
  unfold val_main_v138 val_main_v133 val_main_v132 val_main_v116 val_main_v114 val_main_v113 val_main_cst_24
  pointwise
  simp only [r_v131 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (i : ℕ) < 2
  · rw [dif_neg (by omega), if_pos h]
  · rw [dif_pos (by omega), if_neg h]; rfl

theorem r_v147 (a : Fin 2) (i : Fin 2050) (j : Fin 512) : (val_main_v147 (F := Ideal) x0 x1 x2 x6 x7 x8 : Vec Ideal S2x2050x512 .f32) (ix3 a i j) = ((if 1 ≤ (i : ℕ) ∧ (i : ℕ) < 2049 then I.cw 1 j * I.dy (2048 * a + (i - 1)) j else 0 : ℝ) : EReal) := by
  unfold val_main_v147 val_main_v142 val_main_v141 val_main_v109 val_main_v107 val_main_v106 val_main_cst_28
  pointwise
  simp only [r_v131 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : 1 ≤ (i : ℕ) ∧ (i : ℕ) < 2049
  · rw [dif_pos (by omega), if_pos h]; rfl
  · rw [dif_neg (by omega), if_neg h]

theorem r_v158 (a : Fin 2) (i : Fin 2050) (j : Fin 512) : (val_main_v158 (F := Ideal) x0 x1 x2 x6 x7 x8 : Vec Ideal S2x2050x512 .f32) (ix3 a i j) = ((if (i : ℕ) < 2048 then I.cw 0 j * I.dy (2048 * a + i) j else 0 : ℝ) : EReal) := by
  unfold val_main_v158 val_main_v153 val_main_v152 val_main_v103 val_main_v101 val_main_v100 val_main_cst_32
  pointwise
  simp only [r_v131 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (i : ℕ) < 2048
  · rw [dif_pos h, if_pos h]; rfl
  · rw [dif_neg h, if_neg h]

theorem r_v164 (a : Fin 2) (i : Fin 2048) (j : Fin 512) : (val_main_v164 (F := Ideal) x0 x1 x2 x6 x7 x8 : Vec Ideal S2x2048x512 .f32) (ix3 a i j) = ((I.dz (2048 * a + i) j : ℝ) : EReal) := by
  unfold val_main_v164 val_main_v159 val_main_v148
  pointwise
  simp only [r_v138 hA, r_v147 hA, r_v158 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  have hi : (i : ℕ) < 2048 := i.isLt
  simp only [In.dz, Spec.taps, fore1, fore2, show (2048 * (a : ℕ) + i) % 2048 = i by omega]
  rw [if_neg (by omega), show 2048 * (a : ℕ) + (2 + i - 2) = 2048 * a + i by omega, show 2048 * (a : ℕ) + (2 + i - 1) = 2048 * a + i + 1 by omega, show 2048 * (a : ℕ) + (2 + i) = 2048 * a + i + 2 by omega]
  congr 1
  · congr 1
    by_cases h : (i : ℕ) < 2047
    · rw [if_pos (by omega), if_pos h]
    · rw [if_neg (by omega), if_neg h, mul_zero]
  · by_cases h : (i : ℕ) < 2046
    · rw [if_pos (by omega), if_pos h]
    · rw [if_neg (by omega), if_neg h, mul_zero]

theorem r_v165 (i : Fin 4096) (j : Fin 512) : (val_main_v165 (F := Ideal) x0 x1 x2 x6 x7 x8 : Vec Ideal S4096x512 .f32) (ix2 i j) = ((I.dz i j : ℝ) : EReal) := by
  unfold val_main_v165
  pointwise
  simp only [r_v164 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v166 (i : Fin 4096) (j : Fin 512) : (val_main_v166 (F := Ideal) x0 x1 x2 x6 x7 x8 : Vec Ideal S4096x512 .f32) (ix2 i j) = ((I.dhv i j : ℝ) : EReal) := by
  unfold val_main_v166
  pointwise
  simp only [r_v21 hA, r_v165 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.dhv, Spec.mul, mul_comm]

theorem r_v167 (i : Fin 4096) (j : Fin 512) : (val_main_v167 (F := Ideal) x0 x1 x2 x6 x7 x8 : Vec Ideal S4096x512 .f32) (ix2 i j) = ((I.dcg i j : ℝ) : EReal) := by
  unfold val_main_v167
  pointwise
  simp only [r_v165 hA, r_v22 hA, hA.x, hA.g, hA.win, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

end Cert.ReferenceIdeal.Even

end
-- ==== Proof.Even.Ref4.lean ====
/- The reference read where its arguments are real: the heads backward. -/
module

public import proofs.«01_k».proof.Proof.Even.Ref3
public import Idealize.ShloMosaic.Lib.TwoAxisContraction

@[expose] public section

set_option maxHeartbeats 1000000
set_option maxRecDepth 16384

noncomputable section

namespace Cert.ReferenceIdeal.Even

open Cert.ReferenceIdeal Cert.ReferenceIdeal.Read
open Idealize.ShloMosaic Idealize.ShloMosaic.Pointwise
open Cert.Spec (csum cdiv cerf cexp cneg d1024 d128 r1024 r128 c_eps c_1024 c_128 c_half c_mhalf)
open Cert.Spec (grp back1 back2 fore1 fore2 In)

/-- The activation's derivative, as it comes out of the chain rule. -/
theorem gelu_back (a d : ℝ) :
    2 / Real.sqrt Real.pi * Real.exp (-(a * (Real.sqrt 2)⁻¹ * (a * (Real.sqrt 2)⁻¹))) * (1 / 2 * a * d) * (Real.sqrt 2)⁻¹ + 1 / 2 * (d * (1 + Spec.erf (a * (Real.sqrt 2)⁻¹))) = d * Spec.gg1 a := by
  have h2 : (Real.sqrt 2)⁻¹ * (Real.sqrt 2)⁻¹ = 1 / 2 := by
    rw [← mul_inv, Real.mul_self_sqrt (by norm_num)]; norm_num
  have he : -(a * (Real.sqrt 2)⁻¹ * (a * (Real.sqrt 2)⁻¹)) = -(1 / 2) * a * a := by
    rw [show a * (Real.sqrt 2)⁻¹ * (a * (Real.sqrt 2)⁻¹) = a * a * ((Real.sqrt 2)⁻¹ * (Real.sqrt 2)⁻¹) by ring, h2]; ring
  rw [he]
  simp only [Spec.gg1]
  rw [Real.sqrt_mul (by norm_num : (0 : ℝ) ≤ 2), mul_inv, div_eq_mul_inv]
  ring

theorem sum_xc (a : ℕ → ℕ → ℝ) (r : ℕ) : ∑ e : Fin 128, Spec.xc a r e = 0 := by
  simp only [Spec.xc, Finset.sum_sub_distrib, Finset.sum_const, Finset.card_univ, Fintype.card_fin, nsmul_eq_mul]
  push_cast; ring

/-- The two forms of a centred norm's gradient. -/
theorem norm_back (x d : ℕ → ℝ) (q : ℝ) (hx : ∑ e : Fin 128, x e = 0) (j : ℕ) :
    (d j * q + x j * ((∑ e : Fin 128, x e * d e) * (-(1 / 2) * (q * (q * q))) / 128) + (∑ e : Fin 128, x e * d e) * (-(1 / 2) * (q * (q * q))) / 128 * x j) +
      (∑ e : Fin 128, -(d e * q + x e * ((∑ e : Fin 128, x e * d e) * (-(1 / 2) * (q * (q * q))) / 128) + (∑ e : Fin 128, x e * d e) * (-(1 / 2) * (q * (q * q))) / 128 * x e)) / 128
      = q * (d j - (∑ e : Fin 128, d e) / 128 - x j * q * ((∑ e : Fin 128, d e * (x e * q)) / 128)) := by
  have h1 : ∑ e : Fin 128, d e * (x e * q) = q * ∑ e : Fin 128, x e * d e := by
    rw [Finset.mul_sum]; exact Finset.sum_congr rfl fun e _ => by ring
  rw [h1]
  generalize (∑ e : Fin 128, x e * d e) = S
  have h2 : ∑ e : Fin 128, -(d e * q + x e * (S * (-(1 / 2) * (q * (q * q))) / 128) + S * (-(1 / 2) * (q * (q * q))) / 128 * x e) = -(q * ∑ e : Fin 128, d e) := by
    have : ∀ e : Fin 128, -(d e * q + x e * (S * (-(1 / 2) * (q * (q * q))) / 128) + S * (-(1 / 2) * (q * (q * q))) / 128 * x e) = -(q * d e) + (S * (q * (q * q)) / 128) * x e := fun e => by ring
    simp only [this, Finset.sum_add_distrib, Finset.sum_neg_distrib, ← Finset.mul_sum, hx]
    ring
  rw [h2]; ring

variable {I : In} {x0 : Vec Ideal S2x2048x1024 .f32} {x1 : Vec Ideal S1024 .f32} {x2 : Vec Ideal S1024x2560 .f32} {x3 : Vec Ideal S512 .f32} {x4 : Vec Ideal S4x128x128 .f32} {x5 : Vec Ideal S4x128 .f32} {x6 : Vec Ideal S3x512 .f32} {x7 : Vec Ideal S1024x1024 .f32} {x8 : Vec Ideal S2x2048x1024 .f32}
variable (hA : IsA I x0 x1 x2 x3 x4 x5 x6 x7 x8)
include hA

theorem r_v168 (i : Fin 4096) (j : Fin 512) : (val_main_v168 (F := Ideal) x0 x1 x2 x7 x8 : Vec Ideal S4096x512 .f32) (ix2 i j) = ((I.gu i j * I.da i j : ℝ) : EReal) := by
  unfold val_main_v168
  pointwise
  simp only [r_v39 hA, r_v127 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v169 (i : Fin 4096) (j : Fin 512) : (val_main_v169 (F := Ideal) x0 x1 x2 x3 x4 x5 x7 x8 : Vec Ideal S4096x512 .f32) (ix2 i j) = ((I.da i j * I.mx (j / 128) i (j % 128) : ℝ) : EReal) := by
  unfold val_main_v169
  pointwise
  simp only [r_v127 hA, r_v92 hA, hA.x, hA.g, hA.win, hA.lg, hA.w, hA.b, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v170 (a : Fin 32) (t : Fin 128) (n : Fin 4) (j : Fin 128) : (val_main_v170 (F := Ideal) x0 x1 x2 x7 x8 : Vec Ideal S32x128x4x128 .f32) (ix4 a t n j) = ((I.dmx n (128 * a + t) j : ℝ) : EReal) := by
  unfold val_main_v170
  pointwise
  simp only [r_v168 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.dmx, Spec.mul, grp, Nat.mul_comm 128, mul_comm (I.gu _ _)]

theorem r_v171 (t : Fin 128) (n : Fin 4) : (val_main_v171 (F := Ideal) x0 x1 x2 x7 x8 : Vec Ideal S128x4 .f32) (ix2 t n) = ((I.dbs n t : ℝ) : EReal) := by
  unfold val_main_v171 val_main_cst_34
  refine (hra_r4 _ _ _ _ _).trans ?_
  pointwise
  simp only [r_v170 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v173 (t : Fin 128) (n : Fin 4) : (val_main_v173 (F := Ideal) x0 x1 x2 x7 x8 : Vec Ideal S128x4 .f32) (ix2 t n) = ((I.dbs n t : ℝ) : EReal) := by
  unfold val_main_v173 val_main_v172 val_main_cst_35
  refine (hra_r4 _ _ _ _ _).trans ?_
  pointwise
  simp only [r_v171 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp

theorem r_v174 (n : Fin 4) (t : Fin 128) : (val_main_v174 (F := Ideal) x0 x1 x2 x7 x8 : Vec Ideal S4x128 .f32) (ix2 n t) = ((I.dbs n t : ℝ) : EReal) := by
  unfold val_main_v174
  pointwise
  simp only [r_v173 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v175 (n : Fin 4) (a : Fin 32) (j : Fin 128) (t : Fin 128) : (val_main_v175 (F := Ideal) x0 x1 x2 x7 x8 : Vec Ideal S4x32x128x128 .f32) (ix4 n a j t) = ((I.dmx n (128 * a + t) j : ℝ) : EReal) := by
  unfold val_main_v175
  pointwise
  simp only [r_v170 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v176 (n : Fin 4) (t : Fin 128) (s : Fin 128) : (val_main_v176 (F := Ideal) x0 x1 x2 x3 x7 x8 : Vec Ideal S4x128x128 .f32) (ix3 n t s) = ((∑ c : Fin 32, I.pw n t s c : ℝ) : EReal) := by
  unfold val_main_v176
  pointwise
  simp only [r_v175 hA, r_v81 hA, hA.x, hA.g, hA.win, hA.lg, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v177 (n : Fin 4) (a : Fin 32) (j : Fin 128) (s : Fin 128) : (val_main_v177 (F := Ideal) x0 x1 x2 x4 x7 x8 : Vec Ideal S4x32x128x128 .f32) (ix4 n a j s) = ((∑ t : Fin 128, I.dmx n (128 * a + t) j * I.wm n t s : ℝ) : EReal) := by
  unfold val_main_v177
  pointwise
  simp only [r_v175 hA, r_v85_0 hA, hA.x, hA.g, hA.win, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v178 (a : Fin 32) (s : Fin 128) (n : Fin 4) (j : Fin 128) : (val_main_v178 (F := Ideal) x0 x1 x2 x4 x7 x8 : Vec Ideal S32x128x4x128 .f32) (ix4 a s n j) = ((I.dvn n (128 * a + s) j : ℝ) : EReal) := by
  unfold val_main_v178
  pointwise
  simp only [r_v177 hA, hA.x, hA.g, hA.win, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  have ht : (s : ℕ) < 128 := s.isLt
  simp only [In.dvn, Spec.dvn, show (128 * (a : ℕ) + s) % 128 = s by omega, show (128 * (a : ℕ) + s) / 128 = a by omega]
  exact Finset.sum_congr rfl fun s _ => mul_comm _ _

theorem r_v179 (n : Fin 4) (t : Fin 128) (s : Fin 128) : (val_main_v179 (F := Ideal) x0 x1 x2 x3 x7 x8 : Vec Ideal S4x128x128 .f32) (ix3 n t s) = ((I.dw n t s : ℝ) : EReal) := by
  unfold val_main_v179 val_main_v85_1 val_main_v84 val_main_v83 val_main_call0_v4 val_main_call0_v2 val_main_call0_v0 val_main_call0_v1 val_main_call0_c val_main_call0_v3 val_main_v82 val_main_c val_main_call0_v5 val_main_call0_c_0 val_main_call2_v0 val_main_call2_cst
  pointwise
  simp only [r_v176 hA, hA.x, hA.g, hA.win, hA.lg, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  have ht := t.isLt
  have hs := s.isLt
  rw [show IntOp.addi (BitVec.ofNat 32 (t : ℕ)) 0#32 = BitVec.ofNat 32 t from BitVec.add_zero _, sge_ofNat (by omega) (by omega)]
  simp only [In.dw]
  by_cases h : (s : ℕ) ≤ t
  · simp [h, Scalar.select]
  · simp only [h, Scalar.select, if_false]
    all_goals rfl

theorem r_v180 (i : Fin 4096) (n : Fin 4) (j : Fin 128) : (val_main_v180 (F := Ideal) x0 x1 x2 x4 x7 x8 : Vec Ideal S4096x4x128 .f32) (ix3 i n j) = ((I.dvn n i j : ℝ) : EReal) := by
  unfold val_main_v180
  pointwise
  simp only [r_v178 hA, hA.x, hA.g, hA.win, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v186 (n : Fin 4) (j : Fin 128) : (val_main_v186 (F := Ideal) x0 x1 x2 x4 x7 x8 : Vec Ideal S4x128 .f32) (ix2 n j) = ((I.dlg n j : ℝ) : EReal) := by
  unfold val_main_v186 val_main_v183 val_main_v182 val_main_v181 val_main_cst_36 val_main_cst_37
  pointwise
  simp only [r_v77 hA, r_v180 hA, hA.x, hA.g, hA.win, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.dlg, In.pl, mul_comm, Finset.univ_unique, Finset.sum_singleton]

theorem r_v185 (i : Fin 4096) (n : Fin 4) (j : Fin 128) : (val_main_v185 (F := Ideal) x0 x1 x2 x3 x4 x7 x8 : Vec Ideal S4096x4x128 .f32) (ix3 i n j) = ((I.dvn n i j * I.lgH n j : ℝ) : EReal) := by
  unfold val_main_v185 val_main_v184 val_main_v78
  pointwise
  simp only [r_v180 hA, r_v58 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v195 (i : Fin 4096) (n : Fin 4) : (val_main_v195 (F := Ideal) x0 x1 x2 x3 x4 x7 x8 : Vec Ideal S4096x4 .f32) (ix2 i n) = (((∑ e : Fin 128, I.xc n i e * (I.dvn n i e * I.lgH n e)) * (-(1 / 2) * (I.rr n i * (I.rr n i * I.rr n i))) / 128 : ℝ) : EReal) := by
  unfold val_main_v195 val_main_v194 val_main_v192 val_main_v189 val_main_v188 val_main_v187 val_main_cst_38 val_main_v193 val_main_cst_39 val_main_cst_40
  pointwise
  simp only [r_v64 hA, r_v185 hA, r_v75 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp

theorem r_v196 (i : Fin 4096) (n : Fin 4) (j : Fin 128) : (val_main_v196 (F := Ideal) x0 x1 x2 x3 x4 x7 x8 : Vec Ideal S4096x4x128 .f32) (ix3 i n j) = (((∑ e : Fin 128, I.xc n i e * (I.dvn n i e * I.lgH n e)) * (-(1 / 2) * (I.rr n i * (I.rr n i * I.rr n i))) / 128 : ℝ) : EReal) := by
  unfold val_main_v196
  pointwise
  simp only [r_v195 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v200 (i : Fin 4096) (n : Fin 4) (j : Fin 128) : (val_main_v200 (F := Ideal) x0 x1 x2 x3 x4 x7 x8 : Vec Ideal S4096x4x128 .f32) (ix3 i n j) = ((I.dvn n i j * I.lgH n j * I.rr n i + I.xc n i j * ((∑ e : Fin 128, I.xc n i e * (I.dvn n i e * I.lgH n e)) * (-(1 / 2) * (I.rr n i * (I.rr n i * I.rr n i))) / 128) + (∑ e : Fin 128, I.xc n i e * (I.dvn n i e * I.lgH n e)) * (-(1 / 2) * (I.rr n i * (I.rr n i * I.rr n i))) / 128 * I.xc n i j : ℝ) : EReal) := by
  unfold val_main_v200 val_main_v198 val_main_v191 val_main_v190 val_main_v197 val_main_v199
  pointwise
  simp only [r_v185 hA, r_v72 hA, r_v64 hA, r_v196 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v208 (i : Fin 4096) (n : Fin 4) (j : Fin 128) : (val_main_v208 (F := Ideal) x0 x1 x2 x3 x4 x7 x8 : Vec Ideal S4096x4x128 .f32) (ix3 i n j) = ((I.dgv n i j : ℝ) : EReal) := by
  unfold val_main_v208 val_main_v207 val_main_v206 val_main_v205 val_main_v203 val_main_v202 val_main_v201 val_main_cst_41 val_main_v204 val_main_cst_42 val_main_cst_43
  pointwise
  simp only [r_v200 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  simp only [Finset.sum_const, Finset.card_univ, Fintype.card_fin, one_smul]
  exact norm_back (I.xc n i) (fun e => I.dvn n i e * I.lgH n e) (I.rr n i) (sum_xc _ _) j

theorem r_v209 (j : Fin 512) : (val_main_v209 (F := Ideal) x0 x1 x2 x4 x7 x8 : Vec Ideal S512 .f32) (ix1 j) = ((I.dlg (j / 128) (j % 128) : ℝ) : EReal) := by
  unfold val_main_v209
  pointwise
  simp only [r_v186 hA, hA.x, hA.g, hA.win, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v210 (i : Fin 4096) (j : Fin 512) : (val_main_v210 (F := Ideal) x0 x1 x2 x3 x4 x7 x8 : Vec Ideal S4096x512 .f32) (ix2 i j) = ((I.dgv (j / 128) i (j % 128) : ℝ) : EReal) := by
  unfold val_main_v210
  pointwise
  simp only [r_v208 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v218 (i : Fin 4096) (j : Fin 512) : (val_main_v218 (F := Ideal) x0 x1 x2 x3 x4 x7 x8 : Vec Ideal S4096x512 .f32) (ix2 i j) = ((I.dv (j / 128) i (j % 128) : ℝ) : EReal) := by
  unfold val_main_v218 val_main_v215 val_main_v213 val_main_v211 val_main_v41 val_main_v40 val_main_cst_8 val_main_v214 val_main_v42 val_main_cst_9 val_main_v217 val_main_v216 val_main_cst_44 val_main_v212
  pointwise
  simp only [r_v53 hA, r_v19 hA, r_v210 hA, r_v55 hA, hA.x, hA.g, hA.win, hA.lg, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  refine (gelu_back _ _).trans ?_
  simp only [In.dv, Spec.mul, Spec.gg, grp, Nat.div_add_mod]

theorem r_v226 (i : Fin 4096) (j : Fin 512) : (val_main_v226 (F := Ideal) x0 x1 x2 x3 x4 x5 x7 x8 : Vec Ideal S4096x512 .f32) (ix2 i j) = ((I.du (j / 128) i (j % 128) : ℝ) : EReal) := by
  unfold val_main_v226 val_main_v223 val_main_v221 val_main_v219 val_main_v24 val_main_v23 val_main_cst_3 val_main_v222 val_main_v25 val_main_cst_4 val_main_v225 val_main_v224 val_main_cst_45 val_main_v220
  pointwise
  simp only [r_v36 hA, r_v18 hA, r_v169 hA, r_v38 hA, hA.x, hA.g, hA.win, hA.lg, hA.w, hA.b, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  refine (gelu_back _ _).trans ?_
  simp only [In.du, Spec.mul, Spec.gg, grp, Nat.div_add_mod]

theorem r_v227 (i : Fin 4096) (j : Fin 2560) : (val_main_v227 (F := Ideal) x0 x1 x2 x3 x4 x5 x6 x7 x8 : Vec Ideal S4096x2560 .f32) (ix2 i j) = ((I.dproj i j : ℝ) : EReal) := by
  unfold val_main_v227
  pointwise
  simp only [r_v226 hA, r_v218 hA, r_v130 hA, r_v167 hA, r_v166 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  have hj : (j : ℕ) < 2560 := j.isLt
  simp only [In.dproj, Nat.sub_sub, Nat.reduceAdd]
  by_cases h1 : (j : ℕ) < 512
  · rw [dif_pos h1, if_pos h1]
  rw [dif_neg h1, if_neg h1]
  by_cases h2 : (j : ℕ) < 1024
  · rw [dif_pos (by omega), if_pos h2]
  rw [dif_neg (by omega), if_neg h2]
  by_cases h3 : (j : ℕ) < 1536
  · rw [dif_pos (by omega), if_pos h3]
  rw [dif_neg (by omega), if_neg h3]
  by_cases h4 : (j : ℕ) < 2048
  · rw [dif_pos (by omega), if_pos h4]
  rw [dif_neg (by omega), if_neg h4]

end Cert.ReferenceIdeal.Even

end
-- ==== Proof.Even.Ref5.lean ====
/- The reference read where its arguments are real: its results. -/
module

public import proofs.«01_k».proof.Proof.Even.Ref4

@[expose] public section

set_option maxHeartbeats 1000000
set_option maxRecDepth 16384

noncomputable section

namespace Cert.ReferenceIdeal.Even

open Cert.ReferenceIdeal Cert.ReferenceIdeal.Read
open Idealize.ShloMosaic Idealize.ShloMosaic.Pointwise
open Cert.Spec (csum cdiv cerf cexp cneg d1024 d128 r1024 r128 c_eps c_1024 c_128 c_half c_mhalf)
open Cert.Spec (grp back1 back2 fore1 fore2 In)

theorem sitofp_zero : (FloatOps.sitofp FTy.f32 (0#32 : BitVec 32) : Ideal .f32) = ((0 : ℝ) : EReal) := by
  change (((BitVec.toInt 0#32 : ℤ) : ℝ) : EReal) = _
  simp

/-- The two forms of a norm's gradient. -/
theorem rms_back (x d : ℕ → ℝ) (q : ℝ) (j : ℕ) :
    d j * q + x j * ((∑ e : Fin 1024, x e * d e) * (-(1 / 2) * (q * (q * q))) / 1024) + (∑ e : Fin 1024, x e * d e) * (-(1 / 2) * (q * (q * q))) / 1024 * x j
      = q * (d j - x j * q * ((∑ e : Fin 1024, d e * (x e * q)) / 1024)) := by
  have h1 : ∑ e : Fin 1024, d e * (x e * q) = q * ∑ e : Fin 1024, x e * d e := by
    rw [Finset.mul_sum]; exact Finset.sum_congr rfl fun e _ => by ring
  rw [h1]; ring

variable {I : In} {x0 : Vec Ideal S2x2048x1024 .f32} {x1 : Vec Ideal S1024 .f32} {x2 : Vec Ideal S1024x2560 .f32} {x3 : Vec Ideal S512 .f32} {x4 : Vec Ideal S4x128x128 .f32} {x5 : Vec Ideal S4x128 .f32} {x6 : Vec Ideal S3x512 .f32} {x7 : Vec Ideal S1024x1024 .f32} {x8 : Vec Ideal S2x2048x1024 .f32}
variable (hA : IsA I x0 x1 x2 x3 x4 x5 x6 x7 x8)
include hA

theorem r_v11 (i : Fin 4096) (j : Fin 1) : (val_main_v11 (F := Ideal) x0 : Vec Ideal S4096x1 .f32) (ix2 i j) = ((-(1 / 2) * (Spec.inv I.x i * (Spec.inv I.x i * Spec.inv I.x i)) : ℝ) : EReal) := by
  unfold val_main_v11 val_main_v10 val_main_cst_2 val_main_v9 val_main_v7 val_main_v5 val_main_v3 val_main_v2 val_main_v1 val_main_cst val_main_v4 val_main_cst_0 val_main_v6 val_main_cst_1
  pointwise
  simp only [r_v8 hA, r_v0 hA, hA.x, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero, Spec.inv, rdiv1024]
  all_goals rfl

theorem r_v228 (i : Fin 4096) (j : Fin 1024) : (val_main_v228 (F := Ideal) x0 x1 x2 x3 x4 x5 x6 x7 x8 : Vec Ideal S4096x1024 .f32) (ix2 i j) = ((I.dh i j : ℝ) : EReal) := by
  unfold val_main_v228
  pointwise
  simp only [r_v227 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v253 (i : Fin 1) (j : Fin 1024) : (val_main_v253 (F := Ideal) x0 x1 x2 x3 x4 x5 x6 x7 x8 : Vec Ideal S1x1024 .f32) (ix2 i j) = ((I.dgam j : ℝ) : EReal) := by
  unfold val_main_v253 val_main_v234 val_main_v231 val_main_v230 val_main_v229 val_main_cst_46 val_main_cst_47
  pointwise
  simp only [r_v13 hA, r_v228 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp only [In.dgam, In.pg, mul_comm (I.dh _ _), Finset.univ_unique, Finset.sum_singleton]

theorem r_v233 (i : Fin 4096) (j : Fin 1024) : (val_main_v233 (F := Ideal) x0 x1 x2 x3 x4 x5 x6 x7 x8 : Vec Ideal S4096x1024 .f32) (ix2 i j) = ((I.dh i j * I.g j : ℝ) : EReal) := by
  unfold val_main_v233 val_main_v232 val_main_v14
  pointwise
  simp only [r_v228 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v243 (i : Fin 4096) : (val_main_v243 (F := Ideal) x0 x1 x2 x3 x4 x5 x6 x7 x8 : Vec Ideal S4096 .f32) (ix1 i) = (((∑ e : Fin 1024, I.x i e * (I.dh i e * I.g e)) * (-(1 / 2) * (Spec.inv I.x i * (Spec.inv I.x i * Spec.inv I.x i))) / 1024 : ℝ) : EReal) := by
  unfold val_main_v243 val_main_v242 val_main_v240 val_main_v237 val_main_v236 val_main_v235 val_main_cst_48 val_main_v241 val_main_cst_49 val_main_cst_50
  pointwise
  simp only [r_v0 hA, r_v233 hA, r_v11 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals simp

theorem r_v244 (i : Fin 4096) (j : Fin 1024) : (val_main_v244 (F := Ideal) x0 x1 x2 x3 x4 x5 x6 x7 x8 : Vec Ideal S4096x1024 .f32) (ix2 i j) = (((∑ e : Fin 1024, I.x i e * (I.dh i e * I.g e)) * (-(1 / 2) * (Spec.inv I.x i * (Spec.inv I.x i * Spec.inv I.x i))) / 1024 : ℝ) : EReal) := by
  unfold val_main_v244
  pointwise
  simp only [r_v243 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v249 (i : Fin 4096) (j : Fin 1024) : (val_main_v249 (F := Ideal) x0 x1 x2 x3 x4 x5 x6 x7 x8 : Vec Ideal S4096x1024 .f32) (ix2 i j) = ((I.dx i j : ℝ) : EReal) := by
  unfold val_main_v249 val_main_v248 val_main_v246 val_main_v239 val_main_v238 val_main_v245 val_main_v247
  pointwise
  simp only [r_v125 hA, r_v233 hA, r_v8 hA, r_v0 hA, r_v244 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  congr 1
  simp only [In.dx, Spec.dx]
  congr 1
  exact rms_back (I.x i) (fun e => I.dh i e * I.g e) (Spec.inv I.x i) j

theorem r_v250 (i : Fin 4096) (j : Fin 2560) : (val_main_v250 (F := Ideal) x0 x1 x2 x3 x4 x5 x6 x7 x8 : Vec Ideal S4096x2560 .bf16) (ix2 i j) = ((I.dproj i j : ℝ) : EReal) := by
  unfold val_main_v250
  pointwise
  simp only [r_v227 hA, hA.x, hA.g, hA.win, hA.lg, hA.w, hA.b, hA.cw, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v251 (i : Fin 4096) (j : Fin 1024) : (val_main_v251 (F := Ideal) x0 x1 x2 x3 x4 x5 x6 : Vec Ideal S4096x1024 .bf16) (ix2 i j) = ((I.mix i j : ℝ) : EReal) := by
  unfold val_main_v251
  pointwise
  simp only [r_v122 hA, hA.x, hA.g, hA.win, hA.lg, hA.w, hA.b, hA.cw, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v252 (i : Fin 4096) (j : Fin 1024) : (val_main_v252 (F := Ideal) x0 x1 : Vec Ideal S4096x1024 .bf16) (ix2 i j) = ((Spec.hid I.x I.g i j : ℝ) : EReal) := by
  unfold val_main_v252
  pointwise
  simp only [r_v16 hA, hA.x, hA.g, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v255 (i : Fin 128) (j : Fin 128) : (val_main_v255 (F := Ideal) x0 x1 x2 x7 x8 : Vec Ideal S128x128 .f32) (ix2 i j) = ((if (j : ℕ) < 4 then I.dbs j i else 0 : ℝ) : EReal) := by
  unfold val_main_v255 val_main_v254 val_main_call3_v0 val_main_c_51
  pointwise
  simp only [r_v174 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (j : ℕ) < 4
  · rw [dif_pos h, if_pos h]
  · rw [dif_neg h, if_neg h]
    exact sitofp_zero

theorem r_v256 (i : Fin 1) (j : Fin 512) : (val_main_v256 (F := Ideal) x0 x1 x2 x4 x7 x8 : Vec Ideal S1x512 .f32) (ix2 i j) = ((I.dlg (j / 128) (j % 128) : ℝ) : EReal) := by
  unfold val_main_v256
  pointwise
  simp only [r_v209 hA, hA.x, hA.g, hA.win, hA.w, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  all_goals rfl

theorem r_v257 (i : Fin 8) (j : Fin 512) : (val_main_v257 (F := Ideal) x0 x1 x2 x7 x8 : Vec Ideal S8x512 .f32) (ix2 i j) = ((if (i : ℕ) < 3 then I.dcw i j else 0 : ℝ) : EReal) := by
  unfold val_main_v257 val_main_call4_v0 val_main_c_52
  pointwise
  simp only [r_v162 hA, hA.x, hA.g, hA.win, hA.wo, hA.ct, csum, d1024, d128, dsq2, r1024, r128, cerf, cexp, cneg, q2, pi1, qpi, two_sqpi, c_one, c_two, c_mone, c_eps, c_1024, c_128, c_half, c_mhalf, zero_add, add_zero, Nat.div_add_mod, ← EReal.coe_mul, ← EReal.coe_add, ← EReal.coe_sub, ← EReal.coe_one, ← EReal.coe_zero]
  by_cases h : (i : ℕ) < 3
  · rw [dif_pos h, if_pos h]
  · rw [dif_neg h, if_neg h]
    exact sitofp_zero

end Cert.ReferenceIdeal.Even

end
-- ==== Proof.Even.Finite.lean ====
/- The precondition read: every argument is an array of reals. -/
module

public import proofs.«01_k».proof.Pre_finite
public import proofs.«01_k».proof.Proof.Even.Ref1
public import Idealize.ShloMosaic.Lib.ReduceAll

@[expose] public section

set_option maxRecDepth 16384

noncomputable section

namespace Cert.Pre_finite

open Idealize.ShloMosaic Idealize.ShloMosaic.Pointwise
open Cert.Spec (In)

/-- The side conditions the precondition's operations state. -/
instance facts : Facts where
  bcast_S_S2x2048x1024 := by decide
  reducesTo_S2x2048x1024_S_d0_1_2 := by decide
  h_S_ := by decide
  bcast_S_S1024 := by decide
  reducesTo_S1024_S_d0 := by decide
  bcast_S_S1024x2560 := by decide
  reducesTo_S1024x2560_S_d0_1 := by decide
  bcast_S_S512 := by decide
  reducesTo_S512_S_d0 := by decide
  bcast_S_S4x128x128 := by decide
  reducesTo_S4x128x128_S_d0_1_2 := by decide
  bcast_S_S4x128 := by decide
  reducesTo_S4x128_S_d0_1 := by decide
  bcast_S_S3x512 := by decide
  reducesTo_S3x512_S_d0_1 := by decide
  bcast_S_S1024x1024 := by decide
  reducesTo_S1024x1024_S_d0_1 := by decide

theorem c_inf : Ideal.ofBits .f32 0x7F800000#32 = (⊤ : EReal) := by
  simp [Ideal.ofBits, Ideal.ieee]

/-- A value whose size is less than infinity is a real. -/
theorem real_of_lt {a : EReal} (h : Ideal.cmp .olt (max a (-a)) ⊤ = 1#1) : a = ((a.toReal : ℝ) : EReal) := by
  have hlt : max a (-a) < ⊤ := by
    by_contra hn
    simp [Ideal.cmp, hn] at h
  refine (EReal.coe_toReal ?_ ?_).symm
  · rintro rfl; simp at hlt
  · rintro rfl; simp at hlt

instance : Subsingleton S_.Idx := ⟨fun a b => funext fun d => d.elim0⟩

/-- Where the array's test came out true, each of its elements is a real. -/
theorem real_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : x i = (((x i : EReal).toReal : ℝ) : EReal) := by
  have h := Host.reduce_andi_all _ _ hr hu j e i
  refine real_of_lt ?_
  rw [← c_inf]
  exact h

theorem andi_split {a b : IVec S_ 1} {j : S_.Idx} (h : andi a b j = 1#1) : a j = 1#1 ∧ b j = 1#1 := IntOp.andi_eq_one.1 h

/-- The real arrays the arguments hold. -/
def inOf (x0 : FVec Ideal S2x2048x1024 .f32) (x1 : FVec Ideal S1024 .f32) (x2 : FVec Ideal S1024x2560 .f32) (x3 : FVec Ideal S512 .f32)
    (x4 : FVec Ideal S4x128x128 .f32) (x5 : FVec Ideal S4x128 .f32) (x6 : FVec Ideal S3x512 .f32) (x7 : FVec Ideal S1024x1024 .f32)
    (x8 : FVec Ideal S2x2048x1024 .f32) : In where
  x r j := (x0 (ix3 (Fin.ofNat 2 (r / 2048)) (Fin.ofNat 2048 r) (Fin.ofNat 1024 j)) : EReal).toReal
  g j := (x1 (ix1 (Fin.ofNat 1024 j)) : EReal).toReal
  win i j := (x2 (ix2 (Fin.ofNat 1024 i) (Fin.ofNat 2560 j)) : EReal).toReal
  lg j := (x3 (ix1 (Fin.ofNat 512 j)) : EReal).toReal
  w a i j := (x4 (ix3 (Fin.ofNat 4 a) (Fin.ofNat 128 i) (Fin.ofNat 128 j)) : EReal).toReal
  b i j := (x5 (ix2 (Fin.ofNat 4 i) (Fin.ofNat 128 j)) : EReal).toReal
  cw i j := (x6 (ix2 (Fin.ofNat 3 i) (Fin.ofNat 512 j)) : EReal).toReal
  wo i j := (x7 (ix2 (Fin.ofNat 1024 i) (Fin.ofNat 1024 j)) : EReal).toReal
  ct r j := (x8 (ix3 (Fin.ofNat 2 (r / 2048)) (Fin.ofNat 2048 r) (Fin.ofNat 1024 j)) : EReal).toReal

theorem ofNat_val {n : ℕ} [NeZero n] (j : Fin n) : Fin.ofNat n (j : ℕ) = j := Fin.ext (Nat.mod_eq_of_lt j.isLt)

theorem row_hi (a : Fin 2) (i : Fin 2048) : Fin.ofNat 2 ((2048 * (a : ℕ) + i) / 2048) = a := by
  refine Fin.ext ?_
  show (2048 * (a : ℕ) + i) / 2048 % 2 = a
  omega

theorem row_lo (a : Fin 2) (i : Fin 2048) : Fin.ofNat 2048 (2048 * (a : ℕ) + i) = i := by
  refine Fin.ext ?_
  show (2048 * (a : ℕ) + i) % 2048 = i
  omega

/-- Under the precondition the arguments are the real arrays `inOf`. -/
theorem isA (x0 : FVec Ideal S2x2048x1024 .f32) (x1 : FVec Ideal S1024 .f32) (x2 : FVec Ideal S1024x2560 .f32) (x3 : FVec Ideal S512 .f32)
    (x4 : FVec Ideal S4x128x128 .f32) (x5 : FVec Ideal S4x128 .f32) (x6 : FVec Ideal S3x512 .f32) (x7 : FVec Ideal S1024x1024 .f32)
    (x8 : FVec Ideal S2x2048x1024 .f32) (e : fn (F := Ideal) x0 x1 x2 x3 x4 x5 x6 x7 x8 = (fun _ => 1#1)) :
    Cert.ReferenceIdeal.Even.IsA (inOf x0 x1 x2 x3 x4 x5 x6 x7 x8) x0 x1 x2 x3 x4 x5 x6 x7 x8 := by
  have h := congrFun e (fun d => d.elim0)
  unfold fn fn_part1 fn_part2 at h
  obtain ⟨h, h8⟩ := andi_split h
  obtain ⟨h, h7⟩ := andi_split h
  obtain ⟨h, h6⟩ := andi_split h
  obtain ⟨h, h5⟩ := andi_split h
  obtain ⟨h, h4⟩ := andi_split h
  obtain ⟨h, h3⟩ := andi_split h
  obtain ⟨h, h2⟩ := andi_split h
  obtain ⟨h0, h1⟩ := andi_split h
  refine ⟨?_, ?_, ?_, ?_, ?_, ?_, ?_, ?_, ?_⟩
  · intro a i j
    refine (real_all x0 _ _ _ _ h0 _).trans ?_
    simp only [inOf, row_hi, row_lo, ofNat_val]
  · intro j
    refine (real_all x1 _ _ _ _ h1 _).trans ?_
    simp only [inOf, ofNat_val]
  · intro i j
    refine (real_all x2 _ _ _ _ h2 _).trans ?_
    simp only [inOf, ofNat_val]
  · intro j
    refine (real_all x3 _ _ _ _ h3 _).trans ?_
    simp only [inOf, ofNat_val]
  · intro a i j
    refine (real_all x4 _ _ _ _ h4 _).trans ?_
    simp only [inOf, ofNat_val]
  · intro i j
    refine (real_all x5 _ _ _ _ h5 _).trans ?_
    simp only [inOf, ofNat_val]
  · intro i j
    refine (real_all x6 _ _ _ _ h6 _).trans ?_
    simp only [inOf, ofNat_val]
  · intro i j
    refine (real_all x7 _ _ _ _ h7 _).trans ?_
    simp only [inOf, ofNat_val]
  · intro a i j
    refine (real_all x8 _ _ _ _ h8 _).trans ?_
    simp only [inOf, row_hi, row_lo, ofNat_val]

end Cert.Pre_finite

end
-- ==== Proof.Even.Same.lean ====
/- The reference's nine results and the kernel's nine arrays are the same real arrays. -/
module

public import proofs.«01_k».proof.Proof.Even.Arrays
public import proofs.«01_k».proof.Proof.Even.Ref5
public import proofs.«01_k».proof.Proof.Even.Finite

@[expose] public section

set_option maxRecDepth 16384
set_option maxHeartbeats 1000000

noncomputable section

namespace Cert.ReferenceIdeal.Even

open Idealize.ShloMosaic
open Cert.Spec (In)

/-- Equal arrays hold the same reals. -/
theorem IsA.congr {I : In} {x0 y0 : Vec Ideal S2x2048x1024 .f32} {x1 y1 : Vec Ideal S1024 .f32} {x2 y2 : Vec Ideal S1024x2560 .f32} {x3 y3 : Vec Ideal S512 .f32} {x4 y4 : Vec Ideal S4x128x128 .f32} {x5 y5 : Vec Ideal S4x128 .f32} {x6 y6 : Vec Ideal S3x512 .f32} {x7 y7 : Vec Ideal S1024x1024 .f32} {x8 y8 : Vec Ideal S2x2048x1024 .f32}
    (h : IsA I x0 x1 x2 x3 x4 x5 x6 x7 x8) (e0 : y0 = x0) (e1 : y1 = x1) (e2 : y2 = x2) (e3 : y3 = x3) (e4 : y4 = x4) (e5 : y5 = x5) (e6 : y6 = x6) (e7 : y7 = x7) (e8 : y8 = x8) : IsA I y0 y1 y2 y3 y4 y5 y6 y7 y8 := by
  subst e0 e1 e2 e3 e4 e5 e6 e7 e8
  exact h

end Cert.ReferenceIdeal.Even

namespace Cert.KernelIdeal.Even

open Cert.KernelIdeal.Gen
open Idealize.ShloMosaic Idealize.ShloMosaic.TcCoe Idealize.ShloMosaic.Pointwise
open Idealize.SL.Sem
open Cert.Spec (In)

variable {I : In} {m : (ℓ : Loc nD τ sig) → Buf (Elt Ideal) ℓ} {c : Dev nD} (hI : IsIn I m c)

  {x0 : Vec Ideal S2x2048x1024 .f32}
  {x1 : Vec Ideal S1024 .f32}
  {x2 : Vec Ideal S1024x2560 .f32}
  {x3 : Vec Ideal S512 .f32}
  {x4 : Vec Ideal S4x128x128 .f32}
  {x5 : Vec Ideal S4x128 .f32}
  {x6 : Vec Ideal S3x512 .f32}
  {x7 : Vec Ideal S1024x1024 .f32}
  {x8 : Vec Ideal S2x2048x1024 .f32}
  (hA : Cert.ReferenceIdeal.Even.IsA I x0 x1 x2 x3 x4 x5 x6 x7 x8)
include hI hA

theorem same11 : (Cert.ReferenceIdeal.Read.val_main_v249 (F := Ideal) x0 x1 x2 x3 x4 x5 x6 x7 x8 : Vec Ideal S4096x1024 .f32) = ((dats m 0 c).arrAt 11 cfg0.N : Vec Ideal S4096x1024 .f32) := by
  funext p
  rw [eq_ix2 p]
  exact (Cert.ReferenceIdeal.Even.r_v249 hA (p 0) (p 1)).trans (arr11 hI (p 0) (p 1)).symm

theorem same12 : (Cert.ReferenceIdeal.Read.val_main_v250 (F := Ideal) x0 x1 x2 x3 x4 x5 x6 x7 x8 : Vec Ideal S4096x2560 .bf16) = ((dats m 0 c).arrAt 12 cfg0.N : Vec Ideal S4096x2560 .bf16) := by
  funext p
  rw [eq_ix2 p]
  exact (Cert.ReferenceIdeal.Even.r_v250 hA (p 0) (p 1)).trans (arr12 hI (p 0) (p 1)).symm

theorem same13 : (Cert.ReferenceIdeal.Read.val_main_v251 (F := Ideal) x0 x1 x2 x3 x4 x5 x6 : Vec Ideal S4096x1024 .bf16) = ((dats m 0 c).arrAt 13 cfg0.N : Vec Ideal S4096x1024 .bf16) := by
  funext p
  rw [eq_ix2 p]
  exact (Cert.ReferenceIdeal.Even.r_v251 hA (p 0) (p 1)).trans (arr13 hI (p 0) (p 1)).symm

theorem same14 : (Cert.ReferenceIdeal.Read.val_main_v252 (F := Ideal) x0 x1 : Vec Ideal S4096x1024 .bf16) = ((dats m 0 c).arrAt 14 cfg0.N : Vec Ideal S4096x1024 .bf16) := by
  funext p
  rw [eq_ix2 p]
  exact (Cert.ReferenceIdeal.Even.r_v252 hA (p 0) (p 1)).trans (arr14 hI (p 0) (p 1)).symm

theorem same15 : (Cert.ReferenceIdeal.Read.val_main_v253 (F := Ideal) x0 x1 x2 x3 x4 x5 x6 x7 x8 : Vec Ideal S1x1024 .f32) = ((dats m 0 c).arrAt 15 cfg0.N : Vec Ideal S1x1024 .f32) := by
  funext p
  rw [eq_ix2 p]
  exact (Cert.ReferenceIdeal.Even.r_v253 hA (p 0) (p 1)).trans (arr15 hI (p 0) (p 1)).symm

theorem same16 : (Cert.ReferenceIdeal.Read.val_main_v179 (F := Ideal) x0 x1 x2 x3 x7 x8 : Vec Ideal S4x128x128 .f32) = ((dats m 0 c).arrAt 16 cfg0.N : Vec Ideal S4x128x128 .f32) := by
  funext p
  rw [eq_ix3 p]
  exact (Cert.ReferenceIdeal.Even.r_v179 hA (p 0) (p 1) (p 2)).trans (arr16 hI (p 0) (p 1) (p 2)).symm

theorem same17 : (Cert.ReferenceIdeal.Read.val_main_v255 (F := Ideal) x0 x1 x2 x7 x8 : Vec Ideal S128x128 .f32) = ((dats m 0 c).arrAt 17 cfg0.N : Vec Ideal S128x128 .f32) := by
  funext p
  rw [eq_ix2 p]
  exact (Cert.ReferenceIdeal.Even.r_v255 hA (p 0) (p 1)).trans (arr17 hI (p 0) (p 1)).symm

theorem same18 : (Cert.ReferenceIdeal.Read.val_main_v256 (F := Ideal) x0 x1 x2 x4 x7 x8 : Vec Ideal S1x512 .f32) = ((dats m 0 c).arrAt 18 cfg0.N : Vec Ideal S1x512 .f32) := by
  funext p
  rw [eq_ix2 p]
  exact (Cert.ReferenceIdeal.Even.r_v256 hA (p 0) (p 1)).trans (arr18 hI (p 0) (p 1)).symm

theorem same19 : (Cert.ReferenceIdeal.Read.val_main_v257 (F := Ideal) x0 x1 x2 x7 x8 : Vec Ideal S8x512 .f32) = ((dats m 0 c).arrAt 19 cfg0.N : Vec Ideal S8x512 .f32) := by
  funext p
  rw [eq_ix2 p]
  exact (Cert.ReferenceIdeal.Even.r_v257 hA (p 0) (p 1)).trans (arr19 hI (p 0) (p 1)).symm

end Cert.KernelIdeal.Even

end
-- ==== Proof.Ffn.Spec.lean ====
/- The feed-forward block's backward mathematics over the reals. -/
module

public import proofs.«01_k».proof.Proof.Even.Real

@[expose] public section

noncomputable section

namespace Cert.Spec

open Idealize.ShloMosaic

/-- The logistic function. -/
def sg (a : ℝ) : ℝ := 1 / (1 + Real.exp (-a))

theorem sg_pos (a : ℝ) : 1 + Real.exp (-a) ≠ 0 := (add_pos one_pos (Real.exp_pos _)).ne'

theorem csg (r : ℝ) : Ideal.logistic (r : EReal) = ((sg r : ℝ) : EReal) := by
  unfold Ideal.logistic
  rw [cneg, cexp, ← EReal.coe_one, ← EReal.coe_add, cdiv _ _ (sg_pos r)]
  rfl

/-- A gate passed through its activation, times the values. -/
def act (G U : ℕ → ℕ → ℝ) (r e : ℕ) : ℝ := G r e * sg (G r e) * U r e
/-- The gate's cotangent. -/
def dgate (D G U : ℕ → ℕ → ℝ) (r e : ℕ) : ℝ := D r e * U r e * (sg (G r e) * (1 + G r e * (1 - sg (G r e))))
/-- The values' cotangent. -/
def dup (D G : ℕ → ℕ → ℝ) (r e : ℕ) : ℝ := D r e * (G r e * sg (G r e))
/-- The cotangent of the normalised rows. -/
def dhF (p q wg wu : ℕ → ℕ → ℝ) (r d : ℕ) : ℝ := ∑ e : Fin 2816, p r e * wg d e + ∑ e : Fin 2816, q r e * wu d e

/-- The arguments, as reals. -/
structure In2 where
  x : ℕ → ℕ → ℝ
  g : ℕ → ℝ
  wg : ℕ → ℕ → ℝ
  wu : ℕ → ℕ → ℝ
  wd : ℕ → ℕ → ℝ
  ct : ℕ → ℕ → ℝ
  wo : ℕ → ℕ → ℝ

namespace In2

variable (I : In2)

/-- The normalised rows. -/
def h : ℕ → ℕ → ℝ := hid I.x I.g
/-- The gate and the values. -/
def G : ℕ → ℕ → ℝ := proj I.h I.wg
def U : ℕ → ℕ → ℝ := proj I.h I.wu
/-- The activations. -/
def ac : ℕ → ℕ → ℝ := act I.G I.U
/-- The activations' cotangent. -/
def da : ℕ → ℕ → ℝ := dmix I.ct I.wd
def dg : ℕ → ℕ → ℝ := dgate I.da I.G I.U
def du : ℕ → ℕ → ℝ := dup I.da I.G
/-- The normalised rows' cotangent. -/
def dh : ℕ → ℕ → ℝ := dhF I.dg I.du I.wg I.wu
/-- The rows' cotangent. -/
def dx : ℕ → ℕ → ℝ := Spec.dx I.x I.g I.ct I.dh
/-- One row's part of the gain's gradient. -/
def pg (r j : ℕ) : ℝ := I.dh r j * (I.x r j * inv I.x r)
/-- The rows' cotangent through the projection before. -/
def dm : ℕ → ℕ → ℝ := dmix I.dx I.wo

end In2

end Cert.Spec

end
-- ==== Proof.Ffn.Pay.lean ====
/- The feed-forward kernel's functions at the extended reals, where their arguments are real. -/
module

public import proofs.«01_k».proof.Proof.Ffn.Spec
public import proofs.«01_k».proof.Proof.Gen.Kernel2Ideal.Skeleton
public import Idealize.ShloMosaic.Lib.Pointwise

@[expose] public section

set_option maxHeartbeats 400000

noncomputable section

namespace Cert.Kernel2Ideal.Ffn

open Cert.Kernel2Ideal.Gen
open Idealize.ShloMosaic Idealize.ShloMosaic.Pointwise
open Cert.Spec (csum csg d1024 r1024 c_eps c_1024)

section
variable {X CT H : ℕ → ℕ → ℝ} {G : ℕ → ℝ} {A B C D W V : ℕ → ℕ → ℝ}

/-- One over the root mean square. -/
theorem inv_r {x : Vec Ideal S256x1024 .f32} (hx : ∀ (i : Fin 256) (j : Fin 1024), x (ix2 i j) = ((X i j : ℝ) : EReal)) (i : Fin 256) (j : Fin 1) :
    k0_pay7 x (ix2 i j) = ((Spec.inv X i : ℝ) : EReal) := by
  unfold k0_pay7 k0_pay5
  pointwise
  simp only [hx, csum, d1024, r1024, c_eps, c_1024, ← EReal.coe_mul, ← EReal.coe_add]
  all_goals rfl

/-- The normalised rows. -/
theorem hid_r {x : Vec Ideal S256x1024 .f32} {g : Vec Ideal S1x1024 .f32} (hx : ∀ (i : Fin 256) (j : Fin 1024), x (ix2 i j) = ((X i j : ℝ) : EReal)) (hg : ∀ (i : Fin 1) (j : Fin 1024), g (ix2 i j) = ((G j : ℝ) : EReal)) (i : Fin 256) (j : Fin 1024) :
    k0_pay8 x g (ix2 i j) = ((Spec.hid X G i j : ℝ) : EReal) := by
  unfold k0_pay8 k0_pay7 k0_pay6 k0_pay5
  pointwise
  simp only [hx, hg, csum, d1024, r1024, c_eps, c_1024, ← EReal.coe_mul, ← EReal.coe_add]
  all_goals rfl

/-- The activations' cotangent. -/
theorem da_r {ct : Vec Ideal S256x1024 .f32} {w : Vec Ideal S8x352x1024 .bf16} (hct : ∀ (i : Fin 256) (j : Fin 1024), ct (ix2 i j) = ((CT i j : ℝ) : EReal)) (hw : ∀ (a : Fin 8) (i : Fin 352) (j : Fin 1024), w (ix3 a i j) = ((W (352 * a + i) j : ℝ) : EReal)) (i : Fin 256) (j : Fin 2816) :
    k0_pay10 ct w (ix2 i j) = ((Spec.dmix CT W i j : ℝ) : EReal) := by
  unfold k0_pay10 k0_pay9
  pointwise
  simp only [hct, hw, Nat.div_add_mod, csum, ← EReal.coe_mul, ← EReal.coe_add]
  all_goals rfl

theorem g_r {x : Vec Ideal S256x2816 .bf16} (hx : ∀ (i : Fin 256) (j : Fin 2816), x (ix2 i j) = ((A i j : ℝ) : EReal)) (i : Fin 256) (j : Fin 2816) :
    k0_pay11 x (ix2 i j) = ((A i j : ℝ) : EReal) := by
  unfold k0_pay11
  pointwise
  simp only [hx]

theorem u_r {x : Vec Ideal S256x2816 .bf16} (hx : ∀ (i : Fin 256) (j : Fin 2816), x (ix2 i j) = ((A i j : ℝ) : EReal)) (i : Fin 256) (j : Fin 2816) :
    k0_pay12 x (ix2 i j) = ((A i j : ℝ) : EReal) := by
  unfold k0_pay12
  pointwise
  simp only [hx]

theorem sg_r {x : Vec Ideal S256x2816 .bf16} (hx : ∀ (i : Fin 256) (j : Fin 2816), x (ix2 i j) = ((A i j : ℝ) : EReal)) (i : Fin 256) (j : Fin 2816) :
    k0_pay13 x (ix2 i j) = ((Spec.sg (A i j) : ℝ) : EReal) := by
  unfold k0_pay13
  refine Eq.trans (b := Ideal.logistic (k0_pay11 x (ix2 i j))) rfl ?_
  rw [g_r hx, csg]

theorem si_r {x : Vec Ideal S256x2816 .bf16} (hx : ∀ (i : Fin 256) (j : Fin 2816), x (ix2 i j) = ((A i j : ℝ) : EReal)) (i : Fin 256) (j : Fin 2816) :
    k0_pay14 x (ix2 i j) = ((A i j * Spec.sg (A i j) : ℝ) : EReal) := by
  unfold k0_pay14
  refine Eq.trans (b := k0_pay11 x (ix2 i j) * k0_pay13 x (ix2 i j)) rfl ?_
  rw [g_r hx, sg_r hx, ← EReal.coe_mul]

/-- The activations. -/
theorem act_r {u s : FVec Ideal S256x2816 .f32} (hu : ∀ (i : Fin 256) (j : Fin 2816), u (ix2 i j) = ((A i j : ℝ) : EReal)) (hs : ∀ (i : Fin 256) (j : Fin 2816), s (ix2 i j) = ((B i j : ℝ) : EReal)) (i : Fin 256) (j : Fin 2816) :
    k0_pay15 u s (ix2 i j) = ((B i j * A i j : ℝ) : EReal) := by
  unfold k0_pay15
  pointwise
  simp only [hu, hs, ← EReal.coe_mul]

/-- The gate's cotangent. -/
theorem dg_r {d g u s : FVec Ideal S256x2816 .f32} (hd : ∀ (i : Fin 256) (j : Fin 2816), d (ix2 i j) = ((D i j : ℝ) : EReal)) (hg : ∀ (i : Fin 256) (j : Fin 2816), g (ix2 i j) = ((A i j : ℝ) : EReal)) (hu : ∀ (i : Fin 256) (j : Fin 2816), u (ix2 i j) = ((B i j : ℝ) : EReal)) (hs : ∀ (i : Fin 256) (j : Fin 2816), s (ix2 i j) = ((Spec.sg (A i j) : ℝ) : EReal)) (i : Fin 256) (j : Fin 2816) :
    k0_pay16 d g u s (ix2 i j) = ((Spec.dgate D A B i j : ℝ) : EReal) := by
  unfold k0_pay16
  pointwise
  simp only [hd, hg, hu, hs, ← EReal.coe_mul, ← EReal.coe_add, ← EReal.coe_sub, ← EReal.coe_one]
  all_goals rfl

/-- The values' cotangent. -/
theorem du_r {d s : FVec Ideal S256x2816 .f32} (hd : ∀ (i : Fin 256) (j : Fin 2816), d (ix2 i j) = ((D i j : ℝ) : EReal)) (hs : ∀ (i : Fin 256) (j : Fin 2816), s (ix2 i j) = ((A i j * Spec.sg (A i j) : ℝ) : EReal)) (i : Fin 256) (j : Fin 2816) :
    k0_pay17 d s (ix2 i j) = ((Spec.dup D A i j : ℝ) : EReal) := by
  unfold k0_pay17
  pointwise
  simp only [hd, hs, ← EReal.coe_mul]
  all_goals rfl

/-- The normalised rows' cotangent, from the gate's and the values'. -/
theorem dh_r {d g u s t : FVec Ideal S256x2816 .f32} {wg wu : Vec Ideal S8x352x1024 .bf16} (hp : ∀ (i : Fin 256) (j : Fin 2816), k0_pay16 d g u s (ix2 i j) = ((C i j : ℝ) : EReal)) (hq : ∀ (i : Fin 256) (j : Fin 2816), k0_pay17 d t (ix2 i j) = ((D i j : ℝ) : EReal)) (hw : ∀ (a : Fin 8) (i : Fin 352) (j : Fin 1024), wg (ix3 a i j) = ((W j (352 * a + i) : ℝ) : EReal)) (hv : ∀ (a : Fin 8) (i : Fin 352) (j : Fin 1024), wu (ix3 a i j) = ((V j (352 * a + i) : ℝ) : EReal)) (i : Fin 256) (j : Fin 1024) :
    k0_pay18 d g u s t wg wu (ix2 i j) = ((Spec.dhF C D W V i j : ℝ) : EReal) := by
  unfold k0_pay18
  generalize k0_pay16 d g u s = P at *
  generalize k0_pay17 d t = Q at *
  pointwise
  simp only [hp, hq, hw, hv, Nat.div_add_mod, csum, ← EReal.coe_mul, ← EReal.coe_add]
  all_goals rfl

/-- The rows' cotangent. -/
theorem dx_r {x ct : Vec Ideal S256x1024 .f32} {ga : Vec Ideal S1x1024 .f32} {d g u s t : FVec Ideal S256x2816 .f32} {wg wu : Vec Ideal S8x352x1024 .bf16} (hx : ∀ (i : Fin 256) (j : Fin 1024), x (ix2 i j) = ((X i j : ℝ) : EReal)) (hg : ∀ (i : Fin 1) (j : Fin 1024), ga (ix2 i j) = ((G j : ℝ) : EReal)) (hct : ∀ (i : Fin 256) (j : Fin 1024), ct (ix2 i j) = ((CT i j : ℝ) : EReal)) (hh : ∀ (i : Fin 256) (j : Fin 1024), k0_pay18 d g u s t wg wu (ix2 i j) = ((H i j : ℝ) : EReal)) (i : Fin 256) (j : Fin 1024) :
    k0_pay2 (k0_pay9 ct) (k0_pay20 (k0_pay5 x) (k0_pay6 ga) (k0_pay7 x) d g u s t wg wu) (ix2 i j) = ((Spec.dx X G CT H i j : ℝ) : EReal) := by
  have hr := inv_r hx
  unfold k0_pay2 k0_pay9 k0_pay20 k0_pay19 k0_pay5 k0_pay6
  generalize k0_pay18 d g u s t wg wu = P at *
  generalize k0_pay7 x = R at *
  pointwise
  simp only [hx, hg, hct, hh, hr, csum, d1024, c_1024, ← EReal.coe_mul, ← EReal.coe_add, ← EReal.coe_sub]
  all_goals rfl

/-- The gain's gradient over a block's rows, added to what was there. -/
theorem dgam_r {x : Vec Ideal S256x1024 .f32} {a : Vec Ideal S1x1024 .f32} {d g u s t : FVec Ideal S256x2816 .f32} {wg wu : Vec Ideal S8x352x1024 .bf16} {Q : ℕ → ℝ} (hx : ∀ (i : Fin 256) (j : Fin 1024), x (ix2 i j) = ((X i j : ℝ) : EReal)) (ha : ∀ (i : Fin 1) (j : Fin 1024), a (ix2 i j) = ((Q j : ℝ) : EReal)) (hh : ∀ (i : Fin 256) (j : Fin 1024), k0_pay18 d g u s t wg wu (ix2 i j) = ((H i j : ℝ) : EReal)) (i : Fin 1) (j : Fin 1024) :
    k0_pay1 (k0_pay18 d g u s t wg wu) (k0_pay19 (k0_pay5 x) (k0_pay7 x)) a (ix2 i j) = ((Q j + ∑ r : Fin 256, H r j * (X r j * Spec.inv X r) : ℝ) : EReal) := by
  have hr := inv_r hx
  unfold k0_pay1 k0_pay19 k0_pay5
  generalize k0_pay18 d g u s t wg wu = P at *
  generalize k0_pay7 x = R at *
  pointwise
  simp only [hx, ha, hh, hr, csum, ← EReal.coe_mul, ← EReal.coe_add]
  all_goals rfl

/-- The rows' cotangent through the projection before. -/
theorem dm_r {v w : FVec Ideal S256x1024 .f32} {wo : Vec Ideal S8x128x1024 .bf16} (hd : ∀ (i : Fin 256) (j : Fin 1024), k0_pay2 v w (ix2 i j) = ((X i j : ℝ) : EReal)) (hw : ∀ (a : Fin 8) (i : Fin 128) (j : Fin 1024), wo (ix3 a i j) = ((W (128 * a + i) j : ℝ) : EReal)) (i : Fin 256) (j : Fin 1024) :
    k0_pay3 v w wo (ix2 i j) = ((Spec.dmix X W i j : ℝ) : EReal) := by
  unfold k0_pay3
  generalize k0_pay2 v w = P at *
  pointwise
  simp only [hd, hw, Nat.div_add_mod, csum, ← EReal.coe_mul]
  all_goals rfl

/-- No gradient at the start. -/
theorem zero_r (i : Fin 1) (j : Fin 1024) : (k0_pay4 : FVec Ideal S1x1024 .f32) (ix2 i j) = ((0 : ℝ) : EReal) := by
  unfold k0_pay4
  pointwise
  all_goals rfl
end

end Cert.Kernel2Ideal.Ffn

end
-- ==== Proof.Ffn.Outs.lean ====
/- What each output of the feed-forward kernel holds after a point, as the kernel's functions of the point's blocks. -/
module

public import proofs.«01_k».proof.Proof.Ffn.Pay
public import proofs.«01_k».proof.Proof.Gen.Kernel2Ideal.Frame
public import Idealize.ShloMosaic.Lib.Pipeline.ReadBack
public import Idealize.ShloMosaic.Lib.Pipeline.ValueKit.Acc

@[expose] public section

set_option maxHeartbeats 2000000
set_option maxRecDepth 16384

noncomputable section

namespace Cert.Kernel2Ideal.Ffn

open Cert.Kernel2Ideal.Gen
open Idealize.ShloMosaic Idealize.ShloMosaic.TcCoe Idealize.ShloMosaic.Tactic

variable {F : FTy → Type} [FloatOps F]
variable (m : (ℓ : Loc nD τ sig) → Buf (Elt F) ℓ)

/-- A read of the whole array after stores. -/
theorem readCov_whole {Val : EltTy → Type} [∀ e, Nonempty (Val e)] {sg : RefSig} {κ : Kind} {sp : Space} {s : Shape} {e : EltTy} (v : View sg κ sp s e) (L : List (View.Piece Val s e)) {off : Fin s.rank → ℕ} (inb : ∀ a, off a + s.size a ≤ s.size a) (h : ∀ a, off a = 0) :
    v.readCov L (Rect.unit off (no_index s.size) inb).toLoadRect = View.canon L :=
  (View.readCov_eq_canon' v L _).trans (View.ld_unit_lit inb (View.canon L) h)

/-- The rows' cotangent, at the first point. -/
theorem outA_9 (c : Dev nD) (t : Fin cfg0.N) (h0 : t.val % 16 = 0) : (outsAt0 m c t.val t.isLt).1 = k0_pay2 (k0_pay9 (iblk m c 3 t)) (k0_pay20 (k0_pay5 (iblk m c 0 t)) (k0_pay6 (iblk m c 4 t)) (k0_pay7 (iblk m c 0 t)) (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) := by
  rw [outsAt0_A m c t h0]
  dsimp only
  unfold out0_A_9
  frame_out
  (try simp (disch := decide) only [read_unread_whole, readCov_whole])

/-- The rows' cotangent, at a later point. -/
theorem outB_9 (c : Dev nD) (t : Fin cfg0.N) (h0 : ¬t.val % 16 = 0) : (outsAt0 m c t.val t.isLt).1 = k0_pay2 (k0_pay9 (iblk m c 3 t)) (k0_pay20 (k0_pay5 (iblk m c 0 t)) (k0_pay6 (iblk m c 4 t)) (k0_pay7 (iblk m c 0 t)) (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) := by
  rw [outsAt0_B m c t h0]
  dsimp only
  unfold out0_B_9
  frame_out
  (try simp (disch := decide) only [read_unread_whole, readCov_whole])

/-- The activations, at the first point. -/
theorem outA_10 (c : Dev nD) (t : Fin cfg0.N) (h0 : t.val % 16 = 0) : (outsAt0 m c t.val t.isLt).2.1 = k0_pay15 (k0_pay12 (iblk m c 2 t)) (k0_pay14 (iblk m c 1 t)) := by
  rw [outsAt0_A m c t h0]
  dsimp only
  unfold out0_A_10
  frame_out
  (try simp (disch := decide) only [read_unread_whole, readCov_whole])

/-- The activations, at a later point. -/
theorem outB_10 (c : Dev nD) (t : Fin cfg0.N) (h0 : ¬t.val % 16 = 0) : (outsAt0 m c t.val t.isLt).2.1 = k0_pay15 (k0_pay12 (iblk m c 2 t)) (k0_pay14 (iblk m c 1 t)) := by
  rw [outsAt0_B m c t h0]
  dsimp only
  unfold out0_B_10
  frame_out
  (try simp (disch := decide) only [read_unread_whole, readCov_whole])

/-- The gate's cotangent, at the first point. -/
theorem outA_11 (c : Dev nD) (t : Fin cfg0.N) (h0 : t.val % 16 = 0) : (outsAt0 m c t.val t.isLt).2.2.1 = k0_pay16 (k0_pay10 (iblk m c 3 t) (iblk m c 7 t)) (k0_pay11 (iblk m c 1 t)) (k0_pay12 (iblk m c 2 t)) (k0_pay13 (iblk m c 1 t)) := by
  rw [outsAt0_A m c t h0]
  dsimp only
  unfold out0_A_11
  frame_out
  (try simp (disch := decide) only [read_unread_whole, readCov_whole])

/-- The gate's cotangent, at a later point. -/
theorem outB_11 (c : Dev nD) (t : Fin cfg0.N) (h0 : ¬t.val % 16 = 0) : (outsAt0 m c t.val t.isLt).2.2.1 = k0_pay16 (k0_pay10 (iblk m c 3 t) (iblk m c 7 t)) (k0_pay11 (iblk m c 1 t)) (k0_pay12 (iblk m c 2 t)) (k0_pay13 (iblk m c 1 t)) := by
  rw [outsAt0_B m c t h0]
  dsimp only
  unfold out0_B_11
  frame_out
  (try simp (disch := decide) only [read_unread_whole, readCov_whole])

/-- The values' cotangent, at the first point. -/
theorem outA_12 (c : Dev nD) (t : Fin cfg0.N) (h0 : t.val % 16 = 0) : (outsAt0 m c t.val t.isLt).2.2.2.1 = k0_pay17 (k0_pay10 (iblk m c 3 t) (iblk m c 7 t)) (k0_pay14 (iblk m c 1 t)) := by
  rw [outsAt0_A m c t h0]
  dsimp only
  unfold out0_A_12
  frame_out
  (try simp (disch := decide) only [read_unread_whole, readCov_whole])

/-- The values' cotangent, at a later point. -/
theorem outB_12 (c : Dev nD) (t : Fin cfg0.N) (h0 : ¬t.val % 16 = 0) : (outsAt0 m c t.val t.isLt).2.2.2.1 = k0_pay17 (k0_pay10 (iblk m c 3 t) (iblk m c 7 t)) (k0_pay14 (iblk m c 1 t)) := by
  rw [outsAt0_B m c t h0]
  dsimp only
  unfold out0_B_12
  frame_out
  (try simp (disch := decide) only [read_unread_whole, readCov_whole])

/-- The normalised rows, at the first point. -/
theorem outA_13 (c : Dev nD) (t : Fin cfg0.N) (h0 : t.val % 16 = 0) : (outsAt0 m c t.val t.isLt).2.2.2.2.1 = k0_pay8 (iblk m c 0 t) (iblk m c 4 t) := by
  rw [outsAt0_A m c t h0]
  dsimp only
  unfold out0_A_13
  frame_out
  (try simp (disch := decide) only [read_unread_whole, readCov_whole])

/-- The normalised rows, at a later point. -/
theorem outB_13 (c : Dev nD) (t : Fin cfg0.N) (h0 : ¬t.val % 16 = 0) : (outsAt0 m c t.val t.isLt).2.2.2.2.1 = k0_pay8 (iblk m c 0 t) (iblk m c 4 t) := by
  rw [outsAt0_B m c t h0]
  dsimp only
  unfold out0_B_13
  frame_out
  (try simp (disch := decide) only [read_unread_whole, readCov_whole])

/-- The gain's gradient so far, at the first point. -/
theorem outA_14 (c : Dev nD) (t : Fin cfg0.N) (h0 : t.val % 16 = 0) : (outsAt0 m c t.val t.isLt).2.2.2.2.2.1 = k0_pay1 (k0_pay18 (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) (k0_pay19 (k0_pay5 (iblk m c 0 t)) (k0_pay7 (iblk m c 0 t))) k0_pay4 := by
  rw [outsAt0_A m c t h0]
  dsimp only
  unfold out0_A_14
  frame_out
  (try simp (disch := decide) only [read_unread_whole, readCov_whole])

/-- The gain's gradient so far, at a later point. -/
theorem outB_14 (c : Dev nD) (t : Fin cfg0.N) (h0 : ¬t.val % 16 = 0) : (outsAt0 m c t.val t.isLt).2.2.2.2.2.1 = k0_pay1 (k0_pay18 (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) (k0_pay19 (k0_pay5 (iblk m c 0 t)) (k0_pay7 (iblk m c 0 t))) (outsAt0 m c (t.val - 1) (Nat.lt_of_le_of_lt (Nat.sub_le _ _) t.isLt)).2.2.2.2.2.1 := by
  rw [outsAt0_B m c t h0]
  dsimp only
  unfold out0_B_14
  frame_out
  (try simp (disch := decide) only [read_unread_whole, readCov_whole])

/-- The rows' cotangent through the projection before, at the first point. -/
theorem outA_15 (c : Dev nD) (t : Fin cfg0.N) (h0 : t.val % 16 = 0) : (outsAt0 m c t.val t.isLt).2.2.2.2.2.2 = k0_pay3 (k0_pay9 (iblk m c 3 t)) (k0_pay20 (k0_pay5 (iblk m c 0 t)) (k0_pay6 (iblk m c 4 t)) (k0_pay7 (iblk m c 0 t)) (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) (iblk m c 8 t) := by
  rw [outsAt0_A m c t h0]
  dsimp only
  unfold out0_A_15
  frame_out
  (try simp (disch := decide) only [read_unread_whole, readCov_whole])

/-- The rows' cotangent through the projection before, at a later point. -/
theorem outB_15 (c : Dev nD) (t : Fin cfg0.N) (h0 : ¬t.val % 16 = 0) : (outsAt0 m c t.val t.isLt).2.2.2.2.2.2 = k0_pay3 (k0_pay9 (iblk m c 3 t)) (k0_pay20 (k0_pay5 (iblk m c 0 t)) (k0_pay6 (iblk m c 4 t)) (k0_pay7 (iblk m c 0 t)) (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) (iblk m c 8 t) := by
  rw [outsAt0_B m c t h0]
  dsimp only
  unfold out0_B_15
  frame_out
  (try simp (disch := decide) only [read_unread_whole, readCov_whole])

end Cert.Kernel2Ideal.Ffn

end
-- ==== Proof.Ffn.Host.lean ====
/- What the feed-forward call's arrays hold when it starts, where the arguments are real. -/
module

public import proofs.«01_k».proof.Proof.Ffn.Spec
public import proofs.«01_k».proof.Proof.Gen.Kernel2Ideal.Frame
public import Idealize.ShloMosaic.Lib.Pointwise
public import Idealize.ShloMosaic.Lib.Claim

@[expose] public section

set_option maxRecDepth 16384

noncomputable section

namespace Cert.Kernel2Ideal.Ffn

open Cert.Kernel2Ideal.Gen
open Idealize.ShloMosaic Idealize.ShloMosaic.TcCoe Idealize.ShloMosaic.Pointwise
open Idealize.SL.Sem
open Cert.Spec (csum cdiv d1024 r1024 c_eps c_1024)
open Cert.Spec (sh In2)

/-- The arguments are the reals `I`. -/
structure IsIn (I : In2) (m : (ℓ : Loc nD τ sig) → Buf (Elt Ideal) ℓ) (c : Dev nD) : Prop where
  x : ∀ (a : Fin 2) (i : Fin 2048) (j : Fin 1024), (m ((c : Thread nD τ).loc main_arg0) : Vec Ideal S2x2048x1024 .f32) (ix3 a i j) = ((I.x (2048 * a + i) j : ℝ) : EReal)
  g : ∀ j : Fin 1024, (m ((c : Thread nD τ).loc main_arg1) : Vec Ideal S1024 .f32) (ix1 j) = ((I.g j : ℝ) : EReal)
  wg : ∀ (i : Fin 1024) (j : Fin 2816), (m ((c : Thread nD τ).loc main_arg2) : Vec Ideal S1024x2816 .f32) (ix2 i j) = ((I.wg i j : ℝ) : EReal)
  wu : ∀ (i : Fin 1024) (j : Fin 2816), (m ((c : Thread nD τ).loc main_arg3) : Vec Ideal S1024x2816 .f32) (ix2 i j) = ((I.wu i j : ℝ) : EReal)
  wd : ∀ (i : Fin 2816) (j : Fin 1024), (m ((c : Thread nD τ).loc main_arg4) : Vec Ideal S2816x1024 .f32) (ix2 i j) = ((I.wd i j : ℝ) : EReal)
  ct : ∀ (a : Fin 2) (i : Fin 2048) (j : Fin 1024), (m ((c : Thread nD τ).loc main_arg5) : Vec Ideal S2x2048x1024 .f32) (ix3 a i j) = ((I.ct (2048 * a + i) j : ℝ) : EReal)
  wo : ∀ (i j : Fin 1024), (m ((c : Thread nD τ).loc main_arg6) : Vec Ideal S1024x1024 .f32) (ix2 i j) = ((I.wo i j : ℝ) : EReal)

/-- The projection's rows among the packed weights' rows, zeros around them. -/
def padWo (w : FVec Ideal S1024x1024 .f32) : FVec Ideal S8x384x1024 .bf16 :=
  have v26 : FVec Ideal S8x128x1024 .f32 := shapeCast S8x128x1024 w shapeCasts_S1024x1024_S8x128x1024
  have v27 : FVec Ideal S8x384x1024 .f32 := pad S8x384x1024 ![0, 128, 0] ![0, 128, 0] ![0, 0, 0] v26 (sitofp (F := Ideal) FTy.f32 (constantI S_ 32 0#32)) pads_S8x128x1024_S8x384x1024_000_1281280_000 h_S_
  truncf .bf16 v27 bitsLt_bf16_f32

theorem padWo_at (w : FVec Ideal S1024x1024 .f32) (a : Fin 8) (i : Fin 128) (j : Fin 1024) : padWo w (ix3 a ⟨128 + i, by omega⟩ j) = w (ix2 ⟨128 * a + i, by omega⟩ j) := by
  unfold padWo
  pointwise
  simp [Nat.mul_comm 128]

variable {I : In2} {m : (ℓ : Loc nD τ sig) → Buf (Elt Ideal) ℓ} {c : Dev nD} (h : IsIn I m c)
include h

theorem V_x (i : Fin 4096) (j : Fin 1024) : (V m c main_v0 : Vec Ideal S4096x1024 .f32) (ix2 i j) = ((I.x i j : ℝ) : EReal) := by
  simp only [V, hostOps0, hostOps0_1, hostOps0_2, List.flatten_cons, List.flatten_nil, List.append_nil, List.cons_append, List.nil_append]
  after_results
  pointwise
  simp only [h.x, Nat.div_add_mod]

theorem V_ct (i : Fin 4096) (j : Fin 1024) : (V m c main_v29 : Vec Ideal S4096x1024 .f32) (ix2 i j) = ((I.ct i j : ℝ) : EReal) := by
  simp only [V, hostOps0, hostOps0_1, hostOps0_2, List.flatten_cons, List.flatten_nil, List.append_nil, List.cons_append, List.nil_append]
  after_results
  pointwise
  simp only [h.ct, Nat.div_add_mod]

theorem V_G (i : Fin 4096) (j : Fin 2816) : (V m c main_v15 : Vec Ideal S4096x2816 .bf16) (ix2 i j) = ((I.G i j : ℝ) : EReal) := by
  simp only [V, hostOps0, hostOps0_1, hostOps0_2, List.flatten_cons, List.flatten_nil, List.append_nil, List.cons_append, List.nil_append]
  after_results
  pointwise
  simp only [h.x, h.g, h.wg, Nat.div_add_mod, csum, d1024, r1024, c_eps, c_1024, ← EReal.coe_mul, ← EReal.coe_add]
  all_goals rfl

theorem V_U (i : Fin 4096) (j : Fin 2816) : (V m c main_v17 : Vec Ideal S4096x2816 .bf16) (ix2 i j) = ((I.U i j : ℝ) : EReal) := by
  simp only [V, hostOps0, hostOps0_1, hostOps0_2, List.flatten_cons, List.flatten_nil, List.append_nil, List.cons_append, List.nil_append]
  after_results
  pointwise
  simp only [h.x, h.g, h.wu, Nat.div_add_mod, csum, d1024, r1024, c_eps, c_1024, ← EReal.coe_mul, ← EReal.coe_add]
  all_goals rfl

theorem V_g (i : Fin 1) (j : Fin 1024) : (V m c main_v30 : Vec Ideal S1x1024 .f32) (ix2 i j) = ((I.g j : ℝ) : EReal) := by
  simp only [V, hostOps0, hostOps0_1, hostOps0_2, List.flatten_cons, List.flatten_nil, List.append_nil, List.cons_append, List.nil_append]
  after_results
  pointwise
  simp only [h.g]

theorem V_wd (a : Fin 8) (i : Fin 352) (j : Fin 1024) : (V m c main_v25 : Vec Ideal S8x352x1024 .bf16) (ix3 a i j) = ((I.wd (352 * a + i) j : ℝ) : EReal) := by
  simp only [V, hostOps0, hostOps0_1, hostOps0_2, List.flatten_cons, List.flatten_nil, List.append_nil, List.cons_append, List.nil_append]
  after_results
  pointwise
  simp only [h.wd, Nat.mul_comm 352]

theorem V_wgu (a : Fin 8) (i : Fin 704) (j : Fin 1024) : (V m c main_v23 : Vec Ideal S8x704x1024 .bf16) (ix3 a i j) = ((if (i : ℕ) < 352 then I.wg j (352 * a + i) else I.wu j (352 * a + (i - 352)) : ℝ) : EReal) := by
  simp only [V, hostOps0, hostOps0_1, hostOps0_2, List.flatten_cons, List.flatten_nil, List.append_nil, List.cons_append, List.nil_append]
  after_results
  pointwise
  split_ifs <;> simp only [h.wg, h.wu, Nat.mul_comm 352]

theorem V_wo (a : Fin 8) (i : Fin 128) (j : Fin 1024) : (V m c main_v28 : Vec Ideal S8x384x1024 .bf16) (ix3 a ⟨128 + i, by omega⟩ j) = ((I.wo (128 * a + i) j : ℝ) : EReal) := by
  simp only [V, hostOps0, hostOps0_1, hostOps0_2, List.flatten_cons, List.flatten_nil, List.append_nil, List.cons_append, List.nil_append]
  after_results
  refine Eq.trans (b := padWo (m ((c : Thread nD τ).loc main_arg6)) (ix3 a ⟨128 + i, by omega⟩ j)) rfl ?_
  exact (padWo_at _ a i j).trans (h.wo _ _)

end Cert.Kernel2Ideal.Ffn

end
-- ==== Proof.Ffn.Blocks.lean ====
/- The blocks of a point and what the outputs hold after it, where the arguments are real. -/
module

public import proofs.«01_k».proof.Proof.Ffn.Outs
public import proofs.«01_k».proof.Proof.Ffn.Host
public import Idealize.ShloMosaic.Lib.Pipeline.ValueKit.Point

@[expose] public section

set_option maxRecDepth 16384

noncomputable section

namespace Cert.Kernel2Ideal.Ffn

open Cert.Kernel2Ideal.Gen
open Idealize.ShloMosaic Idealize.ShloMosaic.TcCoe Idealize.ShloMosaic.Pointwise
open Idealize.SL.Sem
open Cert.Spec (sh In2)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 1, 0] := (by decide +kernel : ∀ t : Fin grid0.N, _)
theorem ix_7 : ∀ t : Fin cfg0.N, win0_7.index t = ![0, 0, 0] := (by decide +kernel : ∀ t : Fin grid0.N, _)
theorem ix_8 : ∀ t : Fin cfg0.N, win0_8.index t = ![0, 1, 0] := (by decide +kernel : ∀ t : Fin grid0.N, _)

variable {I : In2} {m : (ℓ : Loc nD τ sig) → Buf (Elt Ideal) ℓ} {c : Dev nD} (h : IsIn I m c)
include h

theorem blk_x (t : Fin cfg0.N) (i : Fin 256) (j : Fin 1024) : (iblk m c 0 t : Vec Ideal S256x1024 .f32) (ix2 i j) = ((sh (256 * t.val) I.x i j : ℝ) : EReal) := by
  have ht : t.val < 16 := t.isLt
  have hb : 256 * t.val + (i : ℕ) < 4096 := by omega
  refine Eq.trans (b := (V m c main_v0 : Vec Ideal S4096x1024 .f32) (ix2 ⟨256 * t.val + i, hb⟩ j)) ?_ (V_x h _ _)
  blk_ext! [iblk, ix_0 t]

theorem blk_G (t : Fin cfg0.N) (i : Fin 256) (j : Fin 2816) : (iblk m c 1 t : Vec Ideal S256x2816 .bf16) (ix2 i j) = ((sh (256 * t.val) I.G i j : ℝ) : EReal) := by
  have ht : t.val < 16 := t.isLt
  have hb : 256 * t.val + (i : ℕ) < 4096 := by omega
  refine Eq.trans (b := (V m c main_v15 : Vec Ideal S4096x2816 .bf16) (ix2 ⟨256 * t.val + i, hb⟩ j)) ?_ (V_G h _ _)
  blk_ext! [iblk, ix_1 t]

theorem blk_U (t : Fin cfg0.N) (i : Fin 256) (j : Fin 2816) : (iblk m c 2 t : Vec Ideal S256x2816 .bf16) (ix2 i j) = ((sh (256 * t.val) I.U i j : ℝ) : EReal) := by
  have ht : t.val < 16 := t.isLt
  have hb : 256 * t.val + (i : ℕ) < 4096 := by omega
  refine Eq.trans (b := (V m c main_v17 : Vec Ideal S4096x2816 .bf16) (ix2 ⟨256 * t.val + i, hb⟩ j)) ?_ (V_U h _ _)
  blk_ext! [iblk, ix_2 t]

theorem blk_ct (t : Fin cfg0.N) (i : Fin 256) (j : Fin 1024) : (iblk m c 3 t : Vec Ideal S256x1024 .f32) (ix2 i j) = ((sh (256 * t.val) I.ct i j : ℝ) : EReal) := by
  have ht : t.val < 16 := t.isLt
  have hb : 256 * t.val + (i : ℕ) < 4096 := by omega
  refine Eq.trans (b := (V m c main_v29 : Vec Ideal S4096x1024 .f32) (ix2 ⟨256 * t.val + i, hb⟩ j)) ?_ (V_ct h _ _)
  blk_ext! [iblk, ix_3 t]

theorem blk_g (t : Fin cfg0.N) (i : Fin 1) (j : Fin 1024) : (iblk m c 4 t : Vec Ideal S1x1024 .f32) (ix2 i j) = ((I.g j : ℝ) : EReal) := by
  refine Eq.trans (b := (V m c main_v30 : Vec Ideal S1x1024 .f32) (ix2 i j)) ?_ (V_g h _ _)
  blk_ext! [iblk, ix_4 t]

theorem blk_wg (t : Fin cfg0.N) (a : Fin 8) (i : Fin 352) (j : Fin 1024) : (iblk m c 5 t : Vec Ideal S8x352x1024 .bf16) (ix3 a i j) = ((I.wg j (352 * a + i) : ℝ) : EReal) := by
  have hb : (i : ℕ) < 704 := by omega
  refine Eq.trans (b := (V m c main_v23 : Vec Ideal S8x704x1024 .bf16) (ix3 a ⟨i, hb⟩ j)) ?_ ((V_wgu h _ _ _).trans ?_)
  · blk_ext! [iblk, ix_5 t]
  · rw [if_pos i.isLt]

theorem blk_wu (t : Fin cfg0.N) (a : Fin 8) (i : Fin 352) (j : Fin 1024) : (iblk m c 6 t : Vec Ideal S8x352x1024 .bf16) (ix3 a i j) = ((I.wu j (352 * a + i) : ℝ) : EReal) := by
  have hb : 352 + (i : ℕ) < 704 := by omega
  refine Eq.trans (b := (V m c main_v23 : Vec Ideal S8x704x1024 .bf16) (ix3 a ⟨352 + i, hb⟩ j)) ?_ ((V_wgu h _ _ _).trans ?_)
  · blk_ext! [iblk, ix_6 t]
  · rw [if_neg (by simp)]
    simp

theorem blk_wd (t : Fin cfg0.N) (a : Fin 8) (i : Fin 352) (j : Fin 1024) : (iblk m c 7 t : Vec Ideal S8x352x1024 .bf16) (ix3 a i j) = ((I.wd (352 * a + i) j : ℝ) : EReal) := by
  refine Eq.trans (b := (V m c main_v25 : Vec Ideal S8x352x1024 .bf16) (ix3 a i j)) ?_ (V_wd h _ _ _)
  blk_ext! [iblk, ix_7 t]

theorem blk_wo (t : Fin cfg0.N) (a : Fin 8) (i : Fin 128) (j : Fin 1024) : (iblk m c 8 t : Vec Ideal S8x128x1024 .bf16) (ix3 a i j) = ((I.wo (128 * a + i) j : ℝ) : EReal) := by
  have hb : 128 + (i : ℕ) < 384 := by omega
  refine Eq.trans (b := (V m c main_v28 : Vec Ideal S8x384x1024 .bf16) (ix3 a ⟨128 + i, hb⟩ j)) ?_ (V_wo h _ _ _)
  blk_ext! [iblk, ix_8 t]

/-- The normalised rows' cotangent in a point's block. -/
theorem pt_dh (t : Fin cfg0.N) (i : Fin 256) (j : Fin 1024) : k0_pay18 (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t) (ix2 i j) = ((sh (256 * t.val) I.dh i j : ℝ) : EReal) :=
  dh_r (C := sh (256 * t.val) I.dg) (D := sh (256 * t.val) I.du) (dg_r (da_r (blk_ct h t) (blk_wd h t)) (g_r (blk_G h t)) (u_r (blk_U h t)) (sg_r (blk_G h t))) (du_r (da_r (blk_ct h t) (blk_wd h t)) (si_r (blk_G h t))) (blk_wg h t) (blk_wu h t) i j

theorem pt_dx (t : Fin cfg0.N) (i : Fin 256) (j : Fin 1024) : k0_pay2 (k0_pay9 (iblk m c 3 t)) (k0_pay20 (k0_pay5 (iblk m c 0 t)) (k0_pay6 (iblk m c 4 t)) (k0_pay7 (iblk m c 0 t)) (k0_pay10 (iblk m c 3 t) (iblk m c 7 t)) (k0_pay11 (iblk m c 1 t)) (k0_pay12 (iblk m c 2 t)) (k0_pay13 (iblk m c 1 t)) (k0_pay14 (iblk m c 1 t)) (iblk m c 5 t) (iblk m c 6 t)) (ix2 i j) = ((sh (256 * t.val) I.dx i j : ℝ) : EReal) :=
  dx_r (blk_x h t) (blk_g h t) (blk_ct h t) (pt_dh h t) i j

theorem at_9 (t : Fin cfg0.N) (i : Fin 256) (j : Fin 1024) : (outsAt0 m c t.val t.isLt).1 (ix2 i j) = ((sh (256 * t.val) I.dx i j : ℝ) : EReal) := by
  by_cases h0 : t.val % 16 = 0
  · rw [outA_9 m c t h0]
    exact pt_dx h t i j
  · rw [outB_9 m c t h0]
    exact pt_dx h t i j

theorem at_10 (t : Fin cfg0.N) (i : Fin 256) (j : Fin 2816) : (outsAt0 m c t.val t.isLt).2.1 (ix2 i j) = ((sh (256 * t.val) I.ac i j : ℝ) : EReal) := by
  by_cases h0 : t.val % 16 = 0
  · rw [outA_10 m c t h0]
    exact act_r (A := sh (256 * t.val) I.U) (B := fun r e => sh (256 * t.val) I.G r e * Cert.Spec.sg (sh (256 * t.val) I.G r e)) (u_r (blk_U h t)) (si_r (blk_G h t)) i j
  · rw [outB_10 m c t h0]
    exact act_r (A := sh (256 * t.val) I.U) (B := fun r e => sh (256 * t.val) I.G r e * Cert.Spec.sg (sh (256 * t.val) I.G r e)) (u_r (blk_U h t)) (si_r (blk_G h t)) i j

theorem at_11 (t : Fin cfg0.N) (i : Fin 256) (j : Fin 2816) : (outsAt0 m c t.val t.isLt).2.2.1 (ix2 i j) = ((sh (256 * t.val) I.dg i j : ℝ) : EReal) := by
  by_cases h0 : t.val % 16 = 0
  · rw [outA_11 m c t h0]
    exact dg_r (da_r (blk_ct h t) (blk_wd h t)) (g_r (blk_G h t)) (u_r (blk_U h t)) (sg_r (blk_G h t)) i j
  · rw [outB_11 m c t h0]
    exact dg_r (da_r (blk_ct h t) (blk_wd h t)) (g_r (blk_G h t)) (u_r (blk_U h t)) (sg_r (blk_G h t)) i j

theorem at_12 (t : Fin cfg0.N) (i : Fin 256) (j : Fin 2816) : (outsAt0 m c t.val t.isLt).2.2.2.1 (ix2 i j) = ((sh (256 * t.val) I.du i j : ℝ) : EReal) := by
  by_cases h0 : t.val % 16 = 0
  · rw [outA_12 m c t h0]
    exact du_r (da_r (blk_ct h t) (blk_wd h t)) (si_r (blk_G h t)) i j
  · rw [outB_12 m c t h0]
    exact du_r (da_r (blk_ct h t) (blk_wd h t)) (si_r (blk_G h t)) i j

theorem at_13 (t : Fin cfg0.N) (i : Fin 256) (j : Fin 1024) : (outsAt0 m c t.val t.isLt).2.2.2.2.1 (ix2 i j) = ((sh (256 * t.val) I.h i j : ℝ) : EReal) := by
  by_cases h0 : t.val % 16 = 0
  · rw [outA_13 m c t h0]
    exact hid_r (blk_x h t) (blk_g h t) i j
  · rw [outB_13 m c t h0]
    exact hid_r (blk_x h t) (blk_g h t) i j

theorem at_15 (t : Fin cfg0.N) (i : Fin 256) (j : Fin 1024) : (outsAt0 m c t.val t.isLt).2.2.2.2.2.2 (ix2 i j) = ((sh (256 * t.val) I.dm i j : ℝ) : EReal) := by
  by_cases h0 : t.val % 16 = 0
  · rw [outA_15 m c t h0]
    exact dm_r (pt_dx h t) (blk_wo h t) i j
  · rw [outB_15 m c t h0]
    exact dm_r (pt_dx h t) (blk_wo h t) i j

/-- The gain's gradient over the rows so far. -/
theorem at_14 : ∀ (n : ℕ) (hn : n < cfg0.N) (i : Fin 1) (j : Fin 1024), (outsAt0 m c n hn).2.2.2.2.2.1 (ix2 i j) = ((∑ r ∈ Finset.range (256 * (n + 1)), I.pg r j : ℝ) : EReal)
  | 0, hn, i, j => by
    rw [outA_14 m c ⟨0, hn⟩ (Nat.zero_mod _)]
    refine (dgam_r (Q := fun _ => 0) (blk_x h ⟨0, hn⟩) zero_r (pt_dh h ⟨0, hn⟩) i j).trans ?_
    rw [Finset.sum_range, zero_add]
    simp only [sh, Nat.mul_zero, zero_add]
    rfl
  | n + 1, hn, i, j => by
    have hN : n + 1 < 16 := hn
    have h0 : ¬ (n + 1) % 16 = 0 := by omega
    rw [outB_14 m c ⟨n + 1, hn⟩ h0]
    refine (dgam_r (Q := fun j => ∑ r ∈ Finset.range (256 * (n + 1)), I.pg r j) (blk_x h ⟨n + 1, hn⟩) (fun i j => at_14 n (Nat.lt_of_succ_lt hn) i j) (pt_dh h ⟨n + 1, hn⟩) i j).trans ?_
    rw [show 256 * (n + 1 + 1) = 256 * (n + 1) + 256 by omega, Finset.sum_range_add, Finset.sum_range (n := 256)]
    rfl

end Cert.Kernel2Ideal.Ffn

end
-- ==== Proof.Ffn.Arrays.lean ====
/- The feed-forward call's results, where the arguments are real. -/
module

public import proofs.«01_k».proof.Proof.Ffn.Blocks
public import proofs.«01_k».proof.Proof.Gen.Kernel2Ideal.Value

@[expose] public section

set_option maxRecDepth 16384

noncomputable section

namespace Cert.Kernel2Ideal.Ffn

open Cert.Kernel2Ideal.Gen
open Idealize.ShloMosaic Idealize.ShloMosaic.TcCoe Idealize.ShloMosaic.Pointwise
open Idealize.SL.Sem
open Cert.Spec (sh In2)

theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![0, 0] := (by decide +kernel : ∀ t : Fin grid0.N, _)
theorem ix_15 : ∀ t : Fin cfg0.N, win0_15.index t = ![t.val, 0] := (by decide +kernel : ∀ t : Fin grid0.N, _)

variable {I : In2} {m : (ℓ : Loc nD τ sig) → Buf (Elt Ideal) ℓ} {c : Dev nD} (h : IsIn I m c)
include h

theorem arr9 (i : Fin 4096) (j : Fin 1024) : ((dats m 0 c).arrAt 9 cfg0.N : Vec Ideal S4096x1024 .f32) (ix2 i j) = ((I.dx i j : ℝ) : EReal) := by
  have key : (dats m 0 c).arrAt 9 cfg0.N = (fun i => ((I.dx (i 0) (i 1) : ℝ) : EReal) : Vec Ideal S4096x1024 .f32) := by
    refine (dats m 0 c).arrAt_eq_of_covers 9 _ (by decide +kernel) fun t hf y => ?_
    blk_simp
    rw [after0_9]
    have hy := at_9 h t (y 0) (y 1)
    rw [← eq_ix2] at hy
    refine hy.trans ?_
    blk_simp [ix_9 t]
    rw [Nat.mul_comm t.val]
    rfl
  exact congrFun key (ix2 i j)

theorem arr10 (i : Fin 4096) (j : Fin 2816) : ((dats m 0 c).arrAt 10 cfg0.N : Vec Ideal S4096x2816 .bf16) (ix2 i j) = ((I.ac i j : ℝ) : EReal) := by
  have key : (dats m 0 c).arrAt 10 cfg0.N = (fun i => ((I.ac (i 0) (i 1) : ℝ) : EReal) : Vec Ideal S4096x2816 .bf16) := by
    refine (dats m 0 c).arrAt_eq_of_covers 10 _ (by decide +kernel) fun t hf y => ?_
    blk_simp
    rw [after0_10]
    have hy := at_10 h t (y 0) (y 1)
    rw [← eq_ix2] at hy
    refine hy.trans ?_
    blk_simp [ix_10 t]
    rw [Nat.mul_comm t.val]
    rfl
  exact congrFun key (ix2 i j)

theorem arr11 (i : Fin 4096) (j : Fin 2816) : ((dats m 0 c).arrAt 11 cfg0.N : Vec Ideal S4096x2816 .bf16) (ix2 i j) = ((I.dg i j : ℝ) : EReal) := by
  have key : (dats m 0 c).arrAt 11 cfg0.N = (fun i => ((I.dg (i 0) (i 1) : ℝ) : EReal) : Vec Ideal S4096x2816 .bf16) := by
    refine (dats m 0 c).arrAt_eq_of_covers 11 _ (by decide +kernel) fun t hf y => ?_
    blk_simp
    rw [after0_11]
    have hy := at_11 h t (y 0) (y 1)
    rw [← eq_ix2] at hy
    refine hy.trans ?_
    blk_simp [ix_11 t]
    rw [Nat.mul_comm t.val]
    rfl
  exact congrFun key (ix2 i j)

theorem arr12 (i : Fin 4096) (j : Fin 2816) : ((dats m 0 c).arrAt 12 cfg0.N : Vec Ideal S4096x2816 .bf16) (ix2 i j) = ((I.du i j : ℝ) : EReal) := by
  have key : (dats m 0 c).arrAt 12 cfg0.N = (fun i => ((I.du (i 0) (i 1) : ℝ) : EReal) : Vec Ideal S4096x2816 .bf16) := by
    refine (dats m 0 c).arrAt_eq_of_covers 12 _ (by decide +kernel) fun t hf y => ?_
    blk_simp
    rw [after0_12]
    have hy := at_12 h t (y 0) (y 1)
    rw [← eq_ix2] at hy
    refine hy.trans ?_
    blk_simp [ix_12 t]
    rw [Nat.mul_comm t.val]
    rfl
  exact congrFun key (ix2 i j)

theorem arr13 (i : Fin 4096) (j : Fin 1024) : ((dats m 0 c).arrAt 13 cfg0.N : Vec Ideal S4096x1024 .bf16) (ix2 i j) = ((I.h i j : ℝ) : EReal) := by
  have key : (dats m 0 c).arrAt 13 cfg0.N = (fun i => ((I.h (i 0) (i 1) : ℝ) : EReal) : Vec Ideal S4096x1024 .bf16) := by
    refine (dats m 0 c).arrAt_eq_of_covers 13 _ (by decide +kernel) fun t hf y => ?_
    blk_simp
    rw [after0_13]
    have hy := at_13 h t (y 0) (y 1)
    rw [← eq_ix2] at hy
    refine hy.trans ?_
    blk_simp [ix_13 t]
    rw [Nat.mul_comm t.val]
    rfl
  exact congrFun key (ix2 i j)

theorem arr15 (i : Fin 4096) (j : Fin 1024) : ((dats m 0 c).arrAt 15 cfg0.N : Vec Ideal S4096x1024 .bf16) (ix2 i j) = ((I.dm i j : ℝ) : EReal) := by
  have key : (dats m 0 c).arrAt 15 cfg0.N = (fun i => ((I.dm (i 0) (i 1) : ℝ) : EReal) : Vec Ideal S4096x1024 .bf16) := by
    refine (dats m 0 c).arrAt_eq_of_covers 15 _ (by decide +kernel) fun t hf y => ?_
    blk_simp
    rw [after0_15]
    have hy := at_15 h t (y 0) (y 1)
    rw [← eq_ix2] at hy
    refine hy.trans ?_
    blk_simp [ix_15 t]
    rw [Nat.mul_comm t.val]
    rfl
  exact congrFun key (ix2 i j)

theorem arr14 (i : Fin 1) (j : Fin 1024) : ((dats m 0 c).arrAt 14 cfg0.N : Vec Ideal S1x1024 .f32) (ix2 i j) = ((∑ r : Fin 4096, I.pg r j : ℝ) : EReal) := by
  have key : (dats m 0 c).arrAt 14 cfg0.N = (fun i => ((∑ r : Fin 4096, I.pg r (i 1) : ℝ) : EReal) : Vec Ideal S1x1024 .f32) := by
    refine (dats m 0 c).arrAt_eq_of_covers 14 _ (by decide +kernel) fun t hf y => ?_
    blk_simp
    rw [after0_14]
    have h15 := (flush0_14 t).1 hf
    have htl : t.val < 16 := t.isLt
    have ht : t.val = 15 := by omega
    have hy := at_14 h t.val t.isLt (y 0) (y 1)
    rw [← eq_ix2] at hy
    refine hy.trans ?_
    rw [ht, Finset.sum_range]
    blk_simp [ix_14 t]
  exact congrFun key (ix2 i j)

end Cert.Kernel2Ideal.Ffn

end
-- ==== Proof.Ffn.Ref.lean ====
/- The feed-forward reference read where its arguments are real. -/
module

public import proofs.«01_k».proof.Proof.Ffn.Spec
public import proofs.«01_k».proof.Proof.Gen.Reference2Ideal.Read
public import Idealize.ShloMosaic.Lib.Pointwise

@[expose] public section

set_option maxHeartbeats 1000000
set_option maxRecDepth 16384

noncomputable section

namespace Cert.Reference2Ideal.Ffn

open Cert.Reference2Ideal Cert.Reference2Ideal.Read
open Idealize.ShloMosaic Idealize.ShloMosaic.Pointwise
open Cert.Spec (csum cdiv cexp cneg d1024 r1024 c_eps c_1024 c_half c_mhalf sg sg_pos)
open Cert.Spec (In2)

/-- The arguments are the reals `I`. -/
structure IsA (I : In2) (x0 : Vec Ideal S2x2048x1024 .f32) (x1 : Vec Ideal S1024 .f32) (x2 : Vec Ideal S1024x2816 .f32) (x3 : Vec Ideal S1024x2816 .f32) (x4 : Vec Ideal S2816x1024 .f32) (x5 : Vec Ideal S2x2048x1024 .f32) (x6 : Vec Ideal S1024x1024 .f32) : Prop where
  x : ∀ (a : Fin 2) (i : Fin 2048) (j : Fin 1024), x0 (ix3 a i j) = ((I.x (2048 * a + i) j : ℝ) : EReal)
  g : ∀ (j : Fin 1024), x1 (ix1 j) = ((I.g j : ℝ) : EReal)
  wg : ∀ (i : Fin 1024) (j : Fin 2816), x2 (ix2 i j) = ((I.wg i j : ℝ) : EReal)
  wu : ∀ (i : Fin 1024) (j : Fin 2816), x3 (ix2 i j) = ((I.wu i j : ℝ) : EReal)
  wd : ∀ (i : Fin 2816) (j : Fin 1024), x4 (ix2 i j) = ((I.wd i j : ℝ) : EReal)
  ct : ∀ (a : Fin 2) (i : Fin 2048) (j : Fin 1024), x5 (ix3 a i j) = ((I.ct (2048 * a + i) j : ℝ) : EReal)
  wo : ∀ (i : Fin 1024) (j : Fin 1024), x6 (ix2 i j) = ((I.wo i j : ℝ) : EReal)

theorem c_one : Ideal.ofBits .f32 0x3F800000#32 = ((1 : ℝ) : EReal) := by
  simp [Ideal.ofBits, Ideal.ieee, -EReal.coe_mul]; norm_num

theorem dsg (a : ℝ) : Ideal.div ((1 : ℝ) : EReal) ((1 + Real.exp (-a) : ℝ) : EReal) = ((sg a : ℝ) : EReal) := cdiv _ _ (sg_pos a)

theorem rdiv1024 {n : ℕ} (f : Fin n → ℝ) :
    Ideal.div (((Real.sqrt ((∑ x, f x * f x) / 1024 + Spec.eps))⁻¹ : ℝ) : EReal) (((∑ x, f x * f x) / 1024 + Spec.eps : ℝ) : EReal) =
      (((Real.sqrt ((∑ x, f x * f x) / 1024 + Spec.eps))⁻¹ * ((Real.sqrt ((∑ x, f x * f x) / 1024 + Spec.eps))⁻¹ * (Real.sqrt ((∑ x, f x * f x) / 1024 + Spec.eps))⁻¹) : ℝ) : EReal) := by
  have h := Spec.msq_pos f 1024 (by norm_num)
  rw [cdiv _ _ h.ne', ← mul_inv, Real.mul_self_sqrt h.le, div_eq_mul_inv]

/-- The two forms of a norm's gradient. -/
theorem rms_back (x d : ℕ → ℝ) (q : ℝ) (j : ℕ) :
    d j * q + x j * ((∑ e : Fin 1024, x e * d e) * (-(1 / 2) * (q * (q * q))) / 1024) + (∑ e : Fin 1024, x e * d e) * (-(1 / 2) * (q * (q * q))) / 1024 * x j
      = q * (d j - x j * q * ((∑ e : Fin 1024, d e * (x e * q)) / 1024)) := by
  have h1 : ∑ e : Fin 1024, d e * (x e * q) = q * ∑ e : Fin 1024, x e * d e := by
    rw [Finset.mul_sum]; exact Finset.sum_congr rfl fun e _ => by ring
  rw [h1]; ring

variable {I : In2} {x0 : Vec Ideal S2x2048x1024 .f32} {x1 : Vec Ideal S1024 .f32} {x2 : Vec Ideal S1024x2816 .f32} {x3 : Vec Ideal S1024x2816 .f32} {x4 : Vec Ideal S2816x1024 .f32} {x5 : Vec Ideal S2x2048x1024 .f32} {x6 : Vec Ideal S1024x1024 .f32}
variable (hA : IsA I x0 x1 x2 x3 x4 x5 x6)
include hA

theorem r_v0 (i : Fin 4096) (j : Fin 1024) : (val_main_v0 (F := Ideal) x0 : Vec Ideal S4096x1024 .f32) (ix2 i j) = ((I.x i j : ℝ) : EReal) := by
  unfold val_main_v0
  pointwise
  simp only [hA.x, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v1 (i : Fin 4096) (j : Fin 1024) : (val_main_v1 (F := Ideal) x5 : Vec Ideal S4096x1024 .f32) (ix2 i j) = ((I.ct i j : ℝ) : EReal) := by
  unfold val_main_v1
  pointwise
  simp only [hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v9 (i : Fin 4096) (j : Fin 1) : (val_main_v9 (F := Ideal) x0 : Vec Ideal S4096x1 .f32) (ix2 i j) = ((Spec.inv I.x i : ℝ) : EReal) := by
  unfold val_main_v9 val_main_v8 val_main_v6 val_main_v7 val_main_v4 val_main_v5 val_main_cst_1 val_main_v3 val_main_cst_0 val_main_v2 val_main_cst
  pointwise
  simp only [r_v0 hA, hA.x, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v12 (i : Fin 4096) (j : Fin 1) : (val_main_v12 (F := Ideal) x0 : Vec Ideal S4096x1 .f32) (ix2 i j) = ((-(1 / 2) * (Spec.inv I.x i * (Spec.inv I.x i * Spec.inv I.x i)) : ℝ) : EReal) := by
  unfold val_main_v12 val_main_v11 val_main_v10 val_main_cst_2 val_main_v8 val_main_v6 val_main_v7 val_main_v4 val_main_v5 val_main_cst_1 val_main_v3 val_main_cst_0 val_main_v2 val_main_cst
  pointwise
  simp only [r_v9 hA, r_v0 hA, hA.x, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero, Spec.inv, rdiv1024]
  all_goals rfl

theorem r_v14 (i : Fin 4096) (j : Fin 1024) : (val_main_v14 (F := Ideal) x0 : Vec Ideal S4096x1024 .f32) (ix2 i j) = ((I.x i j * Spec.inv I.x i : ℝ) : EReal) := by
  unfold val_main_v14 val_main_v13
  pointwise
  simp only [r_v0 hA, r_v9 hA, hA.x, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v17 (i : Fin 4096) (j : Fin 1024) : (val_main_v17 (F := Ideal) x0 x1 : Vec Ideal S4096x1024 .f32) (ix2 i j) = ((I.h i j : ℝ) : EReal) := by
  unfold val_main_v17 val_main_v16 val_main_v15
  pointwise
  simp only [r_v14 hA, hA.x, hA.g, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v18 (i : Fin 4096) (j : Fin 2816) : (val_main_v18 (F := Ideal) x0 x1 x2 : Vec Ideal S4096x2816 .f32) (ix2 i j) = ((I.G i j : ℝ) : EReal) := by
  unfold val_main_v18
  pointwise
  simp only [r_v17 hA, hA.x, hA.g, hA.wg, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v19 (i : Fin 4096) (j : Fin 2816) : (val_main_v19 (F := Ideal) x0 x1 x3 : Vec Ideal S4096x2816 .f32) (ix2 i j) = ((I.U i j : ℝ) : EReal) := by
  unfold val_main_v19
  pointwise
  simp only [r_v17 hA, hA.x, hA.g, hA.wu, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v20_2 (i : Fin 4096) (j : Fin 2816) : (val_main_v20_2 (F := Ideal) x0 x1 x2 : Vec Ideal S4096x2816 .f32) (ix2 i j) = ((sg (I.G i j) : ℝ) : EReal) := by
  unfold val_main_v20_2 val_main_call0_v4 val_main_call0_v3 val_main_call0_cst_0 val_main_call0_v2 val_main_call0_v1 val_main_call0_cst val_main_call0_v0
  pointwise
  simp only [r_v18 hA, hA.x, hA.g, hA.wg, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v20_1 (i : Fin 4096) (j : Fin 2816) : (val_main_v20_1 (F := Ideal) x0 x1 x2 : Vec Ideal S4096x2816 .f32) (ix2 i j) = ((sg (I.G i j) * (1 - sg (I.G i j)) : ℝ) : EReal) := by
  unfold val_main_v20_1 val_main_call0_v7 val_main_call0_v6 val_main_call0_cst_1
  pointwise
  simp only [r_v20_2 hA, hA.x, hA.g, hA.wg, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v20_0 (i : Fin 4096) (j : Fin 2816) : (val_main_v20_0 (F := Ideal) x0 x1 x2 : Vec Ideal S4096x2816 .f32) (ix2 i j) = ((I.G i j * sg (I.G i j) : ℝ) : EReal) := by
  unfold val_main_v20_0
  pointwise
  simp only [r_v18 hA, r_v20_2 hA, hA.x, hA.g, hA.wg, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v21 (i : Fin 4096) (j : Fin 2816) : (val_main_v21 (F := Ideal) x0 x1 x2 x3 : Vec Ideal S4096x2816 .f32) (ix2 i j) = ((I.ac i j : ℝ) : EReal) := by
  unfold val_main_v21
  pointwise
  simp only [r_v20_0 hA, r_v19 hA, hA.x, hA.g, hA.wg, hA.wu, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v23 (i : Fin 4096) (j : Fin 2816) : (val_main_v23 (F := Ideal) x4 x5 : Vec Ideal S4096x2816 .f32) (ix2 i j) = ((I.da i j : ℝ) : EReal) := by
  unfold val_main_v23
  pointwise
  simp only [r_v1 hA, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v24 (i : Fin 4096) (j : Fin 2816) : (val_main_v24 (F := Ideal) x0 x1 x2 x4 x5 : Vec Ideal S4096x2816 .f32) (ix2 i j) = ((I.du i j : ℝ) : EReal) := by
  unfold val_main_v24
  pointwise
  simp only [r_v20_0 hA, r_v23 hA, hA.x, hA.g, hA.wg, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  congr 1
  simp only [In2.du, Spec.dup]
  ring

theorem r_v25 (i : Fin 4096) (j : Fin 2816) : (val_main_v25 (F := Ideal) x0 x1 x3 x4 x5 : Vec Ideal S4096x2816 .f32) (ix2 i j) = ((I.da i j * I.U i j : ℝ) : EReal) := by
  unfold val_main_v25
  pointwise
  simp only [r_v23 hA, r_v19 hA, hA.x, hA.g, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]

theorem r_v26 (i : Fin 4096) (j : Fin 2816) : (val_main_v26 (F := Ideal) x0 x1 x2 x3 x4 x5 : Vec Ideal S4096x2816 .f32) (ix2 i j) = ((I.dg i j : ℝ) : EReal) := by
  unfold val_main_v26 val_main_call1_v1 val_main_call1_v2 val_main_call1_v0
  pointwise
  simp only [r_v25 hA, r_v20_2 hA, r_v20_1 hA, r_v18 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  congr 1
  simp only [In2.dg, Spec.dgate]
  ring

theorem r_v27 (i : Fin 4096) (j : Fin 1024) : (val_main_v27 (F := Ideal) x0 x1 x2 x3 x4 x5 : Vec Ideal S4096x1024 .f32) (ix2 i j) = ((∑ e : Fin 2816, I.dg i e * I.wg j e : ℝ) : EReal) := by
  unfold val_main_v27
  pointwise
  simp only [r_v26 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v28 (i : Fin 4096) (j : Fin 1024) : (val_main_v28 (F := Ideal) x0 x1 x2 x3 x4 x5 : Vec Ideal S4096x1024 .f32) (ix2 i j) = ((∑ e : Fin 2816, I.du i e * I.wu j e : ℝ) : EReal) := by
  unfold val_main_v28
  pointwise
  simp only [r_v24 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v29 (i : Fin 4096) (j : Fin 1024) : (val_main_v29 (F := Ideal) x0 x1 x2 x3 x4 x5 : Vec Ideal S4096x1024 .f32) (ix2 i j) = ((I.dh i j : ℝ) : EReal) := by
  unfold val_main_v29
  pointwise
  simp only [r_v27 hA, r_v28 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  congr 1

theorem r_v55 (i : Fin 1) (j : Fin 1024) : (val_main_v55 (F := Ideal) x0 x1 x2 x3 x4 x5 : Vec Ideal S1x1024 .f32) (ix2 i j) = ((∑ r : Fin 4096, I.pg r j : ℝ) : EReal) := by
  unfold val_main_v55 val_main_v35 val_main_v32 val_main_cst_4 val_main_v31 val_main_v30 val_main_cst_3
  pointwise
  simp only [r_v14 hA, r_v29 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals simp only [In2.pg, mul_comm (I.dh _ _), Finset.univ_unique, Finset.sum_singleton]

theorem r_v34 (i : Fin 4096) (j : Fin 1024) : (val_main_v34 (F := Ideal) x0 x1 x2 x3 x4 x5 : Vec Ideal S4096x1024 .f32) (ix2 i j) = ((I.dh i j * I.g j : ℝ) : EReal) := by
  unfold val_main_v34 val_main_v33 val_main_v15
  pointwise
  simp only [r_v29 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v44 (i : Fin 4096) : (val_main_v44 (F := Ideal) x0 x1 x2 x3 x4 x5 : Vec Ideal S4096 .f32) (ix1 i) = (((∑ e : Fin 1024, I.x i e * (I.dh i e * I.g e)) * (-(1 / 2) * (Spec.inv I.x i * (Spec.inv I.x i * Spec.inv I.x i))) / 1024 : ℝ) : EReal) := by
  unfold val_main_v44 val_main_v43 val_main_cst_7 val_main_v41 val_main_v42 val_main_v38 val_main_cst_6 val_main_v37 val_main_v36 val_main_cst_5
  pointwise
  simp only [r_v12 hA, r_v0 hA, r_v34 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals simp

theorem r_v45 (i : Fin 4096) (j : Fin 1024) : (val_main_v45 (F := Ideal) x0 x1 x2 x3 x4 x5 : Vec Ideal S4096x1024 .f32) (ix2 i j) = (((∑ e : Fin 1024, I.x i e * (I.dh i e * I.g e)) * (-(1 / 2) * (Spec.inv I.x i * (Spec.inv I.x i * Spec.inv I.x i))) / 1024 : ℝ) : EReal) := by
  unfold val_main_v45
  pointwise
  simp only [r_v44 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v50 (i : Fin 4096) (j : Fin 1024) : (val_main_v50 (F := Ideal) x0 x1 x2 x3 x4 x5 : Vec Ideal S4096x1024 .f32) (ix2 i j) = ((I.dx i j : ℝ) : EReal) := by
  unfold val_main_v50 val_main_v49 val_main_v47 val_main_v48 val_main_v40 val_main_v46 val_main_v39
  pointwise
  simp only [r_v1 hA, r_v45 hA, r_v0 hA, r_v34 hA, r_v9 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  congr 1
  simp only [In2.dx, Spec.dx]
  congr 1
  exact rms_back (I.x i) (fun e => I.dh i e * I.g e) (Spec.inv I.x i) j

theorem r_v51 (i : Fin 4096) (j : Fin 2816) : (val_main_v51 (F := Ideal) x0 x1 x2 x3 : Vec Ideal S4096x2816 .bf16) (ix2 i j) = ((I.ac i j : ℝ) : EReal) := by
  unfold val_main_v51
  pointwise
  simp only [r_v21 hA, hA.x, hA.g, hA.wg, hA.wu, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v52 (i : Fin 4096) (j : Fin 2816) : (val_main_v52 (F := Ideal) x0 x1 x2 x3 x4 x5 : Vec Ideal S4096x2816 .bf16) (ix2 i j) = ((I.dg i j : ℝ) : EReal) := by
  unfold val_main_v52
  pointwise
  simp only [r_v26 hA, hA.x, hA.g, hA.wg, hA.wu, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v53 (i : Fin 4096) (j : Fin 2816) : (val_main_v53 (F := Ideal) x0 x1 x2 x4 x5 : Vec Ideal S4096x2816 .bf16) (ix2 i j) = ((I.du i j : ℝ) : EReal) := by
  unfold val_main_v53
  pointwise
  simp only [r_v24 hA, hA.x, hA.g, hA.wg, hA.wd, hA.ct, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v54 (i : Fin 4096) (j : Fin 1024) : (val_main_v54 (F := Ideal) x0 x1 : Vec Ideal S4096x1024 .bf16) (ix2 i j) = ((I.h i j : ℝ) : EReal) := by
  unfold val_main_v54
  pointwise
  simp only [r_v17 hA, hA.x, hA.g, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

theorem r_v57 (i : Fin 4096) (j : Fin 1024) : (val_main_v57 (F := Ideal) x0 x1 x2 x3 x4 x5 x6 : Vec Ideal S4096x1024 .bf16) (ix2 i j) = ((I.dm i j : ℝ) : EReal) := by
  unfold val_main_v57 val_main_v56
  pointwise
  simp only [r_v50 hA, hA.x, hA.g, hA.wg, hA.wu, hA.wd, hA.ct, hA.wo, csum, d1024, dsg, r1024, cexp, cneg, c_one, c_eps, c_1024, c_half, c_mhalf, zero_add, add_zero, Nat.div_add_mod, ← EReal.coe_mul, ← EReal.coe_add, ← EReal.coe_sub, ← EReal.coe_one, ← EReal.coe_zero]
  all_goals rfl

end Cert.Reference2Ideal.Ffn

end
-- ==== Proof.Ffn.Finite.lean ====
/- The feed-forward call's precondition read: every argument is an array of reals. -/
module

public import proofs.«01_k».proof.Pre_finite2
public import proofs.«01_k».proof.Proof.Even.Finite
public import proofs.«01_k».proof.Proof.Ffn.Ref

@[expose] public section

set_option maxRecDepth 16384

noncomputable section

namespace Cert.Pre_finite2

open Idealize.ShloMosaic Idealize.ShloMosaic.Pointwise
open Cert.Pre_finite (real_all andi_split ofNat_val row_hi row_lo)
open Cert.Spec (In2)

/-- The side conditions the precondition's operations state. -/
instance facts : Facts where
  bcast_S_S2x2048x1024 := by decide
  reducesTo_S2x2048x1024_S_d0_1_2 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide
  bcast_S_S1024x1024 := by decide
  reducesTo_S1024x1024_S_d0_1 := by decide

/-- The real arrays the arguments hold. -/
def inOf (x0 : FVec Ideal S2x2048x1024 .f32) (x1 : FVec Ideal S1024 .f32) (x2 : FVec Ideal S1024x2816 .f32) (x3 : FVec Ideal S1024x2816 .f32) (x4 : FVec Ideal S2816x1024 .f32) (x5 : FVec Ideal S2x2048x1024 .f32) (x6 : FVec Ideal S1024x1024 .f32) : In2 where
  x r j := (x0 (ix3 (Fin.ofNat 2 (r / 2048)) (Fin.ofNat 2048 r) (Fin.ofNat 1024 j)) : EReal).toReal
  g j := (x1 (ix1 (Fin.ofNat 1024 j)) : EReal).toReal
  wg i j := (x2 (ix2 (Fin.ofNat 1024 i) (Fin.ofNat 2816 j)) : EReal).toReal
  wu i j := (x3 (ix2 (Fin.ofNat 1024 i) (Fin.ofNat 2816 j)) : EReal).toReal
  wd i j := (x4 (ix2 (Fin.ofNat 2816 i) (Fin.ofNat 1024 j)) : EReal).toReal
  ct r j := (x5 (ix3 (Fin.ofNat 2 (r / 2048)) (Fin.ofNat 2048 r) (Fin.ofNat 1024 j)) : EReal).toReal
  wo i j := (x6 (ix2 (Fin.ofNat 1024 i) (Fin.ofNat 1024 j)) : EReal).toReal

/-- Under the precondition the arguments are the real arrays `inOf`. -/
theorem isA (x0 : FVec Ideal S2x2048x1024 .f32) (x1 : FVec Ideal S1024 .f32) (x2 : FVec Ideal S1024x2816 .f32) (x3 : FVec Ideal S1024x2816 .f32) (x4 : FVec Ideal S2816x1024 .f32) (x5 : FVec Ideal S2x2048x1024 .f32) (x6 : FVec Ideal S1024x1024 .f32) (e : fn (F := Ideal) x0 x1 x2 x3 x4 x5 x6 = (fun _ => 1#1)) :
    Cert.Reference2Ideal.Ffn.IsA (inOf x0 x1 x2 x3 x4 x5 x6) x0 x1 x2 x3 x4 x5 x6 := by
  have h := congrFun e (fun d => d.elim0)
  unfold fn fn_part1 at h
  obtain ⟨h, h6⟩ := andi_split h
  obtain ⟨h, h5⟩ := andi_split h
  obtain ⟨h, h4⟩ := andi_split h
  obtain ⟨h, h3⟩ := andi_split h
  obtain ⟨h, h2⟩ := andi_split h
  obtain ⟨h0, h1⟩ := andi_split h
  refine ⟨?_, ?_, ?_, ?_, ?_, ?_, ?_⟩
  · intro a i j
    refine (real_all x0 _ _ _ _ h0 _).trans ?_
    simp only [inOf, row_hi, row_lo, ofNat_val]
  · intro j
    refine (real_all x1 _ _ _ _ h1 _).trans ?_
    simp only [inOf, ofNat_val]
  · intro i j
    refine (real_all x2 _ _ _ _ h2 _).trans ?_
    simp only [inOf, ofNat_val]
  · intro i j
    refine (real_all x3 _ _ _ _ h3 _).trans ?_
    simp only [inOf, ofNat_val]
  · intro i j
    refine (real_all x4 _ _ _ _ h4 _).trans ?_
    simp only [inOf, ofNat_val]
  · intro a i j
    refine (real_all x5 _ _ _ _ h5 _).trans ?_
    simp only [inOf, row_hi, row_lo, ofNat_val]
  · intro i j
    refine (real_all x6 _ _ _ _ h6 _).trans ?_
    simp only [inOf, ofNat_val]

end Cert.Pre_finite2

end
-- ==== Proof.Ffn.Same.lean ====
/- The feed-forward reference's seven results and the kernel's seven arrays are the same real arrays. -/
module

public import proofs.«01_k».proof.Proof.Ffn.Arrays
public import proofs.«01_k».proof.Proof.Ffn.Finite

@[expose] public section

set_option maxRecDepth 16384
set_option maxHeartbeats 1000000

noncomputable section

namespace Cert.Reference2Ideal.Ffn

open Idealize.ShloMosaic
open Cert.Spec (In2)

/-- Equal arrays hold the same reals. -/
theorem IsA.congr {I : In2} {x0 y0 : Vec Ideal S2x2048x1024 .f32} {x1 y1 : Vec Ideal S1024 .f32} {x2 y2 : Vec Ideal S1024x2816 .f32} {x3 y3 : Vec Ideal S1024x2816 .f32} {x4 y4 : Vec Ideal S2816x1024 .f32} {x5 y5 : Vec Ideal S2x2048x1024 .f32} {x6 y6 : Vec Ideal S1024x1024 .f32}
    (h : IsA I x0 x1 x2 x3 x4 x5 x6) (e0 : y0 = x0) (e1 : y1 = x1) (e2 : y2 = x2) (e3 : y3 = x3) (e4 : y4 = x4) (e5 : y5 = x5) (e6 : y6 = x6) : IsA I y0 y1 y2 y3 y4 y5 y6 := by
  subst e0 e1 e2 e3 e4 e5 e6
  exact h

end Cert.Reference2Ideal.Ffn

namespace Cert.Kernel2Ideal.Ffn

open Cert.Kernel2Ideal.Gen
open Idealize.ShloMosaic Idealize.ShloMosaic.TcCoe Idealize.ShloMosaic.Pointwise
open Idealize.SL.Sem
open Cert.Spec (In2)

variable {I : In2} {m : (ℓ : Loc nD τ sig) → Buf (Elt Ideal) ℓ} {c : Dev nD} (h : IsIn I m c)
  {x0 : Vec Ideal S2x2048x1024 .f32} {x1 : Vec Ideal S1024 .f32} {x2 : Vec Ideal S1024x2816 .f32} {x3 : Vec Ideal S1024x2816 .f32} {x4 : Vec Ideal S2816x1024 .f32} {x5 : Vec Ideal S2x2048x1024 .f32} {x6 : Vec Ideal S1024x1024 .f32}
  (hA : Cert.Reference2Ideal.Ffn.IsA I x0 x1 x2 x3 x4 x5 x6)
include h hA

theorem same9 : (Cert.Reference2Ideal.Read.val_main_v50 (F := Ideal) x0 x1 x2 x3 x4 x5 : Vec Ideal S4096x1024 .f32) = ((dats m 0 c).arrAt 9 cfg0.N : Vec Ideal S4096x1024 .f32) := by
  funext p
  rw [eq_ix2 p]
  exact (Cert.Reference2Ideal.Ffn.r_v50 hA (p 0) (p 1)).trans (arr9 h (p 0) (p 1)).symm

theorem same10 : (Cert.Reference2Ideal.Read.val_main_v51 (F := Ideal) x0 x1 x2 x3 : Vec Ideal S4096x2816 .bf16) = ((dats m 0 c).arrAt 10 cfg0.N : Vec Ideal S4096x2816 .bf16) := by
  funext p
  rw [eq_ix2 p]
  exact (Cert.Reference2Ideal.Ffn.r_v51 hA (p 0) (p 1)).trans (arr10 h (p 0) (p 1)).symm

theorem same11 : (Cert.Reference2Ideal.Read.val_main_v52 (F := Ideal) x0 x1 x2 x3 x4 x5 : Vec Ideal S4096x2816 .bf16) = ((dats m 0 c).arrAt 11 cfg0.N : Vec Ideal S4096x2816 .bf16) := by
  funext p
  rw [eq_ix2 p]
  exact (Cert.Reference2Ideal.Ffn.r_v52 hA (p 0) (p 1)).trans (arr11 h (p 0) (p 1)).symm

theorem same12 : (Cert.Reference2Ideal.Read.val_main_v53 (F := Ideal) x0 x1 x2 x4 x5 : Vec Ideal S4096x2816 .bf16) = ((dats m 0 c).arrAt 12 cfg0.N : Vec Ideal S4096x2816 .bf16) := by
  funext p
  rw [eq_ix2 p]
  exact (Cert.Reference2Ideal.Ffn.r_v53 hA (p 0) (p 1)).trans (arr12 h (p 0) (p 1)).symm

theorem same13 : (Cert.Reference2Ideal.Read.val_main_v54 (F := Ideal) x0 x1 : Vec Ideal S4096x1024 .bf16) = ((dats m 0 c).arrAt 13 cfg0.N : Vec Ideal S4096x1024 .bf16) := by
  funext p
  rw [eq_ix2 p]
  exact (Cert.Reference2Ideal.Ffn.r_v54 hA (p 0) (p 1)).trans (arr13 h (p 0) (p 1)).symm

theorem same14 : (Cert.Reference2Ideal.Read.val_main_v55 (F := Ideal) x0 x1 x2 x3 x4 x5 : Vec Ideal S1x1024 .f32) = ((dats m 0 c).arrAt 14 cfg0.N : Vec Ideal S1x1024 .f32) := by
  funext p
  rw [eq_ix2 p]
  exact (Cert.Reference2Ideal.Ffn.r_v55 hA (p 0) (p 1)).trans (arr14 h (p 0) (p 1)).symm

theorem same15 : (Cert.Reference2Ideal.Read.val_main_v57 (F := Ideal) x0 x1 x2 x3 x4 x5 x6 : Vec Ideal S4096x1024 .bf16) = ((dats m 0 c).arrAt 15 cfg0.N : Vec Ideal S4096x1024 .bf16) := by
  funext p
  rw [eq_ix2 p]
  exact (Cert.Reference2Ideal.Ffn.r_v57 hA (p 0) (p 1)).trans (arr15 h (p 0) (p 1)).symm

end Cert.Kernel2Ideal.Ffn

end
-- ==== Proof.Last.Spec.lean ====
/- The end of the forward pass over the extended reals: the output product, the feed-forward block, the loss. -/
module

public import proofs.«01_k».proof.Proof.Ffn.Spec

@[expose] public section

noncomputable section

namespace Cert.Spec

open Idealize.ShloMosaic

/-- One over the root mean square of a row. -/
def einv (X : ℕ → ℕ → EReal) (r : ℕ) : EReal :=
  Ideal.rsqrt (Ideal.div (∑ k : Fin 1024, X r k * X r k) (Ideal.ofBits .f32 0x44800000#32) + Ideal.ofBits .f32 0x358637BD#32)
/-- A normalised row. -/
def ehid (X : ℕ → ℕ → EReal) (g : ℕ → EReal) (r j : ℕ) : EReal := X r j * einv X r * g j
/-- A product of 1024 terms. -/
def eproj (H W : ℕ → ℕ → EReal) (r e : ℕ) : EReal := ∑ k : Fin 1024, H r k * W k e
/-- A gate passed through its activation, times the values. -/
def eact (G U : ℕ → ℕ → EReal) (r e : ℕ) : EReal := G r e * Ideal.logistic (G r e) * U r e
/-- The rows with the two mixers' products added. -/
def emix (X C D W : ℕ → ℕ → EReal) (r j : ℕ) : EReal :=
  X r j + (∑ k : Fin 256, C r k * W k j) + ∑ k : Fin 768, D r k * W (256 + k) j
/-- The rows' distance to the target. -/
def eerr (X A W T : ℕ → ℕ → EReal) (r j : ℕ) : EReal := X r j + (∑ k : Fin 2816, A r k * W k j) - T r j
/-- The sum of a row's squares. -/
def esq (E : ℕ → ℕ → EReal) (r : ℕ) : EReal := ∑ j : Fin 1024, E r j * E r j
/-- One half over 1024. -/
def ek : EReal := Ideal.ofBits .f32 0x3A000000#32
/-- One over 1024. -/
def ek2 : EReal := Ideal.ofBits .f32 0x3A800000#32

/-- Rows from `o` on. -/
def esh (o : ℕ) (X : ℕ → ℕ → EReal) : ℕ → ℕ → EReal := fun i j => X (o + i) j

/-- The arguments, as extended reals. -/
structure In3 where
  x : ℕ → ℕ → EReal
  c : ℕ → ℕ → EReal
  d : ℕ → ℕ → EReal
  wo : ℕ → ℕ → EReal
  g : ℕ → EReal
  wg : ℕ → ℕ → EReal
  wu : ℕ → ℕ → EReal
  wd : ℕ → ℕ → EReal
  t : ℕ → ℕ → EReal

namespace In3

variable (I : In3)

/-- The block's rows. -/
def x3 : ℕ → ℕ → EReal := emix I.x I.c I.d I.wo
/-- The normalised rows. -/
def h : ℕ → ℕ → EReal := ehid I.x3 I.g
/-- The gate and the values. -/
def G : ℕ → ℕ → EReal := eproj I.h I.wg
def U : ℕ → ℕ → EReal := eproj I.h I.wu
/-- The distance to the target. -/
def e : ℕ → ℕ → EReal := eerr I.x3 (eact I.G I.U) I.wd I.t
/-- The loss's gradient. -/
def dy (r j : ℕ) : EReal := I.e r j * ek2
/-- The loss. -/
def loss : EReal := ∑ r : Fin 4096, ek * esq I.e r

end In3

end Cert.Spec

end
-- ==== Proof.Last.Pay.lean ====
/- The last forward kernel's functions at the extended reals. -/
module

public import proofs.«01_k».proof.Proof.Last.Spec
public import proofs.«01_k».proof.Proof.Gen.Kernel3Ideal.Skeleton
public import Idealize.ShloMosaic.Lib.Pointwise

@[expose] public section

set_option maxHeartbeats 400000

noncomputable section

namespace Cert.Kernel3Ideal.Last

open Cert.Kernel3Ideal.Gen
open Idealize.ShloMosaic Idealize.ShloMosaic.Pointwise

section
variable {X C D H W V P Q E T : ℕ → ℕ → EReal} {G : ℕ → EReal}

/-- The rows with the mixers' products added. -/
theorem mix_r {x : Vec Ideal S512x1024 .f32} {c : Vec Ideal S512x256 .bf16} {w : Vec Ideal S2x128x1024 .bf16} {d : Vec Ideal S512x768 .bf16} {v : Vec Ideal S6x128x1024 .bf16}
    (hx : ∀ (i : Fin 512) (j : Fin 1024), x (ix2 i j) = X i j) (hc : ∀ (i : Fin 512) (j : Fin 256), c (ix2 i j) = C i j) (hw : ∀ (a : Fin 2) (i : Fin 128) (j : Fin 1024), w (ix3 a i j) = W (128 * a + i) j) (hd : ∀ (i : Fin 512) (j : Fin 768), d (ix2 i j) = D i j) (hv : ∀ (a : Fin 6) (i : Fin 128) (j : Fin 1024), v (ix3 a i j) = W (256 + (128 * a + i)) j) (i : Fin 512) (j : Fin 1024) :
    k0_pay3 x c w d v (ix2 i j) = Spec.emix X C D W i j := by
  unfold k0_pay3
  pointwise
  simp only [hx, hc, hd, hw, hv, Nat.div_add_mod]
  all_goals rfl

/-- The normalised rows. -/
theorem hid_r {x : Vec Ideal S512x1024 .f32} {c : Vec Ideal S512x256 .bf16} {w : Vec Ideal S2x128x1024 .bf16} {d : Vec Ideal S512x768 .bf16} {v : Vec Ideal S6x128x1024 .bf16} {g : Vec Ideal S1x1024 .f32}
    (hx : ∀ (i : Fin 512) (j : Fin 1024), k0_pay3 x c w d v (ix2 i j) = X i j) (hg : ∀ (i : Fin 1) (j : Fin 1024), g (ix2 i j) = G j) (i : Fin 512) (j : Fin 1024) :
    k0_pay4 x c w d v g (ix2 i j) = Spec.ehid X G i j := by
  unfold k0_pay4
  generalize k0_pay3 x c w d v = P at *
  pointwise
  simp only [hx, hg]
  all_goals rfl

/-- The gate, and the values. -/
theorem gate_r {p : FVec Ideal S512x1024 .f32} {wg : Vec Ideal S8x352x1024 .bf16} (hp : ∀ (i : Fin 512) (j : Fin 1024), p (ix2 i j) = H i j) (hwg : ∀ (a : Fin 8) (i : Fin 352) (j : Fin 1024), wg (ix3 a i j) = W j (352 * a + i)) (i : Fin 512) (j : Fin 2816) :
    k0_pay6 p wg (ix2 i j) = Spec.eproj H W i j := by
  unfold k0_pay6 k0_pay5
  pointwise
  simp only [hp, hwg, Nat.div_add_mod]
  all_goals rfl

theorem gateb_r {p : FVec Ideal S512x1024 .f32} {wg : Vec Ideal S8x352x1024 .bf16} (hp : ∀ (i : Fin 512) (j : Fin 1024), p (ix2 i j) = H i j) (hwg : ∀ (a : Fin 8) (i : Fin 352) (j : Fin 1024), wg (ix3 a i j) = W j (352 * a + i)) (i : Fin 512) (j : Fin 2816) :
    k0_pay8 p wg (ix2 i j) = Spec.eproj H W i j := by
  refine Eq.trans ?_ (gate_r hp hwg i j)
  unfold k0_pay8
  pointwise

theorem val_r {p : FVec Ideal S512x1024 .f32} {wg : Vec Ideal S8x352x1024 .bf16} (hp : ∀ (i : Fin 512) (j : Fin 1024), p (ix2 i j) = H i j) (hwg : ∀ (a : Fin 8) (i : Fin 352) (j : Fin 1024), wg (ix3 a i j) = W j (352 * a + i)) (i : Fin 512) (j : Fin 2816) :
    k0_pay7 p wg (ix2 i j) = Spec.eproj H W i j := gate_r hp hwg i j

theorem valb_r {p : FVec Ideal S512x1024 .f32} {wg : Vec Ideal S8x352x1024 .bf16} (hp : ∀ (i : Fin 512) (j : Fin 1024), p (ix2 i j) = H i j) (hwg : ∀ (a : Fin 8) (i : Fin 352) (j : Fin 1024), wg (ix3 a i j) = W j (352 * a + i)) (i : Fin 512) (j : Fin 2816) :
    k0_pay9 p wg (ix2 i j) = Spec.eproj H W i j := gateb_r hp hwg i j

/-- The distance to the target. -/
theorem err_r {x p : FVec Ideal S512x1024 .f32} {wg wu wd : Vec Ideal S8x352x1024 .bf16} {t : Vec Ideal S512x1024 .f32} (hx : ∀ (i : Fin 512) (j : Fin 1024), x (ix2 i j) = X i j)
    (hp : ∀ (i : Fin 512) (j : Fin 2816), k0_pay6 p wg (ix2 i j) = P i j) (hq : ∀ (i : Fin 512) (j : Fin 2816), k0_pay7 p wu (ix2 i j) = Q i j) (hd : ∀ (a : Fin 8) (i : Fin 352) (j : Fin 1024), wd (ix3 a i j) = V (352 * a + i) j) (ht : ∀ (i : Fin 512) (j : Fin 1024), t (ix2 i j) = T i j)
    (i : Fin 512) (j : Fin 1024) : k0_pay10 x p wg wu wd t (ix2 i j) = Spec.eerr X (Spec.eact P Q) V T i j := by
  unfold k0_pay10
  generalize k0_pay6 p wg = A at *
  generalize k0_pay7 p wu = B at *
  pointwise
  simp only [hx, hp, hq, hd, ht, Nat.div_add_mod]
  all_goals rfl

/-- The loss's gradient. -/
theorem dy_r {x p : FVec Ideal S512x1024 .f32} {wg wu wd : Vec Ideal S8x352x1024 .bf16} {t : Vec Ideal S512x1024 .f32}
    (he : ∀ (i : Fin 512) (j : Fin 1024), k0_pay10 x p wg wu wd t (ix2 i j) = E i j) (i : Fin 512) (j : Fin 1024) : k0_pay11 x p wg wu wd t (ix2 i j) = E i j * Spec.ek2 := by
  unfold k0_pay11
  generalize k0_pay10 x p wg wu wd t = A at *
  pointwise
  simp only [he]
  all_goals rfl

/-- The loss over a block's rows, added to what was there. -/
theorem loss_r {x p : FVec Ideal S512x1024 .f32} {wg wu wd : Vec Ideal S8x352x1024 .bf16} {t : Vec Ideal S512x1024 .f32} {a : Vec Ideal S8x128 .f32} {q : EReal}
    (he : ∀ (i : Fin 512) (j : Fin 1024), k0_pay10 x p wg wu wd t (ix2 i j) = E i j) (ha : ∀ (i : Fin 8) (j : Fin 128), a (ix2 i j) = q) (i : Fin 8) (j : Fin 128) :
    k0_pay1 (k0_pay12 x p wg wu wd t) a (ix2 i j) = q + Spec.ek * ∑ r : Fin 512, Spec.esq E r := by
  unfold k0_pay1 k0_pay12
  generalize k0_pay10 x p wg wu wd t = A at *
  pointwise
  simp only [he, ha]
  all_goals rfl

/-- No loss at the start. -/
theorem zero_r (i : Fin 8) (j : Fin 128) : (k0_pay2 : FVec Ideal S8x128 .f32) (ix2 i j) = 0 := by
  unfold k0_pay2
  pointwise
  all_goals rfl
end

end Cert.Kernel3Ideal.Last

end
-- ==== Proof.Last.Outs.lean ====
/- What each output of the last forward kernel holds after a point, as the kernel's functions of the point's blocks. -/
module

public import proofs.«01_k».proof.Proof.Last.Pay
public import proofs.«01_k».proof.Proof.Gen.Kernel3Ideal.Frame
public import Idealize.ShloMosaic.Lib.Pipeline.ReadBack
public import Idealize.ShloMosaic.Lib.Pipeline.ValueKit.Acc

@[expose] public section

set_option maxHeartbeats 2000000
set_option maxRecDepth 16384

noncomputable section

namespace Cert.Kernel3Ideal.Last

open Cert.Kernel3Ideal.Gen
open Idealize.ShloMosaic Idealize.ShloMosaic.TcCoe Idealize.ShloMosaic.Tactic

variable {F : FTy → Type} [FloatOps F]
variable (m : (ℓ : Loc nD τ sig) → Buf (Elt F) ℓ)

/-- The output weights' rows that the first mixer's columns meet, and the second's. -/
def wc (w : Vec F S8x128x1024 .bf16) : Vec F S2x128x1024 .bf16 := View.ld w (Rect.unit (s := S8x128x1024) ![0, 0, 0] S2x128x1024.size inb_S8x128x1024_S2x128x1024_0_0_0)
def wd (w : Vec F S8x128x1024 .bf16) : Vec F S6x128x1024 .bf16 := View.ld w (Rect.unit (s := S8x128x1024) ![2, 0, 0] S6x128x1024.size inb_S8x128x1024_S6x128x1024_2_0_0)

/-- A read of the whole array after stores. -/
theorem readCov_whole {Val : EltTy → Type} [∀ e, Nonempty (Val e)] {sg : RefSig} {κ : Kind} {sp : Space} {s : Shape} {e : EltTy} (v : View sg κ sp s e) (L : List (View.Piece Val s e)) {off : Fin s.rank → ℕ} (inb : ∀ a, off a + s.size a ≤ s.size a) (h : ∀ a, off a = 0) :
    v.readCov L (Rect.unit off (no_index s.size) inb).toLoadRect = View.canon L :=
  (View.readCov_eq_canon' v L _).trans (View.ld_unit_lit inb (View.canon L) h)

/-- The block's rows, at the first point. -/
theorem outA_9 (c : Dev nD) (t : Fin cfg0.N) (h0 : t.val % 8 = 0) : (outsAt0 m c t.val t.isLt).1 = k0_pay3 (iblk m c 0 t) (iblk m c 1 t) (wc (iblk m c 3 t)) (iblk m c 2 t) (wd (iblk m c 3 t)) := by
  rw [outsAt0_A m c t h0]
  dsimp only
  unfold out0_A_9 wc wd
  frame_out
  (try simp (disch := decide) only [read_unread_whole, readCov_whole])

/-- The block's rows, at a later point. -/
theorem outB_9 (c : Dev nD) (t : Fin cfg0.N) (h0 : ¬t.val % 8 = 0) : (outsAt0 m c t.val t.isLt).1 = k0_pay3 (iblk m c 0 t) (iblk m c 1 t) (wc (iblk m c 3 t)) (iblk m c 2 t) (wd (iblk m c 3 t)) := by
  rw [outsAt0_B m c t h0]
  dsimp only
  unfold out0_B_9 wc wd
  frame_out
  (try simp (disch := decide) only [read_unread_whole, readCov_whole])

/-- The loss's gradient, at the first point. -/
theorem outA_10 (c : Dev nD) (t : Fin cfg0.N) (h0 : t.val % 8 = 0) : (outsAt0 m c t.val t.isLt).2.1 = k0_pay11 (k0_pay3 (iblk m c 0 t) (iblk m c 1 t) (wc (iblk m c 3 t)) (iblk m c 2 t) (wd (iblk m c 3 t))) (k0_pay4 (iblk m c 0 t) (iblk m c 1 t) (wc (iblk m c 3 t)) (iblk m c 2 t) (wd (iblk m c 3 t)) (iblk m c 4 t)) (iblk m c 5 t) (iblk m c 6 t) (iblk m c 7 t) (iblk m c 8 t) := by
  rw [outsAt0_A m c t h0]
  dsimp only
  unfold out0_A_10 wc wd
  frame_out
  (try simp (disch := decide) only [read_unread_whole, readCov_whole])

/-- The loss's gradient, at a later point. -/
theorem outB_10 (c : Dev nD) (t : Fin cfg0.N) (h0 : ¬t.val % 8 = 0) : (outsAt0 m c t.val t.isLt).2.1 = k0_pay11 (k0_pay3 (iblk m c 0 t) (iblk m c 1 t) (wc (iblk m c 3 t)) (iblk m c 2 t) (wd (iblk m c 3 t))) (k0_pay4 (iblk m c 0 t) (iblk m c 1 t) (wc (iblk m c 3 t)) (iblk m c 2 t) (wd (iblk m c 3 t)) (iblk m c 4 t)) (iblk m c 5 t) (iblk m c 6 t) (iblk m c 7 t) (iblk m c 8 t) := by
  rw [outsAt0_B m c t h0]
  dsimp only
  unfold out0_B_10 wc wd
  frame_out
  (try simp (disch := decide) only [read_unread_whole, readCov_whole])

/-- The gate, at the first point. -/
theorem outA_11 (c : Dev nD) (t : Fin cfg0.N) (h0 : t.val % 8 = 0) : (outsAt0 m c t.val t.isLt).2.2.1 = k0_pay8 (k0_pay4 (iblk m c 0 t) (iblk m c 1 t) (wc (iblk m c 3 t)) (iblk m c 2 t) (wd (iblk m c 3 t)) (iblk m c 4 t)) (iblk m c 5 t) := by
  rw [outsAt0_A m c t h0]
  dsimp only
  unfold out0_A_11 wc wd
  frame_out
  (try simp (disch := decide) only [read_unread_whole, readCov_whole])

/-- The gate, at a later point. -/
theorem outB_11 (c : Dev nD) (t : Fin cfg0.N) (h0 : ¬t.val % 8 = 0) : (outsAt0 m c t.val t.isLt).2.2.1 = k0_pay8 (k0_pay4 (iblk m c 0 t) (iblk m c 1 t) (wc (iblk m c 3 t)) (iblk m c 2 t) (wd (iblk m c 3 t)) (iblk m c 4 t)) (iblk m c 5 t) := by
  rw [outsAt0_B m c t h0]
  dsimp only
  unfold out0_B_11 wc wd
  frame_out
  (try simp (disch := decide) only [read_unread_whole, readCov_whole])

/-- The values, at the first point. -/
theorem outA_12 (c : Dev nD) (t : Fin cfg0.N) (h0 : t.val % 8 = 0) : (outsAt0 m c t.val t.isLt).2.2.2.1 = k0_pay9 (k0_pay4 (iblk m c 0 t) (iblk m c 1 t) (wc (iblk m c 3 t)) (iblk m c 2 t) (wd (iblk m c 3 t)) (iblk m c 4 t)) (iblk m c 6 t) := by
  rw [outsAt0_A m c t h0]
  dsimp only
  unfold out0_A_12 wc wd
  frame_out
  (try simp (disch := decide) only [read_unread_whole, readCov_whole])

/-- The values, at a later point. -/
theorem outB_12 (c : Dev nD) (t : Fin cfg0.N) (h0 : ¬t.val % 8 = 0) : (outsAt0 m c t.val t.isLt).2.2.2.1 = k0_pay9 (k0_pay4 (iblk m c 0 t) (iblk m c 1 t) (wc (iblk m c 3 t)) (iblk m c 2 t) (wd (iblk m c 3 t)) (iblk m c 4 t)) (iblk m c 6 t) := by
  rw [outsAt0_B m c t h0]
  dsimp only
  unfold out0_B_12 wc wd
  frame_out
  (try simp (disch := decide) only [read_unread_whole, readCov_whole])

/-- The loss so far, at the first point. -/
theorem outA_13 (c : Dev nD) (t : Fin cfg0.N) (h0 : t.val % 8 = 0) : (outsAt0 m c t.val t.isLt).2.2.2.2 = k0_pay1 (k0_pay12 (k0_pay3 (iblk m c 0 t) (iblk m c 1 t) (wc (iblk m c 3 t)) (iblk m c 2 t) (wd (iblk m c 3 t))) (k0_pay4 (iblk m c 0 t) (iblk m c 1 t) (wc (iblk m c 3 t)) (iblk m c 2 t) (wd (iblk m c 3 t)) (iblk m c 4 t)) (iblk m c 5 t) (iblk m c 6 t) (iblk m c 7 t) (iblk m c 8 t)) k0_pay2 := by
  rw [outsAt0_A m c t h0]
  dsimp only
  unfold out0_A_13 wc wd
  frame_out
  (try simp (disch := decide) only [read_unread_whole, readCov_whole])

/-- The loss so far, at a later point. -/
theorem outB_13 (c : Dev nD) (t : Fin cfg0.N) (h0 : ¬t.val % 8 = 0) : (outsAt0 m c t.val t.isLt).2.2.2.2 = k0_pay1 (k0_pay12 (k0_pay3 (iblk m c 0 t) (iblk m c 1 t) (wc (iblk m c 3 t)) (iblk m c 2 t) (wd (iblk m c 3 t))) (k0_pay4 (iblk m c 0 t) (iblk m c 1 t) (wc (iblk m c 3 t)) (iblk m c 2 t) (wd (iblk m c 3 t)) (iblk m c 4 t)) (iblk m c 5 t) (iblk m c 6 t) (iblk m c 7 t) (iblk m c 8 t)) (outsAt0 m c (t.val - 1) (Nat.lt_of_le_of_lt (Nat.sub_le _ _) t.isLt)).2.2.2.2 := by
  rw [outsAt0_B m c t h0]
  dsimp only
  unfold out0_B_13 wc wd
  frame_out
  (try simp (disch := decide) only [read_unread_whole, readCov_whole])

end Cert.Kernel3Ideal.Last

end
-- ==== Proof.Last.Host.lean ====
/- What the last forward call's arrays hold when it starts. -/
module

public import proofs.«01_k».proof.Proof.Last.Spec
public import proofs.«01_k».proof.Proof.Gen.Kernel3Ideal.Frame
public import Idealize.ShloMosaic.Lib.Pointwise
public import Idealize.ShloMosaic.Lib.Claim

@[expose] public section

set_option maxRecDepth 16384

noncomputable section

namespace Cert.Kernel3Ideal.Last

open Cert.Kernel3Ideal.Gen
open Idealize.ShloMosaic Idealize.ShloMosaic.TcCoe Idealize.ShloMosaic.Pointwise
open Idealize.SL.Sem
open Cert.Spec (In3)

/-- The arguments are the extended reals `I`. -/
structure IsIn (I : In3) (m : (ℓ : Loc nD τ sig) → Buf (Elt Ideal) ℓ) (c : Dev nD) : Prop where
  x : ∀ (a : Fin 2) (i : Fin 2048) (j : Fin 1024), (m ((c : Thread nD τ).loc main_arg0) : Vec Ideal S2x2048x1024 .f32) (ix3 a i j) = I.x (2048 * a + i) j
  pc : ∀ (a : Fin 2) (i : Fin 2048) (j : Fin 256), (m ((c : Thread nD τ).loc main_arg1) : Vec Ideal S2x2048x256 .f32) (ix3 a i j) = I.c (2048 * a + i) j
  pd : ∀ (a : Fin 2) (i : Fin 2048) (j : Fin 768), (m ((c : Thread nD τ).loc main_arg2) : Vec Ideal S2x2048x768 .f32) (ix3 a i j) = I.d (2048 * a + i) j
  wo : ∀ (i : Fin 1024) (j : Fin 1024), (m ((c : Thread nD τ).loc main_arg3) : Vec Ideal S1024x1024 .f32) (ix2 i j) = I.wo i j
  g : ∀ j : Fin 1024, (m ((c : Thread nD τ).loc main_arg4) : Vec Ideal S1024 .f32) (ix1 j) = I.g j
  wg : ∀ (i : Fin 1024) (j : Fin 2816), (m ((c : Thread nD τ).loc main_arg5) : Vec Ideal S1024x2816 .f32) (ix2 i j) = I.wg i j
  wu : ∀ (i : Fin 1024) (j : Fin 2816), (m ((c : Thread nD τ).loc main_arg6) : Vec Ideal S1024x2816 .f32) (ix2 i j) = I.wu i j
  wd : ∀ (i : Fin 2816) (j : Fin 1024), (m ((c : Thread nD τ).loc main_arg7) : Vec Ideal S2816x1024 .f32) (ix2 i j) = I.wd i j
  t : ∀ (a : Fin 2) (i : Fin 2048) (j : Fin 1024), (m ((c : Thread nD τ).loc main_arg8) : Vec Ideal S2x2048x1024 .f32) (ix3 a i j) = I.t (2048 * a + i) j

/-- The projection's rows among the packed weights' rows, zeros around them. -/
def padWo (w : FVec Ideal S1024x1024 .f32) : FVec Ideal S8x384x1024 .bf16 :=
  have v26 : FVec Ideal S8x128x1024 .f32 := shapeCast S8x128x1024 w shapeCasts_S1024x1024_S8x128x1024
  have v27 : FVec Ideal S8x384x1024 .f32 := pad S8x384x1024 ![0, 128, 0] ![0, 128, 0] ![0, 0, 0] v26 (sitofp (F := Ideal) FTy.f32 (constantI S_ 32 0#32)) pads_S8x128x1024_S8x384x1024_000_1281280_000 h_S_
  truncf .bf16 v27 bitsLt_bf16_f32

theorem padWo_at (w : FVec Ideal S1024x1024 .f32) (a : Fin 8) (i : Fin 128) (j : Fin 1024) : padWo w (ix3 a ⟨128 + i, by omega⟩ j) = w (ix2 ⟨128 * a + i, by omega⟩ j) := by
  unfold padWo
  pointwise
  simp [Nat.mul_comm 128]

variable {I : In3} {m : (ℓ : Loc nD τ sig) → Buf (Elt Ideal) ℓ} {c : Dev nD} (h : IsIn I m c)
include h

theorem V_x (i : Fin 4096) (j : Fin 1024) : (V m c main_v11 : Vec Ideal S4096x1024 .f32) (ix2 i j) = I.x i j := by
  simp only [V, hostOps0, hostOps0_1, hostOps0_2, List.flatten_cons, List.flatten_nil, List.append_nil, List.cons_append, List.nil_append]
  after_results
  pointwise
  simp only [h.x, Nat.div_add_mod]

theorem V_c (i : Fin 4096) (j : Fin 256) : (V m c main_v13 : Vec Ideal S4096x256 .bf16) (ix2 i j) = I.c i j := by
  simp only [V, hostOps0, hostOps0_1, hostOps0_2, List.flatten_cons, List.flatten_nil, List.append_nil, List.cons_append, List.nil_append]
  after_results
  pointwise
  simp only [h.pc, Nat.div_add_mod]

theorem V_d (i : Fin 4096) (j : Fin 768) : (V m c main_v15 : Vec Ideal S4096x768 .bf16) (ix2 i j) = I.d i j := by
  simp only [V, hostOps0, hostOps0_1, hostOps0_2, List.flatten_cons, List.flatten_nil, List.append_nil, List.cons_append, List.nil_append]
  after_results
  pointwise
  simp only [h.pd, Nat.div_add_mod]

theorem V_t (i : Fin 4096) (j : Fin 1024) : (V m c main_v17 : Vec Ideal S4096x1024 .f32) (ix2 i j) = I.t i j := by
  simp only [V, hostOps0, hostOps0_1, hostOps0_2, List.flatten_cons, List.flatten_nil, List.append_nil, List.cons_append, List.nil_append]
  after_results
  pointwise
  simp only [h.t, Nat.div_add_mod]

theorem V_g (i : Fin 1) (j : Fin 1024) : (V m c main_v16 : Vec Ideal S1x1024 .f32) (ix2 i j) = I.g j := by
  simp only [V, hostOps0, hostOps0_1, hostOps0_2, List.flatten_cons, List.flatten_nil, List.append_nil, List.cons_append, List.nil_append]
  after_results
  pointwise
  simp only [h.g]

theorem V_wd (a : Fin 8) (i : Fin 352) (j : Fin 1024) : (V m c main_v10 : Vec Ideal S8x352x1024 .bf16) (ix3 a i j) = I.wd (352 * a + i) j := by
  simp only [V, hostOps0, hostOps0_1, hostOps0_2, List.flatten_cons, List.flatten_nil, List.append_nil, List.cons_append, List.nil_append]
  after_results
  pointwise
  simp only [h.wd, Nat.mul_comm 352]

theorem V_wgu (a : Fin 8) (i : Fin 704) (j : Fin 1024) : (V m c main_v8 : Vec Ideal S8x704x1024 .bf16) (ix3 a i j) = if (i : ℕ) < 352 then I.wg j (352 * a + i) else I.wu j (352 * a + (i - 352)) := by
  simp only [V, hostOps0, hostOps0_1, hostOps0_2, List.flatten_cons, List.flatten_nil, List.append_nil, List.cons_append, List.nil_append]
  after_results
  pointwise
  split_ifs <;> simp only [h.wg, h.wu, Nat.mul_comm 352]

theorem V_wo (a : Fin 8) (i : Fin 128) (j : Fin 1024) : (V m c main_v2 : Vec Ideal S8x384x1024 .bf16) (ix3 a ⟨128 + i, by omega⟩ j) = I.wo (128 * a + i) j := by
  simp only [V, hostOps0, hostOps0_1, hostOps0_2, List.flatten_cons, List.flatten_nil, List.append_nil, List.cons_append, List.nil_append]
  after_results
  refine Eq.trans (b := padWo (m ((c : Thread nD τ).loc main_arg3)) (ix3 a ⟨128 + i, by omega⟩ j)) rfl ?_
  exact (padWo_at _ a i j).trans (h.wo _ _)

end Cert.Kernel3Ideal.Last

end
-- ==== Proof.Last.Blocks.lean ====
/- The blocks of a point and what the outputs hold after it. -/
module

public import proofs.«01_k».proof.Proof.Last.Outs
public import proofs.«01_k».proof.Proof.Last.Host
public import Idealize.ShloMosaic.Lib.Pipeline.ValueKit.Point

@[expose] public section

set_option maxRecDepth 16384

noncomputable section

namespace Cert.Kernel3Ideal.Last

open Cert.Kernel3Ideal.Gen
open Idealize.ShloMosaic Idealize.ShloMosaic.TcCoe Idealize.ShloMosaic.Pointwise
open Idealize.SL.Sem
open Cert.Spec (esh In3 esq ek ek2)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 1, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 1, 0] := (by decide +kernel : ∀ t : Fin grid0.N, _)
theorem ix_7 : ∀ t : Fin cfg0.N, win0_7.index t = ![0, 0, 0] := (by decide +kernel : ∀ t : Fin grid0.N, _)
theorem ix_8 : ∀ t : Fin cfg0.N, win0_8.index t = ![t.val, 0] := (by decide +kernel : ∀ t : Fin grid0.N, _)

variable {I : In3} {m : (ℓ : Loc nD τ sig) → Buf (Elt Ideal) ℓ} {c : Dev nD} (h : IsIn I m c)
include h

theorem blk_x (t : Fin cfg0.N) (i : Fin 512) (j : Fin 1024) : (iblk m c 0 t : Vec Ideal S512x1024 .f32) (ix2 i j) = esh (512 * t.val) I.x i j := by
  have ht : t.val < 8 := t.isLt
  have hb : 512 * t.val + (i : ℕ) < 4096 := by omega
  refine Eq.trans (b := (V m c main_v11 : Vec Ideal S4096x1024 .f32) (ix2 ⟨512 * t.val + i, hb⟩ j)) ?_ (V_x h _ _)
  blk_ext! [iblk, ix_0 t]

theorem blk_c (t : Fin cfg0.N) (i : Fin 512) (j : Fin 256) : (iblk m c 1 t : Vec Ideal S512x256 .bf16) (ix2 i j) = esh (512 * t.val) I.c i j := by
  have ht : t.val < 8 := t.isLt
  have hb : 512 * t.val + (i : ℕ) < 4096 := by omega
  refine Eq.trans (b := (V m c main_v13 : Vec Ideal S4096x256 .bf16) (ix2 ⟨512 * t.val + i, hb⟩ j)) ?_ (V_c h _ _)
  blk_ext! [iblk, ix_1 t]

theorem blk_d (t : Fin cfg0.N) (i : Fin 512) (j : Fin 768) : (iblk m c 2 t : Vec Ideal S512x768 .bf16) (ix2 i j) = esh (512 * t.val) I.d i j := by
  have ht : t.val < 8 := t.isLt
  have hb : 512 * t.val + (i : ℕ) < 4096 := by omega
  refine Eq.trans (b := (V m c main_v15 : Vec Ideal S4096x768 .bf16) (ix2 ⟨512 * t.val + i, hb⟩ j)) ?_ (V_d h _ _)
  blk_ext! [iblk, ix_2 t]

theorem blk_t (t : Fin cfg0.N) (i : Fin 512) (j : Fin 1024) : (iblk m c 8 t : Vec Ideal S512x1024 .f32) (ix2 i j) = esh (512 * t.val) I.t i j := by
  have ht : t.val < 8 := t.isLt
  have hb : 512 * t.val + (i : ℕ) < 4096 := by omega
  refine Eq.trans (b := (V m c main_v17 : Vec Ideal S4096x1024 .f32) (ix2 ⟨512 * t.val + i, hb⟩ j)) ?_ (V_t h _ _)
  blk_ext! [iblk, ix_8 t]

theorem blk_g (t : Fin cfg0.N) (i : Fin 1) (j : Fin 1024) : (iblk m c 4 t : Vec Ideal S1x1024 .f32) (ix2 i j) = I.g j := by
  refine Eq.trans (b := (V m c main_v16 : Vec Ideal S1x1024 .f32) (ix2 i j)) ?_ (V_g h _ _)
  blk_ext! [iblk, ix_4 t]

theorem blk_wg (t : Fin cfg0.N) (a : Fin 8) (i : Fin 352) (j : Fin 1024) : (iblk m c 5 t : Vec Ideal S8x352x1024 .bf16) (ix3 a i j) = I.wg j (352 * a + i) := by
  have hb : (i : ℕ) < 704 := by omega
  refine Eq.trans (b := (V m c main_v8 : Vec Ideal S8x704x1024 .bf16) (ix3 a ⟨i, hb⟩ j)) ?_ ((V_wgu h _ _ _).trans ?_)
  · blk_ext! [iblk, ix_5 t]
  · rw [if_pos i.isLt]

theorem blk_wu (t : Fin cfg0.N) (a : Fin 8) (i : Fin 352) (j : Fin 1024) : (iblk m c 6 t : Vec Ideal S8x352x1024 .bf16) (ix3 a i j) = I.wu j (352 * a + i) := by
  have hb : 352 + (i : ℕ) < 704 := by omega
  refine Eq.trans (b := (V m c main_v8 : Vec Ideal S8x704x1024 .bf16) (ix3 a ⟨352 + i, hb⟩ j)) ?_ ((V_wgu h _ _ _).trans ?_)
  · blk_ext! [iblk, ix_6 t]
  · rw [if_neg (by simp)]
    simp

theorem blk_wd (t : Fin cfg0.N) (a : Fin 8) (i : Fin 352) (j : Fin 1024) : (iblk m c 7 t : Vec Ideal S8x352x1024 .bf16) (ix3 a i j) = I.wd (352 * a + i) j := by
  refine Eq.trans (b := (V m c main_v10 : Vec Ideal S8x352x1024 .bf16) (ix3 a i j)) ?_ (V_wd h _ _ _)
  blk_ext! [iblk, ix_7 t]

theorem blk_wo (t : Fin cfg0.N) (a : Fin 8) (i : Fin 128) (j : Fin 1024) : (iblk m c 3 t : Vec Ideal S8x128x1024 .bf16) (ix3 a i j) = I.wo (128 * a + i) j := by
  have hb : 128 + (i : ℕ) < 384 := by omega
  refine Eq.trans (b := (V m c main_v2 : Vec Ideal S8x384x1024 .bf16) (ix3 a ⟨128 + i, hb⟩ j)) ?_ (V_wo h _ _ _)
  blk_ext! [iblk, ix_3 t]

theorem blk_wc (t : Fin cfg0.N) (a : Fin 2) (i : Fin 128) (j : Fin 1024) : wc (iblk m c 3 t) (ix3 a i j) = I.wo (128 * a + i) j := by
  have ha : (a : ℕ) < 8 := by omega
  unfold wc
  refine (View.ld_unit_apply_of (iblk m c 3 t) _ _ _ (ix3 a i j) (ix3 (⟨a, ha⟩ : Fin 8) i j) ?_).trans (blk_wo h t _ _ _)
  intro b; fin_cases b <;> simp [ix3]

theorem blk_we (t : Fin cfg0.N) (a : Fin 6) (i : Fin 128) (j : Fin 1024) : wd (iblk m c 3 t) (ix3 a i j) = I.wo (256 + (128 * a + i)) j := by
  have ha : 2 + (a : ℕ) < 8 := by omega
  unfold wd
  refine ((View.ld_unit_apply_of (iblk m c 3 t) _ _ _ (ix3 a i j) (ix3 (⟨2 + a, ha⟩ : Fin 8) i j) ?_).trans (blk_wo h t _ _ _)).trans ?_
  · intro b; fin_cases b <;> simp [ix3]
  · rw [show 128 * ((⟨2 + (a : ℕ), ha⟩ : Fin 8) : ℕ) + (i : ℕ) = 256 + (128 * (a : ℕ) + i) from by simp only []; omega]

/-- A point's rows with the mixers' products added, normalised, through the gate and the values, and their distance to the target. -/
theorem pt_x3 (t : Fin cfg0.N) (i : Fin 512) (j : Fin 1024) : k0_pay3 (iblk m c 0 t) (iblk m c 1 t) (wc (iblk m c 3 t)) (iblk m c 2 t) (wd (iblk m c 3 t)) (ix2 i j) = esh (512 * t.val) I.x3 i j :=
  mix_r (blk_x h t) (blk_c h t) (blk_wc h t) (blk_d h t) (blk_we h t) i j

theorem pt_h (t : Fin cfg0.N) (i : Fin 512) (j : Fin 1024) : k0_pay4 (iblk m c 0 t) (iblk m c 1 t) (wc (iblk m c 3 t)) (iblk m c 2 t) (wd (iblk m c 3 t)) (iblk m c 4 t) (ix2 i j) = esh (512 * t.val) I.h i j :=
  hid_r (pt_x3 h t) (blk_g h t) i j

theorem pt_e (t : Fin cfg0.N) (i : Fin 512) (j : Fin 1024) : k0_pay10 (k0_pay3 (iblk m c 0 t) (iblk m c 1 t) (wc (iblk m c 3 t)) (iblk m c 2 t) (wd (iblk m c 3 t))) (k0_pay4 (iblk m c 0 t) (iblk m c 1 t) (wc (iblk m c 3 t)) (iblk m c 2 t) (wd (iblk m c 3 t)) (iblk m c 4 t)) (iblk m c 5 t) (iblk m c 6 t) (iblk m c 7 t) (iblk m c 8 t) (ix2 i j) = esh (512 * t.val) I.e i j :=
  err_r (pt_x3 h t) (gate_r (pt_h h t) (blk_wg h t)) (val_r (pt_h h t) (blk_wu h t)) (blk_wd h t) (blk_t h t) i j

theorem at_9 (t : Fin cfg0.N) (i : Fin 512) (j : Fin 1024) : (outsAt0 m c t.val t.isLt).1 (ix2 i j) = esh (512 * t.val) I.x3 i j := by
  by_cases h0 : t.val % 8 = 0
  · rw [outA_9 m c t h0]
    exact pt_x3 h t i j
  · rw [outB_9 m c t h0]
    exact pt_x3 h t i j

theorem at_10 (t : Fin cfg0.N) (i : Fin 512) (j : Fin 1024) : (outsAt0 m c t.val t.isLt).2.1 (ix2 i j) = esh (512 * t.val) I.dy i j := by
  by_cases h0 : t.val % 8 = 0
  · rw [outA_10 m c t h0]
    exact dy_r (pt_e h t) i j
  · rw [outB_10 m c t h0]
    exact dy_r (pt_e h t) i j

theorem at_11 (t : Fin cfg0.N) (i : Fin 512) (j : Fin 2816) : (outsAt0 m c t.val t.isLt).2.2.1 (ix2 i j) = esh (512 * t.val) I.G i j := by
  by_cases h0 : t.val % 8 = 0
  · rw [outA_11 m c t h0]
    exact gateb_r (pt_h h t) (blk_wg h t) i j
  · rw [outB_11 m c t h0]
    exact gateb_r (pt_h h t) (blk_wg h t) i j

theorem at_12 (t : Fin cfg0.N) (i : Fin 512) (j : Fin 2816) : (outsAt0 m c t.val t.isLt).2.2.2.1 (ix2 i j) = esh (512 * t.val) I.U i j := by
  by_cases h0 : t.val % 8 = 0
  · rw [outA_12 m c t h0]
    exact valb_r (pt_h h t) (blk_wu h t) i j
  · rw [outB_12 m c t h0]
    exact valb_r (pt_h h t) (blk_wu h t) i j

/-- A positive real factor goes through a sum. -/
theorem ek_sum (n : ℕ) (f : ℕ → EReal) : ek * ∑ r : Fin n, f r = ∑ r ∈ Finset.range n, ek * f r := by
  have hk : ek = (((1 / 2048 : ℝ)) : EReal) := by
    unfold ek
    simp [Ideal.ofBits, Ideal.ieee, -EReal.coe_mul]; norm_num
  have h0 : (0 : EReal) ≤ ek := by rw [hk]; exact_mod_cast (by norm_num : (0 : ℝ) ≤ 1 / 2048)
  have ht : ek ≠ ⊤ := by rw [hk]; exact EReal.coe_ne_top _
  rw [← Finset.sum_range]
  induction n with
  | zero => simp
  | succ n ih => rw [Finset.sum_range_succ, Finset.sum_range_succ, EReal.left_distrib_of_nonneg_of_ne_top h0 ht, ih]

/-- The loss over the rows so far. -/
theorem at_13 : ∀ (n : ℕ) (hn : n < cfg0.N) (i : Fin 8) (j : Fin 128), (outsAt0 m c n hn).2.2.2.2 (ix2 i j) = ∑ r ∈ Finset.range (512 * (n + 1)), ek * esq I.e r
  | 0, hn, i, j => by
    rw [outA_13 m c ⟨0, hn⟩ (Nat.zero_mod _)]
    refine (loss_r (q := 0) (pt_e h ⟨0, hn⟩) zero_r i j).trans ?_
    rw [zero_add, ek_sum h]
    refine Finset.sum_congr rfl fun r _ => ?_
    simp only [esq, esh, Nat.mul_zero, zero_add]
  | n + 1, hn, i, j => by
    have hN : n + 1 < 8 := hn
    have h0 : ¬ (n + 1) % 8 = 0 := by omega
    rw [outB_13 m c ⟨n + 1, hn⟩ h0]
    refine (loss_r (q := ∑ r ∈ Finset.range (512 * (n + 1)), ek * esq I.e r) (pt_e h ⟨n + 1, hn⟩) (fun i j => at_13 n (Nat.lt_of_succ_lt hn) i j) i j).trans ?_
    rw [show 512 * (n + 1 + 1) = 512 * (n + 1) + 512 by omega, Finset.sum_range_add, ek_sum h]
    rfl

end Cert.Kernel3Ideal.Last

end
-- ==== Proof.Last.Arrays.lean ====
/- The last forward call's results. -/
module

public import proofs.«01_k».proof.Proof.Last.Blocks
public import proofs.«01_k».proof.Proof.Gen.Kernel3Ideal.Value

@[expose] public section

set_option maxRecDepth 16384

noncomputable section

namespace Cert.Kernel3Ideal.Last

open Cert.Kernel3Ideal.Gen
open Idealize.ShloMosaic Idealize.ShloMosaic.TcCoe Idealize.ShloMosaic.Pointwise
open Idealize.SL.Sem
open Cert.Spec (esh In3 esq ek ek2)

theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![0, 0] := (by decide +kernel : ∀ t : Fin grid0.N, _)

variable {I : In3} {m : (ℓ : Loc nD τ sig) → Buf (Elt Ideal) ℓ} {c : Dev nD} (h : IsIn I m c)
include h

theorem arr9 (i : Fin 4096) (j : Fin 1024) : ((dats m 0 c).arrAt 9 cfg0.N : Vec Ideal S4096x1024 .f32) (ix2 i j) = I.x3 i j := by
  have key : (dats m 0 c).arrAt 9 cfg0.N = (fun i => I.x3 (i 0) (i 1) : Vec Ideal S4096x1024 .f32) := by
    refine (dats m 0 c).arrAt_eq_of_covers 9 _ (by decide +kernel) fun t hf y => ?_
    blk_simp
    rw [after0_9]
    have hy := at_9 h t (y 0) (y 1)
    rw [← eq_ix2] at hy
    refine hy.trans ?_
    blk_simp [ix_9 t]
    rw [Nat.mul_comm t.val]
    rfl
  exact congrFun key (ix2 i j)

theorem arr10 (i : Fin 4096) (j : Fin 1024) : ((dats m 0 c).arrAt 10 cfg0.N : Vec Ideal S4096x1024 .f32) (ix2 i j) = I.dy i j := by
  have key : (dats m 0 c).arrAt 10 cfg0.N = (fun i => I.dy (i 0) (i 1) : Vec Ideal S4096x1024 .f32) := by
    refine (dats m 0 c).arrAt_eq_of_covers 10 _ (by decide +kernel) fun t hf y => ?_
    blk_simp
    rw [after0_10]
    have hy := at_10 h t (y 0) (y 1)
    rw [← eq_ix2] at hy
    refine hy.trans ?_
    blk_simp [ix_10 t]
    rw [Nat.mul_comm t.val]
    rfl
  exact congrFun key (ix2 i j)

theorem arr11 (i : Fin 4096) (j : Fin 2816) : ((dats m 0 c).arrAt 11 cfg0.N : Vec Ideal S4096x2816 .bf16) (ix2 i j) = I.G i j := by
  have key : (dats m 0 c).arrAt 11 cfg0.N = (fun i => I.G (i 0) (i 1) : Vec Ideal S4096x2816 .bf16) := by
    refine (dats m 0 c).arrAt_eq_of_covers 11 _ (by decide +kernel) fun t hf y => ?_
    blk_simp
    rw [after0_11]
    have hy := at_11 h t (y 0) (y 1)
    rw [← eq_ix2] at hy
    refine hy.trans ?_
    blk_simp [ix_11 t]
    rw [Nat.mul_comm t.val]
    rfl
  exact congrFun key (ix2 i j)

theorem arr12 (i : Fin 4096) (j : Fin 2816) : ((dats m 0 c).arrAt 12 cfg0.N : Vec Ideal S4096x2816 .bf16) (ix2 i j) = I.U i j := by
  have key : (dats m 0 c).arrAt 12 cfg0.N = (fun i => I.U (i 0) (i 1) : Vec Ideal S4096x2816 .bf16) := by
    refine (dats m 0 c).arrAt_eq_of_covers 12 _ (by decide +kernel) fun t hf y => ?_
    blk_simp
    rw [after0_12]
    have hy := at_12 h t (y 0) (y 1)
    rw [← eq_ix2] at hy
    refine hy.trans ?_
    blk_simp [ix_12 t]
    rw [Nat.mul_comm t.val]
    rfl
  exact congrFun key (ix2 i j)

theorem arr13 (i : Fin 8) (j : Fin 128) : ((dats m 0 c).arrAt 13 cfg0.N : Vec Ideal S8x128 .f32) (ix2 i j) = I.loss := by
  have key : (dats m 0 c).arrAt 13 cfg0.N = (fun _ => I.loss : Vec Ideal S8x128 .f32) := by
    refine (dats m 0 c).arrAt_eq_of_covers 13 _ (by decide +kernel) fun t hf y => ?_
    blk_simp
    rw [after0_13]
    have h15 := (flush0_13 t).1 hf
    have htl : t.val < 8 := t.isLt
    have ht : t.val = 7 := by omega
    have hy := at_13 h t.val t.isLt (y 0) (y 1)
    rw [← eq_ix2] at hy
    refine hy.trans ?_
    rw [ht, Finset.sum_range]
    rfl
  exact congrFun key (ix2 i j)

end Cert.Kernel3Ideal.Last

end
-- ==== Proof.Last.Ref.lean ====
/- The forward reference read at an index: the output product, the block, the loss and its gradient. -/
module

public import proofs.«01_k».proof.Proof.Last.Spec
public import proofs.«01_k».proof.Proof.Gen.Reference3Ideal.Read
public import Idealize.ShloMosaic.Lib.Pointwise

@[expose] public section

set_option maxHeartbeats 1000000
set_option maxRecDepth 16384

noncomputable section

namespace Cert.Reference3Ideal.Last

open Cert.Reference3Ideal Cert.Reference3Ideal.Read
open Idealize.ShloMosaic Idealize.ShloMosaic.Pointwise
open Cert.Spec (In3 ek ek2 esq einv ehid eproj eact emix eerr)

/-- The arguments hold the values `I`. -/
structure IsA (I : In3) (x0 : Vec Ideal S2x2048x1024 .f32) (x1 : Vec Ideal S2x2048x256 .f32) (x2 : Vec Ideal S2x2048x768 .f32) (x3 : Vec Ideal S1024x1024 .f32) (x4 : Vec Ideal S1024 .f32) (x5 : Vec Ideal S1024x2816 .f32) (x6 : Vec Ideal S1024x2816 .f32) (x7 : Vec Ideal S2816x1024 .f32) (x8 : Vec Ideal S2x2048x1024 .f32) : Prop where
  x : ∀ (a : Fin 2) (i : Fin 2048) (j : Fin 1024), x0 (ix3 a i j) = I.x (2048 * a + i) j
  c : ∀ (a : Fin 2) (i : Fin 2048) (j : Fin 256), x1 (ix3 a i j) = I.c (2048 * a + i) j
  d : ∀ (a : Fin 2) (i : Fin 2048) (j : Fin 768), x2 (ix3 a i j) = I.d (2048 * a + i) j
  wo : ∀ (i : Fin 1024) (j : Fin 1024), x3 (ix2 i j) = I.wo i j
  g : ∀ (j : Fin 1024), x4 (ix1 j) = I.g j
  wg : ∀ (i : Fin 1024) (j : Fin 2816), x5 (ix2 i j) = I.wg i j
  wu : ∀ (i : Fin 1024) (j : Fin 2816), x6 (ix2 i j) = I.wu i j
  wd : ∀ (i : Fin 2816) (j : Fin 1024), x7 (ix2 i j) = I.wd i j
  t : ∀ (a : Fin 2) (i : Fin 2048) (j : Fin 1024), x8 (ix3 a i j) = I.t (2048 * a + i) j

theorem c_0 : Ideal.ofBits .f32 0x00000000#32 = (0 : EReal) := by
  simp [Ideal.ofBits, Ideal.ieee, -EReal.coe_mul]
theorem c_1 : Ideal.ofBits .f32 0x3F800000#32 = (1 : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_h : Ideal.ofBits .f32 0x3F000000#32 = ((1 / 2 : ℝ) : EReal) := by
  simp [Ideal.ofBits, Ideal.ieee, -EReal.coe_mul]; norm_num
theorem c_n : Ideal.ofBits .f32 0x44800000#32 = ((1024 : ℝ) : EReal) := by
  simp [Ideal.ofBits, Ideal.ieee, -EReal.coe_mul]; norm_num
theorem ek_eq : ek = ((1 / 2048 : ℝ) : EReal) := by
  unfold ek
  simp [Ideal.ofBits, Ideal.ieee, -EReal.coe_mul]; norm_num
theorem ek2_eq : ek2 = ((1 / 1024 : ℝ) : EReal) := by
  unfold ek2
  simp [Ideal.ofBits, Ideal.ieee, -EReal.coe_mul]; norm_num

/-- Half the mean's derivative. -/
theorem grad_c (x : EReal) :
    Ideal.div (Ideal.ofBits .f32 0x3F000000#32) (Ideal.ofBits .f32 0x44800000#32) * (Ideal.ofBits .f32 0x40000000#32 * x) = x * ek2 := by
  rw [c_2, c_h, c_n, ek2_eq, Ideal.div_coe (by norm_num), ← mul_assoc, ← EReal.coe_mul, ← EReal.coe_mul, mul_comm]
  norm_num

/-- A real factor that is not negative goes through a sum. -/
theorem real_sum {ι : Type} (s : Finset ι) (k : ℝ) (hk : 0 ≤ k) (f : ι → EReal) : (k : EReal) * ∑ r ∈ s, f r = ∑ r ∈ s, (k : EReal) * f r := by
  classical
  induction s using Finset.induction_on with
  | empty => simp
  | insert a s ha ih => rw [Finset.sum_insert ha, Finset.sum_insert ha, EReal.left_distrib_of_nonneg_of_ne_top (by exact_mod_cast hk) (EReal.coe_ne_top _), ih]

/-- Half the sum of the rows' means. -/
theorem half_c {n : ℕ} (f : Fin n → EReal) :
    Ideal.ofBits .f32 0x3F000000#32 * ∑ r : Fin n, Ideal.div (f r) (Ideal.ofBits .f32 0x44800000#32) = ∑ r : Fin n, ek * f r := by
  rw [c_h, c_n, ek_eq, real_sum _ _ (by norm_num)]
  refine Finset.sum_congr rfl fun r _ => ?_
  rw [Ideal.div_coe (by norm_num), mul_comm (f r), ← mul_assoc, ← EReal.coe_mul]
  norm_num

/-- Both examples' rows, one after the other. -/
theorem rows_sum (f : ℕ → EReal) : ∑ a : Fin 2, ∑ i : Fin 2048, f (2048 * a + i) = ∑ r : Fin 4096, f r := by
  rw [Fin.sum_univ_two, Finset.sum_range (f := fun r => f r) (n := 4096) |>.symm, show 4096 = 2048 + 2048 from rfl, Finset.sum_range_add, Finset.sum_range, Finset.sum_range]
  simp

/-- The joined columns: the first mixer's, then the other's. -/
theorem split_sum (f : Fin 1024 → EReal) : ∑ k : Fin 1024, f k = (∑ k : Fin 256, f ⟨k, by omega⟩) + ∑ k : Fin 768, f ⟨256 + k, by omega⟩ :=
  Fin.sum_univ_add (a := 256) (b := 768) f

theorem v0_left (x1 : Vec Ideal S2x2048x256 .f32) (x2 : Vec Ideal S2x2048x768 .f32) (a : Fin 2) (i : Fin 2048) (k : Fin 256) :
    (val_main_v0 (F := Ideal) x1 x2 : Vec Ideal S2x2048x1024 .f32) (ix3 a i (⟨k, by omega⟩ : Fin 1024)) = x1 (ix3 a i k) := by
  unfold val_main_v0
  refine concatenate_pair_apply_left (t := S2x2048x1024) 2 x1 x2 _ _ rfl (ix3 a i k) fun b => ?_
  fin_cases b <;> rfl

theorem v0_right (x1 : Vec Ideal S2x2048x256 .f32) (x2 : Vec Ideal S2x2048x768 .f32) (a : Fin 2) (i : Fin 2048) (k : Fin 768) :
    (val_main_v0 (F := Ideal) x1 x2 : Vec Ideal S2x2048x1024 .f32) (ix3 a i (⟨256 + k, by omega⟩ : Fin 1024)) = x2 (ix3 a i k) := by
  unfold val_main_v0
  refine concatenate_pair_apply_right (t := S2x2048x1024) 2 x1 x2 _ _ rfl rfl (ix3 a i k) (fun b hb => ?_) ?_
  · fin_cases b
    · rfl
    · rfl
    · exact absurd rfl hb
  · exact Nat.add_comm _ _

variable {I : In3} {x0 : Vec Ideal S2x2048x1024 .f32} {x1 : Vec Ideal S2x2048x256 .f32} {x2 : Vec Ideal S2x2048x768 .f32} {x3 : Vec Ideal S1024x1024 .f32} {x4 : Vec Ideal S1024 .f32} {x5 : Vec Ideal S1024x2816 .f32} {x6 : Vec Ideal S1024x2816 .f32} {x7 : Vec Ideal S2816x1024 .f32} {x8 : Vec Ideal S2x2048x1024 .f32}
variable (hA : IsA I x0 x1 x2 x3 x4 x5 x6 x7 x8)
include hA

theorem r_v2 (a : Fin 2) (i : Fin 2048) (j : Fin 1024) : (val_main_v2 (F := Ideal) x0 x1 x2 x3 : Vec Ideal S2x2048x1024 .f32) (ix3 a i j) = I.x3 (2048 * a + i) j := by
  have hl : ∀ k : Fin 1024, lidx_main_v1 (ix3 a i j) k = ix3 a i k := fun k => by
    funext b; fin_cases b <;> rfl
  have hr : ∀ k : Fin 1024, ridx_main_v1 (ix3 a i j) k = ix2 k j := fun k => by
    funext b; fin_cases b <;> rfl
  rw [val_main_v2_apply, val_main_v1_apply, split_sum]
  simp only [hl, hr, v0_left, v0_right, hA.x, hA.c, hA.d, hA.wo]
  exact (add_assoc _ _ _).symm

theorem r_v10 (a : Fin 2) (i : Fin 2048) (j : Fin 1) : (val_main_v10 (F := Ideal) x0 x1 x2 x3 : Vec Ideal S2x2048x1 .f32) (ix3 a i j) = einv I.x3 (2048 * a + i) := by
  unfold val_main_v10 val_main_v9 val_main_v7 val_main_v5 val_main_v4 val_main_v3 val_main_cst val_main_v6 val_main_cst_0 val_main_v8 val_main_cst_1
  pointwise
  try simp only [r_v2 hA, hA.x, hA.c, hA.d, hA.wo, c_0, c_1, zero_add, Nat.div_add_mod]
  all_goals rfl

theorem r_v15 (a : Fin 2) (i : Fin 2048) (j : Fin 1024) : (val_main_v15 (F := Ideal) x0 x1 x2 x3 x4 : Vec Ideal S2x2048x1024 .f32) (ix3 a i j) = I.h (2048 * a + i) j := by
  unfold val_main_v15 val_main_v12 val_main_v11 val_main_v14 val_main_v13
  pointwise
  try simp only [r_v2 hA, r_v10 hA, hA.x, hA.c, hA.d, hA.wo, hA.g, c_0, c_1, zero_add, Nat.div_add_mod]
  all_goals rfl

theorem r_v16 (a : Fin 2) (i : Fin 2048) (j : Fin 2816) : (val_main_v16 (F := Ideal) x0 x1 x2 x3 x4 x5 : Vec Ideal S2x2048x2816 .f32) (ix3 a i j) = I.G (2048 * a + i) j := by
  unfold val_main_v16
  pointwise
  try simp only [r_v15 hA, hA.x, hA.c, hA.d, hA.wo, hA.g, hA.wg, c_0, c_1, zero_add, Nat.div_add_mod]
  all_goals rfl

theorem r_v17 (a : Fin 2) (i : Fin 2048) (j : Fin 2816) : (val_main_v17 (F := Ideal) x0 x1 x2 x3 x4 x6 : Vec Ideal S2x2048x2816 .f32) (ix3 a i j) = I.U (2048 * a + i) j := by
  unfold val_main_v17
  pointwise
  try simp only [r_v15 hA, hA.x, hA.c, hA.d, hA.wo, hA.g, hA.wu, c_0, c_1, zero_add, Nat.div_add_mod]
  all_goals rfl

theorem r_v19 (a : Fin 2) (i : Fin 2048) (j : Fin 2816) : (val_main_v19 (F := Ideal) x0 x1 x2 x3 x4 x5 x6 : Vec Ideal S2x2048x2816 .f32) (ix3 a i j) = eact I.G I.U (2048 * a + i) j := by
  unfold val_main_v19 val_main_v18 val_main_call0_v5 val_main_call0_v4 val_main_call0_cst_0 val_main_call0_v3 val_main_call0_v2 val_main_call0_cst val_main_call0_v1 val_main_call0_v0
  pointwise
  try simp only [r_v16 hA, r_v17 hA, hA.x, hA.c, hA.d, hA.wo, hA.g, hA.wg, hA.wu, c_0, c_1, zero_add, Nat.div_add_mod]
  all_goals rfl

theorem r_v22 (a : Fin 2) (i : Fin 2048) (j : Fin 1024) : (val_main_v22 (F := Ideal) x0 x1 x2 x3 x4 x5 x6 x7 x8 : Vec Ideal S2x2048x1024 .f32) (ix3 a i j) = I.e (2048 * a + i) j := by
  unfold val_main_v22 val_main_v21 val_main_v20
  pointwise
  try simp only [r_v2 hA, r_v19 hA, hA.x, hA.c, hA.d, hA.wo, hA.g, hA.wg, hA.wu, hA.wd, hA.t, c_0, c_1, zero_add, Nat.div_add_mod]
  all_goals rfl

theorem r_v28 (a : Fin 2) (i : Fin 2048) : (val_main_v28 (F := Ideal) x0 x1 x2 x3 x4 x5 x6 x7 x8 : Vec Ideal S2x2048 .f32) (ix2 a i) = Ideal.div (esq I.e (2048 * a + i)) (Ideal.ofBits .f32 0x44800000#32) := by
  unfold val_main_v28 val_main_v26 val_main_v23 val_main_cst_3 val_main_v27 val_main_cst_4
  pointwise
  try simp only [r_v22 hA, hA.x, hA.c, hA.d, hA.wo, hA.g, hA.wg, hA.wu, hA.wd, hA.t, c_0, c_1, zero_add, Nat.div_add_mod]
  all_goals rfl

theorem r_v36 (a : Fin 2) (i : Fin 2048) (j : Fin 1024) : (val_main_v36 (F := Ideal) x0 x1 x2 x3 x4 x5 x6 x7 x8 : Vec Ideal S2x2048x1024 .f32) (ix3 a i j) = I.dy (2048 * a + i) j := by
  unfold val_main_v36 val_main_v35 val_main_v34 val_main_v32 val_main_v31 val_main_cst_7 val_main_cst_8 val_main_v33 val_main_cst_9 val_main_v25 val_main_v24 val_main_cst_2
  pointwise
  try simp only [r_v22 hA, hA.x, hA.c, hA.d, hA.wo, hA.g, hA.wg, hA.wu, hA.wd, hA.t, c_0, c_1, zero_add, Nat.div_add_mod]
  exact grad_c _

theorem r_v37 (i : Fin 4096) (j : Fin 1024) : (val_main_v37 (F := Ideal) x0 x1 x2 x3 : Vec Ideal S4096x1024 .f32) (ix2 i j) = I.x3 i j := by
  unfold val_main_v37
  pointwise
  try simp only [r_v2 hA, hA.x, hA.c, hA.d, hA.wo, c_0, c_1, zero_add, Nat.div_add_mod]
  all_goals rfl

theorem r_v38 (i : Fin 4096) (j : Fin 1024) : (val_main_v38 (F := Ideal) x0 x1 x2 x3 x4 x5 x6 x7 x8 : Vec Ideal S4096x1024 .f32) (ix2 i j) = I.dy i j := by
  unfold val_main_v38
  pointwise
  try simp only [r_v36 hA, hA.x, hA.c, hA.d, hA.wo, hA.g, hA.wg, hA.wu, hA.wd, hA.t, c_0, c_1, zero_add, Nat.div_add_mod]
  all_goals rfl

theorem r_v40 (i : Fin 4096) (j : Fin 2816) : (val_main_v40 (F := Ideal) x0 x1 x2 x3 x4 x5 : Vec Ideal S4096x2816 .bf16) (ix2 i j) = I.G i j := by
  unfold val_main_v40 val_main_v39
  pointwise
  try simp only [r_v16 hA, hA.x, hA.c, hA.d, hA.wo, hA.g, hA.wg, c_0, c_1, zero_add, Nat.div_add_mod]
  all_goals rfl

theorem r_v42 (i : Fin 4096) (j : Fin 2816) : (val_main_v42 (F := Ideal) x0 x1 x2 x3 x4 x6 : Vec Ideal S4096x2816 .bf16) (ix2 i j) = I.U i j := by
  unfold val_main_v42 val_main_v41
  pointwise
  try simp only [r_v17 hA, hA.x, hA.c, hA.d, hA.wo, hA.g, hA.wu, c_0, c_1, zero_add, Nat.div_add_mod]
  all_goals rfl

theorem r_v43 (i : Fin 8) (j : Fin 128) : (val_main_v43 (F := Ideal) x0 x1 x2 x3 x4 x5 x6 x7 x8 : Vec Ideal S8x128 .f32) (ix2 i j) = I.loss := by
  rw [val_main_v43_apply, val_main_v30_apply, val_main_v29_apply, sum_idx2]
  simp only [r_v28 hA]
  rw [rows_sum (fun r => Ideal.div (esq I.e r) (Ideal.ofBits .f32 0x44800000#32))]
  refine (congrArg (fun z => Ideal.ofBits .f32 0x3F000000#32 * (z + _)) c_0).trans ?_
  rw [zero_add]
  exact half_c _

end Cert.Reference3Ideal.Last

end
-- ==== Proof.Last.Same.lean ====
/- The forward reference's five results and the kernel's five arrays are the same arrays. -/
module

public import proofs.«01_k».proof.Proof.Last.Arrays
public import proofs.«01_k».proof.Proof.Even.Finite
public import proofs.«01_k».proof.Proof.Last.Ref

@[expose] public section

set_option maxRecDepth 16384
set_option maxHeartbeats 1000000

noncomputable section

namespace Cert.Reference3Ideal.Last

open Idealize.ShloMosaic Idealize.ShloMosaic.Pointwise
open Cert.Pre_finite (ofNat_val row_hi row_lo)
open Cert.Spec (In3)

/-- The values the arguments hold, the examples' rows one after the other. -/
def inOf (x0 : Vec Ideal S2x2048x1024 .f32) (x1 : Vec Ideal S2x2048x256 .f32) (x2 : Vec Ideal S2x2048x768 .f32) (x3 : Vec Ideal S1024x1024 .f32) (x4 : Vec Ideal S1024 .f32) (x5 : Vec Ideal S1024x2816 .f32) (x6 : Vec Ideal S1024x2816 .f32) (x7 : Vec Ideal S2816x1024 .f32) (x8 : Vec Ideal S2x2048x1024 .f32) : In3 where
  x r j := x0 (ix3 (Fin.ofNat 2 (r / 2048)) (Fin.ofNat 2048 r) (Fin.ofNat 1024 j))
  c r j := x1 (ix3 (Fin.ofNat 2 (r / 2048)) (Fin.ofNat 2048 r) (Fin.ofNat 256 j))
  d r j := x2 (ix3 (Fin.ofNat 2 (r / 2048)) (Fin.ofNat 2048 r) (Fin.ofNat 768 j))
  wo i j := x3 (ix2 (Fin.ofNat 1024 i) (Fin.ofNat 1024 j))
  g j := x4 (ix1 (Fin.ofNat 1024 j))
  wg i j := x5 (ix2 (Fin.ofNat 1024 i) (Fin.ofNat 2816 j))
  wu i j := x6 (ix2 (Fin.ofNat 1024 i) (Fin.ofNat 2816 j))
  wd i j := x7 (ix2 (Fin.ofNat 2816 i) (Fin.ofNat 1024 j))
  t r j := x8 (ix3 (Fin.ofNat 2 (r / 2048)) (Fin.ofNat 2048 r) (Fin.ofNat 1024 j))

/-- Any arguments are the arrays `inOf`. -/
theorem isA (x0 : Vec Ideal S2x2048x1024 .f32) (x1 : Vec Ideal S2x2048x256 .f32) (x2 : Vec Ideal S2x2048x768 .f32) (x3 : Vec Ideal S1024x1024 .f32) (x4 : Vec Ideal S1024 .f32) (x5 : Vec Ideal S1024x2816 .f32) (x6 : Vec Ideal S1024x2816 .f32) (x7 : Vec Ideal S2816x1024 .f32) (x8 : Vec Ideal S2x2048x1024 .f32) : IsA (inOf x0 x1 x2 x3 x4 x5 x6 x7 x8) x0 x1 x2 x3 x4 x5 x6 x7 x8 := by
  refine ⟨?_, ?_, ?_, ?_, ?_, ?_, ?_, ?_, ?_⟩
  · intro a i j
    simp only [inOf, row_hi, row_lo, ofNat_val]
  · intro a i j
    simp only [inOf, row_hi, row_lo, ofNat_val]
  · intro a i j
    simp only [inOf, row_hi, row_lo, ofNat_val]
  · intro i j
    simp only [inOf, ofNat_val]
  · intro j
    simp only [inOf, ofNat_val]
  · intro i j
    simp only [inOf, ofNat_val]
  · intro i j
    simp only [inOf, ofNat_val]
  · intro i j
    simp only [inOf, ofNat_val]
  · intro a i j
    simp only [inOf, row_hi, row_lo, ofNat_val]

/-- Equal arrays hold the same values. -/
theorem IsA.congr {I : In3} {x0 y0 : Vec Ideal S2x2048x1024 .f32} {x1 y1 : Vec Ideal S2x2048x256 .f32} {x2 y2 : Vec Ideal S2x2048x768 .f32} {x3 y3 : Vec Ideal S1024x1024 .f32} {x4 y4 : Vec Ideal S1024 .f32} {x5 y5 : Vec Ideal S1024x2816 .f32} {x6 y6 : Vec Ideal S1024x2816 .f32} {x7 y7 : Vec Ideal S2816x1024 .f32} {x8 y8 : Vec Ideal S2x2048x1024 .f32}
    (h : IsA I x0 x1 x2 x3 x4 x5 x6 x7 x8) (e0 : y0 = x0) (e1 : y1 = x1) (e2 : y2 = x2) (e3 : y3 = x3) (e4 : y4 = x4) (e5 : y5 = x5) (e6 : y6 = x6) (e7 : y7 = x7) (e8 : y8 = x8) : IsA I y0 y1 y2 y3 y4 y5 y6 y7 y8 := by
  subst e0 e1 e2 e3 e4 e5 e6 e7 e8
  exact h

end Cert.Reference3Ideal.Last

namespace Cert.Kernel3Ideal.Last

open Cert.Kernel3Ideal.Gen
open Idealize.ShloMosaic Idealize.ShloMosaic.TcCoe Idealize.ShloMosaic.Pointwise
open Idealize.SL.Sem
open Cert.Spec (In3)

variable {I : In3} {m : (ℓ : Loc nD τ sig) → Buf (Elt Ideal) ℓ} {c : Dev nD} (h : IsIn I m c)
  {x0 : Vec Ideal S2x2048x1024 .f32} {x1 : Vec Ideal S2x2048x256 .f32} {x2 : Vec Ideal S2x2048x768 .f32} {x3 : Vec Ideal S1024x1024 .f32} {x4 : Vec Ideal S1024 .f32} {x5 : Vec Ideal S1024x2816 .f32} {x6 : Vec Ideal S1024x2816 .f32} {x7 : Vec Ideal S2816x1024 .f32} {x8 : Vec Ideal S2x2048x1024 .f32}
  (hA : Cert.Reference3Ideal.Last.IsA I x0 x1 x2 x3 x4 x5 x6 x7 x8)
include h hA

theorem same9 : (Cert.Reference3Ideal.Read.val_main_v37 (F := Ideal) x0 x1 x2 x3 : Vec Ideal S4096x1024 .f32) = ((dats m 0 c).arrAt 9 cfg0.N : Vec Ideal S4096x1024 .f32) := by
  funext p
  rw [eq_ix2 p]
  exact (Cert.Reference3Ideal.Last.r_v37 hA (p 0) (p 1)).trans (arr9 h (p 0) (p 1)).symm

theorem same10 : (Cert.Reference3Ideal.Read.val_main_v38 (F := Ideal) x0 x1 x2 x3 x4 x5 x6 x7 x8 : Vec Ideal S4096x1024 .f32) = ((dats m 0 c).arrAt 10 cfg0.N : Vec Ideal S4096x1024 .f32) := by
  funext p
  rw [eq_ix2 p]
  exact (Cert.Reference3Ideal.Last.r_v38 hA (p 0) (p 1)).trans (arr10 h (p 0) (p 1)).symm

theorem same11 : (Cert.Reference3Ideal.Read.val_main_v40 (F := Ideal) x0 x1 x2 x3 x4 x5 : Vec Ideal S4096x2816 .bf16) = ((dats m 0 c).arrAt 11 cfg0.N : Vec Ideal S4096x2816 .bf16) := by
  funext p
  rw [eq_ix2 p]
  exact (Cert.Reference3Ideal.Last.r_v40 hA (p 0) (p 1)).trans (arr11 h (p 0) (p 1)).symm

theorem same12 : (Cert.Reference3Ideal.Read.val_main_v42 (F := Ideal) x0 x1 x2 x3 x4 x6 : Vec Ideal S4096x2816 .bf16) = ((dats m 0 c).arrAt 12 cfg0.N : Vec Ideal S4096x2816 .bf16) := by
  funext p
  rw [eq_ix2 p]
  exact (Cert.Reference3Ideal.Last.r_v42 hA (p 0) (p 1)).trans (arr12 h (p 0) (p 1)).symm

theorem same13 : (Cert.Reference3Ideal.Read.val_main_v43 (F := Ideal) x0 x1 x2 x3 x4 x5 x6 x7 x8 : Vec Ideal S8x128 .f32) = ((dats m 0 c).arrAt 13 cfg0.N : Vec Ideal S8x128 .f32) := by
  funext p
  rw [eq_ix2 p]
  exact (Cert.Reference3Ideal.Last.r_v43 hA (p 0) (p 1)).trans (arr13 h (p 0) (p 1)).symm

end Cert.Kernel3Ideal.Last

end
-- ==== Proof.Step.Spec.lean ====
/- The optimiser's step at one element. -/
module

public import Idealize.ShloMosaic.Lib.Pointwise
public import Idealize.ShloMosaic.Lib.Claim

@[expose] public section

noncomputable section

namespace Cert.Step

open Idealize.ShloMosaic

/-- The first moment after the step: nine tenths of the old one and a tenth of the gradient. -/
abbrev fst (g m : Ideal .f32) : Ideal .f32 :=
  FloatOps.addf (FloatOps.mulf (Scalar.ofBits .f32 0x3F666666#32) m) (FloatOps.mulf (Scalar.ofBits .f32 0x3DCCCCCD#32) g)

/-- The second moment after the step. -/
abbrev snd (g v : Ideal .f32) : Ideal .f32 :=
  FloatOps.addf (FloatOps.mulf (Scalar.ofBits .f32 0x3F7FBE77#32) v) (FloatOps.mulf (Scalar.ofBits .f32 0x3A83126F#32) (FloatOps.mulf g g))

/-- The step of the weight: minus the rate times the quotient of the moments and the decay. -/
abbrev dlt (w g m v : Ideal .f32) : Ideal .f32 :=
  FloatOps.mulf (Scalar.ofBits .f32 0xBA83126F#32)
    (FloatOps.addf (FloatOps.divf (FloatOps.divf (fst g m) (Scalar.ofBits .f32 0x3F26BD02#32))
        (FloatOps.addf (FloatOps.sqrt (FloatOps.divf (snd g v) (Scalar.ofBits .f32 0x3C231ACC#32))) (Scalar.ofBits .f32 0x322BCC77#32)))
      (FloatOps.mulf (Scalar.ofBits .f32 0x3C23D70A#32) w))

end Cert.Step

end
-- ==== Proof.Step.Even.lean ====
/- The optimiser's step for the even layer's projections: the kernel's arrays are the reference's. -/
module

public import proofs.«01_k».proof.Proof.Step.Spec
public import proofs.«01_k».proof.Proof.Gen.Kernel12Ideal.Value
public import proofs.«01_k».proof.Proof.Gen.Reference12Ideal.Read
public import Idealize.ShloMosaic.Lib.Pipeline.ReadBack
public import Idealize.ShloMosaic.Lib.Pipeline.ValueKit.Acc
public import Idealize.ShloMosaic.Lib.Pipeline.ValueKit.Point
public import Idealize.ShloMosaic.Lib.Pipeline.ValueKit.Geometry

@[expose] public section

set_option maxHeartbeats 1000000
set_option maxRecDepth 16384

noncomputable section

namespace Cert.Kernel12Ideal.Step

open Cert.Kernel12Ideal.Gen
open Idealize.ShloMosaic Idealize.ShloMosaic.TcCoe Idealize.ShloMosaic.Tactic Idealize.ShloMosaic.Pointwise
open Idealize.SL.Sem
open Cert.Step

/-- A device's own gradient and the three received ones, added in the kernel's order. -/
def grd {r : ℕ} {n : ℕ} (p : Vec Ideal ⟨3, ![n + 1, r, 1024]⟩ .bf16) (b : Vec Ideal ⟨3, ![3, r, 1024]⟩ .bf16) (i : Fin r) (j : Fin 1024) : Ideal .f32 :=
  ((p (ix3 0 i j) + b (ix3 0 i j)) + b (ix3 1 i j)) + b (ix3 2 i j)

section
variable (x0 x6 x8 : Vec Ideal S160x1024 .f32) (x1 x7 x9 : Vec Ideal S64x1024 .f32) (x2 : Vec Ideal S1x160x1024 .bf16) (x3 : Vec Ideal S1x64x1024 .bf16)
  (x4 : Vec Ideal S3x160x1024 .bf16) (x5 : Vec Ideal S3x64x1024 .bf16)

/-- What the body leaves in its eight blocks, element by element. -/
theorem outs : (∀ y : S160x1024.Idx, out0_10 x0 x1 x2 x3 x4 x5 x6 x7 x8 x9 y = grd x2 x4 (y 0) (y 1)) ∧
    (∀ y : S64x1024.Idx, out0_11 x0 x1 x2 x3 x4 x5 x6 x7 x8 x9 y = grd x3 x5 (y 0) (y 1)) ∧
    (∀ y : S160x1024.Idx, out0_12 x0 x1 x2 x3 x4 x5 x6 x7 x8 x9 y = dlt (x0 y) (grd x2 x4 (y 0) (y 1)) (x6 y) (x8 y)) ∧
    (∀ y : S64x1024.Idx, out0_13 x0 x1 x2 x3 x4 x5 x6 x7 x8 x9 y = dlt (x1 y) (grd x3 x5 (y 0) (y 1)) (x7 y) (x9 y)) ∧
    (∀ y : S160x1024.Idx, out0_14 x0 x1 x2 x3 x4 x5 x6 x7 x8 x9 y = fst (grd x2 x4 (y 0) (y 1)) (x6 y)) ∧
    (∀ y : S64x1024.Idx, out0_15 x0 x1 x2 x3 x4 x5 x6 x7 x8 x9 y = fst (grd x3 x5 (y 0) (y 1)) (x7 y)) ∧
    (∀ y : S160x1024.Idx, out0_16 x0 x1 x2 x3 x4 x5 x6 x7 x8 x9 y = snd (grd x2 x4 (y 0) (y 1)) (x8 y)) ∧
    (∀ y : S64x1024.Idx, out0_17 x0 x1 x2 x3 x4 x5 x6 x7 x8 x9 y = snd (grd x3 x5 (y 0) (y 1)) (x9 y)) := by
  refine ⟨?_, ?_, ?_, ?_, ?_, ?_, ?_, ?_⟩ <;>
  · intro y
    obtain ⟨i, j, rfl⟩ : ∃ i j, y = ix2 i j := ⟨y 0, y 1, eq_ix2 y⟩
    simp only [out0_10, out0_11, out0_12, out0_13, out0_14, out0_15, out0_16, out0_17, k0_pay15, k0_pay16, k0_pay17, k0_pay18, k0_pay19, k0_pay20]
    frame_out
    simp only [k0_pay1, k0_pay2, k0_pay3, k0_pay4, k0_pay5, k0_pay6, k0_pay7, k0_pay8, k0_pay9, k0_pay10, k0_pay11, k0_pay12, k0_pay13, k0_pay14]
    pointwise
    rfl
end

variable (m : (ℓ : Loc nD τ sig) → Buf (Elt Ideal) ℓ) (c : Dev nD)

/-- Which block each window holds. -/
theorem ixs : ∀ t : Fin cfg0.N, win0_2.index t = ![0, t.val, 0] ∧ win0_3.index t = ![0, t.val, 0] ∧ win0_4.index t = ![0, t.val, 0] ∧ win0_5.index t = ![0, t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

/-- The partial gradients' blocks are rows of their arrays. -/
theorem blks (t : Fin cfg0.N) (k : Fin 3) (j : Fin 1024) :
    (∀ (i : Fin 160) (h : 160 * t.val + i < 320), (iblk m c 2 t : Vec Ideal S1x160x1024 .bf16) (ix3 0 i j) = (V m c main_v9 : Vec Ideal S4x320x1024 .bf16) (ix3 0 ⟨160 * t.val + i, h⟩ j)) ∧
    (∀ (i : Fin 64) (h : 64 * t.val + i < 128), (iblk m c 3 t : Vec Ideal S1x64x1024 .bf16) (ix3 0 i j) = (V m c main_v10 : Vec Ideal S4x128x1024 .bf16) (ix3 0 ⟨64 * t.val + i, h⟩ j)) ∧
    (∀ (i : Fin 160) (h : 160 * t.val + i < 320), (iblk m c 4 t : Vec Ideal S3x160x1024 .bf16) (ix3 k i j) = (V m c main_v11 : Vec Ideal S3x320x1024 .bf16) (ix3 k ⟨160 * t.val + i, h⟩ j)) ∧
    (∀ (i : Fin 64) (h : 64 * t.val + i < 128), (iblk m c 5 t : Vec Ideal S3x64x1024 .bf16) (ix3 k i j) = (V m c main_v12 : Vec Ideal S3x128x1024 .bf16) (ix3 k ⟨64 * t.val + i, h⟩ j)) := by
  refine ⟨?_, ?_, ?_, ?_⟩ <;>
  · intro i h
    blk_ext! [iblk, ixs t]

/-- The summed gradients of a block are rows of the summed gradients. -/
theorem grds (t : Fin cfg0.N) (j q : Fin 1024) (hq : q.val = j.val) :
    (∀ (i : Fin 160) (p : Fin 320), p.val = 160 * t.val + i.val → grd (iblk m c 2 t : Vec Ideal S1x160x1024 .bf16) (iblk m c 4 t : Vec Ideal S3x160x1024 .bf16) i j
      = grd (V m c main_v9 : Vec Ideal S4x320x1024 .bf16) (V m c main_v11 : Vec Ideal S3x320x1024 .bf16) p q) ∧
    (∀ (i : Fin 64) (p : Fin 128), p.val = 64 * t.val + i.val → grd (iblk m c 3 t : Vec Ideal S1x64x1024 .bf16) (iblk m c 5 t : Vec Ideal S3x64x1024 .bf16) i j
      = grd (V m c main_v10 : Vec Ideal S4x128x1024 .bf16) (V m c main_v12 : Vec Ideal S3x128x1024 .bf16) p q) := by
  obtain rfl : q = j := Fin.ext hq
  have hb := fun k => blks m c t k q
  refine ⟨fun i p hp => ?_, fun i p hp => ?_⟩
  · have h : 160 * t.val + i.val < 320 := hp ▸ p.isLt
    obtain rfl : p = ⟨160 * t.val + i.val, h⟩ := Fin.ext hp
    simp only [grd, (hb 0).1 i h, (hb _).2.2.1 i h]
  · have h : 64 * t.val + i.val < 128 := hp ▸ p.isLt
    obtain rfl : p = ⟨64 * t.val + i.val, h⟩ := Fin.ext hp
    simp only [grd, (hb 0).2.1 i h, (hb _).2.2.2 i h]

/-- Equal values give equal steps. -/
theorem dlt_eq {w w' g g' a a' b b' : Ideal .f32} (hw : w = w') (hg : g = g') (ha : a = a') (hb : b = b') : dlt w g a b = dlt w' g' a' b' := by
  subst hw hg ha hb
  rfl

/-- The kernel's arrays as functions of its windows' arrays. -/
theorem arrs :
    ((dats m 0 c).arrAt 10 cfg0.N : Vec Ideal S320x1024 .f32) = (fun i => grd (V m c main_v9 : Vec Ideal S4x320x1024 .bf16) (V m c main_v11 : Vec Ideal S3x320x1024 .bf16) (i 0) (i 1)) ∧
    ((dats m 0 c).arrAt 11 cfg0.N : Vec Ideal S128x1024 .f32) = (fun i => grd (V m c main_v10 : Vec Ideal S4x128x1024 .bf16) (V m c main_v12 : Vec Ideal S3x128x1024 .bf16) (i 0) (i 1)) ∧
    ((dats m 0 c).arrAt 12 cfg0.N : Vec Ideal S320x1024 .f32) = (fun i => dlt ((V m c main_v1 : Vec Ideal S320x1024 .f32) i) (grd (V m c main_v9 : Vec Ideal S4x320x1024 .bf16) (V m c main_v11 : Vec Ideal S3x320x1024 .bf16) (i 0) (i 1)) ((V m c main_v4 : Vec Ideal S320x1024 .f32) i) ((V m c main_v7 : Vec Ideal S320x1024 .f32) i)) ∧
    ((dats m 0 c).arrAt 13 cfg0.N : Vec Ideal S128x1024 .f32) = (fun i => dlt ((V m c main_v2 : Vec Ideal S128x1024 .f32) i) (grd (V m c main_v10 : Vec Ideal S4x128x1024 .bf16) (V m c main_v12 : Vec Ideal S3x128x1024 .bf16) (i 0) (i 1)) ((V m c main_v5 : Vec Ideal S128x1024 .f32) i) ((V m c main_v8 : Vec Ideal S128x1024 .f32) i)) ∧
    ((dats m 0 c).arrAt 14 cfg0.N : Vec Ideal S320x1024 .f32) = (fun i => fst (grd (V m c main_v9 : Vec Ideal S4x320x1024 .bf16) (V m c main_v11 : Vec Ideal S3x320x1024 .bf16) (i 0) (i 1)) ((V m c main_v4 : Vec Ideal S320x1024 .f32) i)) ∧
    ((dats m 0 c).arrAt 15 cfg0.N : Vec Ideal S128x1024 .f32) = (fun i => fst (grd (V m c main_v10 : Vec Ideal S4x128x1024 .bf16) (V m c main_v12 : Vec Ideal S3x128x1024 .bf16) (i 0) (i 1)) ((V m c main_v5 : Vec Ideal S128x1024 .f32) i)) ∧
    ((dats m 0 c).arrAt 16 cfg0.N : Vec Ideal S320x1024 .f32) = (fun i => snd (grd (V m c main_v9 : Vec Ideal S4x320x1024 .bf16) (V m c main_v11 : Vec Ideal S3x320x1024 .bf16) (i 0) (i 1)) ((V m c main_v7 : Vec Ideal S320x1024 .f32) i)) ∧
    ((dats m 0 c).arrAt 17 cfg0.N : Vec Ideal S128x1024 .f32) = (fun i => snd (grd (V m c main_v10 : Vec Ideal S4x128x1024 .bf16) (V m c main_v12 : Vec Ideal S3x128x1024 .bf16) (i 0) (i 1)) ((V m c main_v8 : Vec Ideal S128x1024 .f32) i)) := by
  refine ⟨(dats m 0 c).arrAt_eq_of_covers 10 _ (by decide +kernel) fun t hf y => ?_,
    (dats m 0 c).arrAt_eq_of_covers 11 _ (by decide +kernel) fun t hf y => ?_,
    (dats m 0 c).arrAt_eq_of_covers 12 _ (by decide +kernel) fun t hf y => ?_,
    (dats m 0 c).arrAt_eq_of_covers 13 _ (by decide +kernel) fun t hf y => ?_,
    (dats m 0 c).arrAt_eq_of_covers 14 _ (by decide +kernel) fun t hf y => ?_,
    (dats m 0 c).arrAt_eq_of_covers 15 _ (by decide +kernel) fun t hf y => ?_,
    (dats m 0 c).arrAt_eq_of_covers 16 _ (by decide +kernel) fun t hf y => ?_,
    (dats m 0 c).arrAt_eq_of_covers 17 _ (by decide +kernel) fun t hf y => ?_⟩ <;>
    (blk_simp; simp only [after0_10, after0_11, after0_12, after0_13, after0_14, after0_15, after0_16, after0_17, outs])
  · exact ((grds m c t _ _ (by blk_simp [ixs t])).1 _ _ (by blk_simp [ixs t]; omega))
  · exact ((grds m c t _ _ (by blk_simp [ixs t])).2 _ _ (by blk_simp [ixs t]; omega))
  · exact dlt_eq rfl ((grds m c t _ _ (by blk_simp [ixs t])).1 _ _ (by blk_simp [ixs t]; omega)) rfl rfl
  · exact dlt_eq rfl ((grds m c t _ _ (by blk_simp [ixs t])).2 _ _ (by blk_simp [ixs t]; omega)) rfl rfl
  · exact congrArg₂ fst ((grds m c t _ _ (by blk_simp [ixs t])).1 _ _ (by blk_simp [ixs t]; omega)) rfl
  · exact congrArg₂ fst ((grds m c t _ _ (by blk_simp [ixs t])).2 _ _ (by blk_simp [ixs t]; omega)) rfl
  · exact congrArg₂ snd ((grds m c t _ _ (by blk_simp [ixs t])).1 _ _ (by blk_simp [ixs t]; omega)) rfl
  · exact congrArg₂ snd ((grds m c t _ _ (by blk_simp [ixs t])).2 _ _ (by blk_simp [ixs t]; omega)) rfl

/-- Four terms added one by one, or the last three first. -/
theorem add_four (a b c d : EReal) : a + b + c + d = a + (b + c + d) := by
  simp only [add_assoc]

open Cert.Reference12Ideal.Read in
/-- The reference's sums of the gradients are the kernel's. -/
theorem sums {x2 : Vec Ideal S4x320x1024 .f32} {x3 : Vec Ideal S4x128x1024 .f32} {x4 : Vec Ideal S3x320x1024 .f32} {x5 : Vec Ideal S3x128x1024 .f32}
    (h2 : x2 = m ((c : Thread nD τ).loc main_arg2)) (h3 : x3 = m ((c : Thread nD τ).loc main_arg3)) (h4 : x4 = m ((c : Thread nD τ).loc main_arg4)) (h5 : x5 = m ((c : Thread nD τ).loc main_arg5)) :
    (∀ i : S320x1024.Idx, grd (V m c main_v9 : Vec Ideal S4x320x1024 .bf16) (V m c main_v11 : Vec Ideal S3x320x1024 .bf16) (i 0) (i 1) = (val_main_v3 (F := Ideal) x2 x4 : Vec Ideal S320x1024 .f32) i) ∧
    (∀ i : S128x1024.Idx, grd (V m c main_v10 : Vec Ideal S4x128x1024 .bf16) (V m c main_v12 : Vec Ideal S3x128x1024 .bf16) (i 0) (i 1) = (val_main_v7 (F := Ideal) x3 x5 : Vec Ideal S128x1024 .f32) i) := by
  subst h2 h3 h4 h5
  refine ⟨?_, ?_⟩ <;>
  · intro y
    obtain ⟨i, j, rfl⟩ : ∃ i j, y = ix2 i j := ⟨y 0, y 1, eq_ix2 y⟩
    simp only [V, hostOps0, List.flatten_cons, List.flatten_nil, List.append_nil, List.cons_append, List.nil_append]
    after_results
    simp only [val_main_cst, val_main_cst_0, val_main_v0, val_main_v1, val_main_v2, val_main_v3, val_main_v4, val_main_v5, val_main_v6, val_main_v7]
    pointwise
    simp only [Fin.sum_univ_three, grd]
    exact add_four _ _ _ _

/-- The reference's results are the kernel's arrays. -/
theorem same {x0 x6 x8 : Vec Ideal S1x1024x320 .f32} {x1 x7 x9 : Vec Ideal S1x128x1024 .f32}
    {x2 : Vec Ideal S4x320x1024 .f32} {x3 : Vec Ideal S4x128x1024 .f32} {x4 : Vec Ideal S3x320x1024 .f32} {x5 : Vec Ideal S3x128x1024 .f32}
    (h0 : x0 = m ((c : Thread nD τ).loc main_arg0))
    (h1 : x1 = m ((c : Thread nD τ).loc main_arg1))
    (h2 : x2 = m ((c : Thread nD τ).loc main_arg2))
    (h3 : x3 = m ((c : Thread nD τ).loc main_arg3))
    (h4 : x4 = m ((c : Thread nD τ).loc main_arg4))
    (h5 : x5 = m ((c : Thread nD τ).loc main_arg5))
    (h6 : x6 = m ((c : Thread nD τ).loc main_arg6))
    (h7 : x7 = m ((c : Thread nD τ).loc main_arg7))
    (h8 : x8 = m ((c : Thread nD τ).loc main_arg8))
    (h9 : x9 = m ((c : Thread nD τ).loc main_arg9)) :
    (Cert.Reference12Ideal.Read.val_main_v3 (F := Ideal) x2 x4 : Vec Ideal S320x1024 .f32) = ((dats m 0 c).arrAt 10 cfg0.N : Vec Ideal S320x1024 .f32) ∧
    (Cert.Reference12Ideal.Read.val_main_v7 (F := Ideal) x3 x5 : Vec Ideal S128x1024 .f32) = ((dats m 0 c).arrAt 11 cfg0.N : Vec Ideal S128x1024 .f32) ∧
    (Cert.Reference12Ideal.Read.val_main_v37 (F := Ideal) x0 x2 x4 x6 x8 : Vec Ideal S320x1024 .f32) = ((dats m 0 c).arrAt 12 cfg0.N : Vec Ideal S320x1024 .f32) ∧
    (Cert.Reference12Ideal.Read.val_main_v64 (F := Ideal) x1 x3 x5 x7 x9 : Vec Ideal S128x1024 .f32) = ((dats m 0 c).arrAt 13 cfg0.N : Vec Ideal S128x1024 .f32) ∧
    (Cert.Reference12Ideal.Read.val_main_v18 (F := Ideal) x2 x4 x6 : Vec Ideal S320x1024 .f32) = ((dats m 0 c).arrAt 14 cfg0.N : Vec Ideal S320x1024 .f32) ∧
    (Cert.Reference12Ideal.Read.val_main_v45 (F := Ideal) x3 x5 x7 : Vec Ideal S128x1024 .f32) = ((dats m 0 c).arrAt 15 cfg0.N : Vec Ideal S128x1024 .f32) ∧
    (Cert.Reference12Ideal.Read.val_main_v24 (F := Ideal) x2 x4 x8 : Vec Ideal S320x1024 .f32) = ((dats m 0 c).arrAt 16 cfg0.N : Vec Ideal S320x1024 .f32) ∧
    (Cert.Reference12Ideal.Read.val_main_v51 (F := Ideal) x3 x5 x9 : Vec Ideal S128x1024 .f32) = ((dats m 0 c).arrAt 17 cfg0.N : Vec Ideal S128x1024 .f32) := by
  obtain ⟨a10, a11, a12, a13, a14, a15, a16, a17⟩ := arrs m c
  have hs := sums m c h2 h3 h4 h5
  subst h0 h1 h6 h7 h8 h9
  simp only [a10, a11, a12, a13, a14, a15, a16, a17, hs.1, hs.2]
  refine ⟨trivial, trivial, ?_, ?_, ?_, ?_, ?_, ?_⟩ <;>
  · simp only [V, hostOps0, List.flatten_cons, List.flatten_nil, List.append_nil, List.cons_append, List.nil_append]
    after_results
    rfl

end Cert.Kernel12Ideal.Step

end
-- ==== Proof.Step.Ffn.lean ====
/- The optimiser's step for the feed-forward weights: the kernel's arrays are the reference's. -/
module

public import proofs.«01_k».proof.Proof.Step.Spec
public import proofs.«01_k».proof.Proof.Gen.Kernel10Ideal.Value
public import proofs.«01_k».proof.Proof.Gen.Reference10Ideal.Read
public import Idealize.ShloMosaic.Lib.Pipeline.ReadBack
public import Idealize.ShloMosaic.Lib.Pipeline.ValueKit.Acc
public import Idealize.ShloMosaic.Lib.Pipeline.ValueKit.Point
public import Idealize.ShloMosaic.Lib.Pipeline.ValueKit.Geometry

@[expose] public section

set_option maxHeartbeats 2000000
set_option maxRecDepth 16384

noncomputable section

namespace Cert.Kernel10Ideal.Step

open Cert.Kernel10Ideal.Gen
open Idealize.ShloMosaic Idealize.ShloMosaic.TcCoe Idealize.ShloMosaic.Tactic Idealize.ShloMosaic.Pointwise
open Idealize.SL.Sem
open Cert.Step

/-- What the body stores, element by element: the steps, the first moments, the second moments. -/
theorem pays :
    (∀ (w g a b : Vec Ideal S176x1024 .f32) (y : S176x1024.Idx), k0_pay4 w g a b y = dlt (w y) (g y) (a y) (b y)) ∧
    (∀ (w g a b : Vec Ideal S176x1024 .f32) (y : S176x1024.Idx), k0_pay8 w g a b y = dlt (w y) (g y) (a y) (b y)) ∧
    (∀ (w g a b : Vec Ideal S176x1024 .f32) (y : S176x1024.Idx), k0_pay12 w g a b y = dlt (w y) (g y) (a y) (b y)) ∧
    (∀ (g a : Vec Ideal S176x1024 .f32) (y : S176x1024.Idx), k0_pay2 g a y = fst (g y) (a y)) ∧
    (∀ (g a : Vec Ideal S176x1024 .f32) (y : S176x1024.Idx), k0_pay6 g a y = fst (g y) (a y)) ∧
    (∀ (g a : Vec Ideal S176x1024 .f32) (y : S176x1024.Idx), k0_pay10 g a y = fst (g y) (a y)) ∧
    (∀ (g b : Vec Ideal S176x1024 .f32) (y : S176x1024.Idx), k0_pay3 g b y = snd (g y) (b y)) ∧
    (∀ (g b : Vec Ideal S176x1024 .f32) (y : S176x1024.Idx), k0_pay7 g b y = snd (g y) (b y)) ∧
    (∀ (g b : Vec Ideal S176x1024 .f32) (y : S176x1024.Idx), k0_pay11 g b y = snd (g y) (b y)) := by
  refine ⟨?_, ?_, ?_, ?_, ?_, ?_, ?_, ?_, ?_⟩ <;>
  · intros
    simp only [k0_pay1, k0_pay2, k0_pay3, k0_pay4, k0_pay5, k0_pay6, k0_pay7, k0_pay8, k0_pay9, k0_pay10, k0_pay11, k0_pay12]
    pointwise

variable (m : (ℓ : Loc nD τ sig) → Buf (Elt Ideal) ℓ) (c : Dev nD)

/-- The kernel's arrays as functions of its windows' arrays. -/
theorem arrs :
    ((dats m 0 c).arrAt 12 cfg0.N : Vec Ideal S704x1024 .f32) = (fun i => dlt ((V m c main_v1 : Vec Ideal S704x1024 .f32) i) ((V m c main_v6 : Vec Ideal S704x1024 .f32) i) ((V m c main_v11 : Vec Ideal S704x1024 .f32) i) ((V m c main_v16 : Vec Ideal S704x1024 .f32) i)) ∧
    ((dats m 0 c).arrAt 13 cfg0.N : Vec Ideal S704x1024 .f32) = (fun i => dlt ((V m c main_v3 : Vec Ideal S704x1024 .f32) i) ((V m c main_v8 : Vec Ideal S704x1024 .f32) i) ((V m c main_v13 : Vec Ideal S704x1024 .f32) i) ((V m c main_v18 : Vec Ideal S704x1024 .f32) i)) ∧
    ((dats m 0 c).arrAt 14 cfg0.N : Vec Ideal S704x1024 .f32) = (fun i => dlt ((V m c main_v4 : Vec Ideal S704x1024 .f32) i) ((V m c main_v9 : Vec Ideal S704x1024 .f32) i) ((V m c main_v14 : Vec Ideal S704x1024 .f32) i) ((V m c main_v19 : Vec Ideal S704x1024 .f32) i)) ∧
    ((dats m 0 c).arrAt 15 cfg0.N : Vec Ideal S704x1024 .f32) = (fun i => fst ((V m c main_v6 : Vec Ideal S704x1024 .f32) i) ((V m c main_v11 : Vec Ideal S704x1024 .f32) i)) ∧
    ((dats m 0 c).arrAt 16 cfg0.N : Vec Ideal S704x1024 .f32) = (fun i => fst ((V m c main_v8 : Vec Ideal S704x1024 .f32) i) ((V m c main_v13 : Vec Ideal S704x1024 .f32) i)) ∧
    ((dats m 0 c).arrAt 17 cfg0.N : Vec Ideal S704x1024 .f32) = (fun i => fst ((V m c main_v9 : Vec Ideal S704x1024 .f32) i) ((V m c main_v14 : Vec Ideal S704x1024 .f32) i)) ∧
    ((dats m 0 c).arrAt 18 cfg0.N : Vec Ideal S704x1024 .f32) = (fun i => snd ((V m c main_v6 : Vec Ideal S704x1024 .f32) i) ((V m c main_v16 : Vec Ideal S704x1024 .f32) i)) ∧
    ((dats m 0 c).arrAt 19 cfg0.N : Vec Ideal S704x1024 .f32) = (fun i => snd ((V m c main_v8 : Vec Ideal S704x1024 .f32) i) ((V m c main_v18 : Vec Ideal S704x1024 .f32) i)) ∧
    ((dats m 0 c).arrAt 20 cfg0.N : Vec Ideal S704x1024 .f32) = (fun i => snd ((V m c main_v9 : Vec Ideal S704x1024 .f32) i) ((V m c main_v19 : Vec Ideal S704x1024 .f32) i)) := by
  refine ⟨(dats m 0 c).arrAt_eq_of_covers 12 _ (by decide +kernel) fun t hf y => ?_,
    (dats m 0 c).arrAt_eq_of_covers 13 _ (by decide +kernel) fun t hf y => ?_,
    (dats m 0 c).arrAt_eq_of_covers 14 _ (by decide +kernel) fun t hf y => ?_,
    (dats m 0 c).arrAt_eq_of_covers 15 _ (by decide +kernel) fun t hf y => ?_,
    (dats m 0 c).arrAt_eq_of_covers 16 _ (by decide +kernel) fun t hf y => ?_,
    (dats m 0 c).arrAt_eq_of_covers 17 _ (by decide +kernel) fun t hf y => ?_,
    (dats m 0 c).arrAt_eq_of_covers 18 _ (by decide +kernel) fun t hf y => ?_,
    (dats m 0 c).arrAt_eq_of_covers 19 _ (by decide +kernel) fun t hf y => ?_,
    (dats m 0 c).arrAt_eq_of_covers 20 _ (by decide +kernel) fun t hf y => ?_⟩ <;>
  · blk_simp
    simp only [after0_12, after0_13, after0_14, after0_15, after0_16, after0_17, after0_18, after0_19, after0_20, out0_12, out0_13, out0_14, out0_15, out0_16, out0_17, out0_18, out0_19, out0_20]
    frame_out
    simp only [pays]
    congr 1

/-- The reference's results are the kernel's arrays. -/
theorem same {x0 x3 x6 x9 : Vec Ideal S2x1024x352 .f32} {x1 x4 x7 x10 : Vec Ideal S2x1024x352 .f32} {x2 x5 x8 x11 : Vec Ideal S2x352x1024 .f32}
    (h0 : x0 = m ((c : Thread nD τ).loc main_arg0))
    (h1 : x1 = m ((c : Thread nD τ).loc main_arg1))
    (h2 : x2 = m ((c : Thread nD τ).loc main_arg2))
    (h3 : x3 = m ((c : Thread nD τ).loc main_arg3))
    (h4 : x4 = m ((c : Thread nD τ).loc main_arg4))
    (h5 : x5 = m ((c : Thread nD τ).loc main_arg5))
    (h6 : x6 = m ((c : Thread nD τ).loc main_arg6))
    (h7 : x7 = m ((c : Thread nD τ).loc main_arg7))
    (h8 : x8 = m ((c : Thread nD τ).loc main_arg8))
    (h9 : x9 = m ((c : Thread nD τ).loc main_arg9))
    (h10 : x10 = m ((c : Thread nD τ).loc main_arg10))
    (h11 : x11 = m ((c : Thread nD τ).loc main_arg11)) :
    (Cert.Reference10Ideal.Read.val_main_v73 (F := Ideal) x0 x3 x6 x9 : Vec Ideal S704x1024 .f32) = ((dats m 0 c).arrAt 12 cfg0.N : Vec Ideal S704x1024 .f32) ∧
    (Cert.Reference10Ideal.Read.val_main_v75 (F := Ideal) x1 x4 x7 x10 : Vec Ideal S704x1024 .f32) = ((dats m 0 c).arrAt 13 cfg0.N : Vec Ideal S704x1024 .f32) ∧
    (Cert.Reference10Ideal.Read.val_main_v76 (F := Ideal) x2 x5 x8 x11 : Vec Ideal S704x1024 .f32) = ((dats m 0 c).arrAt 14 cfg0.N : Vec Ideal S704x1024 .f32) ∧
    (Cert.Reference10Ideal.Read.val_main_v78 (F := Ideal) x3 x6 : Vec Ideal S704x1024 .f32) = ((dats m 0 c).arrAt 15 cfg0.N : Vec Ideal S704x1024 .f32) ∧
    (Cert.Reference10Ideal.Read.val_main_v80 (F := Ideal) x4 x7 : Vec Ideal S704x1024 .f32) = ((dats m 0 c).arrAt 16 cfg0.N : Vec Ideal S704x1024 .f32) ∧
    (Cert.Reference10Ideal.Read.val_main_v81 (F := Ideal) x5 x8 : Vec Ideal S704x1024 .f32) = ((dats m 0 c).arrAt 17 cfg0.N : Vec Ideal S704x1024 .f32) ∧
    (Cert.Reference10Ideal.Read.val_main_v83 (F := Ideal) x3 x9 : Vec Ideal S704x1024 .f32) = ((dats m 0 c).arrAt 18 cfg0.N : Vec Ideal S704x1024 .f32) ∧
    (Cert.Reference10Ideal.Read.val_main_v85 (F := Ideal) x4 x10 : Vec Ideal S704x1024 .f32) = ((dats m 0 c).arrAt 19 cfg0.N : Vec Ideal S704x1024 .f32) ∧
    (Cert.Reference10Ideal.Read.val_main_v86 (F := Ideal) x5 x11 : Vec Ideal S704x1024 .f32) = ((dats m 0 c).arrAt 20 cfg0.N : Vec Ideal S704x1024 .f32) := by
  subst h0 h1 h2 h3 h4 h5 h6 h7 h8 h9 h10 h11
  obtain ⟨a12, a13, a14, a15, a16, a17, a18, a19, a20⟩ := arrs m c
  refine ⟨?_, ?_, ?_, ?_, ?_, ?_, ?_, ?_, ?_⟩ <;>
  · simp only [a12, a13, a14, a15, a16, a17, a18, a19, a20, V, hostOps0, List.flatten_cons, List.flatten_nil, List.append_nil, List.cons_append, List.nil_append]
    after_results
    rfl

end Cert.Kernel10Ideal.Step

end
-- ==== Proof.Step.Mix.lean ====
/- The optimiser's step for the odd layer's projections: the kernel's arrays are the reference's. -/
module

public import proofs.«01_k».proof.Proof.Step.Spec
public import proofs.«01_k».proof.Proof.Gen.Kernel11Ideal.Value
public import proofs.«01_k».proof.Proof.Gen.Reference11Ideal.Read
public import Idealize.ShloMosaic.Lib.Pipeline.ReadBack
public import Idealize.ShloMosaic.Lib.Pipeline.ValueKit.Acc
public import Idealize.ShloMosaic.Lib.Pipeline.ValueKit.Point
public import Idealize.ShloMosaic.Lib.Pipeline.ValueKit.Geometry

@[expose] public section

set_option maxHeartbeats 2000000
set_option maxRecDepth 16384

noncomputable section

namespace Cert.Kernel11Ideal.Step

open Cert.Kernel11Ideal.Gen
open Idealize.ShloMosaic Idealize.ShloMosaic.TcCoe Idealize.ShloMosaic.Tactic Idealize.ShloMosaic.Pointwise
open Idealize.SL.Sem
open Cert.Step

/-- What the body stores, element by element: the steps, the first moments, the second moments. -/
theorem pays :
    (∀ (w g a b : Vec Ideal S480x128 .f32) (y : S480x128.Idx), k0_pay4 w g a b y = dlt (w y) (g y) (a y) (b y)) ∧
    (∀ (w g a b : Vec Ideal S64x1024 .f32) (y : S64x1024.Idx), k0_pay8 w g a b y = dlt (w y) (g y) (a y) (b y)) ∧
    (∀ (g a : Vec Ideal S480x128 .f32) (y : S480x128.Idx), k0_pay2 g a y = fst (g y) (a y)) ∧
    (∀ (g a : Vec Ideal S64x1024 .f32) (y : S64x1024.Idx), k0_pay6 g a y = fst (g y) (a y)) ∧
    (∀ (g b : Vec Ideal S480x128 .f32) (y : S480x128.Idx), k0_pay3 g b y = snd (g y) (b y)) ∧
    (∀ (g b : Vec Ideal S64x1024 .f32) (y : S64x1024.Idx), k0_pay7 g b y = snd (g y) (b y)) := by
  refine ⟨?_, ?_, ?_, ?_, ?_, ?_⟩ <;>
  · intros
    simp only [k0_pay1, k0_pay2, k0_pay3, k0_pay4, k0_pay5, k0_pay6, k0_pay7, k0_pay8]
    pointwise

variable (m : (ℓ : Loc nD τ sig) → Buf (Elt Ideal) ℓ) (c : Dev nD)

/-- The kernel's arrays as functions of its windows' arrays. -/
theorem arrs :
    ((dats m 0 c).arrAt 8 cfg0.N : Vec Ideal S960x128 .f32) = (fun i => dlt ((V m c main_v1 : Vec Ideal S960x128 .f32) i) ((V m c main_v4 : Vec Ideal S960x128 .f32) i) ((V m c main_v7 : Vec Ideal S960x128 .f32) i) ((V m c main_v10 : Vec Ideal S960x128 .f32) i)) ∧
    ((dats m 0 c).arrAt 9 cfg0.N : Vec Ideal S128x1024 .f32) = (fun i => dlt ((V m c main_v2 : Vec Ideal S128x1024 .f32) i) ((V m c main_v5 : Vec Ideal S128x1024 .f32) i) ((V m c main_v8 : Vec Ideal S128x1024 .f32) i) ((V m c main_v11 : Vec Ideal S128x1024 .f32) i)) ∧
    ((dats m 0 c).arrAt 10 cfg0.N : Vec Ideal S960x128 .f32) = (fun i => fst ((V m c main_v4 : Vec Ideal S960x128 .f32) i) ((V m c main_v7 : Vec Ideal S960x128 .f32) i)) ∧
    ((dats m 0 c).arrAt 11 cfg0.N : Vec Ideal S128x1024 .f32) = (fun i => fst ((V m c main_v5 : Vec Ideal S128x1024 .f32) i) ((V m c main_v8 : Vec Ideal S128x1024 .f32) i)) ∧
    ((dats m 0 c).arrAt 12 cfg0.N : Vec Ideal S960x128 .f32) = (fun i => snd ((V m c main_v4 : Vec Ideal S960x128 .f32) i) ((V m c main_v10 : Vec Ideal S960x128 .f32) i)) ∧
    ((dats m 0 c).arrAt 13 cfg0.N : Vec Ideal S128x1024 .f32) = (fun i => snd ((V m c main_v5 : Vec Ideal S128x1024 .f32) i) ((V m c main_v11 : Vec Ideal S128x1024 .f32) i)) := by
  refine ⟨(dats m 0 c).arrAt_eq_of_covers 8 _ (by decide +kernel) fun t hf y => ?_,
    (dats m 0 c).arrAt_eq_of_covers 9 _ (by decide +kernel) fun t hf y => ?_,
    (dats m 0 c).arrAt_eq_of_covers 10 _ (by decide +kernel) fun t hf y => ?_,
    (dats m 0 c).arrAt_eq_of_covers 11 _ (by decide +kernel) fun t hf y => ?_,
    (dats m 0 c).arrAt_eq_of_covers 12 _ (by decide +kernel) fun t hf y => ?_,
    (dats m 0 c).arrAt_eq_of_covers 13 _ (by decide +kernel) fun t hf y => ?_⟩ <;>
  · blk_simp
    simp only [after0_8, after0_9, after0_10, after0_11, after0_12, after0_13, out0_8, out0_9, out0_10, out0_11, out0_12, out0_13]
    frame_out
    simp only [pays]
    congr 1

/-- The reference's results are the kernel's arrays. -/
theorem same {x0 x2 x4 x6 : Vec Ideal S1x128x960 .f32} {x1 x3 x5 x7 : Vec Ideal S1x128x1024 .f32}
    (h0 : x0 = m ((c : Thread nD τ).loc main_arg0))
    (h1 : x1 = m ((c : Thread nD τ).loc main_arg1))
    (h2 : x2 = m ((c : Thread nD τ).loc main_arg2))
    (h3 : x3 = m ((c : Thread nD τ).loc main_arg3))
    (h4 : x4 = m ((c : Thread nD τ).loc main_arg4))
    (h5 : x5 = m ((c : Thread nD τ).loc main_arg5))
    (h6 : x6 = m ((c : Thread nD τ).loc main_arg6))
    (h7 : x7 = m ((c : Thread nD τ).loc main_arg7)) :
    (Cert.Reference11Ideal.Read.val_main_v49 (F := Ideal) x0 x2 x4 x6 : Vec Ideal S960x128 .f32) = ((dats m 0 c).arrAt 8 cfg0.N : Vec Ideal S960x128 .f32) ∧
    (Cert.Reference11Ideal.Read.val_main_v50 (F := Ideal) x1 x3 x5 x7 : Vec Ideal S128x1024 .f32) = ((dats m 0 c).arrAt 9 cfg0.N : Vec Ideal S128x1024 .f32) ∧
    (Cert.Reference11Ideal.Read.val_main_v52 (F := Ideal) x2 x4 : Vec Ideal S960x128 .f32) = ((dats m 0 c).arrAt 10 cfg0.N : Vec Ideal S960x128 .f32) ∧
    (Cert.Reference11Ideal.Read.val_main_v53 (F := Ideal) x3 x5 : Vec Ideal S128x1024 .f32) = ((dats m 0 c).arrAt 11 cfg0.N : Vec Ideal S128x1024 .f32) ∧
    (Cert.Reference11Ideal.Read.val_main_v55 (F := Ideal) x2 x6 : Vec Ideal S960x128 .f32) = ((dats m 0 c).arrAt 12 cfg0.N : Vec Ideal S960x128 .f32) ∧
    (Cert.Reference11Ideal.Read.val_main_v56 (F := Ideal) x3 x7 : Vec Ideal S128x1024 .f32) = ((dats m 0 c).arrAt 13 cfg0.N : Vec Ideal S128x1024 .f32) := by
  subst h0 h1 h2 h3 h4 h5 h6 h7
  obtain ⟨a8, a9, a10, a11, a12, a13⟩ := arrs m c
  refine ⟨?_, ?_, ?_, ?_, ?_, ?_⟩ <;>
  · simp only [a8, a9, a10, a11, a12, a13, V, hostOps0, List.flatten_cons, List.flatten_nil, List.append_nil, List.cons_append, List.nil_append]
    after_results
    rfl

end Cert.Kernel11Ideal.Step

end
-- ==== Proof.Wgrad.Spec.lean ====
/- A weight gradient over the extended reals: the rows' cotangents times the rows, among the devices' gradient rows. -/
module

public import proofs.«01_k».proof.Proof.Even.Finite
public import Idealize.ShloMosaic.Lib.Pointwise
public import Idealize.ShloMosaic.Lib.Pipeline.ReadBack

@[expose] public section

set_option maxRecDepth 16384

noncomputable section

namespace Cert.Spec

open Idealize.ShloMosaic Idealize.ShloMosaic.Pointwise
open Cert.Pre_finite (ofNat_val row_hi row_lo)

/-- The arguments, as extended reals: the factor whose columns become rows, the other factor, and the gradient rows before. -/
structure InW where
  d : ℕ → ℕ → EReal
  h : ℕ → ℕ → EReal
  o : ℕ → ℕ → ℕ → EReal

/-- A row's share of a weight's gradient. -/
def InW.e (I : InW) (i j r : ℕ) : EReal := I.d r i * I.h r j
/-- A weight's gradient over the first `n` rows. -/
def InW.w (I : InW) (n i j : ℕ) : EReal := ∑ r ∈ Finset.range n, I.e i j r

theorem InW.w_add (I : InW) (n i j : ℕ) : I.w (n + 1024) i j = I.w n i j + ∑ r : Fin 1024, I.d (n + r) i * I.h (n + r) j := by
  unfold InW.w
  rw [Finset.sum_range_add, Finset.sum_range (fun r => I.e i j (n + r))]
  rfl

theorem InW.w_zero (I : InW) (i j : ℕ) : I.w 0 i j = 0 := rfl

/-- A sum over two examples of 2048 rows is a sum over the 4096 rows. -/
theorem sum_rows (f : ℕ → EReal) : ∑ a : Fin 2, ∑ i : Fin 2048, f (2048 * a + i) = ∑ r ∈ Finset.range 4096, f r := by
  rw [Fin.sum_univ_two, show (4096 : ℕ) = 2048 + 2048 from rfl, Finset.sum_range_add, Finset.sum_range, Finset.sum_range]
  simp

/-- The devices' rows with the gradients at the block of index `k`, the others as they were. -/
def InW.put (I : InW) (k a i j : ℕ) : EReal := if i / 352 = k then I.w 4096 (352 * a + i % 352) j else I.o a i j

theorem InW.put_pos (I : InW) {k a i j : ℕ} (h : i / 352 = k) : I.put k a i j = I.w 4096 (352 * a + i % 352) j := if_pos h
theorem InW.put_neg (I : InW) {k a i j : ℕ} (h : i / 352 ≠ k) : I.put k a i j = I.o a i j := if_neg h

/-- Sums that start with a run's first point and go on from point to point are, before a later point, the sums over the run's rows so far. -/
theorem InW.before (I : InW) {N : ℕ} (s : (n : ℕ) → n < N → Fin 1408 → Fin 1024 → EReal)
    (h0 : ∀ n hn, n % 4 = 0 → ∀ i j, s n hn i j = I.w (1024 * (n % 4) + 1024) (1408 * (n / 4) + i) j)
    (h1 : ∀ n hn, n % 4 ≠ 0 → n % 4 ≠ 3 → (∀ i j, s (n - 1) (Nat.lt_of_le_of_lt (Nat.sub_le _ _) hn) i j = I.w (1024 * (n % 4)) (1408 * (n / 4) + i) j) → ∀ i j, s n hn i j = I.w (1024 * (n % 4) + 1024) (1408 * (n / 4) + i) j) :
    ∀ n hn, n % 4 ≠ 0 → ∀ i j, s (n - 1) (Nat.lt_of_le_of_lt (Nat.sub_le _ _) hn) i j = I.w (1024 * (n % 4)) (1408 * (n / 4) + i) j
  | 0, _, h, _, _ => absurd rfl h
  | n + 1, hn, h, i, j => by
    have hp : s n (Nat.lt_of_succ_lt hn) i j = I.w (1024 * (n % 4) + 1024) (1408 * (n / 4) + i) j := by
      by_cases hz : n % 4 = 0
      · exact h0 n (Nat.lt_of_succ_lt hn) hz i j
      · exact h1 n (Nat.lt_of_succ_lt hn) hz (by omega) (InW.before I s h0 h1 n (Nat.lt_of_succ_lt hn) hz) i j
    rw [show 1024 * (n % 4) + 1024 = 1024 * ((n + 1) % 4) by omega, show n / 4 = (n + 1) / 4 by omega] at hp
    exact hp

section
variable {n : ℕ}

/-- The arguments hold the values `I`. -/
structure InW.IsA (I : InW) (x0 : Vec Ideal ⟨3, ![2, 2048, 1024]⟩ .f32) (x1 : Vec Ideal ⟨3, ![2, 2048, 2816]⟩ .f32) (x2 : Vec Ideal ⟨3, ![8, n, 1024]⟩ .f32) : Prop where
  h : ∀ (a : Fin 2) (i : Fin 2048) (j : Fin 1024), x0 (ix3 a i j) = I.h (2048 * a + i) j
  d : ∀ (a : Fin 2) (i : Fin 2048) (j : Fin 2816), x1 (ix3 a i j) = I.d (2048 * a + i) j
  o : ∀ (a : Fin 8) (i : Fin n) (j : Fin 1024), x2 (ix3 a i j) = I.o a i j

/-- The values the arguments hold, the examples' rows one after the other. -/
def InW.of [NeZero n] (x0 : Vec Ideal ⟨3, ![2, 2048, 1024]⟩ .f32) (x1 : Vec Ideal ⟨3, ![2, 2048, 2816]⟩ .f32) (x2 : Vec Ideal ⟨3, ![8, n, 1024]⟩ .f32) : InW where
  h r j := x0 (ix3 (Fin.ofNat 2 (r / 2048)) (Fin.ofNat 2048 r) (Fin.ofNat 1024 j))
  d r j := x1 (ix3 (Fin.ofNat 2 (r / 2048)) (Fin.ofNat 2048 r) (Fin.ofNat 2816 j))
  o a i j := x2 (ix3 (Fin.ofNat 8 a) (Fin.ofNat n i) (Fin.ofNat 1024 j))

/-- Any arguments are the arrays `of`. -/
theorem InW.isA [NeZero n] (x0 : Vec Ideal ⟨3, ![2, 2048, 1024]⟩ .f32) (x1 : Vec Ideal ⟨3, ![2, 2048, 2816]⟩ .f32) (x2 : Vec Ideal ⟨3, ![8, n, 1024]⟩ .f32) : (InW.of x0 x1 x2).IsA x0 x1 x2 := by
  refine ⟨?_, ?_, ?_⟩ <;> intro a i j <;> simp only [InW.of, row_hi, row_lo, ofNat_val]

/-- Equal arrays hold the same values. -/
theorem InW.IsA.congr {I : InW} {x0 y0 : Vec Ideal ⟨3, ![2, 2048, 1024]⟩ .f32} {x1 y1 : Vec Ideal ⟨3, ![2, 2048, 2816]⟩ .f32} {x2 y2 : Vec Ideal ⟨3, ![8, n, 1024]⟩ .f32}
    (h : I.IsA x0 x1 x2) (e0 : y0 = x0) (e1 : y1 = x1) (e2 : y2 = x2) : I.IsA y0 y1 y2 := by
  subst e0 e1 e2
  exact h
end

/-- A read of the whole array after stores. -/
theorem readCov_whole {Val : EltTy → Type} [∀ e, Nonempty (Val e)] {sg : RefSig} {κ : Kind} {sp : Space} {s : Shape} {e : EltTy} (v : View sg κ sp s e) (L : List (View.Piece Val s e)) {off : Fin s.rank → ℕ} (inb : ∀ a, off a + s.size a ≤ s.size a) (h : ∀ a, off a = 0) :
    v.readCov L (Rect.unit off (no_index s.size) inb).toLoadRect = View.canon L :=
  (View.readCov_eq_canon' v L _).trans (View.ld_unit_lit inb (View.canon L) h)

end Cert.Spec

end
-- ==== Proof.Wgrad.Gate1.lean ====
/- The gate's weight gradient of the last block: the kernel's scratch, its result, and the reference's. -/
module

public import proofs.«01_k».proof.Proof.Wgrad.Spec
public import proofs.«01_k».proof.Proof.Gen.Kernel4Ideal.Value
public import proofs.«01_k».proof.Proof.Gen.Reference4Ideal.Read
public import Idealize.ShloMosaic.Lib.Pointwise
public import Idealize.ShloMosaic.Lib.Claim
public import Idealize.ShloMosaic.Lib.Pipeline.ValueKit.Acc
public import Idealize.ShloMosaic.Lib.Pipeline.ValueKit.Point
public import Idealize.ShloMosaic.Lib.Pipeline.ValueKit.Partial

@[expose] public section

set_option maxHeartbeats 1000000
set_option maxRecDepth 16384

noncomputable section

namespace Cert.Kernel4Ideal.Gate1

open Cert.Kernel4Ideal.Gen
open Idealize.ShloMosaic Idealize.ShloMosaic.TcCoe Idealize.ShloMosaic.Tactic Idealize.ShloMosaic.Pointwise
open Idealize.SL.Sem
open Cert.Spec (InW readCov_whole)

/-- A point's product added to the sums over the rows before. -/
theorem acc_r {I : InW} {n p : ℕ} {b : Vec Ideal S1024x1024 .bf16} {s : Vec Ideal S1408x1024 .f32} {a : Vec Ideal S1024x1408 .bf16}
    (ha : ∀ (i : Fin 1024) (j : Fin 1408), a (ix2 i j) = I.d (n + i) (p + j)) (hb : ∀ (i : Fin 1024) (j : Fin 1024), b (ix2 i j) = I.h (n + i) j) (hs : ∀ (i : Fin 1408) (j : Fin 1024), s (ix2 i j) = I.w n (p + i) j) (i : Fin 1408) (j : Fin 1024) :
    k0_pay2 b s a (ix2 i j) = I.w (n + 1024) (p + i) j := by
  rw [I.w_add]
  unfold k0_pay2
  pointwise
  simp only [ha, hb, hs]
  all_goals rfl

/-- Nothing at the start. -/
theorem zero_r (i : Fin 1408) (j : Fin 1024) : (k0_pay1 : FVec Ideal S1408x1024 .f32) (ix2 i j) = 0 := by
  unfold k0_pay1
  pointwise
  all_goals rfl

/-- The sums, cut into four devices' rows. -/
theorem out_r {S : ℕ → ℕ → EReal} {s : Vec Ideal S1408x1024 .f32} (hs : ∀ (i : Fin 1408) (j : Fin 1024), s (ix2 i j) = S i j) (a : Fin 4) (i : Fin 352) (j : Fin 1024) :
    k0_pay3 s (ix3 a i j) = S (352 * a + i) j := by
  unfold k0_pay3
  pointwise
  simp only [hs, Nat.mul_comm 352]

section
variable {F : FTy → Type} [FloatOps F] (m : (ℓ : Loc nD τ sig) → Buf (Elt F) ℓ) (c : Dev nD) (t : Fin cfg0.N)

/-- The scratch after a run's first point, after a later point, and the block written at the last point. -/
theorem scA (h0 : t.val % 4 = 0) (h1 : ¬t.val % 4 = 3) : (outsAt0 m c t.val t.isLt).2 = k0_pay2 (iblk m c 1 t) k0_pay1 (iblk m c 0 t) := by
  rw [outsAt0_A m c t h0 h1]
  dsimp only
  unfold sout0_A_0
  frame_out
  (try simp (disch := decide) only [read_unread_whole, readCov_whole])

theorem scB (h0 : ¬t.val % 4 = 0) (h1 : ¬t.val % 4 = 3) : (outsAt0 m c t.val t.isLt).2 = k0_pay2 (iblk m c 1 t) (outsAt0 m c (t.val - 1) (Nat.lt_of_le_of_lt (Nat.sub_le _ _) t.isLt)).2 (iblk m c 0 t) := by
  rw [outsAt0_B m c t h0 h1]
  dsimp only
  unfold sout0_B_0
  frame_out
  (try simp (disch := decide) only [read_unread_whole, readCov_whole])

theorem outC (h0 : ¬t.val % 4 = 0) (h1 : t.val % 4 = 3) : (outsAt0 m c t.val t.isLt).1 = k0_pay3 (k0_pay2 (iblk m c 1 t) (outsAt0 m c (t.val - 1) (Nat.lt_of_le_of_lt (Nat.sub_le _ _) t.isLt)).2 (iblk m c 0 t)) := by
  rw [outsAt0_C m c t h0 h1]
  dsimp only
  unfold out0_C_2
  frame_out
  (try simp (disch := decide) only [read_unread_whole, readCov_whole])
end

theorem ix_0 : ∀ t : Fin cfg0.N, win0_0.index t = ![t.val % 4, t.val / 4] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, 0, 0] := (by decide +kernel : ∀ t : Fin grid0.N, _)

/-- The arguments are the extended reals `I`. -/
abbrev IsIn (I : InW) (m : (ℓ : Loc nD τ sig) → Buf (Elt Ideal) ℓ) (c : Dev nD) : Prop :=
  InW.IsA (n := 1056) I (m ((c : Thread nD τ).loc main_arg0)) (m ((c : Thread nD τ).loc main_arg1)) (m ((c : Thread nD τ).loc main_arg2))

variable {I : InW} {m : (ℓ : Loc nD τ sig) → Buf (Elt Ideal) ℓ} {c : Dev nD} (h : IsIn I m c)
include h

theorem V_h (i : Fin 4096) (j : Fin 1024) : (V m c main_v1 : Vec Ideal S4096x1024 .bf16) (ix2 i j) = I.h i j := by
  simp only [V, hostOps0, List.flatten_cons, List.flatten_nil, List.append_nil, List.cons_append, List.nil_append]
  after_results
  pointwise
  exact (h.h _ _ _).trans (by simp only [Nat.div_add_mod])

theorem V_d (i : Fin 4096) (j : Fin 2816) : (V m c main_v3 : Vec Ideal S4096x2816 .bf16) (ix2 i j) = I.d i j := by
  simp only [V, hostOps0, List.flatten_cons, List.flatten_nil, List.append_nil, List.cons_append, List.nil_append]
  after_results
  pointwise
  exact (h.d _ _ _).trans (by simp only [Nat.div_add_mod])

theorem V_o (a : Fin 8) (i : Fin 1056) (j : Fin 1024) : (V m c main_v5 : Vec Ideal S8x1056x1024 .bf16) (ix3 a i j) = I.o a i j := by
  simp only [V, hostOps0, List.flatten_cons, List.flatten_nil, List.append_nil, List.cons_append, List.nil_append]
  after_results
  pointwise
  exact h.o a i j

theorem blk_d (t : Fin cfg0.N) (i : Fin 1024) (j : Fin 1408) : (iblk m c 0 t : Vec Ideal S1024x1408 .bf16) (ix2 i j) = I.d (1024 * (t.val % 4) + i) (1408 * (t.val / 4) + j) := by
  have ht : t.val < 8 := t.isLt
  have hb : 1024 * (t.val % 4) + (i : ℕ) < 4096 := by omega
  have hc : 1408 * (t.val / 4) + (j : ℕ) < 2816 := by omega
  refine Eq.trans (b := (V m c main_v3 : Vec Ideal S4096x2816 .bf16) (ix2 ⟨1024 * (t.val % 4) + i, hb⟩ ⟨1408 * (t.val / 4) + j, hc⟩)) ?_ (V_d h _ _)
  blk_ext! [iblk, ix_0 t]

theorem blk_h (t : Fin cfg0.N) (i : Fin 1024) (j : Fin 1024) : (iblk m c 1 t : Vec Ideal S1024x1024 .bf16) (ix2 i j) = I.h (1024 * (t.val % 4) + i) j := by
  have ht : t.val < 8 := t.isLt
  have hb : 1024 * (t.val % 4) + (i : ℕ) < 4096 := by omega
  refine Eq.trans (b := (V m c main_v1 : Vec Ideal S4096x1024 .bf16) (ix2 ⟨1024 * (t.val % 4) + i, hb⟩ j)) ?_ (V_h h _ _)
  blk_ext! [iblk, ix_1 t]

/-- The scratch before a point that is not a run's first. -/
theorem before (n : ℕ) (hn : n < cfg0.N) (h0 : n % 4 ≠ 0) (i : Fin 1408) (j : Fin 1024) : (outsAt0 m c (n - 1) (Nat.lt_of_le_of_lt (Nat.sub_le _ _) hn)).2 (ix2 i j) = I.w (1024 * (n % 4)) (1408 * (n / 4) + i) j :=
  I.before (fun n hn i j => (outsAt0 m c n hn).2 (ix2 i j))
    (fun n hn h0 i j => (congrFun (scA m c ⟨n, hn⟩ h0 (by dsimp only; omega)) _).trans (acc_r (blk_d h ⟨n, hn⟩) (blk_h h ⟨n, hn⟩) (fun i j => by rw [h0]; exact zero_r i j) i j))
    (fun n hn h0 h1 hs i j => (congrFun (scB m c ⟨n, hn⟩ h0 h1) _).trans (acc_r (blk_d h ⟨n, hn⟩) (blk_h h ⟨n, hn⟩) hs i j)) n hn h0 i j

/-- A run's last point writes the gradients of its columns. -/
theorem at_o (t : Fin cfg0.N) (h1 : t.val % 4 = 3) (a : Fin 4) (i : Fin 352) (j : Fin 1024) : (outsAt0 m c t.val t.isLt).1 (ix3 a i j) = I.w 4096 (1408 * (t.val / 4) + (352 * a + i)) j := by
  rw [outC m c t (by omega) h1]
  refine (out_r (S := fun i j => I.w (1024 * (t.val % 4) + 1024) (1408 * (t.val / 4) + i) j) (acc_r (blk_d h t) (blk_h h t) (before h t.val t.isLt (by omega))) a i j).trans ?_
  rw [h1]

/-- The result: the gradients among the devices' rows, the other rows as they were. -/
theorem arr (a : Fin 8) (i : Fin 1056) (j : Fin 1024) : ((dats m 0 c).arrAt 2 cfg0.N : Vec Ideal S8x1056x1024 .bf16) (ix3 a i j) = I.put 0 a i j := by
  have key : (dats m 0 c).arrAt 2 cfg0.N = (fun p => if ((p 1 : Fin 1056) : ℕ) / 352 = 0 then I.w 4096 (352 * (p 0 : Fin 8) + (p 1 : Fin 1056) % 352) (p 2 : Fin 1024) else (V m c main_v5 : Vec Ideal S8x1056x1024 .bf16) p : Vec Ideal S8x1056x1024 .bf16) := by
    refine (dats m 0 c).arrAt_eq_of_coversWhere 2 (fun p => I.w 4096 (352 * (p 0 : Fin 8) + (p 1 : Fin 1056) % 352) (p 2 : Fin 1024)) (fun β => β (1 : Fin 3) = 0) (by decide +kernel) (fun t hf y => ?_) (fun j => Iff.rfl)
    blk_simp
    rw [after0_2]
    have hy := at_o h t ((flush0_2 t).1 hf) (y 0) (y 1) (y 2)
    rw [← eq_ix3] at hy
    refine hy.trans ?_
    blk_simp [ix_2 t]
    have h2 : (y 1 : ℕ) < 352 := (y 1).isLt
    exact congrArg₂ (I.w 4096) (by omega) (by omega)
  exact (congrFun key (ix3 a i j)).trans (ite_congr rfl (fun _ => rfl) fun _ => V_o h a i j)

end Cert.Kernel4Ideal.Gate1

namespace Cert.Reference4Ideal.Gate1

open Cert.Reference4Ideal Cert.Reference4Ideal.Read
open Idealize.ShloMosaic Idealize.ShloMosaic.TcCoe Idealize.ShloMosaic.Pointwise
open Idealize.SL.Sem
open Cert.Spec (InW)

variable {I : InW} {x0 : Vec Ideal S2x2048x1024 .f32} {x1 : Vec Ideal S2x2048x2816 .f32} {x2 : Vec Ideal S8x1056x1024 .f32} (hA : InW.IsA (n := 1056) I x0 x1 x2)
include hA

/-- The product over the examples' rows. -/
theorem r_w (i : Fin 2816) (j : Fin 1024) : (val_main_v0 (F := Ideal) x0 x1 : Vec Ideal S2816x1024 .f32) (ix2 i j) = I.w 4096 i j := by
  unfold val_main_v0
  pointwise
  simp only [hA.h, hA.d]
  exact Cert.Spec.sum_rows (I.e i j)

/-- The gradients among the devices' rows. -/
theorem r_o (a : Fin 8) (i : Fin 1056) (j : Fin 1024) : (val_main_v6 (F := Ideal) x0 x1 x2 : Vec Ideal S8x1056x1024 .bf16) (ix3 a i j) = I.put 0 a i j := by
  unfold val_main_v6 val_main_v5 val_main_v4 val_main_v3 val_main_v2 val_main_v1
  pointwise
  by_cases hi : (i : ℕ) < 352
  · rw [dif_pos hi, I.put_pos (Nat.div_eq_of_lt hi), r_w hA, Nat.mod_eq_of_lt hi, Nat.mul_comm 352]
  · refine (dif_neg hi).trans ((hA.o _ _ _).trans ?_)
    rw [I.put_neg (by omega)]
    simp only [Nat.add_sub_of_le (Nat.le_of_not_lt hi)]

/-- The two programs' arrays are the same array. -/
theorem same {m : (ℓ : Loc Cert.Kernel4Ideal.nD Cert.Kernel4Ideal.τ Cert.Kernel4Ideal.sig) → Buf (Elt Ideal) ℓ} {c : Dev Cert.Kernel4Ideal.nD} (h : Cert.Kernel4Ideal.Gate1.IsIn I m c) :
    (val_main_v6 (F := Ideal) x0 x1 x2 : Vec Ideal S8x1056x1024 .bf16) = ((Cert.Kernel4Ideal.Gen.dats m 0 c).arrAt 2 Cert.Kernel4Ideal.cfg0.N : Vec Ideal S8x1056x1024 .bf16) := by
  funext p
  rw [eq_ix3 p]
  exact (r_o hA (p 0) (p 1) (p 2)).trans (Cert.Kernel4Ideal.Gate1.arr h (p 0) (p 1) (p 2)).symm

end Cert.Reference4Ideal.Gate1

end
-- ==== Proof.Wgrad.Up1.lean ====
/- The values' weight gradient of the last block: the kernel's scratch, its result, and the reference's. -/
module

public import proofs.«01_k».proof.Proof.Wgrad.Gate1
public import proofs.«01_k».proof.Proof.Gen.Kernel7Ideal.Value
public import proofs.«01_k».proof.Proof.Gen.Reference7Ideal.Read
public import Idealize.ShloMosaic.Lib.Pointwise
public import Idealize.ShloMosaic.Lib.Claim
public import Idealize.ShloMosaic.Lib.Pipeline.ValueKit.Acc
public import Idealize.ShloMosaic.Lib.Pipeline.ValueKit.Point
public import Idealize.ShloMosaic.Lib.Pipeline.ValueKit.Partial

@[expose] public section

set_option maxHeartbeats 1000000
set_option maxRecDepth 16384

noncomputable section

namespace Cert.Kernel7Ideal.Up1

open Cert.Kernel7Ideal.Gen
open Idealize.ShloMosaic Idealize.ShloMosaic.TcCoe Idealize.ShloMosaic.Tactic Idealize.ShloMosaic.Pointwise
open Idealize.SL.Sem
open Cert.Spec (InW readCov_whole)

open Cert.Kernel4Ideal.Gate1 (acc_r zero_r out_r)

section
variable {F : FTy → Type} [FloatOps F] (m : (ℓ : Loc nD τ sig) → Buf (Elt F) ℓ) (c : Dev nD) (t : Fin cfg0.N)

/-- The scratch after a run's first point, after a later point, and the block written at the last point. -/
theorem scA (h0 : t.val % 4 = 0) (h1 : ¬t.val % 4 = 3) : (outsAt0 m c t.val t.isLt).2 = k0_pay2 (iblk m c 1 t) k0_pay1 (iblk m c 0 t) := by
  rw [outsAt0_A m c t h0 h1]
  dsimp only
  unfold sout0_A_0
  frame_out
  (try simp (disch := decide) only [read_unread_whole, readCov_whole])

theorem scB (h0 : ¬t.val % 4 = 0) (h1 : ¬t.val % 4 = 3) : (outsAt0 m c t.val t.isLt).2 = k0_pay2 (iblk m c 1 t) (outsAt0 m c (t.val - 1) (Nat.lt_of_le_of_lt (Nat.sub_le _ _) t.isLt)).2 (iblk m c 0 t) := by
  rw [outsAt0_B m c t h0 h1]
  dsimp only
  unfold sout0_B_0
  frame_out
  (try simp (disch := decide) only [read_unread_whole, readCov_whole])

theorem outC (h0 : ¬t.val % 4 = 0) (h1 : t.val % 4 = 3) : (outsAt0 m c t.val t.isLt).1 = k0_pay3 (k0_pay2 (iblk m c 1 t) (outsAt0 m c (t.val - 1) (Nat.lt_of_le_of_lt (Nat.sub_le _ _) t.isLt)).2 (iblk m c 0 t)) := by
  rw [outsAt0_C m c t h0 h1]
  dsimp only
  unfold out0_C_2
  frame_out
  (try simp (disch := decide) only [read_unread_whole, readCov_whole])
end

theorem ix_0 : ∀ t : Fin cfg0.N, win0_0.index t = ![t.val % 4, t.val / 4] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, 1, 0] := (by decide +kernel : ∀ t : Fin grid0.N, _)

/-- The arguments are the extended reals `I`. -/
abbrev IsIn (I : InW) (m : (ℓ : Loc nD τ sig) → Buf (Elt Ideal) ℓ) (c : Dev nD) : Prop :=
  InW.IsA (n := 1056) I (m ((c : Thread nD τ).loc main_arg0)) (m ((c : Thread nD τ).loc main_arg1)) (m ((c : Thread nD τ).loc main_arg2))

variable {I : InW} {m : (ℓ : Loc nD τ sig) → Buf (Elt Ideal) ℓ} {c : Dev nD} (h : IsIn I m c)
include h

theorem V_h (i : Fin 4096) (j : Fin 1024) : (V m c main_v1 : Vec Ideal S4096x1024 .bf16) (ix2 i j) = I.h i j := by
  simp only [V, hostOps0, List.flatten_cons, List.flatten_nil, List.append_nil, List.cons_append, List.nil_append]
  after_results
  pointwise
  exact (h.h _ _ _).trans (by simp only [Nat.div_add_mod])

theorem V_d (i : Fin 4096) (j : Fin 2816) : (V m c main_v3 : Vec Ideal S4096x2816 .bf16) (ix2 i j) = I.d i j := by
  simp only [V, hostOps0, List.flatten_cons, List.flatten_nil, List.append_nil, List.cons_append, List.nil_append]
  after_results
  pointwise
  exact (h.d _ _ _).trans (by simp only [Nat.div_add_mod])

theorem V_o (a : Fin 8) (i : Fin 1056) (j : Fin 1024) : (V m c main_v5 : Vec Ideal S8x1056x1024 .bf16) (ix3 a i j) = I.o a i j := by
  simp only [V, hostOps0, List.flatten_cons, List.flatten_nil, List.append_nil, List.cons_append, List.nil_append]
  after_results
  pointwise
  exact h.o a i j

theorem blk_d (t : Fin cfg0.N) (i : Fin 1024) (j : Fin 1408) : (iblk m c 0 t : Vec Ideal S1024x1408 .bf16) (ix2 i j) = I.d (1024 * (t.val % 4) + i) (1408 * (t.val / 4) + j) := by
  have ht : t.val < 8 := t.isLt
  have hb : 1024 * (t.val % 4) + (i : ℕ) < 4096 := by omega
  have hc : 1408 * (t.val / 4) + (j : ℕ) < 2816 := by omega
  refine Eq.trans (b := (V m c main_v3 : Vec Ideal S4096x2816 .bf16) (ix2 ⟨1024 * (t.val % 4) + i, hb⟩ ⟨1408 * (t.val / 4) + j, hc⟩)) ?_ (V_d h _ _)
  blk_ext! [iblk, ix_0 t]

theorem blk_h (t : Fin cfg0.N) (i : Fin 1024) (j : Fin 1024) : (iblk m c 1 t : Vec Ideal S1024x1024 .bf16) (ix2 i j) = I.h (1024 * (t.val % 4) + i) j := by
  have ht : t.val < 8 := t.isLt
  have hb : 1024 * (t.val % 4) + (i : ℕ) < 4096 := by omega
  refine Eq.trans (b := (V m c main_v1 : Vec Ideal S4096x1024 .bf16) (ix2 ⟨1024 * (t.val % 4) + i, hb⟩ j)) ?_ (V_h h _ _)
  blk_ext! [iblk, ix_1 t]

/-- The scratch before a point that is not a run's first. -/
theorem before (n : ℕ) (hn : n < cfg0.N) (h0 : n % 4 ≠ 0) (i : Fin 1408) (j : Fin 1024) : (outsAt0 m c (n - 1) (Nat.lt_of_le_of_lt (Nat.sub_le _ _) hn)).2 (ix2 i j) = I.w (1024 * (n % 4)) (1408 * (n / 4) + i) j :=
  I.before (fun n hn i j => (outsAt0 m c n hn).2 (ix2 i j))
    (fun n hn h0 i j => (congrFun (scA m c ⟨n, hn⟩ h0 (by dsimp only; omega)) _).trans (acc_r (blk_d h ⟨n, hn⟩) (blk_h h ⟨n, hn⟩) (fun i j => by rw [h0]; exact zero_r i j) i j))
    (fun n hn h0 h1 hs i j => (congrFun (scB m c ⟨n, hn⟩ h0 h1) _).trans (acc_r (blk_d h ⟨n, hn⟩) (blk_h h ⟨n, hn⟩) hs i j)) n hn h0 i j

/-- A run's last point writes the gradients of its columns. -/
theorem at_o (t : Fin cfg0.N) (h1 : t.val % 4 = 3) (a : Fin 4) (i : Fin 352) (j : Fin 1024) : (outsAt0 m c t.val t.isLt).1 (ix3 a i j) = I.w 4096 (1408 * (t.val / 4) + (352 * a + i)) j := by
  rw [outC m c t (by omega) h1]
  refine (out_r (S := fun i j => I.w (1024 * (t.val % 4) + 1024) (1408 * (t.val / 4) + i) j) (acc_r (blk_d h t) (blk_h h t) (before h t.val t.isLt (by omega))) a i j).trans ?_
  rw [h1]

/-- The result: the gradients among the devices' rows, the other rows as they were. -/
theorem arr (a : Fin 8) (i : Fin 1056) (j : Fin 1024) : ((dats m 0 c).arrAt 2 cfg0.N : Vec Ideal S8x1056x1024 .bf16) (ix3 a i j) = I.put 1 a i j := by
  have key : (dats m 0 c).arrAt 2 cfg0.N = (fun p => if ((p 1 : Fin 1056) : ℕ) / 352 = 1 then I.w 4096 (352 * (p 0 : Fin 8) + (p 1 : Fin 1056) % 352) (p 2 : Fin 1024) else (V m c main_v5 : Vec Ideal S8x1056x1024 .bf16) p : Vec Ideal S8x1056x1024 .bf16) := by
    refine (dats m 0 c).arrAt_eq_of_coversWhere 2 (fun p => I.w 4096 (352 * (p 0 : Fin 8) + (p 1 : Fin 1056) % 352) (p 2 : Fin 1024)) (fun β => β (1 : Fin 3) = 1) (by decide +kernel) (fun t hf y => ?_) (fun j => Iff.rfl)
    blk_simp
    rw [after0_2]
    have hy := at_o h t ((flush0_2 t).1 hf) (y 0) (y 1) (y 2)
    rw [← eq_ix3] at hy
    refine hy.trans ?_
    blk_simp [ix_2 t]
    have h2 : (y 1 : ℕ) < 352 := (y 1).isLt
    exact congrArg₂ (I.w 4096) (by omega) (by omega)
  exact (congrFun key (ix3 a i j)).trans (ite_congr rfl (fun _ => rfl) fun _ => V_o h a i j)

end Cert.Kernel7Ideal.Up1

namespace Cert.Reference7Ideal.Up1

open Cert.Reference7Ideal Cert.Reference7Ideal.Read
open Idealize.ShloMosaic Idealize.ShloMosaic.TcCoe Idealize.ShloMosaic.Pointwise
open Idealize.SL.Sem
open Cert.Spec (InW)

variable {I : InW} {x0 : Vec Ideal S2x2048x1024 .f32} {x1 : Vec Ideal S2x2048x2816 .f32} {x2 : Vec Ideal S8x1056x1024 .f32} (hA : InW.IsA (n := 1056) I x0 x1 x2)
include hA

/-- The product over the examples' rows. -/
theorem r_w (i : Fin 2816) (j : Fin 1024) : (val_main_v0 (F := Ideal) x0 x1 : Vec Ideal S2816x1024 .f32) (ix2 i j) = I.w 4096 i j :=
  Cert.Reference4Ideal.Gate1.r_w hA i j

/-- The gradients among the devices' rows. -/
theorem r_o (a : Fin 8) (i : Fin 1056) (j : Fin 1024) : (val_main_v7 (F := Ideal) x0 x1 x2 : Vec Ideal S8x1056x1024 .bf16) (ix3 a i j) = I.put 1 a i j := by
  unfold val_main_v7 val_main_v6 val_main_v5 val_main_v4 val_main_v3 val_main_v2 val_main_v1
  pointwise
  by_cases hi : (i : ℕ) < 352
  · refine (dif_pos hi).trans ((hA.o _ _ _).trans ?_)
    rw [I.put_neg (by omega)]
  refine (dif_neg hi).trans ?_
  by_cases hj : (i : ℕ) - 352 < 352
  · refine (dif_pos hj).trans ((r_w hA _ _).trans ?_)
    rw [I.put_pos (by omega)]
    exact congrArg (I.w 4096 · j) (show (a : ℕ) * 352 + ((i : ℕ) - 352) = 352 * a + (i : ℕ) % 352 by omega)
  · refine (dif_neg hj).trans ((hA.o _ _ _).trans ?_)
    rw [I.put_neg (by omega)]
    exact congrArg (I.o a · j) (show 704 + ((i : ℕ) - 352 - 352) = i by omega)

/-- The two programs' arrays are the same array. -/
theorem same {m : (ℓ : Loc Cert.Kernel7Ideal.nD Cert.Kernel7Ideal.τ Cert.Kernel7Ideal.sig) → Buf (Elt Ideal) ℓ} {c : Dev Cert.Kernel7Ideal.nD} (h : Cert.Kernel7Ideal.Up1.IsIn I m c) :
    (val_main_v7 (F := Ideal) x0 x1 x2 : Vec Ideal S8x1056x1024 .bf16) = ((Cert.Kernel7Ideal.Gen.dats m 0 c).arrAt 2 Cert.Kernel7Ideal.cfg0.N : Vec Ideal S8x1056x1024 .bf16) := by
  funext p
  rw [eq_ix3 p]
  exact (r_o hA (p 0) (p 1) (p 2)).trans (Cert.Kernel7Ideal.Up1.arr h (p 0) (p 1) (p 2)).symm

end Cert.Reference7Ideal.Up1

end
-- ==== Proof.Wgrad.Down1.lean ====
/- The output's weight gradient of the last block: the kernel's scratch, its result, and the reference's. -/
module

public import proofs.«01_k».proof.Proof.Wgrad.Gate1
public import proofs.«01_k».proof.Proof.Gen.Kernel8Ideal.Value
public import proofs.«01_k».proof.Proof.Gen.Reference8Ideal.Read
public import Idealize.ShloMosaic.Lib.Pointwise
public import Idealize.ShloMosaic.Lib.Claim
public import Idealize.ShloMosaic.Lib.Pipeline.ValueKit.Acc
public import Idealize.ShloMosaic.Lib.Pipeline.ValueKit.Point
public import Idealize.ShloMosaic.Lib.Pipeline.ValueKit.Partial

@[expose] public section

set_option maxHeartbeats 1000000
set_option maxRecDepth 16384

noncomputable section

namespace Cert.Kernel8Ideal.Down1

open Cert.Kernel8Ideal.Gen
open Idealize.ShloMosaic Idealize.ShloMosaic.TcCoe Idealize.ShloMosaic.Tactic Idealize.ShloMosaic.Pointwise
open Idealize.SL.Sem
open Cert.Spec (InW readCov_whole)

open Cert.Kernel4Ideal.Gate1 (zero_r out_r)

/-- A point's product added to the sums over the rows before. -/
theorem acc_r {I : InW} {n p : ℕ} {b : Vec Ideal S1024x1024 .f32} {s : Vec Ideal S1408x1024 .f32} {a : Vec Ideal S1024x1408 .bf16}
    (ha : ∀ (i : Fin 1024) (j : Fin 1408), a (ix2 i j) = I.d (n + i) (p + j)) (hb : ∀ (i : Fin 1024) (j : Fin 1024), b (ix2 i j) = I.h (n + i) j) (hs : ∀ (i : Fin 1408) (j : Fin 1024), s (ix2 i j) = I.w n (p + i) j) (i : Fin 1408) (j : Fin 1024) :
    k0_pay2 b s a (ix2 i j) = I.w (n + 1024) (p + i) j := by
  rw [I.w_add]
  unfold k0_pay2
  pointwise
  simp only [ha, hb, hs]
  all_goals rfl

section
variable {F : FTy → Type} [FloatOps F] (m : (ℓ : Loc nD τ sig) → Buf (Elt F) ℓ) (c : Dev nD) (t : Fin cfg0.N)

/-- The scratch after a run's first point, after a later point, and the block written at the last point. -/
theorem scA (h0 : t.val % 4 = 0) (h1 : ¬t.val % 4 = 3) : (outsAt0 m c t.val t.isLt).2 = k0_pay2 (iblk m c 1 t) k0_pay1 (iblk m c 0 t) := by
  rw [outsAt0_A m c t h0 h1]
  dsimp only
  unfold sout0_A_0
  frame_out
  (try simp (disch := decide) only [read_unread_whole, readCov_whole])

theorem scB (h0 : ¬t.val % 4 = 0) (h1 : ¬t.val % 4 = 3) : (outsAt0 m c t.val t.isLt).2 = k0_pay2 (iblk m c 1 t) (outsAt0 m c (t.val - 1) (Nat.lt_of_le_of_lt (Nat.sub_le _ _) t.isLt)).2 (iblk m c 0 t) := by
  rw [outsAt0_B m c t h0 h1]
  dsimp only
  unfold sout0_B_0
  frame_out
  (try simp (disch := decide) only [read_unread_whole, readCov_whole])

theorem outC (h0 : ¬t.val % 4 = 0) (h1 : t.val % 4 = 3) : (outsAt0 m c t.val t.isLt).1 = k0_pay3 (k0_pay2 (iblk m c 1 t) (outsAt0 m c (t.val - 1) (Nat.lt_of_le_of_lt (Nat.sub_le _ _) t.isLt)).2 (iblk m c 0 t)) := by
  rw [outsAt0_C m c t h0 h1]
  dsimp only
  unfold out0_C_2
  frame_out
  (try simp (disch := decide) only [read_unread_whole, readCov_whole])
end

theorem ix_0 : ∀ t : Fin cfg0.N, win0_0.index t = ![t.val % 4, t.val / 4] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, 2, 0] := (by decide +kernel : ∀ t : Fin grid0.N, _)

/-- The arguments are the extended reals `I`. -/
abbrev IsIn (I : InW) (m : (ℓ : Loc nD τ sig) → Buf (Elt Ideal) ℓ) (c : Dev nD) : Prop :=
  InW.IsA (n := 1056) I (m ((c : Thread nD τ).loc main_arg1)) (m ((c : Thread nD τ).loc main_arg0)) (m ((c : Thread nD τ).loc main_arg2))

variable {I : InW} {m : (ℓ : Loc nD τ sig) → Buf (Elt Ideal) ℓ} {c : Dev nD} (h : IsIn I m c)
include h

theorem V_h (i : Fin 4096) (j : Fin 1024) : (V m c main_v2 : Vec Ideal S4096x1024 .f32) (ix2 i j) = I.h i j := by
  simp only [V, hostOps0, List.flatten_cons, List.flatten_nil, List.append_nil, List.cons_append, List.nil_append]
  after_results
  pointwise
  exact (h.h _ _ _).trans (by simp only [Nat.div_add_mod])

theorem V_d (i : Fin 4096) (j : Fin 2816) : (V m c main_v1 : Vec Ideal S4096x2816 .bf16) (ix2 i j) = I.d i j := by
  simp only [V, hostOps0, List.flatten_cons, List.flatten_nil, List.append_nil, List.cons_append, List.nil_append]
  after_results
  pointwise
  exact (h.d _ _ _).trans (by simp only [Nat.div_add_mod])

theorem V_o (a : Fin 8) (i : Fin 1056) (j : Fin 1024) : (V m c main_v4 : Vec Ideal S8x1056x1024 .bf16) (ix3 a i j) = I.o a i j := by
  simp only [V, hostOps0, List.flatten_cons, List.flatten_nil, List.append_nil, List.cons_append, List.nil_append]
  after_results
  pointwise
  exact h.o a i j

theorem blk_d (t : Fin cfg0.N) (i : Fin 1024) (j : Fin 1408) : (iblk m c 0 t : Vec Ideal S1024x1408 .bf16) (ix2 i j) = I.d (1024 * (t.val % 4) + i) (1408 * (t.val / 4) + j) := by
  have ht : t.val < 8 := t.isLt
  have hb : 1024 * (t.val % 4) + (i : ℕ) < 4096 := by omega
  have hc : 1408 * (t.val / 4) + (j : ℕ) < 2816 := by omega
  refine Eq.trans (b := (V m c main_v1 : Vec Ideal S4096x2816 .bf16) (ix2 ⟨1024 * (t.val % 4) + i, hb⟩ ⟨1408 * (t.val / 4) + j, hc⟩)) ?_ (V_d h _ _)
  blk_ext! [iblk, ix_0 t]

theorem blk_h (t : Fin cfg0.N) (i : Fin 1024) (j : Fin 1024) : (iblk m c 1 t : Vec Ideal S1024x1024 .f32) (ix2 i j) = I.h (1024 * (t.val % 4) + i) j := by
  have ht : t.val < 8 := t.isLt
  have hb : 1024 * (t.val % 4) + (i : ℕ) < 4096 := by omega
  refine Eq.trans (b := (V m c main_v2 : Vec Ideal S4096x1024 .f32) (ix2 ⟨1024 * (t.val % 4) + i, hb⟩ j)) ?_ (V_h h _ _)
  blk_ext! [iblk, ix_1 t]

/-- The scratch before a point that is not a run's first. -/
theorem before (n : ℕ) (hn : n < cfg0.N) (h0 : n % 4 ≠ 0) (i : Fin 1408) (j : Fin 1024) : (outsAt0 m c (n - 1) (Nat.lt_of_le_of_lt (Nat.sub_le _ _) hn)).2 (ix2 i j) = I.w (1024 * (n % 4)) (1408 * (n / 4) + i) j :=
  I.before (fun n hn i j => (outsAt0 m c n hn).2 (ix2 i j))
    (fun n hn h0 i j => (congrFun (scA m c ⟨n, hn⟩ h0 (by dsimp only; omega)) _).trans (acc_r (blk_d h ⟨n, hn⟩) (blk_h h ⟨n, hn⟩) (fun i j => by rw [h0]; exact zero_r i j) i j))
    (fun n hn h0 h1 hs i j => (congrFun (scB m c ⟨n, hn⟩ h0 h1) _).trans (acc_r (blk_d h ⟨n, hn⟩) (blk_h h ⟨n, hn⟩) hs i j)) n hn h0 i j

/-- A run's last point writes the gradients of its columns. -/
theorem at_o (t : Fin cfg0.N) (h1 : t.val % 4 = 3) (a : Fin 4) (i : Fin 352) (j : Fin 1024) : (outsAt0 m c t.val t.isLt).1 (ix3 a i j) = I.w 4096 (1408 * (t.val / 4) + (352 * a + i)) j := by
  rw [outC m c t (by omega) h1]
  refine (out_r (S := fun i j => I.w (1024 * (t.val % 4) + 1024) (1408 * (t.val / 4) + i) j) (acc_r (blk_d h t) (blk_h h t) (before h t.val t.isLt (by omega))) a i j).trans ?_
  rw [h1]

/-- The result: the gradients among the devices' rows, the other rows as they were. -/
theorem arr (a : Fin 8) (i : Fin 1056) (j : Fin 1024) : ((dats m 0 c).arrAt 2 cfg0.N : Vec Ideal S8x1056x1024 .bf16) (ix3 a i j) = I.put 2 a i j := by
  have key : (dats m 0 c).arrAt 2 cfg0.N = (fun p => if ((p 1 : Fin 1056) : ℕ) / 352 = 2 then I.w 4096 (352 * (p 0 : Fin 8) + (p 1 : Fin 1056) % 352) (p 2 : Fin 1024) else (V m c main_v4 : Vec Ideal S8x1056x1024 .bf16) p : Vec Ideal S8x1056x1024 .bf16) := by
    refine (dats m 0 c).arrAt_eq_of_coversWhere 2 (fun p => I.w 4096 (352 * (p 0 : Fin 8) + (p 1 : Fin 1056) % 352) (p 2 : Fin 1024)) (fun β => β (1 : Fin 3) = 2) (by decide +kernel) (fun t hf y => ?_) (fun j => Iff.rfl)
    blk_simp
    rw [after0_2]
    have hy := at_o h t ((flush0_2 t).1 hf) (y 0) (y 1) (y 2)
    rw [← eq_ix3] at hy
    refine hy.trans ?_
    blk_simp [ix_2 t]
    have h2 : (y 1 : ℕ) < 352 := (y 1).isLt
    exact congrArg₂ (I.w 4096) (by omega) (by omega)
  exact (congrFun key (ix3 a i j)).trans (ite_congr rfl (fun _ => rfl) fun _ => V_o h a i j)

end Cert.Kernel8Ideal.Down1

namespace Cert.Reference8Ideal.Down1

open Cert.Reference8Ideal Cert.Reference8Ideal.Read
open Idealize.ShloMosaic Idealize.ShloMosaic.TcCoe Idealize.ShloMosaic.Pointwise
open Idealize.SL.Sem
open Cert.Spec (InW)

variable {I : InW} {x0 : Vec Ideal S2x2048x2816 .f32} {x1 : Vec Ideal S2x2048x1024 .f32} {x2 : Vec Ideal S8x1056x1024 .f32} (hA : InW.IsA (n := 1056) I x1 x0 x2)
include hA

/-- The product over the examples' rows. -/
theorem r_w (i : Fin 2816) (j : Fin 1024) : (val_main_v1 (F := Ideal) x0 x1 : Vec Ideal S2816x1024 .f32) (ix2 i j) = I.w 4096 i j := by
  unfold val_main_v1 val_main_v0
  pointwise
  simp only [hA.h, hA.d, mul_comm (I.h _ _)]
  exact Cert.Spec.sum_rows (I.e i j)

/-- The gradients among the devices' rows. -/
theorem r_o (a : Fin 8) (i : Fin 1056) (j : Fin 1024) : (val_main_v5 (F := Ideal) x0 x1 x2 : Vec Ideal S8x1056x1024 .bf16) (ix3 a i j) = I.put 2 a i j := by
  unfold val_main_v5 val_main_v4 val_main_v3 val_main_v2
  pointwise
  by_cases hi : (i : ℕ) < 704
  · refine (dif_pos hi).trans ((hA.o _ _ _).trans ?_)
    rw [I.put_neg (by omega)]
  · refine (dif_neg hi).trans ((r_w hA _ _).trans ?_)
    rw [I.put_pos (by omega)]
    exact congrArg (I.w 4096 · j) (show (a : ℕ) * 352 + ((i : ℕ) - 704) = 352 * a + (i : ℕ) % 352 by omega)

/-- The two programs' arrays are the same array. -/
theorem same {m : (ℓ : Loc Cert.Kernel8Ideal.nD Cert.Kernel8Ideal.τ Cert.Kernel8Ideal.sig) → Buf (Elt Ideal) ℓ} {c : Dev Cert.Kernel8Ideal.nD} (h : Cert.Kernel8Ideal.Down1.IsIn I m c) :
    (val_main_v5 (F := Ideal) x0 x1 x2 : Vec Ideal S8x1056x1024 .bf16) = ((Cert.Kernel8Ideal.Gen.dats m 0 c).arrAt 2 Cert.Kernel8Ideal.cfg0.N : Vec Ideal S8x1056x1024 .bf16) := by
  funext p
  rw [eq_ix3 p]
  exact (r_o hA (p 0) (p 1) (p 2)).trans (Cert.Kernel8Ideal.Down1.arr h (p 0) (p 1) (p 2)).symm

end Cert.Reference8Ideal.Down1

end
-- ==== Proof.Wgrad.Up0.lean ====
/- The values' weight gradient of the first block: the kernel's scratch, its result, and the reference's. -/
module

public import proofs.«01_k».proof.Proof.Wgrad.Gate1
public import proofs.«01_k».proof.Proof.Gen.Kernel9Ideal.Value
public import proofs.«01_k».proof.Proof.Gen.Reference9Ideal.Read
public import Idealize.ShloMosaic.Lib.Pointwise
public import Idealize.ShloMosaic.Lib.Claim
public import Idealize.ShloMosaic.Lib.Pipeline.ValueKit.Acc
public import Idealize.ShloMosaic.Lib.Pipeline.ValueKit.Point
public import Idealize.ShloMosaic.Lib.Pipeline.ValueKit.Partial

@[expose] public section

set_option maxHeartbeats 1000000
set_option maxRecDepth 16384

noncomputable section

namespace Cert.Kernel9Ideal.Up0

open Cert.Kernel9Ideal.Gen
open Idealize.ShloMosaic Idealize.ShloMosaic.TcCoe Idealize.ShloMosaic.Tactic Idealize.ShloMosaic.Pointwise
open Idealize.SL.Sem
open Cert.Spec (InW readCov_whole)

open Cert.Kernel4Ideal.Gate1 (acc_r zero_r out_r)

section
variable {F : FTy → Type} [FloatOps F] (m : (ℓ : Loc nD τ sig) → Buf (Elt F) ℓ) (c : Dev nD) (t : Fin cfg0.N)

/-- The scratch after a run's first point, after a later point, and the block written at the last point. -/
theorem scA (h0 : t.val % 4 = 0) (h1 : ¬t.val % 4 = 3) : (outsAt0 m c t.val t.isLt).2 = k0_pay2 (iblk m c 1 t) k0_pay1 (iblk m c 0 t) := by
  rw [outsAt0_A m c t h0 h1]
  dsimp only
  unfold sout0_A_0
  frame_out
  (try simp (disch := decide) only [read_unread_whole, readCov_whole])

theorem scB (h0 : ¬t.val % 4 = 0) (h1 : ¬t.val % 4 = 3) : (outsAt0 m c t.val t.isLt).2 = k0_pay2 (iblk m c 1 t) (outsAt0 m c (t.val - 1) (Nat.lt_of_le_of_lt (Nat.sub_le _ _) t.isLt)).2 (iblk m c 0 t) := by
  rw [outsAt0_B m c t h0 h1]
  dsimp only
  unfold sout0_B_0
  frame_out
  (try simp (disch := decide) only [read_unread_whole, readCov_whole])

theorem outC (h0 : ¬t.val % 4 = 0) (h1 : t.val % 4 = 3) : (outsAt0 m c t.val t.isLt).1 = k0_pay3 (k0_pay2 (iblk m c 1 t) (outsAt0 m c (t.val - 1) (Nat.lt_of_le_of_lt (Nat.sub_le _ _) t.isLt)).2 (iblk m c 0 t)) := by
  rw [outsAt0_C m c t h0 h1]
  dsimp only
  unfold out0_C_2
  frame_out
  (try simp (disch := decide) only [read_unread_whole, readCov_whole])
end

theorem ix_0 : ∀ t : Fin cfg0.N, win0_0.index t = ![t.val % 4, t.val / 4] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, 1, 0] := (by decide +kernel : ∀ t : Fin grid0.N, _)

/-- The arguments are the extended reals `I`. -/
abbrev IsIn (I : InW) (m : (ℓ : Loc nD τ sig) → Buf (Elt Ideal) ℓ) (c : Dev nD) : Prop :=
  InW.IsA (n := 704) I (m ((c : Thread nD τ).loc main_arg0)) (m ((c : Thread nD τ).loc main_arg1)) (m ((c : Thread nD τ).loc main_arg2))

variable {I : InW} {m : (ℓ : Loc nD τ sig) → Buf (Elt Ideal) ℓ} {c : Dev nD} (h : IsIn I m c)
include h

theorem V_h (i : Fin 4096) (j : Fin 1024) : (V m c main_v1 : Vec Ideal S4096x1024 .bf16) (ix2 i j) = I.h i j := by
  simp only [V, hostOps0, List.flatten_cons, List.flatten_nil, List.append_nil, List.cons_append, List.nil_append]
  after_results
  pointwise
  exact (h.h _ _ _).trans (by simp only [Nat.div_add_mod])

theorem V_d (i : Fin 4096) (j : Fin 2816) : (V m c main_v3 : Vec Ideal S4096x2816 .bf16) (ix2 i j) = I.d i j := by
  simp only [V, hostOps0, List.flatten_cons, List.flatten_nil, List.append_nil, List.cons_append, List.nil_append]
  after_results
  pointwise
  exact (h.d _ _ _).trans (by simp only [Nat.div_add_mod])

theorem V_o (a : Fin 8) (i : Fin 704) (j : Fin 1024) : (V m c main_v5 : Vec Ideal S8x704x1024 .bf16) (ix3 a i j) = I.o a i j := by
  simp only [V, hostOps0, List.flatten_cons, List.flatten_nil, List.append_nil, List.cons_append, List.nil_append]
  after_results
  pointwise
  exact h.o a i j

theorem blk_d (t : Fin cfg0.N) (i : Fin 1024) (j : Fin 1408) : (iblk m c 0 t : Vec Ideal S1024x1408 .bf16) (ix2 i j) = I.d (1024 * (t.val % 4) + i) (1408 * (t.val / 4) + j) := by
  have ht : t.val < 8 := t.isLt
  have hb : 1024 * (t.val % 4) + (i : ℕ) < 4096 := by omega
  have hc : 1408 * (t.val / 4) + (j : ℕ) < 2816 := by omega
  refine Eq.trans (b := (V m c main_v3 : Vec Ideal S4096x2816 .bf16) (ix2 ⟨1024 * (t.val % 4) + i, hb⟩ ⟨1408 * (t.val / 4) + j, hc⟩)) ?_ (V_d h _ _)
  blk_ext! [iblk, ix_0 t]

theorem blk_h (t : Fin cfg0.N) (i : Fin 1024) (j : Fin 1024) : (iblk m c 1 t : Vec Ideal S1024x1024 .bf16) (ix2 i j) = I.h (1024 * (t.val % 4) + i) j := by
  have ht : t.val < 8 := t.isLt
  have hb : 1024 * (t.val % 4) + (i : ℕ) < 4096 := by omega
  refine Eq.trans (b := (V m c main_v1 : Vec Ideal S4096x1024 .bf16) (ix2 ⟨1024 * (t.val % 4) + i, hb⟩ j)) ?_ (V_h h _ _)
  blk_ext! [iblk, ix_1 t]

/-- The scratch before a point that is not a run's first. -/
theorem before (n : ℕ) (hn : n < cfg0.N) (h0 : n % 4 ≠ 0) (i : Fin 1408) (j : Fin 1024) : (outsAt0 m c (n - 1) (Nat.lt_of_le_of_lt (Nat.sub_le _ _) hn)).2 (ix2 i j) = I.w (1024 * (n % 4)) (1408 * (n / 4) + i) j :=
  I.before (fun n hn i j => (outsAt0 m c n hn).2 (ix2 i j))
    (fun n hn h0 i j => (congrFun (scA m c ⟨n, hn⟩ h0 (by dsimp only; omega)) _).trans (acc_r (blk_d h ⟨n, hn⟩) (blk_h h ⟨n, hn⟩) (fun i j => by rw [h0]; exact zero_r i j) i j))
    (fun n hn h0 h1 hs i j => (congrFun (scB m c ⟨n, hn⟩ h0 h1) _).trans (acc_r (blk_d h ⟨n, hn⟩) (blk_h h ⟨n, hn⟩) hs i j)) n hn h0 i j

/-- A run's last point writes the gradients of its columns. -/
theorem at_o (t : Fin cfg0.N) (h1 : t.val % 4 = 3) (a : Fin 4) (i : Fin 352) (j : Fin 1024) : (outsAt0 m c t.val t.isLt).1 (ix3 a i j) = I.w 4096 (1408 * (t.val / 4) + (352 * a + i)) j := by
  rw [outC m c t (by omega) h1]
  refine (out_r (S := fun i j => I.w (1024 * (t.val % 4) + 1024) (1408 * (t.val / 4) + i) j) (acc_r (blk_d h t) (blk_h h t) (before h t.val t.isLt (by omega))) a i j).trans ?_
  rw [h1]

/-- The result: the gradients among the devices' rows, the other rows as they were. -/
theorem arr (a : Fin 8) (i : Fin 704) (j : Fin 1024) : ((dats m 0 c).arrAt 2 cfg0.N : Vec Ideal S8x704x1024 .bf16) (ix3 a i j) = I.put 1 a i j := by
  have key : (dats m 0 c).arrAt 2 cfg0.N = (fun p => if ((p 1 : Fin 704) : ℕ) / 352 = 1 then I.w 4096 (352 * (p 0 : Fin 8) + (p 1 : Fin 704) % 352) (p 2 : Fin 1024) else (V m c main_v5 : Vec Ideal S8x704x1024 .bf16) p : Vec Ideal S8x704x1024 .bf16) := by
    refine (dats m 0 c).arrAt_eq_of_coversWhere 2 (fun p => I.w 4096 (352 * (p 0 : Fin 8) + (p 1 : Fin 704) % 352) (p 2 : Fin 1024)) (fun β => β (1 : Fin 3) = 1) (by decide +kernel) (fun t hf y => ?_) (fun j => Iff.rfl)
    blk_simp
    rw [after0_2]
    have hy := at_o h t ((flush0_2 t).1 hf) (y 0) (y 1) (y 2)
    rw [← eq_ix3] at hy
    refine hy.trans ?_
    blk_simp [ix_2 t]
    have h2 : (y 1 : ℕ) < 352 := (y 1).isLt
    exact congrArg₂ (I.w 4096) (by omega) (by omega)
  exact (congrFun key (ix3 a i j)).trans (ite_congr rfl (fun _ => rfl) fun _ => V_o h a i j)

end Cert.Kernel9Ideal.Up0

namespace Cert.Reference9Ideal.Up0

open Cert.Reference9Ideal Cert.Reference9Ideal.Read
open Idealize.ShloMosaic Idealize.ShloMosaic.TcCoe Idealize.ShloMosaic.Pointwise
open Idealize.SL.Sem
open Cert.Spec (InW)

variable {I : InW} {x0 : Vec Ideal S2x2048x1024 .f32} {x1 : Vec Ideal S2x2048x2816 .f32} {x2 : Vec Ideal S8x704x1024 .f32} (hA : InW.IsA (n := 704) I x0 x1 x2)
include hA

/-- The product over the examples' rows. -/
theorem r_w (i : Fin 2816) (j : Fin 1024) : (val_main_v0 (F := Ideal) x0 x1 : Vec Ideal S2816x1024 .f32) (ix2 i j) = I.w 4096 i j :=
  Cert.Reference4Ideal.Gate1.r_w (x2 := fun p => I.o (p 0 : Fin 8) (p 1 : Fin 1056) (p 2 : Fin 1024)) ⟨hA.h, hA.d, fun _ _ _ => rfl⟩ i j

/-- The gradients among the devices' rows. -/
theorem r_o (a : Fin 8) (i : Fin 704) (j : Fin 1024) : (val_main_v6 (F := Ideal) x0 x1 x2 : Vec Ideal S8x704x1024 .bf16) (ix3 a i j) = I.put 1 a i j := by
  unfold val_main_v6 val_main_v5 val_main_v4 val_main_v3 val_main_v2 val_main_v1
  pointwise
  by_cases hi : (i : ℕ) < 352
  · refine (dif_pos hi).trans ((hA.o _ _ _).trans ?_)
    rw [I.put_neg (by omega)]
  · refine (dif_neg hi).trans ((r_w hA _ _).trans ?_)
    rw [I.put_pos (by omega)]
    exact congrArg (I.w 4096 · j) (show (a : ℕ) * 352 + ((i : ℕ) - 352) = 352 * a + (i : ℕ) % 352 by omega)

/-- The two programs' arrays are the same array. -/
theorem same {m : (ℓ : Loc Cert.Kernel9Ideal.nD Cert.Kernel9Ideal.τ Cert.Kernel9Ideal.sig) → Buf (Elt Ideal) ℓ} {c : Dev Cert.Kernel9Ideal.nD} (h : Cert.Kernel9Ideal.Up0.IsIn I m c) :
    (val_main_v6 (F := Ideal) x0 x1 x2 : Vec Ideal S8x704x1024 .bf16) = ((Cert.Kernel9Ideal.Gen.dats m 0 c).arrAt 2 Cert.Kernel9Ideal.cfg0.N : Vec Ideal S8x704x1024 .bf16) := by
  funext p
  rw [eq_ix3 p]
  exact (r_o hA (p 0) (p 1) (p 2)).trans (Cert.Kernel9Ideal.Up0.arr h (p 0) (p 1) (p 2)).symm

end Cert.Reference9Ideal.Up0

end
-- ==== Proof.First.Spec.lean ====
/- The first feed-forward block's forward pass over the extended reals. -/
module

public import proofs.«01_k».proof.Proof.Last.Spec

@[expose] public section

noncomputable section

namespace Cert.Spec

open Idealize.ShloMosaic

/-- The arguments of the block's first half: the rows, the norm's scale, the gate's and the values' weights. -/
structure InU where
  x : ℕ → ℕ → EReal
  g : ℕ → EReal
  wg : ℕ → ℕ → EReal
  wu : ℕ → ℕ → EReal

namespace InU
variable (I : InU)
/-- The normalised rows, the gate, the values, the activation. -/
def h : ℕ → ℕ → EReal := ehid I.x I.g
def G : ℕ → ℕ → EReal := eproj I.h I.wg
def U : ℕ → ℕ → EReal := eproj I.h I.wu
def A : ℕ → ℕ → EReal := eact I.G I.U
end InU

/-- The arguments of the block's second half: the rows, the activation, the weights. -/
structure InD where
  x : ℕ → ℕ → EReal
  a : ℕ → ℕ → EReal
  w : ℕ → ℕ → EReal

/-- The block's output. -/
def InD.y (I : InD) (r j : ℕ) : EReal := I.x r j + ∑ k : Fin 2816, I.a r k * I.w k j

end Cert.Spec

end
-- ==== Proof.First.UpKern.lean ====
/- The first feed-forward block's first half: its blocks and its results. -/
module

public import proofs.«01_k».proof.Proof.First.Spec
public import proofs.«01_k».proof.Proof.Gen.Kernel5Ideal.Value
public import Idealize.ShloMosaic.Lib.Pointwise
public import Idealize.ShloMosaic.Lib.Claim
public import Idealize.ShloMosaic.Lib.Pipeline.ReadBack
public import Idealize.ShloMosaic.Lib.Pipeline.ValueKit.Acc
public import Idealize.ShloMosaic.Lib.Pipeline.ValueKit.Point
public import Idealize.ShloMosaic.Lib.Pipeline.ValueKit.Geometry

@[expose] public section

set_option maxHeartbeats 1000000
set_option maxRecDepth 16384

noncomputable section

namespace Cert.Kernel5Ideal.Up

open Cert.Kernel5Ideal.Gen
open Idealize.ShloMosaic Idealize.ShloMosaic.TcCoe Idealize.ShloMosaic.Tactic Idealize.ShloMosaic.Pointwise
open Idealize.SL.Sem
open Cert.Spec (InU esh ehid eproj eact)

section
variable {X H W P Q : ℕ → ℕ → EReal} {G : ℕ → EReal}

/-- The normalised rows. -/
theorem hid_r {x : Vec Ideal S512x1024 .f32} {g : Vec Ideal S1x1024 .f32} (hx : ∀ (i : Fin 512) (j : Fin 1024), x (ix2 i j) = X i j) (hg : ∀ (i : Fin 1) (j : Fin 1024), g (ix2 i j) = G j) (i : Fin 512) (j : Fin 1024) :
    k0_pay1 x g (ix2 i j) = ehid X G i j := by
  unfold k0_pay1
  pointwise
  simp only [hx, hg]
  all_goals rfl

/-- The gate, and the values. -/
theorem gate_r {x : Vec Ideal S512x1024 .f32} {g : Vec Ideal S1x1024 .f32} {w : Vec Ideal S8x352x1024 .bf16} (hp : ∀ (i : Fin 512) (j : Fin 1024), k0_pay1 x g (ix2 i j) = H i j) (hw : ∀ (a : Fin 8) (i : Fin 352) (j : Fin 1024), w (ix3 a i j) = W j (352 * a + i)) (i : Fin 512) (j : Fin 2816) :
    k0_pay2 x g w (ix2 i j) = eproj H W i j := by
  unfold k0_pay2
  generalize k0_pay1 x g = A at *
  pointwise
  simp only [hp, hw, Nat.div_add_mod]
  all_goals rfl

theorem gateb_r {x : Vec Ideal S512x1024 .f32} {g : Vec Ideal S1x1024 .f32} {w : Vec Ideal S8x352x1024 .bf16} (hp : ∀ (i : Fin 512) (j : Fin 1024), k0_pay1 x g (ix2 i j) = H i j) (hw : ∀ (a : Fin 8) (i : Fin 352) (j : Fin 1024), w (ix3 a i j) = W j (352 * a + i)) (i : Fin 512) (j : Fin 2816) :
    k0_pay4 x g w (ix2 i j) = eproj H W i j := by
  refine Eq.trans ?_ (gate_r hp hw i j)
  unfold k0_pay4
  pointwise

/-- The activation. -/
theorem act_r {x : Vec Ideal S512x1024 .f32} {g : Vec Ideal S1x1024 .f32} {w v : Vec Ideal S8x352x1024 .bf16} (hp : ∀ (i : Fin 512) (j : Fin 2816), k0_pay2 x g w (ix2 i j) = P i j) (hq : ∀ (i : Fin 512) (j : Fin 2816), k0_pay3 x g v (ix2 i j) = Q i j) (i : Fin 512) (j : Fin 2816) :
    k0_pay6 x g w v (ix2 i j) = eact P Q i j := by
  unfold k0_pay6
  generalize k0_pay2 x g w = A at *
  generalize k0_pay3 x g v = B at *
  pointwise
  simp only [hp, hq]
  all_goals rfl
end

/-- The arguments are the extended reals `I`. -/
structure IsIn (I : InU) (m : (ℓ : Loc nD τ sig) → Buf (Elt Ideal) ℓ) (c : Dev nD) : Prop where
  x : ∀ (a : Fin 2) (i : Fin 2048) (j : Fin 1024), (m ((c : Thread nD τ).loc main_arg0) : Vec Ideal S2x2048x1024 .f32) (ix3 a i j) = I.x (2048 * a + i) j
  g : ∀ j : Fin 1024, (m ((c : Thread nD τ).loc main_arg1) : Vec Ideal S1024 .f32) (ix1 j) = I.g j
  wg : ∀ (i : Fin 1024) (j : Fin 2816), (m ((c : Thread nD τ).loc main_arg2) : Vec Ideal S1024x2816 .f32) (ix2 i j) = I.wg i j
  wu : ∀ (i : Fin 1024) (j : Fin 2816), (m ((c : Thread nD τ).loc main_arg3) : Vec Ideal S1024x2816 .f32) (ix2 i j) = I.wu i j

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![0, 1, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)

variable {I : InU} {m : (ℓ : Loc nD τ sig) → Buf (Elt Ideal) ℓ} {c : Dev nD} (h : IsIn I m c)
include h

theorem V_x (i : Fin 4096) (j : Fin 1024) : (V m c main_v6 : Vec Ideal S4096x1024 .f32) (ix2 i j) = I.x i j := by
  simp only [V, hostOps0, List.flatten_cons, List.flatten_nil, List.append_nil, List.cons_append, List.nil_append]
  after_results
  pointwise
  simp only [h.x, Nat.div_add_mod]

theorem V_g (i : Fin 1) (j : Fin 1024) : (V m c main_v7 : Vec Ideal S1x1024 .f32) (ix2 i j) = I.g j := by
  simp only [V, hostOps0, List.flatten_cons, List.flatten_nil, List.append_nil, List.cons_append, List.nil_append]
  after_results
  pointwise
  simp only [h.g]

theorem V_w (a : Fin 8) (i : Fin 704) (j : Fin 1024) : (V m c main_v5 : Vec Ideal S8x704x1024 .bf16) (ix3 a i j) = if (i : ℕ) < 352 then I.wg j (352 * a + i) else I.wu j (352 * a + (i - 352)) := by
  simp only [V, hostOps0, List.flatten_cons, List.flatten_nil, List.append_nil, List.cons_append, List.nil_append]
  after_results
  pointwise
  split_ifs <;> simp only [h.wg, h.wu, Nat.mul_comm 352]

theorem blk_x (t : Fin cfg0.N) (i : Fin 512) (j : Fin 1024) : (iblk m c 0 t : Vec Ideal S512x1024 .f32) (ix2 i j) = esh (512 * t.val) I.x i j := by
  have ht : t.val < 8 := t.isLt
  have hb : 512 * t.val + (i : ℕ) < 4096 := by omega
  refine Eq.trans (b := (V m c main_v6 : Vec Ideal S4096x1024 .f32) (ix2 ⟨512 * t.val + i, hb⟩ j)) ?_ (V_x h _ _)
  blk_ext! [iblk, ix_0 t]

theorem blk_g (t : Fin cfg0.N) (i : Fin 1) (j : Fin 1024) : (iblk m c 1 t : Vec Ideal S1x1024 .f32) (ix2 i j) = I.g j := by
  refine Eq.trans (b := (V m c main_v7 : Vec Ideal S1x1024 .f32) (ix2 i j)) ?_ (V_g h _ _)
  blk_ext! [iblk, ix_1 t]

theorem blk_wg (t : Fin cfg0.N) (a : Fin 8) (i : Fin 352) (j : Fin 1024) : (iblk m c 2 t : Vec Ideal S8x352x1024 .bf16) (ix3 a i j) = I.wg j (352 * a + i) := by
  have hb : (i : ℕ) < 704 := by omega
  refine Eq.trans (b := (V m c main_v5 : Vec Ideal S8x704x1024 .bf16) (ix3 a ⟨i, hb⟩ j)) ?_ ((V_w h _ _ _).trans ?_)
  · blk_ext! [iblk, ix_2 t]
  · rw [if_pos i.isLt]

theorem blk_wu (t : Fin cfg0.N) (a : Fin 8) (i : Fin 352) (j : Fin 1024) : (iblk m c 3 t : Vec Ideal S8x352x1024 .bf16) (ix3 a i j) = I.wu j (352 * a + i) := by
  have hb : 352 + (i : ℕ) < 704 := by omega
  refine Eq.trans (b := (V m c main_v5 : Vec Ideal S8x704x1024 .bf16) (ix3 a ⟨352 + i, hb⟩ j)) ?_ ((V_w h _ _ _).trans ?_)
  · blk_ext! [iblk, ix_3 t]
  · rw [if_neg (by simp)]
    simp

/-- A point's normalised rows, gate and values. -/
theorem pt_h (t : Fin cfg0.N) (i : Fin 512) (j : Fin 1024) : k0_pay1 (iblk m c 0 t) (iblk m c 1 t) (ix2 i j) = esh (512 * t.val) I.h i j :=
  hid_r (blk_x h t) (blk_g h t) i j
theorem pt_g (t : Fin cfg0.N) (i : Fin 512) (j : Fin 2816) : k0_pay2 (iblk m c 0 t) (iblk m c 1 t) (iblk m c 2 t) (ix2 i j) = esh (512 * t.val) I.G i j :=
  gate_r (pt_h h t) (blk_wg h t) i j
theorem pt_u (t : Fin cfg0.N) (i : Fin 512) (j : Fin 2816) : k0_pay3 (iblk m c 0 t) (iblk m c 1 t) (iblk m c 3 t) (ix2 i j) = esh (512 * t.val) I.U i j :=
  gate_r (pt_h h t) (blk_wu h t) i j

/-- The gate, the values and the activation. -/
theorem arr4 (i : Fin 4096) (j : Fin 2816) : ((dats m 0 c).arrAt 4 cfg0.N : Vec Ideal S4096x2816 .bf16) (ix2 i j) = I.G i j := by
  have key : (dats m 0 c).arrAt 4 cfg0.N = (fun i => I.G (i 0) (i 1) : Vec Ideal S4096x2816 .bf16) := by
    refine (dats m 0 c).arrAt_eq_of_covers 4 _ (by decide +kernel) fun t hf y => ?_
    blk_simp
    rw [after0_4]
    unfold out0_4
    frame_out
    have hy := gateb_r (pt_h h t) (blk_wg h t) (y 0) (y 1)
    rw [← eq_ix2] at hy
    refine hy.trans ?_
    blk_simp [ix_4 t]
    rw [Nat.mul_comm t.val]
    rfl
  exact congrFun key (ix2 i j)

theorem arr5 (i : Fin 4096) (j : Fin 2816) : ((dats m 0 c).arrAt 5 cfg0.N : Vec Ideal S4096x2816 .bf16) (ix2 i j) = I.U i j := by
  have key : (dats m 0 c).arrAt 5 cfg0.N = (fun i => I.U (i 0) (i 1) : Vec Ideal S4096x2816 .bf16) := by
    refine (dats m 0 c).arrAt_eq_of_covers 5 _ (by decide +kernel) fun t hf y => ?_
    blk_simp
    rw [after0_5]
    unfold out0_5
    frame_out
    have hy := gateb_r (pt_h h t) (blk_wu h t) (y 0) (y 1)
    rw [← eq_ix2] at hy
    refine hy.trans ?_
    blk_simp [ix_5 t]
    rw [Nat.mul_comm t.val]
    rfl
  exact congrFun key (ix2 i j)

theorem arr6 (i : Fin 4096) (j : Fin 2816) : ((dats m 0 c).arrAt 6 cfg0.N : Vec Ideal S4096x2816 .bf16) (ix2 i j) = I.A i j := by
  have key : (dats m 0 c).arrAt 6 cfg0.N = (fun i => I.A (i 0) (i 1) : Vec Ideal S4096x2816 .bf16) := by
    refine (dats m 0 c).arrAt_eq_of_covers 6 _ (by decide +kernel) fun t hf y => ?_
    blk_simp
    rw [after0_6]
    unfold out0_6
    frame_out
    have hy := act_r (pt_g h t) (pt_u h t) (y 0) (y 1)
    rw [← eq_ix2] at hy
    refine hy.trans ?_
    blk_simp [ix_6 t]
    rw [Nat.mul_comm t.val]
    rfl
  exact congrFun key (ix2 i j)

end Cert.Kernel5Ideal.Up

end
-- ==== Proof.First.UpSame.lean ====
/- The first feed-forward block's gate, values and activation in the reference and the kernel's arrays are the same arrays. -/
module

public import proofs.«01_k».proof.Proof.First.UpKern
public import proofs.«01_k».proof.Proof.Even.Finite
public import proofs.«01_k».proof.Proof.Gen.Reference5Ideal.Read

@[expose] public section

set_option maxRecDepth 16384
set_option maxHeartbeats 1000000

noncomputable section

namespace Cert.Reference5Ideal.Up

open Cert.Reference5Ideal Cert.Reference5Ideal.Read
open Idealize.ShloMosaic Idealize.ShloMosaic.Pointwise
open Cert.Pre_finite (ofNat_val row_hi row_lo)
open Cert.Spec (InU einv)

/-- The arguments hold the values `I`. -/
structure IsA (I : InU) (x0 : Vec Ideal S2x2048x1024 .f32) (x1 : Vec Ideal S1024 .f32) (x2 : Vec Ideal S1024x2816 .f32) (x3 : Vec Ideal S1024x2816 .f32) : Prop where
  x : ∀ (a : Fin 2) (i : Fin 2048) (j : Fin 1024), x0 (ix3 a i j) = I.x (2048 * a + i) j
  g : ∀ (j : Fin 1024), x1 (ix1 j) = I.g j
  wg : ∀ (i : Fin 1024) (j : Fin 2816), x2 (ix2 i j) = I.wg i j
  wu : ∀ (i : Fin 1024) (j : Fin 2816), x3 (ix2 i j) = I.wu i j

/-- The values the arguments hold, the examples' rows one after the other. -/
def inOf (x0 : Vec Ideal S2x2048x1024 .f32) (x1 : Vec Ideal S1024 .f32) (x2 : Vec Ideal S1024x2816 .f32) (x3 : Vec Ideal S1024x2816 .f32) : InU where
  x r j := x0 (ix3 (Fin.ofNat 2 (r / 2048)) (Fin.ofNat 2048 r) (Fin.ofNat 1024 j))
  g j := x1 (ix1 (Fin.ofNat 1024 j))
  wg i j := x2 (ix2 (Fin.ofNat 1024 i) (Fin.ofNat 2816 j))
  wu i j := x3 (ix2 (Fin.ofNat 1024 i) (Fin.ofNat 2816 j))

/-- Any arguments are the arrays `inOf`. -/
theorem isA (x0 : Vec Ideal S2x2048x1024 .f32) (x1 : Vec Ideal S1024 .f32) (x2 : Vec Ideal S1024x2816 .f32) (x3 : Vec Ideal S1024x2816 .f32) : IsA (inOf x0 x1 x2 x3) x0 x1 x2 x3 := by
  refine ⟨?_, ?_, ?_, ?_⟩ <;> intros <;> simp only [inOf, row_hi, row_lo, ofNat_val]

/-- Equal arrays hold the same values. -/
theorem IsA.congr {I : InU} {x0 : Vec Ideal S2x2048x1024 .f32} {x1 : Vec Ideal S1024 .f32} {x2 : Vec Ideal S1024x2816 .f32} {x3 : Vec Ideal S1024x2816 .f32} {y0 : Vec Ideal S2x2048x1024 .f32} {y1 : Vec Ideal S1024 .f32} {y2 : Vec Ideal S1024x2816 .f32} {y3 : Vec Ideal S1024x2816 .f32}
    (h : IsA I x0 x1 x2 x3) (e0 : y0 = x0) (e1 : y1 = x1) (e2 : y2 = x2) (e3 : y3 = x3) : IsA I y0 y1 y2 y3 := by
  subst e0 e1 e2 e3
  exact h

theorem c_0 : Ideal.ofBits .f32 0x00000000#32 = (0 : EReal) := by
  simp [Ideal.ofBits, Ideal.ieee, -EReal.coe_mul]
theorem c_1 : Ideal.ofBits .f32 0x3F800000#32 = (1 : EReal) := by
  simp [Ideal.ofBits, Ideal.ieee, -EReal.coe_mul]; norm_num

variable {I : InU} {x0 : Vec Ideal S2x2048x1024 .f32} {x1 : Vec Ideal S1024 .f32} {x2 : Vec Ideal S1024x2816 .f32} {x3 : Vec Ideal S1024x2816 .f32} (hA : IsA I x0 x1 x2 x3)
include hA

theorem r_v7 (a : Fin 2) (i : Fin 2048) (j : Fin 1) : (val_main_v7 (F := Ideal) x0 : Vec Ideal S2x2048x1 .f32) (ix3 a i j) = einv I.x (2048 * a + i) := by
  unfold val_main_v7 val_main_v6 val_main_v5 val_main_v4 val_main_v3 val_main_v2 val_main_v1 val_main_v0 val_main_cst val_main_cst_0 val_main_cst_1
  pointwise
  simp only [hA.x, c_0, zero_add]
  all_goals rfl

theorem r_h (a : Fin 2) (i : Fin 2048) (j : Fin 1024) : (val_main_v12 (F := Ideal) x0 x1 : Vec Ideal S2x2048x1024 .f32) (ix3 a i j) = I.h (2048 * a + i) j := by
  unfold val_main_v12 val_main_v11 val_main_v10 val_main_v9 val_main_v8
  pointwise
  simp only [r_v7 hA, hA.x, hA.g]
  all_goals rfl

theorem r_g (a : Fin 2) (i : Fin 2048) (j : Fin 2816) : (val_main_v13 (F := Ideal) x0 x1 x2 : Vec Ideal S2x2048x2816 .f32) (ix3 a i j) = I.G (2048 * a + i) j := by
  unfold val_main_v13
  pointwise
  simp only [r_h hA, hA.wg]
  all_goals rfl

theorem r_u (a : Fin 2) (i : Fin 2048) (j : Fin 2816) : (val_main_v14 (F := Ideal) x0 x1 x3 : Vec Ideal S2x2048x2816 .f32) (ix3 a i j) = I.U (2048 * a + i) j := by
  unfold val_main_v14
  pointwise
  simp only [r_h hA, hA.wu]
  all_goals rfl

theorem r_a (a : Fin 2) (i : Fin 2048) (j : Fin 2816) : (val_main_v16 (F := Ideal) x0 x1 x2 x3 : Vec Ideal S2x2048x2816 .f32) (ix3 a i j) = I.A (2048 * a + i) j := by
  unfold val_main_v16 val_main_v15 val_main_call0_v5 val_main_call0_v4 val_main_call0_cst_0 val_main_call0_v3 val_main_call0_v2 val_main_call0_cst val_main_call0_v1 val_main_call0_v0
  pointwise
  simp only [r_g hA, r_u hA, c_1]
  all_goals rfl

theorem r_v18 (i : Fin 4096) (j : Fin 2816) : (val_main_v18 (F := Ideal) x0 x1 x2 : Vec Ideal S4096x2816 .bf16) (ix2 i j) = I.G i j := by
  unfold val_main_v18 val_main_v17
  pointwise
  simp only [r_g hA, Nat.div_add_mod]

theorem r_v20 (i : Fin 4096) (j : Fin 2816) : (val_main_v20 (F := Ideal) x0 x1 x3 : Vec Ideal S4096x2816 .bf16) (ix2 i j) = I.U i j := by
  unfold val_main_v20 val_main_v19
  pointwise
  simp only [r_u hA, Nat.div_add_mod]

theorem r_v22 (i : Fin 4096) (j : Fin 2816) : (val_main_v22 (F := Ideal) x0 x1 x2 x3 : Vec Ideal S4096x2816 .bf16) (ix2 i j) = I.A i j := by
  unfold val_main_v22 val_main_v21
  pointwise
  simp only [r_a hA, Nat.div_add_mod]

end Cert.Reference5Ideal.Up

namespace Cert.Kernel5Ideal.Up

open Cert.Kernel5Ideal.Gen
open Idealize.ShloMosaic Idealize.ShloMosaic.TcCoe Idealize.ShloMosaic.Pointwise
open Idealize.SL.Sem
open Cert.Spec (InU)

variable {I : InU} {m : (ℓ : Loc nD τ sig) → Buf (Elt Ideal) ℓ} {c : Dev nD} (h : IsIn I m c)
  {x0 : Vec Ideal S2x2048x1024 .f32} {x1 : Vec Ideal S1024 .f32} {x2 : Vec Ideal S1024x2816 .f32} {x3 : Vec Ideal S1024x2816 .f32} (hA : Cert.Reference5Ideal.Up.IsA I x0 x1 x2 x3)
include h hA

theorem same4 : (Cert.Reference5Ideal.Read.val_main_v18 (F := Ideal) x0 x1 x2 : Vec Ideal S4096x2816 .bf16) = ((dats m 0 c).arrAt 4 cfg0.N : Vec Ideal S4096x2816 .bf16) := by
  funext p
  rw [eq_ix2 p]
  exact (Cert.Reference5Ideal.Up.r_v18 hA (p 0) (p 1)).trans (arr4 h (p 0) (p 1)).symm

theorem same5 : (Cert.Reference5Ideal.Read.val_main_v20 (F := Ideal) x0 x1 x3 : Vec Ideal S4096x2816 .bf16) = ((dats m 0 c).arrAt 5 cfg0.N : Vec Ideal S4096x2816 .bf16) := by
  funext p
  rw [eq_ix2 p]
  exact (Cert.Reference5Ideal.Up.r_v20 hA (p 0) (p 1)).trans (arr5 h (p 0) (p 1)).symm

theorem same6 : (Cert.Reference5Ideal.Read.val_main_v22 (F := Ideal) x0 x1 x2 x3 : Vec Ideal S4096x2816 .bf16) = ((dats m 0 c).arrAt 6 cfg0.N : Vec Ideal S4096x2816 .bf16) := by
  funext p
  rw [eq_ix2 p]
  exact (Cert.Reference5Ideal.Up.r_v22 hA (p 0) (p 1)).trans (arr6 h (p 0) (p 1)).symm

end Cert.Kernel5Ideal.Up

end
-- ==== Proof.First.DownKern.lean ====
/- The first feed-forward block's second half: its blocks and its result. -/
module

public import proofs.«01_k».proof.Proof.First.Spec
public import proofs.«01_k».proof.Proof.Gen.Kernel6Ideal.Value
public import Idealize.ShloMosaic.Lib.Pointwise
public import Idealize.ShloMosaic.Lib.Claim
public import Idealize.ShloMosaic.Lib.Pipeline.ReadBack
public import Idealize.ShloMosaic.Lib.Pipeline.ValueKit.Acc
public import Idealize.ShloMosaic.Lib.Pipeline.ValueKit.Point
public import Idealize.ShloMosaic.Lib.Pipeline.ValueKit.Geometry

@[expose] public section

set_option maxHeartbeats 1000000
set_option maxRecDepth 16384

noncomputable section

namespace Cert.Kernel6Ideal.Down

open Cert.Kernel6Ideal.Gen
open Idealize.ShloMosaic Idealize.ShloMosaic.TcCoe Idealize.ShloMosaic.Tactic Idealize.ShloMosaic.Pointwise
open Idealize.SL.Sem
open Cert.Spec (InD esh)

/-- A block's rows with the product added. -/
theorem out_r {X A W : ℕ → ℕ → EReal} {x : Vec Ideal S512x1024 .f32} {a : Vec Ideal S512x2816 .bf16} {w : Vec Ideal S8x352x1024 .bf16}
    (hx : ∀ (i : Fin 512) (j : Fin 1024), x (ix2 i j) = X i j) (ha : ∀ (i : Fin 512) (j : Fin 2816), a (ix2 i j) = A i j) (hw : ∀ (a : Fin 8) (i : Fin 352) (j : Fin 1024), w (ix3 a i j) = W (352 * a + i) j) (i : Fin 512) (j : Fin 1024) :
    k0_pay1 x a w (ix2 i j) = X i j + ∑ k : Fin 2816, A i k * W k j := by
  unfold k0_pay1
  pointwise
  simp only [hx, ha, hw, Nat.div_add_mod]
  all_goals rfl

/-- The arguments are the extended reals `I`. -/
structure IsIn (I : InD) (m : (ℓ : Loc nD τ sig) → Buf (Elt Ideal) ℓ) (c : Dev nD) : Prop where
  x : ∀ (a : Fin 2) (i : Fin 2048) (j : Fin 1024), (m ((c : Thread nD τ).loc main_arg0) : Vec Ideal S2x2048x1024 .f32) (ix3 a i j) = I.x (2048 * a + i) j
  a : ∀ (a : Fin 2) (i : Fin 2048) (j : Fin 2816), (m ((c : Thread nD τ).loc main_arg1) : Vec Ideal S2x2048x2816 .f32) (ix3 a i j) = I.a (2048 * a + i) j
  w : ∀ (i : Fin 2816) (j : Fin 1024), (m ((c : Thread nD τ).loc main_arg2) : Vec Ideal S2816x1024 .f32) (ix2 i j) = I.w i j

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![t.val, 0] := (by decide +kernel : ∀ t : Fin grid0.N, _)

variable {I : InD} {m : (ℓ : Loc nD τ sig) → Buf (Elt Ideal) ℓ} {c : Dev nD} (h : IsIn I m c)
include h

theorem V_x (i : Fin 4096) (j : Fin 1024) : (V m c main_v2 : Vec Ideal S4096x1024 .f32) (ix2 i j) = I.x i j := by
  simp only [V, hostOps0, List.flatten_cons, List.flatten_nil, List.append_nil, List.cons_append, List.nil_append]
  after_results
  pointwise
  simp only [h.x, Nat.div_add_mod]

theorem V_a (i : Fin 4096) (j : Fin 2816) : (V m c main_v4 : Vec Ideal S4096x2816 .bf16) (ix2 i j) = I.a i j := by
  simp only [V, hostOps0, List.flatten_cons, List.flatten_nil, List.append_nil, List.cons_append, List.nil_append]
  after_results
  pointwise
  simp only [h.a, Nat.div_add_mod]

theorem V_w (a : Fin 8) (i : Fin 352) (j : Fin 1024) : (V m c main_v1 : Vec Ideal S8x352x1024 .bf16) (ix3 a i j) = I.w (352 * a + i) j := by
  simp only [V, hostOps0, List.flatten_cons, List.flatten_nil, List.append_nil, List.cons_append, List.nil_append]
  after_results
  pointwise
  simp only [h.w, Nat.mul_comm 352]

theorem blk_x (t : Fin cfg0.N) (i : Fin 512) (j : Fin 1024) : (iblk m c 0 t : Vec Ideal S512x1024 .f32) (ix2 i j) = esh (512 * t.val) I.x i j := by
  have ht : t.val < 8 := t.isLt
  have hb : 512 * t.val + (i : ℕ) < 4096 := by omega
  refine Eq.trans (b := (V m c main_v2 : Vec Ideal S4096x1024 .f32) (ix2 ⟨512 * t.val + i, hb⟩ j)) ?_ (V_x h _ _)
  blk_ext! [iblk, ix_0 t]

theorem blk_a (t : Fin cfg0.N) (i : Fin 512) (j : Fin 2816) : (iblk m c 1 t : Vec Ideal S512x2816 .bf16) (ix2 i j) = esh (512 * t.val) I.a i j := by
  have ht : t.val < 8 := t.isLt
  have hb : 512 * t.val + (i : ℕ) < 4096 := by omega
  refine Eq.trans (b := (V m c main_v4 : Vec Ideal S4096x2816 .bf16) (ix2 ⟨512 * t.val + i, hb⟩ j)) ?_ (V_a h _ _)
  blk_ext! [iblk, ix_1 t]

theorem blk_w (t : Fin cfg0.N) (a : Fin 8) (i : Fin 352) (j : Fin 1024) : (iblk m c 2 t : Vec Ideal S8x352x1024 .bf16) (ix3 a i j) = I.w (352 * a + i) j := by
  refine Eq.trans (b := (V m c main_v1 : Vec Ideal S8x352x1024 .bf16) (ix3 a i j)) ?_ (V_w h _ _ _)
  blk_ext! [iblk, ix_2 t]

/-- The result: the block's output. -/
theorem arr3 (i : Fin 4096) (j : Fin 1024) : ((dats m 0 c).arrAt 3 cfg0.N : Vec Ideal S4096x1024 .f32) (ix2 i j) = I.y i j := by
  have key : (dats m 0 c).arrAt 3 cfg0.N = (fun i => I.y (i 0) (i 1) : Vec Ideal S4096x1024 .f32) := by
    refine (dats m 0 c).arrAt_eq_of_covers 3 _ (by decide +kernel) fun t hf y => ?_
    blk_simp
    rw [after0_3]
    unfold out0_3
    frame_out
    have hy := out_r (blk_x h t) (blk_a h t) (blk_w h t) (y 0) (y 1)
    rw [← eq_ix2] at hy
    refine hy.trans ?_
    blk_simp [ix_3 t]
    rw [Nat.mul_comm t.val]
    rfl
  exact congrFun key (ix2 i j)

end Cert.Kernel6Ideal.Down

end
-- ==== Proof.First.DownSame.lean ====
/- The first feed-forward block's output in the reference and the kernel's array are the same array. -/
module

public import proofs.«01_k».proof.Proof.First.DownKern
public import proofs.«01_k».proof.Proof.Even.Finite
public import proofs.«01_k».proof.Proof.Gen.Reference6Ideal.Read

@[expose] public section

set_option maxRecDepth 16384
set_option maxHeartbeats 1000000

noncomputable section

namespace Cert.Reference6Ideal.Down

open Cert.Reference6Ideal Cert.Reference6Ideal.Read
open Idealize.ShloMosaic Idealize.ShloMosaic.Pointwise
open Cert.Pre_finite (ofNat_val row_hi row_lo)
open Cert.Spec (InD)

/-- The arguments hold the values `I`. -/
structure IsA (I : InD) (x0 : Vec Ideal S2x2048x1024 .f32) (x1 : Vec Ideal S2x2048x2816 .f32) (x2 : Vec Ideal S2816x1024 .f32) : Prop where
  x : ∀ (a : Fin 2) (i : Fin 2048) (j : Fin 1024), x0 (ix3 a i j) = I.x (2048 * a + i) j
  a : ∀ (a : Fin 2) (i : Fin 2048) (j : Fin 2816), x1 (ix3 a i j) = I.a (2048 * a + i) j
  w : ∀ (i : Fin 2816) (j : Fin 1024), x2 (ix2 i j) = I.w i j

/-- The values the arguments hold, the examples' rows one after the other. -/
def inOf (x0 : Vec Ideal S2x2048x1024 .f32) (x1 : Vec Ideal S2x2048x2816 .f32) (x2 : Vec Ideal S2816x1024 .f32) : InD where
  x r j := x0 (ix3 (Fin.ofNat 2 (r / 2048)) (Fin.ofNat 2048 r) (Fin.ofNat 1024 j))
  a r j := x1 (ix3 (Fin.ofNat 2 (r / 2048)) (Fin.ofNat 2048 r) (Fin.ofNat 2816 j))
  w i j := x2 (ix2 (Fin.ofNat 2816 i) (Fin.ofNat 1024 j))

/-- Any arguments are the arrays `inOf`. -/
theorem isA (x0 : Vec Ideal S2x2048x1024 .f32) (x1 : Vec Ideal S2x2048x2816 .f32) (x2 : Vec Ideal S2816x1024 .f32) : IsA (inOf x0 x1 x2) x0 x1 x2 := by
  refine ⟨?_, ?_, ?_⟩ <;> intros <;> simp only [inOf, row_hi, row_lo, ofNat_val]

/-- Equal arrays hold the same values. -/
theorem IsA.congr {I : InD} {x0 y0 : Vec Ideal S2x2048x1024 .f32} {x1 y1 : Vec Ideal S2x2048x2816 .f32} {x2 y2 : Vec Ideal S2816x1024 .f32}
    (h : IsA I x0 x1 x2) (e0 : y0 = x0) (e1 : y1 = x1) (e2 : y2 = x2) : IsA I y0 y1 y2 := by
  subst e0 e1 e2
  exact h

/-- The block's output. -/
theorem r_y {I : InD} {x0 : Vec Ideal S2x2048x1024 .f32} {x1 : Vec Ideal S2x2048x2816 .f32} {x2 : Vec Ideal S2816x1024 .f32} (hA : IsA I x0 x1 x2) (i : Fin 4096) (j : Fin 1024) :
    (val_main_v2 (F := Ideal) x0 x1 x2 : Vec Ideal S4096x1024 .f32) (ix2 i j) = I.y i j := by
  unfold val_main_v2 val_main_v1 val_main_v0
  pointwise
  simp only [hA.x, hA.a, hA.w, Nat.div_add_mod]
  all_goals rfl

end Cert.Reference6Ideal.Down

namespace Cert.Kernel6Ideal.Down

open Cert.Kernel6Ideal.Gen
open Idealize.ShloMosaic Idealize.ShloMosaic.TcCoe Idealize.ShloMosaic.Pointwise
open Idealize.SL.Sem
open Cert.Spec (InD)

theorem same {I : InD} {m : (ℓ : Loc nD τ sig) → Buf (Elt Ideal) ℓ} {c : Dev nD} (h : IsIn I m c)
    {x0 : Vec Ideal S2x2048x1024 .f32} {x1 : Vec Ideal S2x2048x2816 .f32} {x2 : Vec Ideal S2816x1024 .f32} (hA : Cert.Reference6Ideal.Down.IsA I x0 x1 x2) :
    (Cert.Reference6Ideal.Read.val_main_v2 (F := Ideal) x0 x1 x2 : Vec Ideal S4096x1024 .f32) = ((dats m 0 c).arrAt 3 cfg0.N : Vec Ideal S4096x1024 .f32) := by
  funext p
  rw [eq_ix2 p]
  exact (Cert.Reference6Ideal.Down.r_y hA (p 0) (p 1)).trans (arr3 h (p 0) (p 1)).symm

end Cert.Kernel6Ideal.Down

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Even.Frame
public import proofs.«01_k».proof.Proof.EvenP.Frame
public import proofs.«01_k».proof.Proof.Even.Same
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Ffn.Same
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Last.Same
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Step.Even
public import proofs.«01_k».proof.Proof.Step.Ffn
public import proofs.«01_k».proof.Proof.Step.Mix
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Wgrad.Gate1
public import proofs.«01_k».proof.Proof.Wgrad.Up1
public import proofs.«01_k».proof.Proof.Wgrad.Down1
public import proofs.«01_k».proof.Proof.Wgrad.Up0
public import proofs.«01_k».proof.Proof.First.UpSame
public import proofs.«01_k».proof.Proof.First.DownSame
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Adequacy
public import Idealize.ShloMosaic.Init

@[expose] public section

noncomputable section

namespace Cert.Proof

open Idealize.ShloMosaic Idealize.SL.Sem

/-- The reference runs, its arguments unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run (F := Ideal) m ρ)

/-- On finite arguments the kernel's nine results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  have hA0 := fun c : Dev Cert.KernelIdeal.nD => Cert.Pre_finite.isA _ _ _ _ _ _ _ _ _ (hpre c)
  have hI := fun c : Dev Cert.KernelIdeal.nD =>
    (⟨(hA0 c).x, (hA0 c).g, (hA0 c).win, (hA0 c).lg, (hA0 c).w, (hA0 c).b, (hA0 c).cw, (hA0 c).wo, (hA0 c).ct⟩ : Cert.KernelIdeal.Even.IsIn _ m c)
  have hA := fun c : Dev Cert.KernelIdeal.nD => (hA0 c).congr (hag c).1 (hag c).2.1 (hag c).2.2.1 (hag c).2.2.2.1 (hag c).2.2.2.2.1
    (hag c).2.2.2.2.2.1 (hag c).2.2.2.2.2.2.1 (hag c).2.2.2.2.2.2.2.1 (hag c).2.2.2.2.2.2.2.2
  refine ⟨fun c => (Cert.KernelIdeal.Even.dats m 0 c).arrAt 11 Cert.KernelIdeal.cfg0.N, fun c => (Cert.KernelIdeal.Even.dats m 0 c).arrAt 12 Cert.KernelIdeal.cfg0.N, fun c => (Cert.KernelIdeal.Even.dats m 0 c).arrAt 13 Cert.KernelIdeal.cfg0.N, fun c => (Cert.KernelIdeal.Even.dats m 0 c).arrAt 14 Cert.KernelIdeal.cfg0.N, fun c => (Cert.KernelIdeal.Even.dats m 0 c).arrAt 15 Cert.KernelIdeal.cfg0.N, fun c => (Cert.KernelIdeal.Even.dats m 0 c).arrAt 16 Cert.KernelIdeal.cfg0.N, fun c => (Cert.KernelIdeal.Even.dats m 0 c).arrAt 17 Cert.KernelIdeal.cfg0.N, fun c => (Cert.KernelIdeal.Even.dats m 0 c).arrAt 18 Cert.KernelIdeal.cfg0.N, fun c => (Cert.KernelIdeal.Even.dats m 0 c).arrAt 19 Cert.KernelIdeal.cfg0.N, Cert.KernelIdeal.Even.run_blocks m g, ?_⟩
  refine (θ_run Cert.ReferenceIdeal.defs _ _).mono (fun r h c => ⟨(h c).1.trans ((Cert.ReferenceIdeal.Read.val_main_v249_eq _).trans (Cert.KernelIdeal.Even.same11 (hI c) (hA c))),
        (h c).2.1.trans ((Cert.ReferenceIdeal.Read.val_main_v250_eq _).trans (Cert.KernelIdeal.Even.same12 (hI c) (hA c))),
        (h c).2.2.1.trans ((Cert.ReferenceIdeal.Read.val_main_v251_eq _).trans (Cert.KernelIdeal.Even.same13 (hI c) (hA c))),
        (h c).2.2.2.1.trans ((Cert.ReferenceIdeal.Read.val_main_v252_eq _).trans (Cert.KernelIdeal.Even.same14 (hI c) (hA c))),
        (h c).2.2.2.2.1.trans ((Cert.ReferenceIdeal.Read.val_main_v253_eq _).trans (Cert.KernelIdeal.Even.same15 (hI c) (hA c))),
        (h c).2.2.2.2.2.1.trans ((Cert.ReferenceIdeal.Read.val_main_v179_eq _).trans (Cert.KernelIdeal.Even.same16 (hI c) (hA c))),
        (h c).2.2.2.2.2.2.1.trans ((Cert.ReferenceIdeal.Read.val_main_v255_eq _).trans (Cert.KernelIdeal.Even.same17 (hI c) (hA c))),
        (h c).2.2.2.2.2.2.2.1.trans ((Cert.ReferenceIdeal.Read.val_main_v256_eq _).trans (Cert.KernelIdeal.Even.same18 (hI c) (hA c))),
        (h c).2.2.2.2.2.2.2.2.1.trans ((Cert.ReferenceIdeal.Read.val_main_v257_eq _).trans (Cert.KernelIdeal.Even.same19 (hI c) (hA c))),
        (h c).2.2.2.2.2.2.2.2.2⟩) (Cert.ReferenceIdeal.Value.run (F := Ideal) m' g')

/-- The feed-forward reference runs, its arguments unchanged; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- On finite arguments the feed-forward kernel's seven results are the reference's. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m g m' g' hpre hag
  have hA0 := fun c : Dev Cert.Kernel2Ideal.nD => Cert.Pre_finite2.isA _ _ _ _ _ _ _ (hpre c)
  have hI := fun c : Dev Cert.Kernel2Ideal.nD =>
    (⟨(hA0 c).x, (hA0 c).g, (hA0 c).wg, (hA0 c).wu, (hA0 c).wd, (hA0 c).ct, (hA0 c).wo⟩ : Cert.Kernel2Ideal.Ffn.IsIn _ m c)
  have hA := fun c : Dev Cert.Kernel2Ideal.nD => (hA0 c).congr (hag c).1 (hag c).2.1 (hag c).2.2.1 (hag c).2.2.2.1 (hag c).2.2.2.2.1 (hag c).2.2.2.2.2.1 (hag c).2.2.2.2.2.2
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, Cert.Kernel2Ideal.Value.run_blocks m g, ?_⟩
  refine (θ_run Cert.Reference2Ideal.defs _ _).mono (fun r h c => ⟨(h c).1.trans ((Cert.Reference2Ideal.Read.val_main_v50_eq ..).trans (Cert.Kernel2Ideal.Ffn.same9 (hI c) (hA c))),
        (h c).2.1.trans ((Cert.Reference2Ideal.Read.val_main_v51_eq ..).trans (Cert.Kernel2Ideal.Ffn.same10 (hI c) (hA c))),
        (h c).2.2.1.trans ((Cert.Reference2Ideal.Read.val_main_v52_eq ..).trans (Cert.Kernel2Ideal.Ffn.same11 (hI c) (hA c))),
        (h c).2.2.2.1.trans ((Cert.Reference2Ideal.Read.val_main_v53_eq ..).trans (Cert.Kernel2Ideal.Ffn.same12 (hI c) (hA c))),
        (h c).2.2.2.2.1.trans ((Cert.Reference2Ideal.Read.val_main_v54_eq ..).trans (Cert.Kernel2Ideal.Ffn.same13 (hI c) (hA c))),
        (h c).2.2.2.2.2.1.trans ((Cert.Reference2Ideal.Read.val_main_v55_eq ..).trans (Cert.Kernel2Ideal.Ffn.same14 (hI c) (hA c))),
        (h c).2.2.2.2.2.2.1.trans ((Cert.Reference2Ideal.Read.val_main_v57_eq ..).trans (Cert.Kernel2Ideal.Ffn.same15 (hI c) (hA c))),
        (h c).2.2.2.2.2.2.2⟩) (Cert.Reference2Ideal.Value.run (F := Ideal) m' g')

/-- The forward reference runs, its arguments unchanged; it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

/-- The forward kernel's five results are the reference's, on any arguments. -/
theorem algebraic3 : Cert.algebraic_Kernel3Ideal_Reference3Ideal (hKernel3Ideal := Cert.Kernel3Ideal.Gen.facts)
    (hReference3Ideal := Cert.Reference3Ideal.Gen.facts) := by
  intro m g m' g' _ hag
  have hA0 := fun c : Dev Cert.Kernel3Ideal.nD => Cert.Reference3Ideal.Last.isA (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))
  have hI := fun c : Dev Cert.Kernel3Ideal.nD =>
    (⟨(hA0 c).x, (hA0 c).c, (hA0 c).d, (hA0 c).wo, (hA0 c).g, (hA0 c).wg, (hA0 c).wu, (hA0 c).wd, (hA0 c).t⟩ : Cert.Kernel3Ideal.Last.IsIn _ m c)
  have hA := fun c : Dev Cert.Kernel3Ideal.nD => (hA0 c).congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2
  refine ⟨fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, Cert.Kernel3Ideal.Value.run_blocks m g, ?_⟩
  refine (θ_run Cert.Reference3Ideal.defs _ _).mono (fun r h c => ⟨(h c).1.trans ((Cert.Reference3Ideal.Read.val_main_v37_eq ..).trans (Cert.Kernel3Ideal.Last.same9 (hI c) (hA c))),
        (h c).2.1.trans ((Cert.Reference3Ideal.Read.val_main_v38_eq ..).trans (Cert.Kernel3Ideal.Last.same10 (hI c) (hA c))),
        (h c).2.2.1.trans ((Cert.Reference3Ideal.Read.val_main_v40_eq ..).trans (Cert.Kernel3Ideal.Last.same11 (hI c) (hA c))),
        (h c).2.2.2.1.trans ((Cert.Reference3Ideal.Read.val_main_v42_eq ..).trans (Cert.Kernel3Ideal.Last.same12 (hI c) (hA c))),
        (h c).2.2.2.2.1.trans ((Cert.Reference3Ideal.Read.val_main_v43_eq ..).trans (Cert.Kernel3Ideal.Last.same13 (hI c) (hA c))),
        (h c).2.2.2.2.2⟩) (Cert.Reference3Ideal.Value.run (F := Ideal) m' g')

/-- The last block's gate weight gradient's reference runs, its arguments unchanged; it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

open Cert.Kernel4Ideal in
/-- The last block's gate weight gradient is the reference's, on any arguments. -/
theorem algebraic4 : Cert.algebraic_Kernel4Ideal_Reference4Ideal (hKernel4Ideal := Gen.facts)
    (hReference4Ideal := Cert.Reference4Ideal.Gen.facts) := by
  intro m g m' g' _ hag
  have hA0 := fun c : Dev nD => Cert.Spec.InW.isA (n := 1056) (m ((c.tc : Thread nD τ).loc main_arg0)) (m ((c.tc : Thread nD τ).loc main_arg1)) (m ((c.tc : Thread nD τ).loc main_arg2))
  have hI := hA0
  have hA := fun c : Dev nD => (hA0 c).congr (hag c).1 (hag c).2.1 (hag c).2.2
  refine ⟨fun c => (Gen.dats m 0 c).arrAt 2 cfg0.N, Value.run_blocks m g, ?_⟩
  exact (θ_run Cert.Reference4Ideal.defs _ _).mono (fun r h c => ⟨(h c).1.trans ((Cert.Reference4Ideal.Read.val_main_v6_eq ..).trans (Cert.Reference4Ideal.Gate1.same (hA c) (hI c))),
        (h c).2⟩) (Cert.Reference4Ideal.Value.run (F := Ideal) m' g')

/-- The first block's first half's reference runs, its arguments unchanged; it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

open Cert.Kernel5Ideal in
/-- The first block's gate, values and activation are the reference's, on any arguments. -/
theorem algebraic5 : Cert.algebraic_Kernel5Ideal_Reference5Ideal (hKernel5Ideal := Gen.facts)
    (hReference5Ideal := Cert.Reference5Ideal.Gen.facts) := by
  intro m g m' g' _ hag
  have hA0 := fun c : Dev nD => Cert.Reference5Ideal.Up.isA (m ((c.tc : Thread nD τ).loc main_arg0)) (m ((c.tc : Thread nD τ).loc main_arg1)) (m ((c.tc : Thread nD τ).loc main_arg2)) (m ((c.tc : Thread nD τ).loc main_arg3))
  have hI := fun c : Dev nD =>
    (⟨(hA0 c).x, (hA0 c).g, (hA0 c).wg, (hA0 c).wu⟩ : Up.IsIn _ m c)
  have hA := fun c : Dev nD => (hA0 c).congr (hag c).1 (hag c).2.1 (hag c).2.2.1 (hag c).2.2.2
  refine ⟨fun c => (Gen.dats m 0 c).arrAt 4 cfg0.N, fun c => (Gen.dats m 0 c).arrAt 5 cfg0.N, fun c => (Gen.dats m 0 c).arrAt 6 cfg0.N, Value.run_blocks m g, ?_⟩
  exact (θ_run Cert.Reference5Ideal.defs _ _).mono (fun r h c => ⟨(h c).1.trans ((Cert.Reference5Ideal.Read.val_main_v18_eq ..).trans (Cert.Kernel5Ideal.Up.same4 (hI c) (hA c))),
        (h c).2.1.trans ((Cert.Reference5Ideal.Read.val_main_v20_eq ..).trans (Cert.Kernel5Ideal.Up.same5 (hI c) (hA c))),
        (h c).2.2.1.trans ((Cert.Reference5Ideal.Read.val_main_v22_eq ..).trans (Cert.Kernel5Ideal.Up.same6 (hI c) (hA c))),
        (h c).2.2.2⟩) (Cert.Reference5Ideal.Value.run (F := Ideal) m' g')

/-- The first block's second half's reference runs, its arguments unchanged; it declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

open Cert.Kernel6Ideal in
/-- The first block's output is the reference's, on any arguments. -/
theorem algebraic6 : Cert.algebraic_Kernel6Ideal_Reference6Ideal (hKernel6Ideal := Gen.facts)
    (hReference6Ideal := Cert.Reference6Ideal.Gen.facts) := by
  intro m g m' g' _ hag
  have hA0 := fun c : Dev nD => Cert.Reference6Ideal.Down.isA (m ((c.tc : Thread nD τ).loc main_arg0)) (m ((c.tc : Thread nD τ).loc main_arg1)) (m ((c.tc : Thread nD τ).loc main_arg2))
  have hI := fun c : Dev nD =>
    (⟨(hA0 c).x, (hA0 c).a, (hA0 c).w⟩ : Down.IsIn _ m c)
  have hA := fun c : Dev nD => (hA0 c).congr (hag c).1 (hag c).2.1 (hag c).2.2
  refine ⟨fun c => (Gen.dats m 0 c).arrAt 3 cfg0.N, Value.run_blocks m g, ?_⟩
  exact (θ_run Cert.Reference6Ideal.defs _ _).mono (fun r h c => ⟨(h c).1.trans ((Cert.Reference6Ideal.Read.val_main_v2_eq ..).trans (Cert.Kernel6Ideal.Down.same (hI c) (hA c))),
        (h c).2⟩) (Cert.Reference6Ideal.Value.run (F := Ideal) m' g')

/-- The last block's values' weight gradient's reference runs, its arguments unchanged; it declares no semaphore. -/
theorem frame_reference7 : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

open Cert.Kernel7Ideal in
/-- The last block's values' weight gradient is the reference's, on any arguments. -/
theorem algebraic7 : Cert.algebraic_Kernel7Ideal_Reference7Ideal (hKernel7Ideal := Gen.facts)
    (hReference7Ideal := Cert.Reference7Ideal.Gen.facts) := by
  intro m g m' g' _ hag
  have hA0 := fun c : Dev nD => Cert.Spec.InW.isA (n := 1056) (m ((c.tc : Thread nD τ).loc main_arg0)) (m ((c.tc : Thread nD τ).loc main_arg1)) (m ((c.tc : Thread nD τ).loc main_arg2))
  have hI := hA0
  have hA := fun c : Dev nD => (hA0 c).congr (hag c).1 (hag c).2.1 (hag c).2.2
  refine ⟨fun c => (Gen.dats m 0 c).arrAt 2 cfg0.N, Value.run_blocks m g, ?_⟩
  exact (θ_run Cert.Reference7Ideal.defs _ _).mono (fun r h c => ⟨(h c).1.trans ((Cert.Reference7Ideal.Read.val_main_v7_eq ..).trans (Cert.Reference7Ideal.Up1.same (hA c) (hI c))),
        (h c).2⟩) (Cert.Reference7Ideal.Value.run (F := Ideal) m' g')

/-- The last block's output weight gradient's reference runs, its arguments unchanged; it declares no semaphore. -/
theorem frame_reference8 : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

open Cert.Kernel8Ideal in
/-- The last block's output weight gradient is the reference's, on any arguments. -/
theorem algebraic8 : Cert.algebraic_Kernel8Ideal_Reference8Ideal (hKernel8Ideal := Gen.facts)
    (hReference8Ideal := Cert.Reference8Ideal.Gen.facts) := by
  intro m g m' g' _ hag
  have hA0 := fun c : Dev nD => Cert.Spec.InW.isA (n := 1056) (m ((c.tc : Thread nD τ).loc main_arg1)) (m ((c.tc : Thread nD τ).loc main_arg0)) (m ((c.tc : Thread nD τ).loc main_arg2))
  have hI := hA0
  have hA := fun c : Dev nD => (hA0 c).congr (hag c).2.1 (hag c).1 (hag c).2.2
  refine ⟨fun c => (Gen.dats m 0 c).arrAt 2 cfg0.N, Value.run_blocks m g, ?_⟩
  exact (θ_run Cert.Reference8Ideal.defs _ _).mono (fun r h c => ⟨(h c).1.trans ((Cert.Reference8Ideal.Read.val_main_v5_eq ..).trans (Cert.Reference8Ideal.Down1.same (hA c) (hI c))),
        (h c).2⟩) (Cert.Reference8Ideal.Value.run (F := Ideal) m' g')

/-- The first block's values' weight gradient's reference runs, its arguments unchanged; it declares no semaphore. -/
theorem frame_reference9 : Cert.quiescent_Reference9Ideal (hReference9Ideal := Cert.Reference9Ideal.Gen.facts) := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

open Cert.Kernel9Ideal in
/-- The first block's values' weight gradient is the reference's, on any arguments. -/
theorem algebraic9 : Cert.algebraic_Kernel9Ideal_Reference9Ideal (hKernel9Ideal := Gen.facts)
    (hReference9Ideal := Cert.Reference9Ideal.Gen.facts) := by
  intro m g m' g' _ hag
  have hA0 := fun c : Dev nD => Cert.Spec.InW.isA (n := 704) (m ((c.tc : Thread nD τ).loc main_arg0)) (m ((c.tc : Thread nD τ).loc main_arg1)) (m ((c.tc : Thread nD τ).loc main_arg2))
  have hI := hA0
  have hA := fun c : Dev nD => (hA0 c).congr (hag c).1 (hag c).2.1 (hag c).2.2
  refine ⟨fun c => (Gen.dats m 0 c).arrAt 2 cfg0.N, Value.run_blocks m g, ?_⟩
  exact (θ_run Cert.Reference9Ideal.defs _ _).mono (fun r h c => ⟨(h c).1.trans ((Cert.Reference9Ideal.Read.val_main_v6_eq ..).trans (Cert.Reference9Ideal.Up0.same (hA c) (hI c))),
        (h c).2⟩) (Cert.Reference9Ideal.Value.run (F := Ideal) m' g')

/-- The feed-forward weights' step's reference runs, its arguments unchanged; it declares no semaphore. -/
theorem frame_reference10 : Cert.quiescent_Reference10Ideal (hReference10Ideal := Cert.Reference10Ideal.Gen.facts) := fun m ρ _ =>
  (θ_run Cert.Reference10Ideal.defs _ _).mono (fun r h => ⟨fun c => (h c).2.2.2.2.2.2.2.2.2,
      Idealize.ShloMosaic.sem_eq_zero_of_no_sems (by decide) r.2⟩)
    (Cert.Reference10Ideal.Value.run (F := Ideal) m ρ)

open Cert.Kernel10Ideal in
/-- The feed-forward weights' steps and moments are the reference's, on any arguments. -/
theorem algebraic10 : Cert.algebraic_Kernel10Ideal_Reference10Ideal (hKernel10Ideal := Gen.facts)
    (hReference10Ideal := Cert.Reference10Ideal.Gen.facts) := by
  intro m g m' g' _ hag
  have hs := fun c : Dev nD => Step.same m c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1 (hag c).2.2.2.2.2.2.2.2.2.2.2
  refine ⟨fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => (Gen.dats m 0 c).arrAt 16 cfg0.N, fun c => (Gen.dats m 0 c).arrAt 17 cfg0.N, fun c => (Gen.dats m 0 c).arrAt 18 cfg0.N, fun c => (Gen.dats m 0 c).arrAt 19 cfg0.N, fun c => (Gen.dats m 0 c).arrAt 20 cfg0.N, Value.run_blocks m g, ?_⟩
  exact (θ_run Cert.Reference10Ideal.defs _ _).mono (fun r h c => ⟨(h c).1.trans ((Cert.Reference10Ideal.Read.val_main_v73_eq ..).trans (hs c).1),
        (h c).2.1.trans ((Cert.Reference10Ideal.Read.val_main_v75_eq ..).trans (hs c).2.1),
        (h c).2.2.1.trans ((Cert.Reference10Ideal.Read.val_main_v76_eq ..).trans (hs c).2.2.1),
        (h c).2.2.2.1.trans ((Cert.Reference10Ideal.Read.val_main_v78_eq ..).trans (hs c).2.2.2.1),
        (h c).2.2.2.2.1.trans ((Cert.Reference10Ideal.Read.val_main_v80_eq ..).trans (hs c).2.2.2.2.1),
        (h c).2.2.2.2.2.1.trans ((Cert.Reference10Ideal.Read.val_main_v81_eq ..).trans (hs c).2.2.2.2.2.1),
        (h c).2.2.2.2.2.2.1.trans ((Cert.Reference10Ideal.Read.val_main_v83_eq ..).trans (hs c).2.2.2.2.2.2.1),
        (h c).2.2.2.2.2.2.2.1.trans ((Cert.Reference10Ideal.Read.val_main_v85_eq ..).trans (hs c).2.2.2.2.2.2.2.1),
        (h c).2.2.2.2.2.2.2.2.1.trans ((Cert.Reference10Ideal.Read.val_main_v86_eq ..).trans (hs c).2.2.2.2.2.2.2.2),
        (h c).2.2.2.2.2.2.2.2.2⟩) (Cert.Reference10Ideal.Value.run (F := Ideal) m' g')

/-- The odd projections' step's reference runs, its arguments unchanged; it declares no semaphore. -/
theorem frame_reference11 : Cert.quiescent_Reference11Ideal (hReference11Ideal := Cert.Reference11Ideal.Gen.facts) := fun m ρ _ =>
  (θ_run Cert.Reference11Ideal.defs _ _).mono (fun r h => ⟨fun c => (h c).2.2.2.2.2.2,
      Idealize.ShloMosaic.sem_eq_zero_of_no_sems (by decide) r.2⟩)
    (Cert.Reference11Ideal.Value.run (F := Ideal) m ρ)

open Cert.Kernel11Ideal in
/-- The odd projections' steps and moments are the reference's, on any arguments. -/
theorem algebraic11 : Cert.algebraic_Kernel11Ideal_Reference11Ideal (hKernel11Ideal := Gen.facts)
    (hReference11Ideal := Cert.Reference11Ideal.Gen.facts) := by
  intro m g m' g' _ hag
  have hs := fun c : Dev nD => Step.same m c (hag c).1 (hag c).2.1 (hag c).2.2.1 (hag c).2.2.2.1 (hag c).2.2.2.2.1 (hag c).2.2.2.2.2.1 (hag c).2.2.2.2.2.2.1 (hag c).2.2.2.2.2.2.2
  refine ⟨fun c => (Gen.dats m 0 c).arrAt 8 cfg0.N, fun c => (Gen.dats m 0 c).arrAt 9 cfg0.N, fun c => (Gen.dats m 0 c).arrAt 10 cfg0.N, fun c => (Gen.dats m 0 c).arrAt 11 cfg0.N, fun c => (Gen.dats m 0 c).arrAt 12 cfg0.N, fun c => (Gen.dats m 0 c).arrAt 13 cfg0.N, Value.run_blocks m g, ?_⟩
  exact (θ_run Cert.Reference11Ideal.defs _ _).mono (fun r h c => ⟨(h c).1.trans ((Cert.Reference11Ideal.Read.val_main_v49_eq ..).trans (hs c).1),
        (h c).2.1.trans ((Cert.Reference11Ideal.Read.val_main_v50_eq ..).trans (hs c).2.1),
        (h c).2.2.1.trans ((Cert.Reference11Ideal.Read.val_main_v52_eq ..).trans (hs c).2.2.1),
        (h c).2.2.2.1.trans ((Cert.Reference11Ideal.Read.val_main_v53_eq ..).trans (hs c).2.2.2.1),
        (h c).2.2.2.2.1.trans ((Cert.Reference11Ideal.Read.val_main_v55_eq ..).trans (hs c).2.2.2.2.1),
        (h c).2.2.2.2.2.1.trans ((Cert.Reference11Ideal.Read.val_main_v56_eq ..).trans (hs c).2.2.2.2.2),
        (h c).2.2.2.2.2.2⟩) (Cert.Reference11Ideal.Value.run (F := Ideal) m' g')

/-- The even projections' step's reference runs, its arguments unchanged; it declares no semaphore. -/
theorem frame_reference12 : Cert.quiescent_Reference12Ideal (hReference12Ideal := Cert.Reference12Ideal.Gen.facts) := fun m ρ _ =>
  (θ_run Cert.Reference12Ideal.defs _ _).mono (fun r h => ⟨fun c => (h c).2.2.2.2.2.2.2.2,
      Idealize.ShloMosaic.sem_eq_zero_of_no_sems (by decide) r.2⟩)
    (Cert.Reference12Ideal.Value.run (F := Ideal) m ρ)

open Cert.Kernel12Ideal in
/-- The even projections' summed gradients, steps and moments are the reference's, on any arguments. -/
theorem algebraic12 : Cert.algebraic_Kernel12Ideal_Reference12Ideal (hKernel12Ideal := Gen.facts)
    (hReference12Ideal := Cert.Reference12Ideal.Gen.facts) := by
  intro m g m' g' _ hag
  have hs := fun c : Dev nD => Step.same m c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2
  refine ⟨fun c => (Gen.dats m 0 c).arrAt 10 cfg0.N, fun c => (Gen.dats m 0 c).arrAt 11 cfg0.N, fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => (Gen.dats m 0 c).arrAt 16 cfg0.N, fun c => (Gen.dats m 0 c).arrAt 17 cfg0.N, Value.run_blocks m g, ?_⟩
  exact (θ_run Cert.Reference12Ideal.defs _ _).mono (fun r h c => ⟨(h c).1.trans ((Cert.Reference12Ideal.Read.val_main_v3_eq ..).trans (hs c).1),
        (h c).2.1.trans ((Cert.Reference12Ideal.Read.val_main_v7_eq ..).trans (hs c).2.1),
        (h c).2.2.1.trans ((Cert.Reference12Ideal.Read.val_main_v37_eq ..).trans (hs c).2.2.1),
        (h c).2.2.2.1.trans ((Cert.Reference12Ideal.Read.val_main_v64_eq ..).trans (hs c).2.2.2.1),
        (h c).2.2.2.2.1.trans ((Cert.Reference12Ideal.Read.val_main_v18_eq ..).trans (hs c).2.2.2.2.1),
        (h c).2.2.2.2.2.1.trans ((Cert.Reference12Ideal.Read.val_main_v45_eq ..).trans (hs c).2.2.2.2.2.1),
        (h c).2.2.2.2.2.2.1.trans ((Cert.Reference12Ideal.Read.val_main_v24_eq ..).trans (hs c).2.2.2.2.2.2.1),
        (h c).2.2.2.2.2.2.2.1.trans ((Cert.Reference12Ideal.Read.val_main_v51_eq ..).trans (hs c).2.2.2.2.2.2.2),
        (h c).2.2.2.2.2.2.2.2⟩) (Cert.Reference12Ideal.Value.run (F := Ideal) m' g')

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.facts, Cert.Pre_finite2.facts,
  fun m ρ _ => Cert.Kernel.Even.frame m ρ, fun m ρ _ => Cert.KernelIdeal.Even.frame m ρ, fun m ρ _ => Cert.KernelIdeal.Even.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  ⟨IdealRules.named_const.statement _ _ _ _ _ rfl, IdealRules.named_const.statement _ _ _ _ _ rfl⟩, algebraic, trivial, algebraic2, trivial, algebraic3, trivial, algebraic4, trivial, algebraic5, trivial, algebraic6, trivial, algebraic7, trivial, algebraic8, trivial, algebraic9, trivial, algebraic10, trivial, algebraic11, trivial, algebraic12⟩

end Cert.Proof

end
